-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lengths_in_range [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_in_range [hPre_lengths_in_range : Cert.Pre_lengths_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_lengths_in_range [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lengths_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_lengths_in_range [hReferenceIdeal : Cert.ReferenceIdeal.Facts] [hPre_lengths_in_range : Cert.Pre_lengths_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "softmax_scale_log2" .f32 0x3DD53B95#32 (((Real.log 2)⁻¹ * (Real.sqrt 192)⁻¹ : ℝ) : EReal)
  ∧ IdealRules.named_const.Statement Cert.KernelIdeal.κ "softmax_scale" .f32 0x3D93CD3A#32 (((Real.sqrt 192)⁻¹ : ℝ) : EReal)

def algebraic_KernelIdeal_ReferenceIdeal_pre_lengths_in_range [hKernelIdeal : Cert.KernelIdeal.Facts] [hReferenceIdeal : Cert.ReferenceIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lengths_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_lengths_in_range : Cert.Pre_lengths_in_range.Facts),
    quiescent_Kernel (hKernel := hKernel)
    ∧ quiescent_KernelIdeal (hKernelIdeal := hKernelIdeal)
    ∧ quiescent_KernelIdeal_pre_lengths_in_range (hKernelIdeal := hKernelIdeal) (hPre_lengths_in_range := hPre_lengths_in_range)
    ∧ quiescent_ReferenceIdeal (hReferenceIdeal := hReferenceIdeal)
    ∧ quiescent_ReferenceIdeal_pre_lengths_in_range (hReferenceIdeal := hReferenceIdeal) (hPre_lengths_in_range := hPre_lengths_in_range)
    ∧ preserves_Kernel_KernelIdeal
    ∧ algebraic_KernelIdeal_ReferenceIdeal_pre_lengths_in_range (hKernelIdeal := hKernelIdeal) (hReferenceIdeal := hReferenceIdeal) (hPre_lengths_in_range := hPre_lengths_in_range)
-- ==== Pre_lengths_in_range.lean ====
abbrev S2x640x128x512 : Shape := ⟨4, ![2, 640, 128, 512]⟩
abbrev S2x640x128x4 : Shape := ⟨4, ![2, 640, 128, 4]⟩
abbrev S2x640x128x64 : Shape := ⟨4, ![2, 640, 128, 64]⟩
abbrev S2x640x512 : Shape := ⟨3, ![2, 640, 512]⟩
abbrev S2x640x4 : Shape := ⟨3, ![2, 640, 4]⟩
abbrev S2x640x64 : Shape := ⟨3, ![2, 640, 64]⟩
abbrev S2 : Shape := ⟨1, ![2]⟩
abbrev S_ : Shape := ⟨0, ![]⟩

class Facts : Prop where
  bcast_S_S2 : S_.BroadcastsInDim S2 (![] : Fin 0 → Fin S2.rank)
  reducesTo_S2_S_d0 : S2.ReducesTo [0] S_
  h_S_ : 0 < S_.numel

variable [Facts]

def fn {F : FTy → Type} [FloatOps F] (main_arg0 : FVec F S2x640x128x512 .fp8e4m3) (main_arg1 : FVec F S2x640x128x4 .f32) (main_arg2 : FVec F S2x640x128x64 .bf16) (main_arg3 : FVec F S2x640x512 .fp8e4m3) (main_arg4 : FVec F S2x640x4 .f32) (main_arg5 : FVec F S2x640x64 .bf16) (main_arg6 : IVec S2 32) : IVec S_ 1 :=
  let main_c : IVec S_ 32 := constantI S_ 32 2147483632#32
  let main_v0 : IVec S2 32 := broadcastInDim S2 ![] bcast_S_S2 main_c
  let main_v1 : IVec S2 1 := cmpi .sle main_arg6 main_v0
  let main_c_0 : IVec S_ 1 := constantI S_ 1 1#1
  let main_v2 : IVec S_ 1 := (fun x v => Host.reduce IntOp.andi x v reducesTo_S2_S_d0 h_S_) main_v1 main_c_0
  main_v2
-- ==== Kernel.lean ====
abbrev S2x640x128x512 : Shape := ⟨4, ![2, 640, 128, 512]⟩
abbrev S2x640x128x4 : Shape := ⟨4, ![2, 640, 128, 4]⟩
abbrev S2x640x128x64 : Shape := ⟨4, ![2, 640, 128, 64]⟩
abbrev S2x640x512 : Shape := ⟨3, ![2, 640, 512]⟩
abbrev S2x640x4 : Shape := ⟨3, ![2, 640, 4]⟩
abbrev S2x640x64 : Shape := ⟨3, ![2, 640, 64]⟩
abbrev S2 : Shape := ⟨1, ![2]⟩
abbrev S2x640x4x128 : Shape := ⟨4, ![2, 640, 4, 128]⟩
abbrev S2x640x64x128 : Shape := ⟨4, ![2, 640, 64, 128]⟩
abbrev S2x4x640 : Shape := ⟨3, ![2, 4, 640]⟩
abbrev S2x64x640 : Shape := ⟨3, ![2, 64, 640]⟩
abbrev S2x640x128 : Shape := ⟨3, ![2, 640, 128]⟩
abbrev S1x32x128x512 : Shape := ⟨4, ![1, 32, 128, 512]⟩
abbrev S1 : Shape := ⟨1, ![1]⟩
abbrev S1x32x4x128 : Shape := ⟨4, ![1, 32, 4, 128]⟩
abbrev S1x32x64x128 : Shape := ⟨4, ![1, 32, 64, 128]⟩
abbrev S1x640x512 : Shape := ⟨3, ![1, 640, 512]⟩
abbrev S1x4x640 : Shape := ⟨3, ![1, 4, 640]⟩
abbrev S1x64x640 : Shape := ⟨3, ![1, 64, 640]⟩
abbrev S1x32x128 : Shape := ⟨3, ![1, 32, 128]⟩
abbrev S640x512 : Shape := ⟨2, ![640, 512]⟩
abbrev S512x640 : Shape := ⟨2, ![512, 640]⟩
abbrev S640x64 : Shape := ⟨2, ![640, 64]⟩
abbrev S1x128x128 : Shape := ⟨3, ![1, 128, 128]⟩
abbrev S128x128 : Shape := ⟨2, ![128, 128]⟩
abbrev S1x1x128 : Shape := ⟨3, ![1, 1, 128]⟩
abbrev S1x128 : Shape := ⟨2, ![1, 128]⟩
abbrev S1x64x128 : Shape := ⟨3, ![1, 64, 128]⟩
abbrev S64x128 : Shape := ⟨2, ![64, 128]⟩
abbrev S128x64 : Shape := ⟨2, ![128, 64]⟩
abbrev S16x128x512 : Shape := ⟨3, ![16, 128, 512]⟩
abbrev S1x16x128x512 : Shape := ⟨4, ![1, 16, 128, 512]⟩
abbrev S16x128 : Shape := ⟨2, ![16, 128]⟩
abbrev S1x16x128 : Shape := ⟨3, ![1, 16, 128]⟩
abbrev S1x1x128x128 : Shape := ⟨4, ![1, 1, 128, 128]⟩
abbrev S1x1x1x128 : Shape := ⟨4, ![1, 1, 1, 128]⟩
abbrev S512x128 : Shape := ⟨2, ![512, 128]⟩
abbrev S512x512 : Shape := ⟨2, ![512, 512]⟩
abbrev S1x1x64x128 : Shape := ⟨4, ![1, 1, 64, 128]⟩
abbrev S64x512 : Shape := ⟨2, ![64, 512]⟩
abbrev S64x64 : Shape := ⟨2, ![64, 64]⟩
abbrev S512 : Shape := ⟨1, ![512]⟩
abbrev S1x512 : Shape := ⟨2, ![1, 512]⟩
abbrev S128x512 : Shape := ⟨2, ![128, 512]⟩
abbrev S1x1x128x512 : Shape := ⟨4, ![1, 1, 128, 512]⟩
abbrev S192x512 : Shape := ⟨2, ![192, 512]⟩
abbrev S192x64 : Shape := ⟨2, ![192, 64]⟩
abbrev S256x512 : Shape := ⟨2, ![256, 512]⟩
abbrev S512x256 : Shape := ⟨2, ![512, 256]⟩
abbrev S256x64 : Shape := ⟨2, ![256, 64]⟩
abbrev S320x512 : Shape := ⟨2, ![320, 512]⟩
abbrev S320x64 : Shape := ⟨2, ![320, 64]⟩
abbrev S384x512 : Shape := ⟨2, ![384, 512]⟩
abbrev S512x384 : Shape := ⟨2, ![512, 384]⟩
abbrev S384x64 : Shape := ⟨2, ![384, 64]⟩
abbrev S448x512 : Shape := ⟨2, ![448, 512]⟩
abbrev S448x64 : Shape := ⟨2, ![448, 64]⟩
abbrev S512x64 : Shape := ⟨2, ![512, 64]⟩
abbrev S576x512 : Shape := ⟨2, ![576, 512]⟩
abbrev S576x64 : Shape := ⟨2, ![576, 64]⟩

abbrev nBuf : Space → Nat
  | .hbm => 12
  | .vmem => 19
  | .smem => 1
  | _ => 0

abbrev bufTy : (tb : Table) → Fin (tcTables nBuf tb) → BufTy
  | .hbm, ⟨0, _⟩ => ⟨S2x640x128x512, .fp8e4m3⟩
  | .hbm, ⟨1, _⟩ => ⟨S2x640x128x4, .f32⟩
  | .hbm, ⟨2, _⟩ => ⟨S2x640x128x64, .bf16⟩
  | .hbm, ⟨3, _⟩ => ⟨S2x640x512, .fp8e4m3⟩
  | .hbm, ⟨4, _⟩ => ⟨S2x640x4, .f32⟩
  | .hbm, ⟨5, _⟩ => ⟨S2x640x64, .bf16⟩
  | .hbm, ⟨6, _⟩ => ⟨S2x640x4x128, .f32⟩
  | .hbm, ⟨7, _⟩ => ⟨S2x640x64x128, .bf16⟩
  | .hbm, ⟨8, _⟩ => ⟨S2x4x640, .f32⟩
  | .hbm, ⟨9, _⟩ => ⟨S2x64x640, .bf16⟩
  | .hbm, ⟨10, _⟩ => ⟨S2x640x128x512, .bf16⟩
  | .hbm, ⟨11, _⟩ => ⟨S2x640x128, .f32⟩
  | .local _ .vmem, ⟨0, _⟩ => ⟨S1x32x128x512, .fp8e4m3⟩
  | .local _ .vmem, ⟨1, _⟩ => ⟨S1x32x128x512, .fp8e4m3⟩
  | .local _ .vmem, ⟨2, _⟩ => ⟨S1x32x4x128, .f32⟩
  | .local _ .vmem, ⟨3, _⟩ => ⟨S1x32x4x128, .f32⟩
  | .local _ .vmem, ⟨4, _⟩ => ⟨S1x32x64x128, .bf16⟩
  | .local _ .vmem, ⟨5, _⟩ => ⟨S1x32x64x128, .bf16⟩
  | .local _ .vmem, ⟨6, _⟩ => ⟨S1x640x512, .fp8e4m3⟩
  | .local _ .vmem, ⟨7, _⟩ => ⟨S1x640x512, .fp8e4m3⟩
  | .local _ .vmem, ⟨8, _⟩ => ⟨S1x4x640, .f32⟩
  | .local _ .vmem, ⟨9, _⟩ => ⟨S1x4x640, .f32⟩
  | .local _ .vmem, ⟨10, _⟩ => ⟨S1x64x640, .bf16⟩
  | .local _ .vmem, ⟨11, _⟩ => ⟨S1x64x640, .bf16⟩
  | .local _ .vmem, ⟨12, _⟩ => ⟨S1x32x128x512, .bf16⟩
  | .local _ .vmem, ⟨13, _⟩ => ⟨S1x32x128x512, .bf16⟩
  | .local _ .vmem, ⟨14, _⟩ => ⟨S1x32x128, .f32⟩
  | .local _ .vmem, ⟨15, _⟩ => ⟨S1x32x128, .f32⟩
  | .local _ .vmem, ⟨16, _⟩ => ⟨S640x512, .bf16⟩
  | .local _ .vmem, ⟨17, _⟩ => ⟨S512x640, .bf16⟩
  | .local _ .vmem, ⟨18, _⟩ => ⟨S640x64, .bf16⟩
  | .local _ .smem, ⟨0, _⟩ => ⟨S2, .i32⟩
  | _, _ => ⟨S2x640x128x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_arg6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 20], ![false, false]⟩

abbrev pre0 : Pipeline.Prefetch sig := ⟨1, ![main_arg6.idx], fun | 0 => main_arg6.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c32_i32 : BitVec 32 := 32#32
  let v2 : BitVec 32 := Scalar.muli arg1 c32_i32
  let c0_i32_6 : BitVec 32 := 0#32
  let v19 : BitVec 1 := Scalar.cmpi .sge v2 c0_i32_6
  let c64_i32 : BitVec 32 := 64#32
  let v20 : BitVec 1 := Scalar.cmpi .slt v2 c64_i32
  let v21 : BitVec 1 := Scalar.andi v19 v20
  let v22 : BitVec 32 := Scalar.extui v21
  let c0_i32_7 : BitVec 32 := 0#32
  let v23 : BitVec 1 := Scalar.cmpi .ne v22 c0_i32_7
  v23

@[reducible] def k0_t1_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩

def k0_off2 (i : grid0.Coords) (v1 : BitVec 32) (k0_t1 : Fin (k0_t1_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off3 (i : grid0.Coords) (v1 : BitVec 32) (k0_t1 : Fin (k0_t1_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off4 (i : grid0.Coords) (v1 : BitVec 32) (k0_t1 : Fin (k0_t1_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off5 (i : grid0.Coords) (v1 : BitVec 32) (k0_t1 : Fin (k0_t1_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off6 (i : grid0.Coords) (v1 : BitVec 32) (k0_t1 : Fin (k0_t1_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off7 (i : grid0.Coords) (v1 : BitVec 32) (k0_t1 : Fin (k0_t1_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off8 (i : grid0.Coords) (v1 : BitVec 32) (k0_t1 : Fin (k0_t1_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off9 (i : grid0.Coords) (v1 : BitVec 32) (k0_t1 : Fin (k0_t1_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off10 (i : grid0.Coords) (v1 : BitVec 32) (k0_t1 : Fin (k0_t1_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off11 (i : grid0.Coords) (v1 : BitVec 32) (k0_t1 : Fin (k0_t1_loop i v1).trips) (c0_i32_31 : BitVec 32) (c0_i32_32 : BitVec 32) : Fin 4 → Nat :=
  let c0_159 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_160 : Index := 0#32
  let c0_161 : Index := 0#32
  ![0, v339.toNat, 0, 0]
def k0_off12 (i : grid0.Coords) (v1 : BitVec 32) (k0_t1 : Fin (k0_t1_loop i v1).trips) (c0_i32_31 : BitVec 32) (c0_i32_32 : BitVec 32) : Fin 3 → Nat :=
  let c0_163 : Index := 0#32
  let c0_i32_27 : BitVec 32 := 0#32
  let c1_i32_28 : BitVec 32 := 1#32
  let arg14 : BitVec 32 := Scf.iv c0_i32_27 c1_i32_28 k0_t1
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_164 : Index := 0#32
  ![0, v346.toNat, 0]
@[reducible] def k0_t2_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off13 (i : grid0.Coords) (v1 : BitVec 32) (k0_t2 : Fin (k0_t2_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off14 (i : grid0.Coords) (v1 : BitVec 32) (k0_t2 : Fin (k0_t2_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off15 (i : grid0.Coords) (v1 : BitVec 32) (k0_t2 : Fin (k0_t2_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off16 (i : grid0.Coords) (v1 : BitVec 32) (k0_t2 : Fin (k0_t2_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off17 (i : grid0.Coords) (v1 : BitVec 32) (k0_t2 : Fin (k0_t2_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off18 (i : grid0.Coords) (v1 : BitVec 32) (k0_t2 : Fin (k0_t2_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off19 (i : grid0.Coords) (v1 : BitVec 32) (k0_t2 : Fin (k0_t2_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off20 (i : grid0.Coords) (v1 : BitVec 32) (k0_t2 : Fin (k0_t2_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off21 (i : grid0.Coords) (v1 : BitVec 32) (k0_t2 : Fin (k0_t2_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off22 (i : grid0.Coords) (v1 : BitVec 32) (k0_t2 : Fin (k0_t2_loop i v1).trips) (c0_i32_31 : BitVec 32) (c0_i32_32 : BitVec 32) : Fin 4 → Nat :=
  let c0_159 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_160 : Index := 0#32
  let c0_161 : Index := 0#32
  ![0, v339.toNat, 0, 0]
def k0_off23 (i : grid0.Coords) (v1 : BitVec 32) (k0_t2 : Fin (k0_t2_loop i v1).trips) (c0_i32_31 : BitVec 32) (c0_i32_32 : BitVec 32) : Fin 3 → Nat :=
  let c0_163 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t2
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_164 : Index := 0#32
  ![0, v346.toNat, 0]
def k0_cond5 (i : grid0.Coords) : BitVec 1 :=
  let arg1 : BitVec 32 := BitVec.ofNat 32 (i 1).val
  let c32_i32 : BitVec 32 := 32#32
  let v2 : BitVec 32 := Scalar.muli arg1 c32_i32
  let c64_i32_8 : BitVec 32 := 64#32
  let v24 : BitVec 1 := Scalar.cmpi .sge v2 c64_i32_8
  let c128_i32 : BitVec 32 := 128#32
  let v25 : BitVec 1 := Scalar.cmpi .slt v2 c128_i32
  let v26 : BitVec 1 := Scalar.andi v24 v25
  let v27 : BitVec 32 := Scalar.extui v26
  let c0_i32_9 : BitVec 32 := 0#32
  let v28 : BitVec 1 := Scalar.cmpi .ne v27 c0_i32_9
  v28

@[reducible] def k0_t3_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off24 (i : grid0.Coords) (v1 : BitVec 32) (k0_t3 : Fin (k0_t3_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off25 (i : grid0.Coords) (v1 : BitVec 32) (k0_t3 : Fin (k0_t3_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off26 (i : grid0.Coords) (v1 : BitVec 32) (k0_t3 : Fin (k0_t3_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off27 (i : grid0.Coords) (v1 : BitVec 32) (k0_t3 : Fin (k0_t3_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off28 (i : grid0.Coords) (v1 : BitVec 32) (k0_t3 : Fin (k0_t3_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off29 (i : grid0.Coords) (v1 : BitVec 32) (k0_t3 : Fin (k0_t3_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off30 (i : grid0.Coords) (v1 : BitVec 32) (k0_t3 : Fin (k0_t3_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off31 (i : grid0.Coords) (v1 : BitVec 32) (k0_t3 : Fin (k0_t3_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off32 (i : grid0.Coords) (v1 : BitVec 32) (k0_t3 : Fin (k0_t3_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off33 (i : grid0.Coords) (v1 : BitVec 32) (k0_t3 : Fin (k0_t3_loop i v1).trips) (c0_i32_31 : BitVec 32) (c0_i32_32 : BitVec 32) : Fin 4 → Nat :=
  let c0_158 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off34 (i : grid0.Coords) (v1 : BitVec 32) (k0_t3 : Fin (k0_t3_loop i v1).trips) (c0_i32_31 : BitVec 32) (c0_i32_32 : BitVec 32) : Fin 3 → Nat :=
  let c0_162 : Index := 0#32
  let c0_i32_27 : BitVec 32 := 0#32
  let c1_i32_28 : BitVec 32 := 1#32
  let arg14 : BitVec 32 := Scf.iv c0_i32_27 c1_i32_28 k0_t3
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
@[reducible] def k0_t4_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off35 (i : grid0.Coords) (v1 : BitVec 32) (k0_t4 : Fin (k0_t4_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off36 (i : grid0.Coords) (v1 : BitVec 32) (k0_t4 : Fin (k0_t4_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off37 (i : grid0.Coords) (v1 : BitVec 32) (k0_t4 : Fin (k0_t4_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off38 (i : grid0.Coords) (v1 : BitVec 32) (k0_t4 : Fin (k0_t4_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off39 (i : grid0.Coords) (v1 : BitVec 32) (k0_t4 : Fin (k0_t4_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off40 (i : grid0.Coords) (v1 : BitVec 32) (k0_t4 : Fin (k0_t4_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off41 (i : grid0.Coords) (v1 : BitVec 32) (k0_t4 : Fin (k0_t4_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off42 (i : grid0.Coords) (v1 : BitVec 32) (k0_t4 : Fin (k0_t4_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off43 (i : grid0.Coords) (v1 : BitVec 32) (k0_t4 : Fin (k0_t4_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off44 (i : grid0.Coords) (v1 : BitVec 32) (k0_t4 : Fin (k0_t4_loop i v1).trips) (c0_i32_31 : BitVec 32) (c0_i32_32 : BitVec 32) : Fin 4 → Nat :=
  let c0_158 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off45 (i : grid0.Coords) (v1 : BitVec 32) (k0_t4 : Fin (k0_t4_loop i v1).trips) (c0_i32_31 : BitVec 32) (c0_i32_32 : BitVec 32) : Fin 3 → Nat :=
  let c0_162 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t4
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
def k0_cond6 (i : grid0.Coords) : BitVec 1 :=
  let arg1 : BitVec 32 := BitVec.ofNat 32 (i 1).val
  let c32_i32 : BitVec 32 := 32#32
  let v2 : BitVec 32 := Scalar.muli arg1 c32_i32
  let c128_i32_10 : BitVec 32 := 128#32
  let v29 : BitVec 1 := Scalar.cmpi .sge v2 c128_i32_10
  let c192_i32 : BitVec 32 := 192#32
  let v30 : BitVec 1 := Scalar.cmpi .slt v2 c192_i32
  let v31 : BitVec 1 := Scalar.andi v29 v30
  let v32 : BitVec 32 := Scalar.extui v31
  let c0_i32_11 : BitVec 32 := 0#32
  let v33 : BitVec 1 := Scalar.cmpi .ne v32 c0_i32_11
  v33

@[reducible] def k0_t5_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off46 (i : grid0.Coords) (v1 : BitVec 32) (k0_t5 : Fin (k0_t5_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off47 (i : grid0.Coords) (v1 : BitVec 32) (k0_t5 : Fin (k0_t5_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off48 (i : grid0.Coords) (v1 : BitVec 32) (k0_t5 : Fin (k0_t5_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off49 (i : grid0.Coords) (v1 : BitVec 32) (k0_t5 : Fin (k0_t5_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off50 (i : grid0.Coords) (v1 : BitVec 32) (k0_t5 : Fin (k0_t5_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off51 (i : grid0.Coords) (v1 : BitVec 32) (k0_t5 : Fin (k0_t5_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off52 (i : grid0.Coords) (v1 : BitVec 32) (k0_t5 : Fin (k0_t5_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off53 (i : grid0.Coords) (v1 : BitVec 32) (k0_t5 : Fin (k0_t5_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off54 (i : grid0.Coords) (v1 : BitVec 32) (k0_t5 : Fin (k0_t5_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off55 (i : grid0.Coords) (v1 : BitVec 32) (k0_t5 : Fin (k0_t5_loop i v1).trips) (c0_i32_31 : BitVec 32) (c0_i32_32 : BitVec 32) : Fin 4 → Nat :=
  let c0_159 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v341 : Index := Scalar.indexCast v76
  let c0_160 : Index := 0#32
  let c0_161 : Index := 0#32
  ![0, v341.toNat, 0, 0]
def k0_off56 (i : grid0.Coords) (v1 : BitVec 32) (k0_t5 : Fin (k0_t5_loop i v1).trips) (c0_i32_31 : BitVec 32) (c0_i32_32 : BitVec 32) : Fin 3 → Nat :=
  let c0_163 : Index := 0#32
  let c0_i32_27 : BitVec 32 := 0#32
  let c1_i32_28 : BitVec 32 := 1#32
  let arg14 : BitVec 32 := Scf.iv c0_i32_27 c1_i32_28 k0_t5
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v348 : Index := Scalar.indexCast v76
  let c0_164 : Index := 0#32
  ![0, v348.toNat, 0]
@[reducible] def k0_t6_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off57 (i : grid0.Coords) (v1 : BitVec 32) (k0_t6 : Fin (k0_t6_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off58 (i : grid0.Coords) (v1 : BitVec 32) (k0_t6 : Fin (k0_t6_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off59 (i : grid0.Coords) (v1 : BitVec 32) (k0_t6 : Fin (k0_t6_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off60 (i : grid0.Coords) (v1 : BitVec 32) (k0_t6 : Fin (k0_t6_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off61 (i : grid0.Coords) (v1 : BitVec 32) (k0_t6 : Fin (k0_t6_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off62 (i : grid0.Coords) (v1 : BitVec 32) (k0_t6 : Fin (k0_t6_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off63 (i : grid0.Coords) (v1 : BitVec 32) (k0_t6 : Fin (k0_t6_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off64 (i : grid0.Coords) (v1 : BitVec 32) (k0_t6 : Fin (k0_t6_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off65 (i : grid0.Coords) (v1 : BitVec 32) (k0_t6 : Fin (k0_t6_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off66 (i : grid0.Coords) (v1 : BitVec 32) (k0_t6 : Fin (k0_t6_loop i v1).trips) (c0_i32_31 : BitVec 32) (c0_i32_32 : BitVec 32) : Fin 4 → Nat :=
  let c0_159 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v341 : Index := Scalar.indexCast v76
  let c0_160 : Index := 0#32
  let c0_161 : Index := 0#32
  ![0, v341.toNat, 0, 0]
def k0_off67 (i : grid0.Coords) (v1 : BitVec 32) (k0_t6 : Fin (k0_t6_loop i v1).trips) (c0_i32_31 : BitVec 32) (c0_i32_32 : BitVec 32) : Fin 3 → Nat :=
  let c0_163 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t6
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v348 : Index := Scalar.indexCast v76
  let c0_164 : Index := 0#32
  ![0, v348.toNat, 0]
def k0_cond7 (i : grid0.Coords) : BitVec 1 :=
  let arg1 : BitVec 32 := BitVec.ofNat 32 (i 1).val
  let c32_i32 : BitVec 32 := 32#32
  let v2 : BitVec 32 := Scalar.muli arg1 c32_i32
  let c192_i32_12 : BitVec 32 := 192#32
  let v34 : BitVec 1 := Scalar.cmpi .sge v2 c192_i32_12
  let c256_i32 : BitVec 32 := 256#32
  let v35 : BitVec 1 := Scalar.cmpi .slt v2 c256_i32
  let v36 : BitVec 1 := Scalar.andi v34 v35
  let v37 : BitVec 32 := Scalar.extui v36
  let c0_i32_13 : BitVec 32 := 0#32
  let v38 : BitVec 1 := Scalar.cmpi .ne v37 c0_i32_13
  v38

@[reducible] def k0_t7_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off68 (i : grid0.Coords) (v1 : BitVec 32) (k0_t7 : Fin (k0_t7_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off69 (i : grid0.Coords) (v1 : BitVec 32) (k0_t7 : Fin (k0_t7_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off70 (i : grid0.Coords) (v1 : BitVec 32) (k0_t7 : Fin (k0_t7_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off71 (i : grid0.Coords) (v1 : BitVec 32) (k0_t7 : Fin (k0_t7_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off72 (i : grid0.Coords) (v1 : BitVec 32) (k0_t7 : Fin (k0_t7_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off73 (i : grid0.Coords) (v1 : BitVec 32) (k0_t7 : Fin (k0_t7_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off74 (i : grid0.Coords) (v1 : BitVec 32) (k0_t7 : Fin (k0_t7_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off75 (i : grid0.Coords) (v1 : BitVec 32) (k0_t7 : Fin (k0_t7_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off76 (i : grid0.Coords) (v1 : BitVec 32) (k0_t7 : Fin (k0_t7_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off77 (i : grid0.Coords) (v1 : BitVec 32) (k0_t7 : Fin (k0_t7_loop i v1).trips) (c0_i32_31 : BitVec 32) (c0_i32_32 : BitVec 32) : Fin 4 → Nat :=
  let c0_158 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off78 (i : grid0.Coords) (v1 : BitVec 32) (k0_t7 : Fin (k0_t7_loop i v1).trips) (c0_i32_31 : BitVec 32) (c0_i32_32 : BitVec 32) : Fin 3 → Nat :=
  let c0_162 : Index := 0#32
  let c0_i32_27 : BitVec 32 := 0#32
  let c1_i32_28 : BitVec 32 := 1#32
  let arg14 : BitVec 32 := Scf.iv c0_i32_27 c1_i32_28 k0_t7
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
@[reducible] def k0_t8_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off79 (i : grid0.Coords) (v1 : BitVec 32) (k0_t8 : Fin (k0_t8_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off80 (i : grid0.Coords) (v1 : BitVec 32) (k0_t8 : Fin (k0_t8_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off81 (i : grid0.Coords) (v1 : BitVec 32) (k0_t8 : Fin (k0_t8_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off82 (i : grid0.Coords) (v1 : BitVec 32) (k0_t8 : Fin (k0_t8_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off83 (i : grid0.Coords) (v1 : BitVec 32) (k0_t8 : Fin (k0_t8_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off84 (i : grid0.Coords) (v1 : BitVec 32) (k0_t8 : Fin (k0_t8_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off85 (i : grid0.Coords) (v1 : BitVec 32) (k0_t8 : Fin (k0_t8_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off86 (i : grid0.Coords) (v1 : BitVec 32) (k0_t8 : Fin (k0_t8_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off87 (i : grid0.Coords) (v1 : BitVec 32) (k0_t8 : Fin (k0_t8_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off88 (i : grid0.Coords) (v1 : BitVec 32) (k0_t8 : Fin (k0_t8_loop i v1).trips) (c0_i32_31 : BitVec 32) (c0_i32_32 : BitVec 32) : Fin 4 → Nat :=
  let c0_158 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off89 (i : grid0.Coords) (v1 : BitVec 32) (k0_t8 : Fin (k0_t8_loop i v1).trips) (c0_i32_31 : BitVec 32) (c0_i32_32 : BitVec 32) : Fin 3 → Nat :=
  let c0_162 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t8
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
def k0_cond8 (i : grid0.Coords) : BitVec 1 :=
  let arg1 : BitVec 32 := BitVec.ofNat 32 (i 1).val
  let c32_i32 : BitVec 32 := 32#32
  let v2 : BitVec 32 := Scalar.muli arg1 c32_i32
  let c256_i32_14 : BitVec 32 := 256#32
  let v39 : BitVec 1 := Scalar.cmpi .sge v2 c256_i32_14
  let c320_i32 : BitVec 32 := 320#32
  let v40 : BitVec 1 := Scalar.cmpi .slt v2 c320_i32
  let v41 : BitVec 1 := Scalar.andi v39 v40
  let v42 : BitVec 32 := Scalar.extui v41
  let c0_i32_15 : BitVec 32 := 0#32
  let v43 : BitVec 1 := Scalar.cmpi .ne v42 c0_i32_15
  v43

@[reducible] def k0_t9_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off90 (i : grid0.Coords) (v1 : BitVec 32) (k0_t9 : Fin (k0_t9_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off91 (i : grid0.Coords) (v1 : BitVec 32) (k0_t9 : Fin (k0_t9_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off92 (i : grid0.Coords) (v1 : BitVec 32) (k0_t9 : Fin (k0_t9_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off93 (i : grid0.Coords) (v1 : BitVec 32) (k0_t9 : Fin (k0_t9_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off94 (i : grid0.Coords) (v1 : BitVec 32) (k0_t9 : Fin (k0_t9_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off95 (i : grid0.Coords) (v1 : BitVec 32) (k0_t9 : Fin (k0_t9_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off96 (i : grid0.Coords) (v1 : BitVec 32) (k0_t9 : Fin (k0_t9_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off97 (i : grid0.Coords) (v1 : BitVec 32) (k0_t9 : Fin (k0_t9_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off98 (i : grid0.Coords) (v1 : BitVec 32) (k0_t9 : Fin (k0_t9_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off99 (i : grid0.Coords) (v1 : BitVec 32) (k0_t9 : Fin (k0_t9_loop i v1).trips) (c0_i32_31 : BitVec 32) (c0_i32_32 : BitVec 32) : Fin 4 → Nat :=
  let c0_159 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v341 : Index := Scalar.indexCast v76
  let c0_160 : Index := 0#32
  let c0_161 : Index := 0#32
  ![0, v341.toNat, 0, 0]
def k0_off100 (i : grid0.Coords) (v1 : BitVec 32) (k0_t9 : Fin (k0_t9_loop i v1).trips) (c0_i32_31 : BitVec 32) (c0_i32_32 : BitVec 32) : Fin 3 → Nat :=
  let c0_163 : Index := 0#32
  let c0_i32_27 : BitVec 32 := 0#32
  let c1_i32_28 : BitVec 32 := 1#32
  let arg14 : BitVec 32 := Scf.iv c0_i32_27 c1_i32_28 k0_t9
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v348 : Index := Scalar.indexCast v76
  let c0_164 : Index := 0#32
  ![0, v348.toNat, 0]
@[reducible] def k0_t10_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off101 (i : grid0.Coords) (v1 : BitVec 32) (k0_t10 : Fin (k0_t10_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off102 (i : grid0.Coords) (v1 : BitVec 32) (k0_t10 : Fin (k0_t10_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off103 (i : grid0.Coords) (v1 : BitVec 32) (k0_t10 : Fin (k0_t10_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off104 (i : grid0.Coords) (v1 : BitVec 32) (k0_t10 : Fin (k0_t10_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off105 (i : grid0.Coords) (v1 : BitVec 32) (k0_t10 : Fin (k0_t10_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off106 (i : grid0.Coords) (v1 : BitVec 32) (k0_t10 : Fin (k0_t10_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off107 (i : grid0.Coords) (v1 : BitVec 32) (k0_t10 : Fin (k0_t10_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off108 (i : grid0.Coords) (v1 : BitVec 32) (k0_t10 : Fin (k0_t10_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off109 (i : grid0.Coords) (v1 : BitVec 32) (k0_t10 : Fin (k0_t10_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off110 (i : grid0.Coords) (v1 : BitVec 32) (k0_t10 : Fin (k0_t10_loop i v1).trips) (c0_i32_31 : BitVec 32) (c0_i32_32 : BitVec 32) : Fin 4 → Nat :=
  let c0_159 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v341 : Index := Scalar.indexCast v76
  let c0_160 : Index := 0#32
  let c0_161 : Index := 0#32
  ![0, v341.toNat, 0, 0]
def k0_off111 (i : grid0.Coords) (v1 : BitVec 32) (k0_t10 : Fin (k0_t10_loop i v1).trips) (c0_i32_31 : BitVec 32) (c0_i32_32 : BitVec 32) : Fin 3 → Nat :=
  let c0_163 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t10
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v348 : Index := Scalar.indexCast v76
  let c0_164 : Index := 0#32
  ![0, v348.toNat, 0]
def k0_cond9 (i : grid0.Coords) : BitVec 1 :=
  let arg1 : BitVec 32 := BitVec.ofNat 32 (i 1).val
  let c32_i32 : BitVec 32 := 32#32
  let v2 : BitVec 32 := Scalar.muli arg1 c32_i32
  let c320_i32_16 : BitVec 32 := 320#32
  let v44 : BitVec 1 := Scalar.cmpi .sge v2 c320_i32_16
  let c384_i32 : BitVec 32 := 384#32
  let v45 : BitVec 1 := Scalar.cmpi .slt v2 c384_i32
  let v46 : BitVec 1 := Scalar.andi v44 v45
  let v47 : BitVec 32 := Scalar.extui v46
  let c0_i32_17 : BitVec 32 := 0#32
  let v48 : BitVec 1 := Scalar.cmpi .ne v47 c0_i32_17
  v48

@[reducible] def k0_t11_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off112 (i : grid0.Coords) (v1 : BitVec 32) (k0_t11 : Fin (k0_t11_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off113 (i : grid0.Coords) (v1 : BitVec 32) (k0_t11 : Fin (k0_t11_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off114 (i : grid0.Coords) (v1 : BitVec 32) (k0_t11 : Fin (k0_t11_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off115 (i : grid0.Coords) (v1 : BitVec 32) (k0_t11 : Fin (k0_t11_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off116 (i : grid0.Coords) (v1 : BitVec 32) (k0_t11 : Fin (k0_t11_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off117 (i : grid0.Coords) (v1 : BitVec 32) (k0_t11 : Fin (k0_t11_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off118 (i : grid0.Coords) (v1 : BitVec 32) (k0_t11 : Fin (k0_t11_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off119 (i : grid0.Coords) (v1 : BitVec 32) (k0_t11 : Fin (k0_t11_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off120 (i : grid0.Coords) (v1 : BitVec 32) (k0_t11 : Fin (k0_t11_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off121 (i : grid0.Coords) (v1 : BitVec 32) (k0_t11 : Fin (k0_t11_loop i v1).trips) (c0_i32_31 : BitVec 32) (c0_i32_32 : BitVec 32) : Fin 4 → Nat :=
  let c0_158 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off122 (i : grid0.Coords) (v1 : BitVec 32) (k0_t11 : Fin (k0_t11_loop i v1).trips) (c0_i32_31 : BitVec 32) (c0_i32_32 : BitVec 32) : Fin 3 → Nat :=
  let c0_162 : Index := 0#32
  let c0_i32_27 : BitVec 32 := 0#32
  let c1_i32_28 : BitVec 32 := 1#32
  let arg14 : BitVec 32 := Scf.iv c0_i32_27 c1_i32_28 k0_t11
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
@[reducible] def k0_t12_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off123 (i : grid0.Coords) (v1 : BitVec 32) (k0_t12 : Fin (k0_t12_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off124 (i : grid0.Coords) (v1 : BitVec 32) (k0_t12 : Fin (k0_t12_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off125 (i : grid0.Coords) (v1 : BitVec 32) (k0_t12 : Fin (k0_t12_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off126 (i : grid0.Coords) (v1 : BitVec 32) (k0_t12 : Fin (k0_t12_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off127 (i : grid0.Coords) (v1 : BitVec 32) (k0_t12 : Fin (k0_t12_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off128 (i : grid0.Coords) (v1 : BitVec 32) (k0_t12 : Fin (k0_t12_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off129 (i : grid0.Coords) (v1 : BitVec 32) (k0_t12 : Fin (k0_t12_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off130 (i : grid0.Coords) (v1 : BitVec 32) (k0_t12 : Fin (k0_t12_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off131 (i : grid0.Coords) (v1 : BitVec 32) (k0_t12 : Fin (k0_t12_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off132 (i : grid0.Coords) (v1 : BitVec 32) (k0_t12 : Fin (k0_t12_loop i v1).trips) (c0_i32_31 : BitVec 32) (c0_i32_32 : BitVec 32) : Fin 4 → Nat :=
  let c0_158 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off133 (i : grid0.Coords) (v1 : BitVec 32) (k0_t12 : Fin (k0_t12_loop i v1).trips) (c0_i32_31 : BitVec 32) (c0_i32_32 : BitVec 32) : Fin 3 → Nat :=
  let c0_162 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t12
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
def k0_cond10 (i : grid0.Coords) : BitVec 1 :=
  let arg1 : BitVec 32 := BitVec.ofNat 32 (i 1).val
  let c32_i32 : BitVec 32 := 32#32
  let v2 : BitVec 32 := Scalar.muli arg1 c32_i32
  let c384_i32_18 : BitVec 32 := 384#32
  let v49 : BitVec 1 := Scalar.cmpi .sge v2 c384_i32_18
  let c448_i32 : BitVec 32 := 448#32
  let v50 : BitVec 1 := Scalar.cmpi .slt v2 c448_i32
  let v51 : BitVec 1 := Scalar.andi v49 v50
  let v52 : BitVec 32 := Scalar.extui v51
  let c0_i32_19 : BitVec 32 := 0#32
  let v53 : BitVec 1 := Scalar.cmpi .ne v52 c0_i32_19
  v53

@[reducible] def k0_t13_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off134 (i : grid0.Coords) (v1 : BitVec 32) (k0_t13 : Fin (k0_t13_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off135 (i : grid0.Coords) (v1 : BitVec 32) (k0_t13 : Fin (k0_t13_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off136 (i : grid0.Coords) (v1 : BitVec 32) (k0_t13 : Fin (k0_t13_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off137 (i : grid0.Coords) (v1 : BitVec 32) (k0_t13 : Fin (k0_t13_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off138 (i : grid0.Coords) (v1 : BitVec 32) (k0_t13 : Fin (k0_t13_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off139 (i : grid0.Coords) (v1 : BitVec 32) (k0_t13 : Fin (k0_t13_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off140 (i : grid0.Coords) (v1 : BitVec 32) (k0_t13 : Fin (k0_t13_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off141 (i : grid0.Coords) (v1 : BitVec 32) (k0_t13 : Fin (k0_t13_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off142 (i : grid0.Coords) (v1 : BitVec 32) (k0_t13 : Fin (k0_t13_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off143 (i : grid0.Coords) (v1 : BitVec 32) (k0_t13 : Fin (k0_t13_loop i v1).trips) (c0_i32_31 : BitVec 32) (c0_i32_32 : BitVec 32) : Fin 4 → Nat :=
  let c0_159 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v341 : Index := Scalar.indexCast v76
  let c0_160 : Index := 0#32
  let c0_161 : Index := 0#32
  ![0, v341.toNat, 0, 0]
def k0_off144 (i : grid0.Coords) (v1 : BitVec 32) (k0_t13 : Fin (k0_t13_loop i v1).trips) (c0_i32_31 : BitVec 32) (c0_i32_32 : BitVec 32) : Fin 3 → Nat :=
  let c0_163 : Index := 0#32
  let c0_i32_27 : BitVec 32 := 0#32
  let c1_i32_28 : BitVec 32 := 1#32
  let arg14 : BitVec 32 := Scf.iv c0_i32_27 c1_i32_28 k0_t13
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v348 : Index := Scalar.indexCast v76
  let c0_164 : Index := 0#32
  ![0, v348.toNat, 0]
@[reducible] def k0_t14_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off145 (i : grid0.Coords) (v1 : BitVec 32) (k0_t14 : Fin (k0_t14_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off146 (i : grid0.Coords) (v1 : BitVec 32) (k0_t14 : Fin (k0_t14_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off147 (i : grid0.Coords) (v1 : BitVec 32) (k0_t14 : Fin (k0_t14_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off148 (i : grid0.Coords) (v1 : BitVec 32) (k0_t14 : Fin (k0_t14_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off149 (i : grid0.Coords) (v1 : BitVec 32) (k0_t14 : Fin (k0_t14_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off150 (i : grid0.Coords) (v1 : BitVec 32) (k0_t14 : Fin (k0_t14_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off151 (i : grid0.Coords) (v1 : BitVec 32) (k0_t14 : Fin (k0_t14_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off152 (i : grid0.Coords) (v1 : BitVec 32) (k0_t14 : Fin (k0_t14_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off153 (i : grid0.Coords) (v1 : BitVec 32) (k0_t14 : Fin (k0_t14_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off154 (i : grid0.Coords) (v1 : BitVec 32) (k0_t14 : Fin (k0_t14_loop i v1).trips) (c0_i32_31 : BitVec 32) (c0_i32_32 : BitVec 32) : Fin 4 → Nat :=
  let c0_159 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v341 : Index := Scalar.indexCast v76
  let c0_160 : Index := 0#32
  let c0_161 : Index := 0#32
  ![0, v341.toNat, 0, 0]
def k0_off155 (i : grid0.Coords) (v1 : BitVec 32) (k0_t14 : Fin (k0_t14_loop i v1).trips) (c0_i32_31 : BitVec 32) (c0_i32_32 : BitVec 32) : Fin 3 → Nat :=
  let c0_163 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t14
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v348 : Index := Scalar.indexCast v76
  let c0_164 : Index := 0#32
  ![0, v348.toNat, 0]
def k0_cond11 (i : grid0.Coords) : BitVec 1 :=
  let arg1 : BitVec 32 := BitVec.ofNat 32 (i 1).val
  let c32_i32 : BitVec 32 := 32#32
  let v2 : BitVec 32 := Scalar.muli arg1 c32_i32
  let c448_i32_20 : BitVec 32 := 448#32
  let v54 : BitVec 1 := Scalar.cmpi .sge v2 c448_i32_20
  let c512_i32 : BitVec 32 := 512#32
  let v55 : BitVec 1 := Scalar.cmpi .slt v2 c512_i32
  let v56 : BitVec 1 := Scalar.andi v54 v55
  let v57 : BitVec 32 := Scalar.extui v56
  let c0_i32_21 : BitVec 32 := 0#32
  let v58 : BitVec 1 := Scalar.cmpi .ne v57 c0_i32_21
  v58

@[reducible] def k0_t15_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off156 (i : grid0.Coords) (v1 : BitVec 32) (k0_t15 : Fin (k0_t15_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off157 (i : grid0.Coords) (v1 : BitVec 32) (k0_t15 : Fin (k0_t15_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off158 (i : grid0.Coords) (v1 : BitVec 32) (k0_t15 : Fin (k0_t15_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off159 (i : grid0.Coords) (v1 : BitVec 32) (k0_t15 : Fin (k0_t15_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off160 (i : grid0.Coords) (v1 : BitVec 32) (k0_t15 : Fin (k0_t15_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off161 (i : grid0.Coords) (v1 : BitVec 32) (k0_t15 : Fin (k0_t15_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off162 (i : grid0.Coords) (v1 : BitVec 32) (k0_t15 : Fin (k0_t15_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off163 (i : grid0.Coords) (v1 : BitVec 32) (k0_t15 : Fin (k0_t15_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off164 (i : grid0.Coords) (v1 : BitVec 32) (k0_t15 : Fin (k0_t15_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off165 (i : grid0.Coords) (v1 : BitVec 32) (k0_t15 : Fin (k0_t15_loop i v1).trips) (c0_i32_31 : BitVec 32) (c0_i32_32 : BitVec 32) : Fin 4 → Nat :=
  let c0_158 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off166 (i : grid0.Coords) (v1 : BitVec 32) (k0_t15 : Fin (k0_t15_loop i v1).trips) (c0_i32_31 : BitVec 32) (c0_i32_32 : BitVec 32) : Fin 3 → Nat :=
  let c0_162 : Index := 0#32
  let c0_i32_27 : BitVec 32 := 0#32
  let c1_i32_28 : BitVec 32 := 1#32
  let arg14 : BitVec 32 := Scf.iv c0_i32_27 c1_i32_28 k0_t15
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
@[reducible] def k0_t16_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off167 (i : grid0.Coords) (v1 : BitVec 32) (k0_t16 : Fin (k0_t16_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off168 (i : grid0.Coords) (v1 : BitVec 32) (k0_t16 : Fin (k0_t16_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off169 (i : grid0.Coords) (v1 : BitVec 32) (k0_t16 : Fin (k0_t16_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off170 (i : grid0.Coords) (v1 : BitVec 32) (k0_t16 : Fin (k0_t16_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off171 (i : grid0.Coords) (v1 : BitVec 32) (k0_t16 : Fin (k0_t16_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off172 (i : grid0.Coords) (v1 : BitVec 32) (k0_t16 : Fin (k0_t16_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off173 (i : grid0.Coords) (v1 : BitVec 32) (k0_t16 : Fin (k0_t16_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off174 (i : grid0.Coords) (v1 : BitVec 32) (k0_t16 : Fin (k0_t16_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off175 (i : grid0.Coords) (v1 : BitVec 32) (k0_t16 : Fin (k0_t16_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off176 (i : grid0.Coords) (v1 : BitVec 32) (k0_t16 : Fin (k0_t16_loop i v1).trips) (c0_i32_31 : BitVec 32) (c0_i32_32 : BitVec 32) : Fin 4 → Nat :=
  let c0_158 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off177 (i : grid0.Coords) (v1 : BitVec 32) (k0_t16 : Fin (k0_t16_loop i v1).trips) (c0_i32_31 : BitVec 32) (c0_i32_32 : BitVec 32) : Fin 3 → Nat :=
  let c0_162 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t16
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
def k0_cond12 (i : grid0.Coords) : BitVec 1 :=
  let arg1 : BitVec 32 := BitVec.ofNat 32 (i 1).val
  let c32_i32 : BitVec 32 := 32#32
  let v2 : BitVec 32 := Scalar.muli arg1 c32_i32
  let c512_i32_22 : BitVec 32 := 512#32
  let v59 : BitVec 1 := Scalar.cmpi .sge v2 c512_i32_22
  let c576_i32 : BitVec 32 := 576#32
  let v60 : BitVec 1 := Scalar.cmpi .slt v2 c576_i32
  let v61 : BitVec 1 := Scalar.andi v59 v60
  let v62 : BitVec 32 := Scalar.extui v61
  let c0_i32_23 : BitVec 32 := 0#32
  let v63 : BitVec 1 := Scalar.cmpi .ne v62 c0_i32_23
  v63

@[reducible] def k0_t17_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off178 (i : grid0.Coords) (v1 : BitVec 32) (k0_t17 : Fin (k0_t17_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off179 (i : grid0.Coords) (v1 : BitVec 32) (k0_t17 : Fin (k0_t17_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off180 (i : grid0.Coords) (v1 : BitVec 32) (k0_t17 : Fin (k0_t17_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off181 (i : grid0.Coords) (v1 : BitVec 32) (k0_t17 : Fin (k0_t17_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off182 (i : grid0.Coords) (v1 : BitVec 32) (k0_t17 : Fin (k0_t17_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off183 (i : grid0.Coords) (v1 : BitVec 32) (k0_t17 : Fin (k0_t17_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off184 (i : grid0.Coords) (v1 : BitVec 32) (k0_t17 : Fin (k0_t17_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off185 (i : grid0.Coords) (v1 : BitVec 32) (k0_t17 : Fin (k0_t17_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off186 (i : grid0.Coords) (v1 : BitVec 32) (k0_t17 : Fin (k0_t17_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off187 (i : grid0.Coords) (v1 : BitVec 32) (k0_t17 : Fin (k0_t17_loop i v1).trips) (c0_i32_31 : BitVec 32) (c0_i32_32 : BitVec 32) : Fin 4 → Nat :=
  let c0_159 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v341 : Index := Scalar.indexCast v76
  let c0_160 : Index := 0#32
  let c0_161 : Index := 0#32
  ![0, v341.toNat, 0, 0]
def k0_off188 (i : grid0.Coords) (v1 : BitVec 32) (k0_t17 : Fin (k0_t17_loop i v1).trips) (c0_i32_31 : BitVec 32) (c0_i32_32 : BitVec 32) : Fin 3 → Nat :=
  let c0_163 : Index := 0#32
  let c0_i32_27 : BitVec 32 := 0#32
  let c1_i32_28 : BitVec 32 := 1#32
  let arg14 : BitVec 32 := Scf.iv c0_i32_27 c1_i32_28 k0_t17
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v348 : Index := Scalar.indexCast v76
  let c0_164 : Index := 0#32
  ![0, v348.toNat, 0]
@[reducible] def k0_t18_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off189 (i : grid0.Coords) (v1 : BitVec 32) (k0_t18 : Fin (k0_t18_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off190 (i : grid0.Coords) (v1 : BitVec 32) (k0_t18 : Fin (k0_t18_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off191 (i : grid0.Coords) (v1 : BitVec 32) (k0_t18 : Fin (k0_t18_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off192 (i : grid0.Coords) (v1 : BitVec 32) (k0_t18 : Fin (k0_t18_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off193 (i : grid0.Coords) (v1 : BitVec 32) (k0_t18 : Fin (k0_t18_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off194 (i : grid0.Coords) (v1 : BitVec 32) (k0_t18 : Fin (k0_t18_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off195 (i : grid0.Coords) (v1 : BitVec 32) (k0_t18 : Fin (k0_t18_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off196 (i : grid0.Coords) (v1 : BitVec 32) (k0_t18 : Fin (k0_t18_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off197 (i : grid0.Coords) (v1 : BitVec 32) (k0_t18 : Fin (k0_t18_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off198 (i : grid0.Coords) (v1 : BitVec 32) (k0_t18 : Fin (k0_t18_loop i v1).trips) (c0_i32_31 : BitVec 32) (c0_i32_32 : BitVec 32) : Fin 4 → Nat :=
  let c0_159 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v341 : Index := Scalar.indexCast v76
  let c0_160 : Index := 0#32
  let c0_161 : Index := 0#32
  ![0, v341.toNat, 0, 0]
def k0_off199 (i : grid0.Coords) (v1 : BitVec 32) (k0_t18 : Fin (k0_t18_loop i v1).trips) (c0_i32_31 : BitVec 32) (c0_i32_32 : BitVec 32) : Fin 3 → Nat :=
  let c0_163 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t18
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v348 : Index := Scalar.indexCast v76
  let c0_164 : Index := 0#32
  ![0, v348.toNat, 0]
def k0_cond13 (i : grid0.Coords) : BitVec 1 :=
  let arg1 : BitVec 32 := BitVec.ofNat 32 (i 1).val
  let c32_i32 : BitVec 32 := 32#32
  let v2 : BitVec 32 := Scalar.muli arg1 c32_i32
  let c576_i32_24 : BitVec 32 := 576#32
  let v64 : BitVec 1 := Scalar.cmpi .sge v2 c576_i32_24
  let c640_i32 : BitVec 32 := 640#32
  let v65 : BitVec 1 := Scalar.cmpi .slt v2 c640_i32
  let v66 : BitVec 1 := Scalar.andi v64 v65
  let v67 : BitVec 32 := Scalar.extui v66
  let c0_i32_25 : BitVec 32 := 0#32
  let v68 : BitVec 1 := Scalar.cmpi .ne v67 c0_i32_25
  v68

@[reducible] def k0_t19_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_28 : BitVec 32 := 1#32
  ⟨c0_i32_27, v73, c1_i32_28⟩
def k0_off200 (i : grid0.Coords) (v1 : BitVec 32) (k0_t19 : Fin (k0_t19_loop i v1).trips) (c0_i32_31 : BitVec 32) (c0_i32_32 : BitVec 32) : Fin 4 → Nat :=
  let c0 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off201 (i : grid0.Coords) (v1 : BitVec 32) (k0_t19 : Fin (k0_t19_loop i v1).trips) (c0_i32_31 : BitVec 32) (c0_i32_32 : BitVec 32) : Fin 4 → Nat :=
  let c0_37 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off202 (i : grid0.Coords) (v1 : BitVec 32) (k0_t19 : Fin (k0_t19_loop i v1).trips) (c0_i32_31 : BitVec 32) (c0_i32_32 : BitVec 32) : Fin 4 → Nat :=
  let c0_40 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off203 (i : grid0.Coords) (v1 : BitVec 32) (k0_t19 : Fin (k0_t19_loop i v1).trips) (c0_i32_31 : BitVec 32) (c0_i32_32 : BitVec 32) : Fin 4 → Nat :=
  let c0_42 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off204 (i : grid0.Coords) (v1 : BitVec 32) (k0_t19 : Fin (k0_t19_loop i v1).trips) (c0_i32_31 : BitVec 32) (c0_i32_32 : BitVec 32) : Fin 4 → Nat :=
  let c0_44 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off205 (i : grid0.Coords) (v1 : BitVec 32) (k0_t19 : Fin (k0_t19_loop i v1).trips) (c0_i32_31 : BitVec 32) (c0_i32_32 : BitVec 32) : Fin 4 → Nat :=
  let c0_46 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off206 (i : grid0.Coords) (v1 : BitVec 32) (k0_t19 : Fin (k0_t19_loop i v1).trips) (c0_i32_31 : BitVec 32) (c0_i32_32 : BitVec 32) : Fin 4 → Nat :=
  let c0_48 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off207 (i : grid0.Coords) (v1 : BitVec 32) (k0_t19 : Fin (k0_t19_loop i v1).trips) (c0_i32_31 : BitVec 32) (c0_i32_32 : BitVec 32) : Fin 4 → Nat :=
  let c0_50 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off208 (i : grid0.Coords) (v1 : BitVec 32) (k0_t19 : Fin (k0_t19_loop i v1).trips) (c0_i32_31 : BitVec 32) (c0_i32_32 : BitVec 32) : Fin 4 → Nat :=
  let c0_124 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off209 (i : grid0.Coords) (v1 : BitVec 32) (k0_t19 : Fin (k0_t19_loop i v1).trips) (c0_i32_31 : BitVec 32) (c0_i32_32 : BitVec 32) : Fin 4 → Nat :=
  let c0_158 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off210 (i : grid0.Coords) (v1 : BitVec 32) (k0_t19 : Fin (k0_t19_loop i v1).trips) (c0_i32_31 : BitVec 32) (c0_i32_32 : BitVec 32) : Fin 3 → Nat :=
  let c0_162 : Index := 0#32
  let c0_i32_27 : BitVec 32 := 0#32
  let c1_i32_28 : BitVec 32 := 1#32
  let arg14 : BitVec 32 := Scf.iv c0_i32_27 c1_i32_28 k0_t19
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]
@[reducible] def k0_t20_loop (i : grid0.Coords) (v1 : BitVec 32) : Scf.Loop 32 :=
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let v70 : BitVec 32 := Scalar.addi c0_i32_27 v69
  let c1_i32_29 : BitVec 32 := 1#32
  ⟨v73, v70, c1_i32_29⟩
def k0_off211 (i : grid0.Coords) (v1 : BitVec 32) (k0_t20 : Fin (k0_t20_loop i v1).trips) (c0_i32_31 : BitVec 32) (c0_i32_32 : BitVec 32) : Fin 4 → Nat :=
  let c0 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v80 : Index := Scalar.indexCast v76
  let c0_35 : Index := 0#32
  let c0_36 : Index := 0#32
  ![0, v80.toNat, 0, 0]
def k0_off212 (i : grid0.Coords) (v1 : BitVec 32) (k0_t20 : Fin (k0_t20_loop i v1).trips) (c0_i32_31 : BitVec 32) (c0_i32_32 : BitVec 32) : Fin 4 → Nat :=
  let c0_37 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v84 : Index := Scalar.indexCast v76
  let c0_38 : Index := 0#32
  let c0_39 : Index := 0#32
  ![0, v84.toNat, 0, 0]
def k0_off213 (i : grid0.Coords) (v1 : BitVec 32) (k0_t20 : Fin (k0_t20_loop i v1).trips) (c0_i32_31 : BitVec 32) (c0_i32_32 : BitVec 32) : Fin 4 → Nat :=
  let c0_40 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v91 : Index := Scalar.indexCast v76
  let c0_41 : Index := 0#32
  let c128 : Index := 128#32
  ![0, v91.toNat, 0, 128]
def k0_off214 (i : grid0.Coords) (v1 : BitVec 32) (k0_t20 : Fin (k0_t20_loop i v1).trips) (c0_i32_31 : BitVec 32) (c0_i32_32 : BitVec 32) : Fin 4 → Nat :=
  let c0_42 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v95 : Index := Scalar.indexCast v76
  let c1 : Index := 1#32
  let c0_43 : Index := 0#32
  ![0, v95.toNat, 1, 0]
def k0_off215 (i : grid0.Coords) (v1 : BitVec 32) (k0_t20 : Fin (k0_t20_loop i v1).trips) (c0_i32_31 : BitVec 32) (c0_i32_32 : BitVec 32) : Fin 4 → Nat :=
  let c0_44 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v102 : Index := Scalar.indexCast v76
  let c0_45 : Index := 0#32
  let c256 : Index := 256#32
  ![0, v102.toNat, 0, 256]
def k0_off216 (i : grid0.Coords) (v1 : BitVec 32) (k0_t20 : Fin (k0_t20_loop i v1).trips) (c0_i32_31 : BitVec 32) (c0_i32_32 : BitVec 32) : Fin 4 → Nat :=
  let c0_46 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v106 : Index := Scalar.indexCast v76
  let c2 : Index := 2#32
  let c0_47 : Index := 0#32
  ![0, v106.toNat, 2, 0]
def k0_off217 (i : grid0.Coords) (v1 : BitVec 32) (k0_t20 : Fin (k0_t20_loop i v1).trips) (c0_i32_31 : BitVec 32) (c0_i32_32 : BitVec 32) : Fin 4 → Nat :=
  let c0_48 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v113 : Index := Scalar.indexCast v76
  let c0_49 : Index := 0#32
  let c384 : Index := 384#32
  ![0, v113.toNat, 0, 384]
def k0_off218 (i : grid0.Coords) (v1 : BitVec 32) (k0_t20 : Fin (k0_t20_loop i v1).trips) (c0_i32_31 : BitVec 32) (c0_i32_32 : BitVec 32) : Fin 4 → Nat :=
  let c0_50 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v117 : Index := Scalar.indexCast v76
  let c3 : Index := 3#32
  let c0_51 : Index := 0#32
  ![0, v117.toNat, 3, 0]
def k0_off219 (i : grid0.Coords) (v1 : BitVec 32) (k0_t20 : Fin (k0_t20_loop i v1).trips) (c0_i32_31 : BitVec 32) (c0_i32_32 : BitVec 32) : Fin 4 → Nat :=
  let c0_124 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v261 : Index := Scalar.indexCast v76
  let c0_125 : Index := 0#32
  let c0_126 : Index := 0#32
  ![0, v261.toNat, 0, 0]
def k0_off220 (i : grid0.Coords) (v1 : BitVec 32) (k0_t20 : Fin (k0_t20_loop i v1).trips) (c0_i32_31 : BitVec 32) (c0_i32_32 : BitVec 32) : Fin 4 → Nat :=
  let c0_158 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v339 : Index := Scalar.indexCast v76
  let c0_159 : Index := 0#32
  let c0_160 : Index := 0#32
  ![0, v339.toNat, 0, 0]
def k0_off221 (i : grid0.Coords) (v1 : BitVec 32) (k0_t20 : Fin (k0_t20_loop i v1).trips) (c0_i32_31 : BitVec 32) (c0_i32_32 : BitVec 32) : Fin 3 → Nat :=
  let c0_162 : Index := 0#32
  let c0_i32_27 : BitVec 32 := 0#32
  let c2_i32 : BitVec 32 := 2#32
  let c0_i32_5 : BitVec 32 := 0#32
  let arg1 : BitVec 32 := BitVec.ofNat 32 (i 1).val
  let c32_i32 : BitVec 32 := 32#32
  let v2 : BitVec 32 := Scalar.muli arg1 c32_i32
  let v14 : BitVec 32 := Scalar.subi v1 v2
  let c15_i32 : BitVec 32 := 15#32
  let v15 : BitVec 32 := Scalar.addi v14 c15_i32
  let c16_i32_4 : BitVec 32 := 16#32
  let v16 : BitVec 32 := Scalar.divsi v15 c16_i32_4
  let v17 : BitVec 32 := Scalar.maxsi c0_i32_5 v16
  let v18 : BitVec 32 := Scalar.minsi c2_i32 v17
  let v69 : BitVec 32 := Scalar.subi v18 c0_i32_27
  let c1_i32 : BitVec 32 := 1#32
  let v71 : BitVec 32 := Scalar.divsi v69 c1_i32
  let v72 : BitVec 32 := Scalar.muli v71 c1_i32
  let v73 : BitVec 32 := Scalar.addi c0_i32_27 v72
  let c1_i32_29 : BitVec 32 := 1#32
  let arg14 : BitVec 32 := Scf.iv v73 c1_i32_29 k0_t20
  let c16_i32_30 : BitVec 32 := 16#32
  let v74 : BitVec 32 := Scalar.muli arg14 c16_i32_30
  let v75 : BitVec 32 := Scalar.addi v74 c0_i32_31
  let v76 : BitVec 32 := Scalar.addi v75 c0_i32_32
  let v346 : Index := Scalar.indexCast v76
  let c0_163 : Index := 0#32
  ![0, v346.toNat, 0]

def k0_chk1_0 (i : grid0.Coords) (v1 : BitVec 32) : Prop :=
  (∀ (k0_h4 : k0_cond4 i = 1#1), (k0_t1_loop i v1).OK) ∧
  (∀ k0_t1 : Fin (k0_t1_loop i v1).trips, ∀ (k0_h4 : k0_cond4 i = 1#1), ∀ (r₁ : Fin 4) (r₂ : Fin 4), ∀ a, (k0_off2 i v1 k0_t1 (BitVec.ofNat 32 (4 * r₁.val)) (BitVec.ofNat 32 r₂.val)) a + S1x1x128x128.size a ≤ S1x32x128x512.size a) ∧
  (∀ k0_t1 : Fin (k0_t1_loop i v1).trips, ∀ (k0_h4 : k0_cond4 i = 1#1), ∀ (r₁ : Fin 4) (r₂ : Fin 4), ∀ a, (k0_off3 i v1 k0_t1 (BitVec.ofNat 32 (4 * r₁.val)) (BitVec.ofNat 32 r₂.val)) a + S1x1x1x128.size a ≤ S1x32x4x128.size a) ∧
  (∀ k0_t1 : Fin (k0_t1_loop i v1).trips, ∀ (k0_h4 : k0_cond4 i = 1#1), ∀ (r₁ : Fin 4) (r₂ : Fin 4), ∀ a, (k0_off4 i v1 k0_t1 (BitVec.ofNat 32 (4 * r₁.val)) (BitVec.ofNat 32 r₂.val)) a + S1x1x128x128.size a ≤ S1x32x128x512.size a) ∧
  (∀ k0_t1 : Fin (k0_t1_loop i v1).trips, ∀ (k0_h4 : k0_cond4 i = 1#1), ∀ (r₁ : Fin 4) (r₂ : Fin 4), ∀ a, (k0_off5 i v1 k0_t1 (BitVec.ofNat 32 (4 * r₁.val)) (BitVec.ofNat 32 r₂.val)) a + S1x1x1x128.size a ≤ S1x32x4x128.size a) ∧
  (∀ k0_t1 : Fin (k0_t1_loop i v1).trips, ∀ (k0_h4 : k0_cond4 i = 1#1), ∀ (r₁ : Fin 4) (r₂ : Fin 4), ∀ a, (k0_off6 i v1 k0_t1 (BitVec.ofNat 32 (4 * r₁.val)) (BitVec.ofNat 32 r₂.val)) a + S1x1x128x128.size a ≤ S1x32x128x512.size a) ∧
  (∀ k0_t1 : Fin (k0_t1_loop i v1).trips, ∀ (k0_h4 : k0_cond4 i = 1#1), ∀ (r₁ : Fin 4) (r₂ : Fin 4), ∀ a, (k0_off7 i v1 k0_t1 (BitVec.ofNat 32 (4 * r₁.val)) (BitVec.ofNat 32 r₂.val)) a + S1x1x1x128.size a ≤ S1x32x4x128.size a) ∧
  (∀ k0_t1 : Fin (k0_t1_loop i v1).trips, ∀ (k0_h4 : k0_cond4 i = 1#1), ∀ (r₁ : Fin 4) (r₂ : Fin 4), ∀ a, (k0_off8 i v1 k0_t1 (BitVec.ofNat 32 (4 * r₁.val)) (BitVec.ofNat 32 r₂.val)) a + S1x1x128x128.size a ≤ S1x32x128x512.size a) ∧
  (∀ k0_t1 : Fin (k0_t1_loop i v1).trips, ∀ (k0_h4 : k0_cond4 i = 1#1), ∀ (r₁ : Fin 4) (r₂ : Fin 4), ∀ a, (k0_off9 i v1 k0_t1 (BitVec.ofNat 32 (4 * r₁.val)) (BitVec.ofNat 32 r₂.val)) a + S1x1x1x128.size a ≤ S1x32x4x128.size a) ∧
  (∀ k0_t1 : Fin (k0_t1_loop i v1).trips, ∀ (k0_h4 : k0_cond4 i = 1#1), ∀ (r₁ : Fin 4) (r₂ : Fin 4), ∀ a, (k0_off10 i v1 k0_t1 (BitVec.ofNat 32 (4 * r₁.val)) (BitVec.ofNat 32 r₂.val)) a + S1x1x64x128.size a ≤ S1x32x64x128.size a) ∧
  (∀ k0_t1 : Fin (k0_t1_loop i v1).trips, ∀ (k0_h4 : k0_cond4 i = 1#1), ∀ (r₁ : Fin 4) (r₂ : Fin 4), ∀ a, (k0_off11 i v1 k0_t1 (BitVec.ofNat 32 (4 * r₁.val)) (BitVec.ofNat 32 r₂.val)) a + S1x1x128x512.size a ≤ S1x32x128x512.size a) ∧
  (∀ k0_t1 : Fin (k0_t1_loop i v1).trips, ∀ (k0_h4 : k0_cond4 i = 1#1), ∀ (r₁ : Fin 4) (r₂ : Fin 4), ∀ (hinb : ∀ a, (k0_off11 i v1 k0_t1 (BitVec.ofNat 32 (4 * r₁.val)) (BitVec.ofNat 32 r₂.val)) a + S1x1x128x512.size a ≤ S1x32x128x512.size a), (Rect.unit (s := S1x32x128x512) (k0_off11 i v1 k0_t1 (BitVec.ofNat 32 (4 * r₁.val)) (BitVec.ofNat 32 r₂.val)) S1x1x128x512.size hinb).PackedRows (EltTy.packing .bf16)) ∧
  (∀ k0_t1 : Fin (k0_t1_loop i v1).trips, ∀ (k0_h4 : k0_cond4 i = 1#1), ∀ (r₁ : Fin 4) (r₂ : Fin 4), ∀ a, (k0_off12 i v1 k0_t1 (BitVec.ofNat 32 (4 * r₁.val)) (BitVec.ofNat 32 r₂.val)) a + S1x1x128.size a ≤ S1x32x128.size a) ∧
  (∀ (k0_h4 : k0_cond4 i = 1#1), (k0_t2_loop i v1).OK) ∧
  (∀ k0_t2 : Fin (k0_t2_loop i v1).trips, ∀ (k0_h4 : k0_cond4 i = 1#1), ∀ (r₁ : Fin 4) (r₂ : Fin 4), ∀ a, (k0_off13 i v1 k0_t2 (BitVec.ofNat 32 (4 * r₁.val)) (BitVec.ofNat 32 r₂.val)) a + S1x1x128x128.size a ≤ S1x32x128x512.size a) ∧
  (∀ k0_t2 : Fin (k0_t2_loop i v1).trips, ∀ (k0_h4 : k0_cond4 i = 1#1), ∀ (r₁ : Fin 4) (r₂ : Fin 4), ∀ a, (k0_off14 i v1 k0_t2 (BitVec.ofNat 32 (4 * r₁.val)) (BitVec.ofNat 32 r₂.val)) a + S1x1x1x128.size a ≤ S1x32x4x128.size a) ∧
  (∀ k0_t2 : Fin (k0_t2_loop i v1).trips, ∀ (k0_h4 : k0_cond4 i = 1#1), ∀ (r₁ : Fin 4) (r₂ : Fin 4), ∀ a, (k0_off15 i v1 k0_t2 (BitVec.ofNat 32 (4 * r₁.val)) (BitVec.ofNat 32 r₂.val)) a + S1x1x128x128.size a ≤ S1x32x128x512.size a) ∧
  (∀ k0_t2 : Fin (k0_t2_loop i v1).trips, ∀ (k0_h4 : k0_cond4 i = 1#1), ∀ (r₁ : Fin 4) (r₂ : Fin 4), ∀ a, (k0_off16 i v1 k0_t2 (BitVec.ofNat 32 (4 * r₁.val)) (BitVec.ofNat 32 r₂.val)) a + S1x1x1x128.size a ≤ S1x32x4x128.size a) ∧
  (∀ k0_t2 : Fin (k0_t2_loop i v1).trips, ∀ (k0_h4 : k0_cond4 i = 1#1), ∀ (r₁ : Fin 4) (r₂ : Fin 4), ∀ a, (k0_off17 i v1 k0_t2 (BitVec.ofNat 32 (4 * r₁.val)) (BitVec.ofNat 32 r₂.val)) a + S1x1x128x128.size a ≤ S1x32x128x512.size a) ∧
  (∀ k0_t2 : Fin (k0_t2_loop i v1).trips, ∀ (k0_h4 : k0_cond4 i = 1#1), ∀ (r₁ : Fin 4) (r₂ : Fin 4), ∀ a, (k0_off18 i v1 k0_t2 (BitVec.ofNat 32 (4 * r₁.val)) (BitVec.ofNat 32 r₂.val)) a + S1x1x1x128.size a ≤ S1x32x4x128.size a) ∧
  (∀ k0_t2 : Fin (k0_t2_loop i v1).trips, ∀ (k0_h4 : k0_cond4 i = 1#1), ∀ (r₁ : Fin 4) (r₂ : Fin 4), ∀ a, (k0_off19 i v1 k0_t2 (BitVec.ofNat 32 (4 * r₁.val)) (BitVec.ofNat 32 r₂.val)) a + S1x1x128x128.size a ≤ S1x32x128x512.size a) ∧
  (∀ k0_t2 : Fin (k0_t2_loop i v1).trips, ∀ (k0_h4 : k0_cond4 i = 1#1), ∀ (r₁ : Fin 4) (r₂ : Fin 4), ∀ a, (k0_off20 i v1 k0_t2 (BitVec.ofNat 32 (4 * r₁.val)) (BitVec.ofNat 32 r₂.val)) a + S1x1x1x128.size a ≤ S1x32x4x128.size a) ∧
  (∀ k0_t2 : Fin (k0_t2_loop i v1).trips, ∀ (k0_h4 : k0_cond4 i = 1#1), ∀ (r₁ : Fin 4) (r₂ : Fin 4), ∀ a, (k0_off21 i v1 k0_t2 (BitVec.ofNat 32 (4 * r₁.val)) (BitVec.ofNat 32 r₂.val)) a + S1x1x64x128.size a ≤ S1x32x64x128.size a) ∧
  (∀ k0_t2 : Fin (k0_t2_loop i v1).trips, ∀ (k0_h4 : k0_cond4 i = 1#1), ∀ (r₁ : Fin 4) (r₂ : Fin 4), ∀ a, (k0_off22 i v1 k0_t2 (BitVec.ofNat 32 (4 * r₁.val)) (BitVec.ofNat 32 r₂.val)) a + S1x1x128x512.size a ≤ S1x32x128x512.size a) ∧
  (∀ k0_t2 : Fin (k0_t2_loop i v1).trips, ∀ (k0_h4 : k0_cond4 i = 1#1), ∀ (r₁ : Fin 4) (r₂ : Fin 4), ∀ (hinb : ∀ a, (k0_off22 i v1 k0_t2 (BitVec.ofNat 32 (4 * r₁.val)) (BitVec.ofNat 32 r₂.val)) a + S1x1x128x512.size a ≤ S1x32x128x512.size a), (Rect.unit (s := S1x32x128x512) (k0_off22 i v1 k0_t2 (BitVec.ofNat 32 (4 * r₁.val)) (BitVec.ofNat 32 r₂.val)) S1x1x128x512.size hinb).PackedRows (EltTy.packing .bf16)) ∧
  (∀ k0_t2 : Fin (k0_t2_loop i v1).trips, ∀ (k0_h4 : k0_cond4 i = 1#1), ∀ (r₁ : Fin 4) (r₂ : Fin 4), ∀ a, (k0_off23 i v1 k0_t2 (BitVec.ofNat 32 (4 * r₁.val)) (BitVec.ofNat 32 r₂.val)) a + S1x1x128.size a ≤ S1x32x128.size a) ∧
  (∀ (k0_h5 : k0_cond5 i = 1#1), (k0_t3_loop i v1).OK) ∧
  (∀ k0_t3 : Fin (k0_t3_loop i v1).trips, ∀ (k0_h5 : k0_cond5 i = 1#1), ∀ (r₁ : Fin 4) (r₂ : Fin 4), ∀ a, (k0_off24 i v1 k0_t3 (BitVec.ofNat 32 (4 * r₁.val)) (BitVec.ofNat 32 r₂.val)) a + S1x1x128x128.size a ≤ S1x32x128x512.size a) ∧
  (∀ k0_t3 : Fin (k0_t3_loop i v1).trips, ∀ (k0_h5 : k0_cond5 i = 1#1), ∀ (r₁ : Fin 4) (r₂ : Fin 4), ∀ a, (k0_off25 i v1 k0_t3 (BitVec.ofNat 32 (4 * r₁.val)) (BitVec.ofNat 32 r₂.val)) a + S1x1x1x128.size a ≤ S1x32x4x128.size a) ∧
  (∀ k0_t3 : Fin (k0_t3_loop i v1).trips, ∀ (k0_h5 : k0_cond5 i = 1#1), ∀ (r₁ : Fin 4) (r₂ : Fin 4), ∀ a, (k0_off26 i v1 k0_t3 (BitVec.ofNat 32 (4 * r₁.val)) (BitVec.ofNat 32 r₂.val)) a + S1x1x128x128.size a ≤ S1x32x128x512.size a) ∧
  (∀ k0_t3 : Fin (k0_t3_loop i v1).trips, ∀ (k0_h5 : k0_cond5 i = 1#1), ∀ (r₁ : Fin 4) (r₂ : Fin 4), ∀ a, (k0_off27 i v1 k0_t3 (BitVec.ofNat 32 (4 * r₁.val)) (BitVec.ofNat 32 r₂.val)) a + S1x1x1x128.size a ≤ S1x32x4x128.size a) ∧
  (∀ k0_t3 : Fin (k0_t3_loop i v1).trips, ∀ (k0_h5 : k0_cond5 i = 1#1), ∀ (r₁ : Fin 4) (r₂ : Fin 4), ∀ a, (k0_off28 i v1 k0_t3 (BitVec.ofNat 32 (4 * r₁.val)) (BitVec.ofNat 32 r₂.val)) a + S1x1x128x128.size a ≤ S1x32x128x512.size a)
def k0_chk1_1 (i : grid0.Coords) (v1 : BitVec 32) : Prop :=
  (∀ k0_t3 : Fin (k0_t3_loop i v1).trips, ∀ (k0_h5 : k0_cond5 i = 1#1), ∀ (r₁ : Fin 4) (r₂ : Fin 4), ∀ a, (k0_off29 i v1 k0_t3 (BitVec.ofNat 32 (4 * r₁.val)) (BitVec.ofNat 32 r₂.val)) a + S1x1x1x128.size a ≤ S1x32x4x128.size a) ∧
  (∀ k0_t3 : Fin (k0_t3_loop i v1).trips, ∀ (k0_h5 : k0_cond5 i = 1#1), ∀ (r₁ : Fin 4) (r₂ : Fin 4), ∀ a, (k0_off30 i v1 k0_t3 (BitVec.ofNat 32 (4 * r₁.val)) (BitVec.ofNat 32 r₂.val)) a + S1x1x128x128.size a ≤ S1x32x128x512.size a) ∧
  (∀ k0_t3 : Fin (k0_t3_loop i v1).trips, ∀ (k0_h5 : k0_cond5 i = 1#1), ∀ (r₁ : Fin 4) (r₂ : Fin 4), ∀ a, (k0_off31 i v1 k0_t3 (BitVec.ofNat 32 (4 * r₁.val)) (BitVec.ofNat 32 r₂.val)) a + S1x1x1x128.size a ≤ S1x32x4x128.size a) ∧
  (∀ k0_t3 : Fin (k0_t3_loop i v1).trips, ∀ (k0_h5 : k0_cond5 i = 1#1), ∀ (r₁ : Fin 4) (r₂ : Fin 4), ∀ a, (k0_off32 i v1 k0_t3 (BitVec.ofNat 32 (4 * r₁.val)) (BitVec.ofNat 32 r₂.val)) a + S1x1x64x128.size a ≤ S1x32x64x128.size a) ∧
  (∀ k0_t3 : Fin (k0_t3_loop i v1).trips, ∀ (k0_h5 : k0_cond5 i = 1#1), ∀ (r₁ : Fin 4) (r₂ : Fin 4), ∀ a, (k0_off33 i v1 k0_t3 (BitVec.ofNat 32 (4 * r₁.val)) (BitVec.ofNat 32 r₂.val)) a + S1x1x128x512.size a ≤ S1x32x128x512.size a) ∧
  (∀ k0_t3 : Fin (k0_t3_loop i v1).trips, ∀ (k0_h5 : k0_cond5 i = 1#1), ∀ (r₁ : Fin 4) (r₂ : Fin 4), ∀ (hinb : ∀ a, (k0_off33 i v1 k0_t3 (BitVec.ofNat 32 (4 * r₁.val)) (BitVec.ofNat 32 r₂.val)) a + S1x1x128x512.size a ≤ S1x32x128x512.size a), (Rect.unit (s := S1x32x128x512) (k0_off33 i v1 k0_t3 (BitVec.ofNat 32 (4 * r₁.val)) (BitVec.ofNat 32 r₂.val)) S1x1x128x512.size hinb).PackedRows (EltTy.packing .bf16)) ∧
  (∀ k0_t3 : Fin (k0_t3_loop i v1).trips, ∀ (k0_h5 : k0_cond5 i = 1#1), ∀ (r₁ : Fin 4) (r₂ : Fin 4), ∀ a, (k0_off34 i v1 k0_t3 (BitVec.ofNat 32 (4 * r₁.val)) (BitVec.ofNat 32 r₂.val)) a + S1x1x128.size a ≤ S1x32x128.size a) ∧
  (∀ (k0_h5 : k0_cond5 i = 1#1), (k0_t4_loop i v1).OK) ∧
  (∀ k0_t4 : Fin (k0_t4_loop i v1).trips, ∀ (k0_h5 : k0_cond5 i = 1#1), ∀ (r₁ : Fin 4) (r₂ : Fin 4), ∀ a, (k0_off35 i v1 k0_t4 (BitVec.ofNat 32 (4 * r₁.val)) (BitVec.ofNat 32 r₂.val)) a + S1x1x128x128.size a ≤ S1x32x128x512.size a) ∧
  (∀ k0_t4 : Fin (k0_t4_loop i v1).trips, ∀ (k0_h5 : k0_cond5 i = 1#1), ∀ (r₁ : Fin 4) (r₂ : Fin 4), ∀ a, (k0_off36 i v1 k0_t4 (BitVec.ofNat 32 (4 * r₁.val)) (BitVec.ofNat 32 r₂.val)) a + S1x1x1x128.size a ≤ S1x32x4x128.size a) ∧
  (∀ k0_t4 : Fin (k0_t4_loop i v1).trips, ∀ (k0_h5 : k0_cond5 i = 1#1), ∀ (r₁ : Fin 4) (r₂ : Fin 4), ∀ a, (k0_off37 i v1 k0_t4 (BitVec.ofNat 32 (4 * r₁.val)) (BitVec.ofNat 32 r₂.val)) a + S1x1x128x128.size a ≤ S1x32x128x512.size a) ∧
  (∀ k0_t4 : Fin (k0_t4_loop i v1).trips, ∀ (k0_h5 : k0_cond5 i = 1#1), ∀ (r₁ : Fin 4) (r₂ : Fin 4), ∀ a, (k0_off38 i v1 k0_t4 (BitVec.ofNat 32 (4 * r₁.val)) (BitVec.ofNat 32 r₂.val)) a + S1x1x1x128.size a ≤ S1x32x4x128.size a) ∧
  (∀ k0_t4 : Fin (k0_t4_loop i v1).trips, ∀ (k0_h5 : k0_cond5 i = 1#1), ∀ (r₁ : Fin 4) (r₂ : Fin 4), ∀ a, (k0_off39 i v1 k0_t4 (BitVec.ofNat 32 (4 * r₁.val)) (BitVec.ofNat 32 r₂.val)) a + S1x1x128x128.size a ≤ S1x32x128x512.size a) ∧
  (∀ k0_t4 : Fin (k0_t4_loop i v1).trips, ∀ (k0_h5 : k0_cond5 i = 1#1), ∀ (r₁ : Fin 4) (r₂ : Fin 4), ∀ a, (k0_off40 i v1 k0_t4 (BitVec.ofNat 32 (4 * r₁.val)) (BitVec.ofNat 32 r₂.val)) a + S1x1x1x128.size a ≤ S1x32x4x128.size a) ∧
  (∀ k0_t4 : Fin (k0_t4_loop i v1).trips, ∀ (k0_h5 : k0_cond5 i = 1#1), ∀ (r₁ : Fin 4) (r₂ : Fin 4), ∀ a, (k0_off41 i v1 k0_t4 (BitVec.ofNat 32 (4 * r₁.val)) (BitVec.ofNat 32 r₂.val)) a + S1x1x128x128.size a ≤ S1x32x128x512.size a) ∧
  (∀ k0_t4 : Fin (k0_t4_loop i v1).trips, ∀ (k0_h5 : k0_cond5 i = 1#1), ∀ (r₁ : Fin 4) (r₂ : Fin 4), ∀ a, (k0_off42 i v1 k0_t4 (BitVec.ofNat 32 (4 * r₁.val)) (BitVec.ofNat 32 r₂.val)) a + S1x1x1x128.size a ≤ S1x32x4x128.size a) ∧
  (∀ k0_t4 : Fin (k0_t4_loop i v1).trips, ∀ (k0_h5 : k0_cond5 i = 1#1), ∀ (r₁ : Fin 4) (r₂ : Fin 4), ∀ a, (k0_off43 i v1 k0_t4 (BitVec.ofNat 32 (4 * r₁.val)) (BitVec.ofNat 32 r₂.val)) a + S1x1x64x128.size a ≤ S1x32x64x128.size a) ∧
  (∀ k0_t4 : Fin (k0_t4_loop i v1).trips, ∀ (k0_h5 : k0_cond5 i = 1#1), ∀ (r₁ : Fin 4) (r₂ : Fin 4), ∀ a, (k0_off44 i v1 k0_t4 (BitVec.ofNat 32 (4 * r₁.val)) (BitVec.ofNat 32 r₂.val)) a + S1x1x128x512.size a ≤ S1x32x128x512.size a) ∧
  (∀ k0_t4 : Fin (k0_t4_loop i v1).trips, ∀ (k0_h5 : k0_cond5 i = 1#1), ∀ (r₁ : Fin 4) (r₂ : Fin 4), ∀ (hinb : ∀ a, (k0_off44 i v1 k0_t4 (BitVec.ofNat 32 (4 * r₁.val)) (BitVec.ofNat 32 r₂.val)) a + S1x1x128x512.size a ≤ S1x32x128x512.size a), (Rect.unit (s := S1x32x128x512) (k0_off44 i v1 k0_t4 (BitVec.ofNat 32 (4 * r₁.val)) (BitVec.ofNat 32 r₂.val)) S1x1x128x512.size hinb).PackedRows (EltTy.packing .bf16)) ∧
  (∀ k0_t4 : Fin (k0_t4_loop i v1).trips, ∀ (k0_h5 : k0_cond5 i = 1#1), ∀ (r₁ : Fin 4) (r₂ : Fin 4), ∀ a, (k0_off45 i v1 k0_t4 (BitVec.ofNat 32 (4 * r₁.val)) (BitVec.ofNat 32 r₂.val)) a + S1x1x128.size a ≤ S1x32x128.size a) ∧
  (∀ (k0_h6 : k0_cond6 i = 1#1), (k0_t5_loop i v1).OK) ∧
  (∀ k0_t5 : Fin (k0_t5_loop i v1).trips, ∀ (k0_h6 : k0_cond6 i = 1#1), ∀ (r₁ : Fin 4) (r₂ : Fin 4), ∀ a, (k0_off46 i v1 k0_t5 (BitVec.ofNat 32 (4 * r₁.val)) (BitVec.ofNat 32 r₂.val)) a + S1x1x128x128.size a ≤ S1x32x128x512.size a) ∧
  (∀ k0_t5 : Fin (k0_t5_loop i v1).trips, ∀ (k0_h6 : k0_cond6 i = 1#1), ∀ (r₁ : Fin 4) (r₂ : Fin 4), ∀ a, (k0_off47 i v1 k0_t5 (BitVec.ofNat 32 (4 * r₁.val)) (BitVec.ofNat 32 r₂.val)) a + S1x1x1x128.size a ≤ S1x32x4x128.size a) ∧
  (∀ k0_t5 : Fin (k0_t5_loop i v1).trips, ∀ (k0_h6 : k0_cond6 i = 1#1), ∀ (r₁ : Fin 4) (r₂ : Fin 4), ∀ a, (k0_off48 i v1 k0_t5 (BitVec.ofNat 32 (4 * r₁.val)) (BitVec.ofNat 32 r₂.val)) a + S1x1x128x128.size a ≤ S1x32x128x512.size a) ∧
  (∀ k0_t5 : Fin (k0_t5_loop i v1).trips, ∀ (k0_h6 : k0_cond6 i = 1#1), ∀ (r₁ : Fin 4) (r₂ : Fin 4), ∀ a, (k0_off49 i v1 k0_t5 (BitVec.ofNat 32 (4 * r₁.val)) (BitVec.ofNat 32 r₂.val)) a + S1x1x1x128.size a ≤ S1x32x4x128.size a) ∧
  (∀ k0_t5 : Fin (k0_t5_loop i v1).trips, ∀ (k0_h6 : k0_cond6 i = 1#1), ∀ (r₁ : Fin 4) (r₂ : Fin 4), ∀ a, (k0_off50 i v1 k0_t5 (BitVec.ofNat 32 (4 * r₁.val)) (BitVec.ofNat 32 r₂.val)) a + S1x1x128x128.size a ≤ S1x32x128x512.size a) ∧
  (∀ k0_t5 : Fin (k0_t5_loop i v1).trips, ∀ (k0_h6 : k0_cond6 i = 1#1), ∀ (r₁ : Fin 4) (r₂ : Fin 4), ∀ a, (k0_off51 i v1 k0_t5 (BitVec.ofNat 32 (4 * r₁.val)) (BitVec.ofNat 32 r₂.val)) a + S1x1x1x128.size a ≤ S1x32x4x128.size a) ∧
  (∀ k0_t5 : Fin (k0_t5_loop i v1).trips, ∀ (k0_h6 : k0_cond6 i = 1#1), ∀ (r₁ : Fin 4) (r₂ : Fin 4), ∀ a, (k0_off52 i v1 k0_t5 (BitVec.ofNat 32 (4 * r₁.val)) (BitVec.ofNat 32 r₂.val)) a + S1x1x128x128.size a ≤ S1x32x128x512.size a) ∧
  (∀ k0_t5 : Fin (k0_t5_loop i v1).trips, ∀ (k0_h6 : k0_cond6 i = 1#1), ∀ (r₁ : Fin 4) (r₂ : Fin 4), ∀ a, (k0_off53 i v1 k0_t5 (BitVec.ofNat 32 (4 * r₁.val)) (BitVec.ofNat 32 r₂.val)) a + S1x1x1x128.size a ≤ S1x32x4x128.size a) ∧
  (∀ k0_t5 : Fin (k0_t5_loop i v1).trips, ∀ (k0_h6 : k0_cond6 i = 1#1), ∀ (r₁ : Fin 4) (r₂ : Fin 4), ∀ a, (k0_off54 i v1 k0_t5 (BitVec.ofNat 32 (4 * r₁.val)) (BitVec.ofNat 32 r₂.val)) a + S1x1x64x128.size a ≤ S1x32x64x128.size a) ∧
  (∀ k0_t5 : Fin (k0_t5_loop i v1).trips, ∀ (k0_h6 : k0_cond6 i = 1#1), ∀ (r₁ : Fin 4) (r₂ : Fin 4), ∀ a, (k0_off55 i v1 k0_t5 (BitVec.ofNat 32 (4 * r₁.val)) (BitVec.ofNat 32 r₂.val)) a + S1x1x128x512.size a ≤ S1x32x128x512.size a) ∧
  (∀ k0_t5 : Fin (k0_t5_loop i v1).trips, ∀ (k0_h6 : k0_cond6 i = 1#1), ∀ (r₁ : Fin 4) (r₂ : Fin 4), ∀ (hinb : ∀ a, (k0_off55 i v1 k0_t5 (BitVec.ofNat 32 (4 * r₁.val)) (BitVec.ofNat 32 r₂.val)) a + S1x1x128x512.size a ≤ S1x32x128x512.size a), (Rect.unit (s := S1x32x128x512) (k0_off55 i v1 k0_t5 (BitVec.ofNat 32 (4 * r₁.val)) (BitVec.ofNat 32 r₂.val)) S1x1x128x512.size hinb).PackedRows (EltTy.packing .bf16))
def k0_chk1_2 (i : grid0.Coords) (v1 : BitVec 32) : Prop :=
  (∀ k0_t5 : Fin (k0_t5_loop i v1).trips, ∀ (k0_h6 : k0_cond6 i = 1#1), ∀ (r₁ : Fin 4) (r₂ : Fin 4), ∀ a, (k0_off56 i v1 k0_t5 (BitVec.ofNat 32 (4 * r₁.val)) (BitVec.ofNat 32 r₂.val)) a + S1x1x128.size a ≤ S1x32x128.size a) ∧
  (∀ (k0_h6 : k0_cond6 i = 1#1), (k0_t6_loop i v1).OK) ∧
  (∀ k0_t6 : Fin (k0_t6_loop i v1).trips, ∀ (k0_h6 : k0_cond6 i = 1#1), ∀ (r₁ : Fin 4) (r₂ : Fin 4), ∀ a, (k0_off57 i v1 k0_t6 (BitVec.ofNat 32 (4 * r₁.val)) (BitVec.ofNat 32 r₂.val)) a + S1x1x128x128.size a ≤ S1x32x128x512.size a) ∧
  (∀ k0_t6 : Fin (k0_t6_loop i v1).trips, ∀ (k0_h6 : k0_cond6 i = 1#1), ∀ (r₁ : Fin 4) (r₂ : Fin 4), ∀ a, (k0_off58 i v1 k0_t6 (BitVec.ofNat 32 (4 * r₁.val)) (BitVec.ofNat 32 r₂.val)) a + S1x1x1x128.size a ≤ S1x32x4x128.size a) ∧
  (∀ k0_t6 : Fin (k0_t6_loop i v1).trips, ∀ (k0_h6 : k0_cond6 i = 1#1), ∀ (r₁ : Fin 4) (r₂ : Fin 4), ∀ a, (k0_off59 i v1 k0_t6 (BitVec.ofNat 32 (4 * r₁.val)) (BitVec.ofNat 32 r₂.val)) a + S1x1x128x128.size a ≤ S1x32x128x512.size a) ∧
  (∀ k0_t6 : Fin (k0_t6_loop i v1).trips, ∀ (k0_h6 : k0_cond6 i = 1#1), ∀ (r₁ : Fin 4) (r₂ : Fin 4), ∀ a, (k0_off60 i v1 k0_t6 (BitVec.ofNat 32 (4 * r₁.val)) (BitVec.ofNat 32 r₂.val)) a + S1x1x1x128.size a ≤ S1x32x4x128.size a) ∧
  (∀ k0_t6 : Fin (k0_t6_loop i v1).trips, ∀ (k0_h6 : k0_cond6 i = 1#1), ∀ (r₁ : Fin 4) (r₂ : Fin 4), ∀ a, (k0_off61 i v1 k0_t6 (BitVec.ofNat 32 (4 * r₁.val)) (BitVec.ofNat 32 r₂.val)) a + S1x1x128x128.size a ≤ S1x32x128x512.size a) ∧
  (∀ k0_t6 : Fin (k0_t6_loop i v1).trips, ∀ (k0_h6 : k0_cond6 i = 1#1), ∀ (r₁ : Fin 4) (r₂ : Fin 4), ∀ a, (k0_off62 i v1 k0_t6 (BitVec.ofNat 32 (4 * r₁.val)) (BitVec.ofNat 32 r₂.val)) a + S1x1x1x128.size a ≤ S1x32x4x128.size a) ∧
  (∀ k0_t6 : Fin (k0_t6_loop i v1).trips, ∀ (k0_h6 : k0_cond6 i = 1#1), ∀ (r₁ : Fin 4) (r₂ : Fin 4), ∀ a, (k0_off63 i v1 k0_t6 (BitVec.ofNat 32 (4 * r₁.val)) (BitVec.ofNat 32 r₂.val)) a + S1x1x128x128.size a ≤ S1x32x128x512.size a) ∧
  (∀ k0_t6 : Fin (k0_t6_loop i v1).trips, ∀ (k0_h6 : k0_cond6 i = 1#1), ∀ (r₁ : Fin 4) (r₂ : Fin 4), ∀ a, (k0_off64 i v1 k0_t6 (BitVec.ofNat 32 (4 * r₁.val)) (BitVec.ofNat 32 r₂.val)) a + S1x1x1x128.size a ≤ S1x32x4x128.size a) ∧
  (∀ k0_t6 : Fin (k0_t6_loop i v1).trips, ∀ (k0_h6 : k0_cond6 i = 1#1), ∀ (r₁ : Fin 4) (r₂ : Fin 4), ∀ a, (k0_off65 i v1 k0_t6 (BitVec.ofNat 32 (4 * r₁.val)) (BitVec.ofNat 32 r₂.val)) a + S1x1x64x128.size a ≤ S1x32x64x128.size a) ∧
  (∀ k0_t6 : Fin (k0_t6_loop i v1).trips, ∀ (k0_h6 : k0_cond6 i = 1#1), ∀ (r₁ : Fin 4) (r₂ : Fin 4), ∀ a, (k0_off66 i v1 k0_t6 (BitVec.ofNat 32 (4 * r₁.val)) (BitVec.ofNat 32 r₂.val)) a + S1x1x128x512.size a ≤ S1x32x128x512.size a) ∧
  (∀ k0_t6 : Fin (k0_t6_loop i v1).trips, ∀ (k0_h6 : k0_cond6 i = 1#1), ∀ (r₁ : Fin 4) (r₂ : Fin 4), ∀ (hinb : ∀ a, (k0_off66 i v1 k0_t6 (BitVec.ofNat 32 (4 * r₁.val)) (BitVec.ofNat 32 r₂.val)) a + S1x1x128x512.size a ≤ S1x32x128x512.size a), (Rect.unit (s := S1x32x128x512) (k0_off66 i v1 k0_t6 (BitVec.ofNat 32 (4 * r₁.val)) (BitVec.ofNat 32 r₂.val)) S1x1x128x512.size hinb).PackedRows (EltTy.packing .bf16)) ∧
  (∀ k0_t6 : Fin (k0_t6_loop i v1).trips, ∀ (k0_h6 : k0_cond6 i = 1#1), ∀ (r₁ : Fin 4) (r₂ : Fin 4), ∀ a, (k0_off67 i v1 k0_t6 (BitVec.ofNat 32 (4 * r₁.val)) (BitVec.ofNat 32 r₂.val)) a + S1x1x128.size a ≤ S1x32x128.size a) ∧
  (∀ (k0_h7 : k0_cond7 i = 1#1), (k0_t7_loop i v1).OK) ∧
  (∀ k0_t7 : Fin (k0_t7_loop i v1).trips, ∀ (k0_h7 : k0_cond7 i = 1#1), ∀ (r₁ : Fin 4) (r₂ : Fin 4), ∀ a, (k0_off68 i v1 k0_t7 (BitVec.ofNat 32 (4 * r₁.val)) (BitVec.ofNat 32 r₂.val)) a + S1x1x128x128.size a ≤ S1x32x128x512.size a) ∧
  (∀ k0_t7 : Fin (k0_t7_loop i v1).trips, ∀ (k0_h7 : k0_cond7 i = 1#1), ∀ (r₁ : Fin 4) (r₂ : Fin 4), ∀ a, (k0_off69 i v1 k0_t7 (BitVec.ofNat 32 (4 * r₁.val)) (BitVec.ofNat 32 r₂.val)) a + S1x1x1x128.size a ≤ S1x32x4x128.size a) ∧
  (∀ k0_t7 : Fin (k0_t7_loop i v1).trips, ∀ (k0_h7 : k0_cond7 i = 1#1), ∀ (r₁ : Fin 4) (r₂ : Fin 4), ∀ a, (k0_off70 i v1 k0_t7 (BitVec.ofNat 32 (4 * r₁.val)) (BitVec.ofNat 32 r₂.val)) a + S1x1x128x128.size a ≤ S1x32x128x512.size a) ∧
  (∀ k0_t7 : Fin (k0_t7_loop i v1).trips, ∀ (k0_h7 : k0_cond7 i = 1#1), ∀ (r₁ : Fin 4) (r₂ : Fin 4), ∀ a, (k0_off71 i v1 k0_t7 (BitVec.ofNat 32 (4 * r₁.val)) (BitVec.ofNat 32 r₂.val)) a + S1x1x1x128.size a ≤ S1x32x4x128.size a) ∧
  (∀ k0_t7 : Fin (k0_t7_loop i v1).trips, ∀ (k0_h7 : k0_cond7 i = 1#1), ∀ (r₁ : Fin 4) (r₂ : Fin 4), ∀ a, (k0_off72 i v1 k0_t7 (BitVec.ofNat 32 (4 * r₁.val)) (BitVec.ofNat 32 r₂.val)) a + S1x1x128x128.size a ≤ S1x32x128x512.size a) ∧
  (∀ k0_t7 : Fin (k0_t7_loop i v1).trips, ∀ (k0_h7 : k0_cond7 i = 1#1), ∀ (r₁ : Fin 4) (r₂ : Fin 4), ∀ a, (k0_off73 i v1 k0_t7 (BitVec.ofNat 32 (4 * r₁.val)) (BitVec.ofNat 32 r₂.val)) a + S1x1x1x128.size a ≤ S1x32x4x128.size a) ∧
  (∀ k0_t7 : Fin (k0_t7_loop i v1).trips, ∀ (k0_h7 : k0_cond7 i = 1#1), ∀ (r₁ : Fin 4) (r₂ : Fin 4), ∀ a, (k0_off74 i v1 k0_t7 (BitVec.ofNat 32 (4 * r₁.val)) (BitVec.ofNat 32 r₂.val)) a + S1x1x128x128.size a ≤ S1x32x128x512.size a) ∧
  (∀ k0_t7 : Fin (k0_t7_loop i v1).trips, ∀ (k0_h7 : k0_cond7 i = 1#1), ∀ (r₁ : Fin 4) (r₂ : Fin 4), ∀ a, (k0_off75 i v1 k0_t7 (BitVec.ofNat 32 (4 * r₁.val)) (BitVec.ofNat 32 r₂.val)) a + S1x1x1x128.size a ≤ S1x32x4x128.size a) ∧
  (∀ k0_t7 : Fin (k0_t7_loop i v1).trips, ∀ (k0_h7 : k0_cond7 i = 1#1), ∀ (r₁ : Fin 4) (r₂ : Fin 4), ∀ a, (k0_off76 i v1 k0_t7 (BitVec.ofNat 32 (4 * r₁.val)) (BitVec.ofNat 32 r₂.val)) a + S1x1x64x128.size a ≤ S1x32x64x128.size a) ∧
  (∀ k0_t7 : Fin (k0_t7_loop i v1).trips, ∀ (k0_h7 : k0_cond7 i = 1#1), ∀ (r₁ : Fin 4) (r₂ : Fin 4), ∀ a, (k0_off77 i v1 k0_t7 (BitVec.ofNat 32 (4 * r₁.val)) (BitVec.ofNat 32 r₂.val)) a + S1x1x128x512.size a ≤ S1x32x128x512.size a) ∧
  (∀ k0_t7 : Fin (k0_t7_loop i v1).trips, ∀ (k0_h7 : k0_cond7 i = 1#1), ∀ (r₁ : Fin 4) (r₂ : Fin 4), ∀ (hinb : ∀ a, (k0_off77 i v1 k0_t7 (BitVec.ofNat 32 (4 * r₁.val)) (BitVec.ofNat 32 r₂.val)) a + S1x1x128x512.size a ≤ S1x32x128x512.size a), (Rect.unit (s := S1x32x128x512) (k0_off77 i v1 k0_t7 (BitVec.ofNat 32 (4 * r₁.val)) (BitVec.ofNat 32 r₂.val)) S1x1x128x512.size hinb).PackedRows (EltTy.packing .bf16)) ∧
  (∀ k0_t7 : Fin (k0_t7_loop i v1).trips, ∀ (k0_h7 : k0_cond7 i = 1#1), ∀ (r₁ : Fin 4) (r₂ : Fin 4), ∀ a, (k0_off78 i v1 k0_t7 (BitVec.ofNat 32 (4 * r₁.val)) (BitVec.ofNat 32 r₂.val)) a + S1x1x128.size a ≤ S1x32x128.size a) ∧
  (∀ (k0_h7 : k0_cond7 i = 1#1), (k0_t8_loop i v1).OK) ∧
  (∀ k0_t8 : Fin (k0_t8_loop i v1).trips, ∀ (k0_h7 : k0_cond7 i = 1#1), ∀ (r₁ : Fin 4) (r₂ : Fin 4), ∀ a, (k0_off79 i v1 k0_t8 (BitVec.ofNat 32 (4 * r₁.val)) (BitVec.ofNat 32 r₂.val)) a + S1x1x128x128.size a ≤ S1x32x128x512.size a) ∧
  (∀ k0_t8 : Fin (k0_t8_loop i v1).trips, ∀ (k0_h7 : k0_cond7 i = 1#1), ∀ (r₁ : Fin 4) (r₂ : Fin 4), ∀ a, (k0_off80 i v1 k0_t8 (BitVec.ofNat 32 (4 * r₁.val)) (BitVec.ofNat 32 r₂.val)) a + S1x1x1x128.size a ≤ S1x32x4x128.size a) ∧
  (∀ k0_t8 : Fin (k0_t8_loop i v1).trips, ∀ (k0_h7 : k0_cond7 i = 1#1), ∀ (r₁ : Fin 4) (r₂ : Fin 4), ∀ a, (k0_off81 i v1 k0_t8 (BitVec.ofNat 32 (4 * r₁.val)) (BitVec.ofNat 32 r₂.val)) a + S1x1x128x128.size a ≤ S1x32x128x512.size a) ∧
  (∀ k0_t8 : Fin (k0_t8_loop i v1).trips, ∀ (k0_h7 : k0_cond7 i = 1#1), ∀ (r₁ : Fin 4) (r₂ : Fin 4), ∀ a, (k0_off82 i v1 k0_t8 (BitVec.ofNat 32 (4 * r₁.val)) (BitVec.ofNat 32 r₂.val)) a + S1x1x1x128.size a ≤ S1x32x4x128.size a)
def k0_chk1_3 (i : grid0.Coords) (v1 : BitVec 32) : Prop :=
  (∀ k0_t8 : Fin (k0_t8_loop i v1).trips, ∀ (k0_h7 : k0_cond7 i = 1#1), ∀ (r₁ : Fin 4) (r₂ : Fin 4), ∀ a, (k0_off83 i v1 k0_t8 (BitVec.ofNat 32 (4 * r₁.val)) (BitVec.ofNat 32 r₂.val)) a + S1x1x128x128.size a ≤ S1x32x128x512.size a) ∧
  (∀ k0_t8 : Fin (k0_t8_loop i v1).trips, ∀ (k0_h7 : k0_cond7 i = 1#1), ∀ (r₁ : Fin 4) (r₂ : Fin 4), ∀ a, (k0_off84 i v1 k0_t8 (BitVec.ofNat 32 (4 * r₁.val)) (BitVec.ofNat 32 r₂.val)) a + S1x1x1x128.size a ≤ S1x32x4x128.size a) ∧
  (∀ k0_t8 : Fin (k0_t8_loop i v1).trips, ∀ (k0_h7 : k0_cond7 i = 1#1), ∀ (r₁ : Fin 4) (r₂ : Fin 4), ∀ a, (k0_off85 i v1 k0_t8 (BitVec.ofNat 32 (4 * r₁.val)) (BitVec.ofNat 32 r₂.val)) a + S1x1x128x128.size a ≤ S1x32x128x512.size a) ∧
  (∀ k0_t8 : Fin (k0_t8_loop i v1).trips, ∀ (k0_h7 : k0_cond7 i = 1#1), ∀ (r₁ : Fin 4) (r₂ : Fin 4), ∀ a, (k0_off86 i v1 k0_t8 (BitVec.ofNat 32 (4 * r₁.val)) (BitVec.ofNat 32 r₂.val)) a + S1x1x1x128.size a ≤ S1x32x4x128.size a) ∧
  (∀ k0_t8 : Fin (k0_t8_loop i v1).trips, ∀ (k0_h7 : k0_cond7 i = 1#1), ∀ (r₁ : Fin 4) (r₂ : Fin 4), ∀ a, (k0_off87 i v1 k0_t8 (BitVec.ofNat 32 (4 * r₁.val)) (BitVec.ofNat 32 r₂.val)) a + S1x1x64x128.size a ≤ S1x32x64x128.size a) ∧
  (∀ k0_t8 : Fin (k0_t8_loop i v1).trips, ∀ (k0_h7 : k0_cond7 i = 1#1), ∀ (r₁ : Fin 4) (r₂ : Fin 4), ∀ a, (k0_off88 i v1 k0_t8 (BitVec.ofNat 32 (4 * r₁.val)) (BitVec.ofNat 32 r₂.val)) a + S1x1x128x512.size a ≤ S1x32x128x512.size a) ∧
  (∀ k0_t8 : Fin (k0_t8_loop i v1).trips, ∀ (k0_h7 : k0_cond7 i = 1#1), ∀ (r₁ : Fin 4) (r₂ : Fin 4), ∀ (hinb : ∀ a, (k0_off88 i v1 k0_t8 (BitVec.ofNat 32 (4 * r₁.val)) (BitVec.ofNat 32 r₂.val)) a + S1x1x128x512.size a ≤ S1x32x128x512.size a), (Rect.unit (s := S1x32x128x512) (k0_off88 i v1 k0_t8 (BitVec.ofNat 32 (4 * r₁.val)) (BitVec.ofNat 32 r₂.val)) S1x1x128x512.size hinb).PackedRows (EltTy.packing .bf16)) ∧
  (∀ k0_t8 : Fin (k0_t8_loop i v1).trips, ∀ (k0_h7 : k0_cond7 i = 1#1), ∀ (r₁ : Fin 4) (r₂ : Fin 4), ∀ a, (k0_off89 i v1 k0_t8 (BitVec.ofNat 32 (4 * r₁.val)) (BitVec.ofNat 32 r₂.val)) a + S1x1x128.size a ≤ S1x32x128.size a) ∧
  (∀ (k0_h8 : k0_cond8 i = 1#1), (k0_t9_loop i v1).OK) ∧
  (∀ k0_t9 : Fin (k0_t9_loop i v1).trips, ∀ (k0_h8 : k0_cond8 i = 1#1), ∀ (r₁ : Fin 4) (r₂ : Fin 4), ∀ a, (k0_off90 i v1 k0_t9 (BitVec.ofNat 32 (4 * r₁.val)) (BitVec.ofNat 32 r₂.val)) a + S1x1x128x128.size a ≤ S1x32x128x512.size a) ∧
  (∀ k0_t9 : Fin (k0_t9_loop i v1).trips, ∀ (k0_h8 : k0_cond8 i = 1#1), ∀ (r₁ : Fin 4) (r₂ : Fin 4), ∀ a, (k0_off91 i v1 k0_t9 (BitVec.ofNat 32 (4 * r₁.val)) (BitVec.ofNat 32 r₂.val)) a + S1x1x1x128.size a ≤ S1x32x4x128.size a) ∧
  (∀ k0_t9 : Fin (k0_t9_loop i v1).trips, ∀ (k0_h8 : k0_cond8 i = 1#1), ∀ (r₁ : Fin 4) (r₂ : Fin 4), ∀ a, (k0_off92 i v1 k0_t9 (BitVec.ofNat 32 (4 * r₁.val)) (BitVec.ofNat 32 r₂.val)) a + S1x1x128x128.size a ≤ S1x32x128x512.size a) ∧
  (∀ k0_t9 : Fin (k0_t9_loop i v1).trips, ∀ (k0_h8 : k0_cond8 i = 1#1), ∀ (r₁ : Fin 4) (r₂ : Fin 4), ∀ a, (k0_off93 i v1 k0_t9 (BitVec.ofNat 32 (4 * r₁.val)) (BitVec.ofNat 32 r₂.val)) a + S1x1x1x128.size a ≤ S1x32x4x128.size a) ∧
  (∀ k0_t9 : Fin (k0_t9_loop i v1).trips, ∀ (k0_h8 : k0_cond8 i = 1#1), ∀ (r₁ : Fin 4) (r₂ : Fin 4), ∀ a, (k0_off94 i v1 k0_t9 (BitVec.ofNat 32 (4 * r₁.val)) (BitVec.ofNat 32 r₂.val)) a + S1x1x128x128.size a ≤ S1x32x128x512.size a) ∧
  (∀ k0_t9 : Fin (k0_t9_loop i v1).trips, ∀ (k0_h8 : k0_cond8 i = 1#1), ∀ (r₁ : Fin 4) (r₂ : Fin 4), ∀ a, (k0_off95 i v1 k0_t9 (BitVec.ofNat 32 (4 * r₁.val)) (BitVec.ofNat 32 r₂.val)) a + S1x1x1x128.size a ≤ S1x32x4x128.size a) ∧
  (∀ k0_t9 : Fin (k0_t9_loop i v1).trips, ∀ (k0_h8 : k0_cond8 i = 1#1), ∀ (r₁ : Fin 4) (r₂ : Fin 4), ∀ a, (k0_off96 i v1 k0_t9 (BitVec.ofNat 32 (4 * r₁.val)) (BitVec.ofNat 32 r₂.val)) a + S1x1x128x128.size a ≤ S1x32x128x512.size a) ∧
  (∀ k0_t9 : Fin (k0_t9_loop i v1).trips, ∀ (k0_h8 : k0_cond8 i = 1#1), ∀ (r₁ : Fin 4) (r₂ : Fin 4), ∀ a, (k0_off97 i v1 k0_t9 (BitVec.ofNat 32 (4 * r₁.val)) (BitVec.ofNat 32 r₂.val)) a + S1x1x1x128.size a ≤ S1x32x4x128.size a) ∧
  (∀ k0_t9 : Fin (k0_t9_loop i v1).trips, ∀ (k0_h8 : k0_cond8 i = 1#1), ∀ (r₁ : Fin 4) (r₂ : Fin 4), ∀ a, (k0_off98 i v1 k0_t9 (BitVec.ofNat 32 (4 * r₁.val)) (BitVec.ofNat 32 r₂.val)) a + S1x1x64x128.size a ≤ S1x32x64x128.size a) ∧
  (∀ k0_t9 : Fin (k0_t9_loop i v1).trips, ∀ (k0_h8 : k0_cond8 i = 1#1), ∀ (r₁ : Fin 4) (r₂ : Fin 4), ∀ a, (k0_off99 i v1 k0_t9 (BitVec.ofNat 32 (4 * r₁.val)) (BitVec.ofNat 32 r₂.val)) a + S1x1x128x512.size a ≤ S1x32x128x512.size a) ∧
  (∀ k0_t9 : Fin (k0_t9_loop i v1).trips, ∀ (k0_h8 : k0_cond8 i = 1#1), ∀ (r₁ : Fin 4) (r₂ : Fin 4), ∀ (hinb : ∀ a, (k0_off99 i v1 k0_t9 (BitVec.ofNat 32 (4 * r₁.val)) (BitVec.ofNat 32 r₂.val)) a + S1x1x128x512.size a ≤ S1x32x128x512.size a), (Rect.unit (s := S1x32x128x512) (k0_off99 i v1 k0_t9 (BitVec.ofNat 32 (4 * r₁.val)) (BitVec.ofNat 32 r₂.val)) S1x1x128x512.size hinb).PackedRows (EltTy.packing .bf16)) ∧
  (∀ k0_t9 : Fin (k0_t9_loop i v1).trips, ∀ (k0_h8 : k0_cond8 i = 1#1), ∀ (r₁ : Fin 4) (r₂ : Fin 4), ∀ a, (k0_off100 i v1 k0_t9 (BitVec.ofNat 32 (4 * r₁.val)) (BitVec.ofNat 32 r₂.val)) a + S1x1x128.size a ≤ S1x32x128.size a) ∧
  (∀ (k0_h8 : k0_cond8 i = 1#1), (k0_t10_loop i v1).OK) ∧
  (∀ k0_t10 : Fin (k0_t10_loop i v1).trips, ∀ (k0_h8 : k0_cond8 i = 1#1), ∀ (r₁ : Fin 4) (r₂ : Fin 4), ∀ a, (k0_off101 i v1 k0_t10 (BitVec.ofNat 32 (4 * r₁.val)) (BitVec.ofNat 32 r₂.val)) a + S1x1x128x128.size a ≤ S1x32x128x512.size a) ∧
  (∀ k0_t10 : Fin (k0_t10_loop i v1).trips, ∀ (k0_h8 : k0_cond8 i = 1#1), ∀ (r₁ : Fin 4) (r₂ : Fin 4), ∀ a, (k0_off102 i v1 k0_t10 (BitVec.ofNat 32 (4 * r₁.val)) (BitVec.ofNat 32 r₂.val)) a + S1x1x1x128.size a ≤ S1x32x4x128.size a) ∧
  (∀ k0_t10 : Fin (k0_t10_loop i v1).trips, ∀ (k0_h8 : k0_cond8 i = 1#1), ∀ (r₁ : Fin 4) (r₂ : Fin 4), ∀ a, (k0_off103 i v1 k0_t10 (BitVec.ofNat 32 (4 * r₁.val)) (BitVec.ofNat 32 r₂.val)) a + S1x1x128x128.size a ≤ S1x32x128x512.size a) ∧
  (∀ k0_t10 : Fin (k0_t10_loop i v1).trips, ∀ (k0_h8 : k0_cond8 i = 1#1), ∀ (r₁ : Fin 4) (r₂ : Fin 4), ∀ a, (k0_off104 i v1 k0_t10 (BitVec.ofNat 32 (4 * r₁.val)) (BitVec.ofNat 32 r₂.val)) a + S1x1x1x128.size a ≤ S1x32x4x128.size a) ∧
  (∀ k0_t10 : Fin (k0_t10_loop i v1).trips, ∀ (k0_h8 : k0_cond8 i = 1#1), ∀ (r₁ : Fin 4) (r₂ : Fin 4), ∀ a, (k0_off105 i v1 k0_t10 (BitVec.ofNat 32 (4 * r₁.val)) (BitVec.ofNat 32 r₂.val)) a + S1x1x128x128.size a ≤ S1x32x128x512.size a) ∧
  (∀ k0_t10 : Fin (k0_t10_loop i v1).trips, ∀ (k0_h8 : k0_cond8 i = 1#1), ∀ (r₁ : Fin 4) (r₂ : Fin 4), ∀ a, (k0_off106 i v1 k0_t10 (BitVec.ofNat 32 (4 * r₁.val)) (BitVec.ofNat 32 r₂.val)) a + S1x1x1x128.size a ≤ S1x32x4x128.size a) ∧
  (∀ k0_t10 : Fin (k0_t10_loop i v1).trips, ∀ (k0_h8 : k0_cond8 i = 1#1), ∀ (r₁ : Fin 4) (r₂ : Fin 4), ∀ a, (k0_off107 i v1 k0_t10 (BitVec.ofNat 32 (4 * r₁.val)) (BitVec.ofNat 32 r₂.val)) a + S1x1x128x128.size a ≤ S1x32x128x512.size a) ∧
  (∀ k0_t10 : Fin (k0_t10_loop i v1).trips, ∀ (k0_h8 : k0_cond8 i = 1#1), ∀ (r₁ : Fin 4) (r₂ : Fin 4), ∀ a, (k0_off108 i v1 k0_t10 (BitVec.ofNat 32 (4 * r₁.val)) (BitVec.ofNat 32 r₂.val)) a + S1x1x1x128.size a ≤ S1x32x4x128.size a) ∧
  (∀ k0_t10 : Fin (k0_t10_loop i v1).trips, ∀ (k0_h8 : k0_cond8 i = 1#1), ∀ (r₁ : Fin 4) (r₂ : Fin 4), ∀ a, (k0_off109 i v1 k0_t10 (BitVec.ofNat 32 (4 * r₁.val)) (BitVec.ofNat 32 r₂.val)) a + S1x1x64x128.size a ≤ S1x32x64x128.size a) ∧
  (∀ k0_t10 : Fin (k0_t10_loop i v1).trips, ∀ (k0_h8 : k0_cond8 i = 1#1), ∀ (r₁ : Fin 4) (r₂ : Fin 4), ∀ a, (k0_off110 i v1 k0_t10 (BitVec.ofNat 32 (4 * r₁.val)) (BitVec.ofNat 32 r₂.val)) a + S1x1x128x512.size a ≤ S1x32x128x512.size a)
def k0_chk1_4 (i : grid0.Coords) (v1 : BitVec 32) : Prop :=
  (∀ k0_t10 : Fin (k0_t10_loop i v1).trips, ∀ (k0_h8 : k0_cond8 i = 1#1), ∀ (r₁ : Fin 4) (r₂ : Fin 4), ∀ (hinb : ∀ a, (k0_off110 i v1 k0_t10 (BitVec.ofNat 32 (4 * r₁.val)) (BitVec.ofNat 32 r₂.val)) a + S1x1x128x512.size a ≤ S1x32x128x512.size a), (Rect.unit (s := S1x32x128x512) (k0_off110 i v1 k0_t10 (BitVec.ofNat 32 (4 * r₁.val)) (BitVec.ofNat 32 r₂.val)) S1x1x128x512.size hinb).PackedRows (EltTy.packing .bf16)) ∧
  (∀ k0_t10 : Fin (k0_t10_loop i v1).trips, ∀ (k0_h8 : k0_cond8 i = 1#1), ∀ (r₁ : Fin 4) (r₂ : Fin 4), ∀ a, (k0_off111 i v1 k0_t10 (BitVec.ofNat 32 (4 * r₁.val)) (BitVec.ofNat 32 r₂.val)) a + S1x1x128.size a ≤ S1x32x128.size a) ∧
  (∀ (k0_h9 : k0_cond9 i = 1#1), (k0_t11_loop i v1).OK) ∧
  (∀ k0_t11 : Fin (k0_t11_loop i v1).trips, ∀ (k0_h9 : k0_cond9 i = 1#1), ∀ (r₁ : Fin 4) (r₂ : Fin 4), ∀ a, (k0_off112 i v1 k0_t11 (BitVec.ofNat 32 (4 * r₁.val)) (BitVec.ofNat 32 r₂.val)) a + S1x1x128x128.size a ≤ S1x32x128x512.size a) ∧
  (∀ k0_t11 : Fin (k0_t11_loop i v1).trips, ∀ (k0_h9 : k0_cond9 i = 1#1), ∀ (r₁ : Fin 4) (r₂ : Fin 4), ∀ a, (k0_off113 i v1 k0_t11 (BitVec.ofNat 32 (4 * r₁.val)) (BitVec.ofNat 32 r₂.val)) a + S1x1x1x128.size a ≤ S1x32x4x128.size a) ∧
  (∀ k0_t11 : Fin (k0_t11_loop i v1).trips, ∀ (k0_h9 : k0_cond9 i = 1#1), ∀ (r₁ : Fin 4) (r₂ : Fin 4), ∀ a, (k0_off114 i v1 k0_t11 (BitVec.ofNat 32 (4 * r₁.val)) (BitVec.ofNat 32 r₂.val)) a + S1x1x128x128.size a ≤ S1x32x128x512.size a) ∧
  (∀ k0_t11 : Fin (k0_t11_loop i v1).trips, ∀ (k0_h9 : k0_cond9 i = 1#1), ∀ (r₁ : Fin 4) (r₂ : Fin 4), ∀ a, (k0_off115 i v1 k0_t11 (BitVec.ofNat 32 (4 * r₁.val)) (BitVec.ofNat 32 r₂.val)) a + S1x1x1x128.size a ≤ S1x32x4x128.size a) ∧
  (∀ k0_t11 : Fin (k0_t11_loop i v1).trips, ∀ (k0_h9 : k0_cond9 i = 1#1), ∀ (r₁ : Fin 4) (r₂ : Fin 4), ∀ a, (k0_off116 i v1 k0_t11 (BitVec.ofNat 32 (4 * r₁.val)) (BitVec.ofNat 32 r₂.val)) a + S1x1x128x128.size a ≤ S1x32x128x512.size a) ∧
  (∀ k0_t11 : Fin (k0_t11_loop i v1).trips, ∀ (k0_h9 : k0_cond9 i = 1#1), ∀ (r₁ : Fin 4) (r₂ : Fin 4), ∀ a, (k0_off117 i v1 k0_t11 (BitVec.ofNat 32 (4 * r₁.val)) (BitVec.ofNat 32 r₂.val)) a + S1x1x1x128.size a ≤ S1x32x4x128.size a) ∧
  (∀ k0_t11 : Fin (k0_t11_loop i v1).trips, ∀ (k0_h9 : k0_cond9 i = 1#1), ∀ (r₁ : Fin 4) (r₂ : Fin 4), ∀ a, (k0_off118 i v1 k0_t11 (BitVec.ofNat 32 (4 * r₁.val)) (BitVec.ofNat 32 r₂.val)) a + S1x1x128x128.size a ≤ S1x32x128x512.size a) ∧
  (∀ k0_t11 : Fin (k0_t11_loop i v1).trips, ∀ (k0_h9 : k0_cond9 i = 1#1), ∀ (r₁ : Fin 4) (r₂ : Fin 4), ∀ a, (k0_off119 i v1 k0_t11 (BitVec.ofNat 32 (4 * r₁.val)) (BitVec.ofNat 32 r₂.val)) a + S1x1x1x128.size a ≤ S1x32x4x128.size a) ∧
  (∀ k0_t11 : Fin (k0_t11_loop i v1).trips, ∀ (k0_h9 : k0_cond9 i = 1#1), ∀ (r₁ : Fin 4) (r₂ : Fin 4), ∀ a, (k0_off120 i v1 k0_t11 (BitVec.ofNat 32 (4 * r₁.val)) (BitVec.ofNat 32 r₂.val)) a + S1x1x64x128.size a ≤ S1x32x64x128.size a) ∧
  (∀ k0_t11 : Fin (k0_t11_loop i v1).trips, ∀ (k0_h9 : k0_cond9 i = 1#1), ∀ (r₁ : Fin 4) (r₂ : Fin 4), ∀ a, (k0_off121 i v1 k0_t11 (BitVec.ofNat 32 (4 * r₁.val)) (BitVec.ofNat 32 r₂.val)) a + S1x1x128x512.size a ≤ S1x32x128x512.size a) ∧
  (∀ k0_t11 : Fin (k0_t11_loop i v1).trips, ∀ (k0_h9 : k0_cond9 i = 1#1), ∀ (r₁ : Fin 4) (r₂ : Fin 4), ∀ (hinb : ∀ a, (k0_off121 i v1 k0_t11 (BitVec.ofNat 32 (4 * r₁.val)) (BitVec.ofNat 32 r₂.val)) a + S1x1x128x512.size a ≤ S1x32x128x512.size a), (Rect.unit (s := S1x32x128x512) (k0_off121 i v1 k0_t11 (BitVec.ofNat 32 (4 * r₁.val)) (BitVec.ofNat 32 r₂.val)) S1x1x128x512.size hinb).PackedRows (EltTy.packing .bf16)) ∧
  (∀ k0_t11 : Fin (k0_t11_loop i v1).trips, ∀ (k0_h9 : k0_cond9 i = 1#1), ∀ (r₁ : Fin 4) (r₂ : Fin 4), ∀ a, (k0_off122 i v1 k0_t11 (BitVec.ofNat 32 (4 * r₁.val)) (BitVec.ofNat 32 r₂.val)) a + S1x1x128.size a ≤ S1x32x128.size a) ∧
  (∀ (k0_h9 : k0_cond9 i = 1#1), (k0_t12_loop i v1).OK) ∧
  (∀ k0_t12 : Fin (k0_t12_loop i v1).trips, ∀ (k0_h9 : k0_cond9 i = 1#1), ∀ (r₁ : Fin 4) (r₂ : Fin 4), ∀ a, (k0_off123 i v1 k0_t12 (BitVec.ofNat 32 (4 * r₁.val)) (BitVec.ofNat 32 r₂.val)) a + S1x1x128x128.size a ≤ S1x32x128x512.size a) ∧
  (∀ k0_t12 : Fin (k0_t12_loop i v1).trips, ∀ (k0_h9 : k0_cond9 i = 1#1), ∀ (r₁ : Fin 4) (r₂ : Fin 4), ∀ a, (k0_off124 i v1 k0_t12 (BitVec.ofNat 32 (4 * r₁.val)) (BitVec.ofNat 32 r₂.val)) a + S1x1x1x128.size a ≤ S1x32x4x128.size a) ∧
  (∀ k0_t12 : Fin (k0_t12_loop i v1).trips, ∀ (k0_h9 : k0_cond9 i = 1#1), ∀ (r₁ : Fin 4) (r₂ : Fin 4), ∀ a, (k0_off125 i v1 k0_t12 (BitVec.ofNat 32 (4 * r₁.val)) (BitVec.ofNat 32 r₂.val)) a + S1x1x128x128.size a ≤ S1x32x128x512.size a) ∧
  (∀ k0_t12 : Fin (k0_t12_loop i v1).trips, ∀ (k0_h9 : k0_cond9 i = 1#1), ∀ (r₁ : Fin 4) (r₂ : Fin 4), ∀ a, (k0_off126 i v1 k0_t12 (BitVec.ofNat 32 (4 * r₁.val)) (BitVec.ofNat 32 r₂.val)) a + S1x1x1x128.size a ≤ S1x32x4x128.size a) ∧
  (∀ k0_t12 : Fin (k0_t12_loop i v1).trips, ∀ (k0_h9 : k0_cond9 i = 1#1), ∀ (r₁ : Fin 4) (r₂ : Fin 4), ∀ a, (k0_off127 i v1 k0_t12 (BitVec.ofNat 32 (4 * r₁.val)) (BitVec.ofNat 32 r₂.val)) a + S1x1x128x128.size a ≤ S1x32x128x512.size a) ∧
  (∀ k0_t12 : Fin (k0_t12_loop i v1).trips, ∀ (k0_h9 : k0_cond9 i = 1#1), ∀ (r₁ : Fin 4) (r₂ : Fin 4), ∀ a, (k0_off128 i v1 k0_t12 (BitVec.ofNat 32 (4 * r₁.val)) (BitVec.ofNat 32 r₂.val)) a + S1x1x1x128.size a ≤ S1x32x4x128.size a) ∧
  (∀ k0_t12 : Fin (k0_t12_loop i v1).trips, ∀ (k0_h9 : k0_cond9 i = 1#1), ∀ (r₁ : Fin 4) (r₂ : Fin 4), ∀ a, (k0_off129 i v1 k0_t12 (BitVec.ofNat 32 (4 * r₁.val)) (BitVec.ofNat 32 r₂.val)) a + S1x1x128x128.size a ≤ S1x32x128x512.size a) ∧
  (∀ k0_t12 : Fin (k0_t12_loop i v1).trips, ∀ (k0_h9 : k0_cond9 i = 1#1), ∀ (r₁ : Fin 4) (r₂ : Fin 4), ∀ a, (k0_off130 i v1 k0_t12 (BitVec.ofNat 32 (4 * r₁.val)) (BitVec.ofNat 32 r₂.val)) a + S1x1x1x128.size a ≤ S1x32x4x128.size a) ∧
  (∀ k0_t12 : Fin (k0_t12_loop i v1).trips, ∀ (k0_h9 : k0_cond9 i = 1#1), ∀ (r₁ : Fin 4) (r₂ : Fin 4), ∀ a, (k0_off131 i v1 k0_t12 (BitVec.ofNat 32 (4 * r₁.val)) (BitVec.ofNat 32 r₂.val)) a + S1x1x64x128.size a ≤ S1x32x64x128.size a) ∧
  (∀ k0_t12 : Fin (k0_t12_loop i v1).trips, ∀ (k0_h9 : k0_cond9 i = 1#1), ∀ (r₁ : Fin 4) (r₂ : Fin 4), ∀ a, (k0_off132 i v1 k0_t12 (BitVec.ofNat 32 (4 * r₁.val)) (BitVec.ofNat 32 r₂.val)) a + S1x1x128x512.size a ≤ S1x32x128x512.size a) ∧
  (∀ k0_t12 : Fin (k0_t12_loop i v1).trips, ∀ (k0_h9 : k0_cond9 i = 1#1), ∀ (r₁ : Fin 4) (r₂ : Fin 4), ∀ (hinb : ∀ a, (k0_off132 i v1 k0_t12 (BitVec.ofNat 32 (4 * r₁.val)) (BitVec.ofNat 32 r₂.val)) a + S1x1x128x512.size a ≤ S1x32x128x512.size a), (Rect.unit (s := S1x32x128x512) (k0_off132 i v1 k0_t12 (BitVec.ofNat 32 (4 * r₁.val)) (BitVec.ofNat 32 r₂.val)) S1x1x128x512.size hinb).PackedRows (EltTy.packing .bf16)) ∧
  (∀ k0_t12 : Fin (k0_t12_loop i v1).trips, ∀ (k0_h9 : k0_cond9 i = 1#1), ∀ (r₁ : Fin 4) (r₂ : Fin 4), ∀ a, (k0_off133 i v1 k0_t12 (BitVec.ofNat 32 (4 * r₁.val)) (BitVec.ofNat 32 r₂.val)) a + S1x1x128.size a ≤ S1x32x128.size a) ∧
  (∀ (k0_h10 : k0_cond10 i = 1#1), (k0_t13_loop i v1).OK) ∧
  (∀ k0_t13 : Fin (k0_t13_loop i v1).trips, ∀ (k0_h10 : k0_cond10 i = 1#1), ∀ (r₁ : Fin 4) (r₂ : Fin 4), ∀ a, (k0_off134 i v1 k0_t13 (BitVec.ofNat 32 (4 * r₁.val)) (BitVec.ofNat 32 r₂.val)) a + S1x1x128x128.size a ≤ S1x32x128x512.size a) ∧
  (∀ k0_t13 : Fin (k0_t13_loop i v1).trips, ∀ (k0_h10 : k0_cond10 i = 1#1), ∀ (r₁ : Fin 4) (r₂ : Fin 4), ∀ a, (k0_off135 i v1 k0_t13 (BitVec.ofNat 32 (4 * r₁.val)) (BitVec.ofNat 32 r₂.val)) a + S1x1x1x128.size a ≤ S1x32x4x128.size a) ∧
  (∀ k0_t13 : Fin (k0_t13_loop i v1).trips, ∀ (k0_h10 : k0_cond10 i = 1#1), ∀ (r₁ : Fin 4) (r₂ : Fin 4), ∀ a, (k0_off136 i v1 k0_t13 (BitVec.ofNat 32 (4 * r₁.val)) (BitVec.ofNat 32 r₂.val)) a + S1x1x128x128.size a ≤ S1x32x128x512.size a)
def k0_chk1_5 (i : grid0.Coords) (v1 : BitVec 32) : Prop :=
  (∀ k0_t13 : Fin (k0_t13_loop i v1).trips, ∀ (k0_h10 : k0_cond10 i = 1#1), ∀ (r₁ : Fin 4) (r₂ : Fin 4), ∀ a, (k0_off137 i v1 k0_t13 (BitVec.ofNat 32 (4 * r₁.val)) (BitVec.ofNat 32 r₂.val)) a + S1x1x1x128.size a ≤ S1x32x4x128.size a) ∧
  (∀ k0_t13 : Fin (k0_t13_loop i v1).trips, ∀ (k0_h10 : k0_cond10 i = 1#1), ∀ (r₁ : Fin 4) (r₂ : Fin 4), ∀ a, (k0_off138 i v1 k0_t13 (BitVec.ofNat 32 (4 * r₁.val)) (BitVec.ofNat 32 r₂.val)) a + S1x1x128x128.size a ≤ S1x32x128x512.size a) ∧
  (∀ k0_t13 : Fin (k0_t13_loop i v1).trips, ∀ (k0_h10 : k0_cond10 i = 1#1), ∀ (r₁ : Fin 4) (r₂ : Fin 4), ∀ a, (k0_off139 i v1 k0_t13 (BitVec.ofNat 32 (4 * r₁.val)) (BitVec.ofNat 32 r₂.val)) a + S1x1x1x128.size a ≤ S1x32x4x128.size a) ∧
  (∀ k0_t13 : Fin (k0_t13_loop i v1).trips, ∀ (k0_h10 : k0_cond10 i = 1#1), ∀ (r₁ : Fin 4) (r₂ : Fin 4), ∀ a, (k0_off140 i v1 k0_t13 (BitVec.ofNat 32 (4 * r₁.val)) (BitVec.ofNat 32 r₂.val)) a + S1x1x128x128.size a ≤ S1x32x128x512.size a) ∧
  (∀ k0_t13 : Fin (k0_t13_loop i v1).trips, ∀ (k0_h10 : k0_cond10 i = 1#1), ∀ (r₁ : Fin 4) (r₂ : Fin 4), ∀ a, (k0_off141 i v1 k0_t13 (BitVec.ofNat 32 (4 * r₁.val)) (BitVec.ofNat 32 r₂.val)) a + S1x1x1x128.size a ≤ S1x32x4x128.size a) ∧
  (∀ k0_t13 : Fin (k0_t13_loop i v1).trips, ∀ (k0_h10 : k0_cond10 i = 1#1), ∀ (r₁ : Fin 4) (r₂ : Fin 4), ∀ a, (k0_off142 i v1 k0_t13 (BitVec.ofNat 32 (4 * r₁.val)) (BitVec.ofNat 32 r₂.val)) a + S1x1x64x128.size a ≤ S1x32x64x128.size a) ∧
  (∀ k0_t13 : Fin (k0_t13_loop i v1).trips, ∀ (k0_h10 : k0_cond10 i = 1#1), ∀ (r₁ : Fin 4) (r₂ : Fin 4), ∀ a, (k0_off143 i v1 k0_t13 (BitVec.ofNat 32 (4 * r₁.val)) (BitVec.ofNat 32 r₂.val)) a + S1x1x128x512.size a ≤ S1x32x128x512.size a) ∧
  (∀ k0_t13 : Fin (k0_t13_loop i v1).trips, ∀ (k0_h10 : k0_cond10 i = 1#1), ∀ (r₁ : Fin 4) (r₂ : Fin 4), ∀ (hinb : ∀ a, (k0_off143 i v1 k0_t13 (BitVec.ofNat 32 (4 * r₁.val)) (BitVec.ofNat 32 r₂.val)) a + S1x1x128x512.size a ≤ S1x32x128x512.size a), (Rect.unit (s := S1x32x128x512) (k0_off143 i v1 k0_t13 (BitVec.ofNat 32 (4 * r₁.val)) (BitVec.ofNat 32 r₂.val)) S1x1x128x512.size hinb).PackedRows (EltTy.packing .bf16)) ∧
  (∀ k0_t13 : Fin (k0_t13_loop i v1).trips, ∀ (k0_h10 : k0_cond10 i = 1#1), ∀ (r₁ : Fin 4) (r₂ : Fin 4), ∀ a, (k0_off144 i v1 k0_t13 (BitVec.ofNat 32 (4 * r₁.val)) (BitVec.ofNat 32 r₂.val)) a + S1x1x128.size a ≤ S1x32x128.size a) ∧
  (∀ (k0_h10 : k0_cond10 i = 1#1), (k0_t14_loop i v1).OK) ∧
  (∀ k0_t14 : Fin (k0_t14_loop i v1).trips, ∀ (k0_h10 : k0_cond10 i = 1#1), ∀ (r₁ : Fin 4) (r₂ : Fin 4), ∀ a, (k0_off145 i v1 k0_t14 (BitVec.ofNat 32 (4 * r₁.val)) (BitVec.ofNat 32 r₂.val)) a + S1x1x128x128.size a ≤ S1x32x128x512.size a) ∧
  (∀ k0_t14 : Fin (k0_t14_loop i v1).trips, ∀ (k0_h10 : k0_cond10 i = 1#1), ∀ (r₁ : Fin 4) (r₂ : Fin 4), ∀ a, (k0_off146 i v1 k0_t14 (BitVec.ofNat 32 (4 * r₁.val)) (BitVec.ofNat 32 r₂.val)) a + S1x1x1x128.size a ≤ S1x32x4x128.size a) ∧
  (∀ k0_t14 : Fin (k0_t14_loop i v1).trips, ∀ (k0_h10 : k0_cond10 i = 1#1), ∀ (r₁ : Fin 4) (r₂ : Fin 4), ∀ a, (k0_off147 i v1 k0_t14 (BitVec.ofNat 32 (4 * r₁.val)) (BitVec.ofNat 32 r₂.val)) a + S1x1x128x128.size a ≤ S1x32x128x512.size a) ∧
  (∀ k0_t14 : Fin (k0_t14_loop i v1).trips, ∀ (k0_h10 : k0_cond10 i = 1#1), ∀ (r₁ : Fin 4) (r₂ : Fin 4), ∀ a, (k0_off148 i v1 k0_t14 (BitVec.ofNat 32 (4 * r₁.val)) (BitVec.ofNat 32 r₂.val)) a + S1x1x1x128.size a ≤ S1x32x4x128.size a) ∧
  (∀ k0_t14 : Fin (k0_t14_loop i v1).trips, ∀ (k0_h10 : k0_cond10 i = 1#1), ∀ (r₁ : Fin 4) (r₂ : Fin 4), ∀ a, (k0_off149 i v1 k0_t14 (BitVec.ofNat 32 (4 * r₁.val)) (BitVec.ofNat 32 r₂.val)) a + S1x1x128x128.size a ≤ S1x32x128x512.size a) ∧
  (∀ k0_t14 : Fin (k0_t14_loop i v1).trips, ∀ (k0_h10 : k0_cond10 i = 1#1), ∀ (r₁ : Fin 4) (r₂ : Fin 4), ∀ a, (k0_off150 i v1 k0_t14 (BitVec.ofNat 32 (4 * r₁.val)) (BitVec.ofNat 32 r₂.val)) a + S1x1x1x128.size a ≤ S1x32x4x128.size a) ∧
  (∀ k0_t14 : Fin (k0_t14_loop i v1).trips, ∀ (k0_h10 : k0_cond10 i = 1#1), ∀ (r₁ : Fin 4) (r₂ : Fin 4), ∀ a, (k0_off151 i v1 k0_t14 (BitVec.ofNat 32 (4 * r₁.val)) (BitVec.ofNat 32 r₂.val)) a + S1x1x128x128.size a ≤ S1x32x128x512.size a) ∧
  (∀ k0_t14 : Fin (k0_t14_loop i v1).trips, ∀ (k0_h10 : k0_cond10 i = 1#1), ∀ (r₁ : Fin 4) (r₂ : Fin 4), ∀ a, (k0_off152 i v1 k0_t14 (BitVec.ofNat 32 (4 * r₁.val)) (BitVec.ofNat 32 r₂.val)) a + S1x1x1x128.size a ≤ S1x32x4x128.size a) ∧
  (∀ k0_t14 : Fin (k0_t14_loop i v1).trips, ∀ (k0_h10 : k0_cond10 i = 1#1), ∀ (r₁ : Fin 4) (r₂ : Fin 4), ∀ a, (k0_off153 i v1 k0_t14 (BitVec.ofNat 32 (4 * r₁.val)) (BitVec.ofNat 32 r₂.val)) a + S1x1x64x128.size a ≤ S1x32x64x128.size a) ∧
  (∀ k0_t14 : Fin (k0_t14_loop i v1).trips, ∀ (k0_h10 : k0_cond10 i = 1#1), ∀ (r₁ : Fin 4) (r₂ : Fin 4), ∀ a, (k0_off154 i v1 k0_t14 (BitVec.ofNat 32 (4 * r₁.val)) (BitVec.ofNat 32 r₂.val)) a + S1x1x128x512.size a ≤ S1x32x128x512.size a) ∧
  (∀ k0_t14 : Fin (k0_t14_loop i v1).trips, ∀ (k0_h10 : k0_cond10 i = 1#1), ∀ (r₁ : Fin 4) (r₂ : Fin 4), ∀ (hinb : ∀ a, (k0_off154 i v1 k0_t14 (BitVec.ofNat 32 (4 * r₁.val)) (BitVec.ofNat 32 r₂.val)) a + S1x1x128x512.size a ≤ S1x32x128x512.size a), (Rect.unit (s := S1x32x128x512) (k0_off154 i v1 k0_t14 (BitVec.ofNat 32 (4 * r₁.val)) (BitVec.ofNat 32 r₂.val)) S1x1x128x512.size hinb).PackedRows (EltTy.packing .bf16)) ∧
  (∀ k0_t14 : Fin (k0_t14_loop i v1).trips, ∀ (k0_h10 : k0_cond10 i = 1#1), ∀ (r₁ : Fin 4) (r₂ : Fin 4), ∀ a, (k0_off155 i v1 k0_t14 (BitVec.ofNat 32 (4 * r₁.val)) (BitVec.ofNat 32 r₂.val)) a + S1x1x128.size a ≤ S1x32x128.size a) ∧
  (∀ (k0_h11 : k0_cond11 i = 1#1), (k0_t15_loop i v1).OK) ∧
  (∀ k0_t15 : Fin (k0_t15_loop i v1).trips, ∀ (k0_h11 : k0_cond11 i = 1#1), ∀ (r₁ : Fin 4) (r₂ : Fin 4), ∀ a, (k0_off156 i v1 k0_t15 (BitVec.ofNat 32 (4 * r₁.val)) (BitVec.ofNat 32 r₂.val)) a + S1x1x128x128.size a ≤ S1x32x128x512.size a) ∧
  (∀ k0_t15 : Fin (k0_t15_loop i v1).trips, ∀ (k0_h11 : k0_cond11 i = 1#1), ∀ (r₁ : Fin 4) (r₂ : Fin 4), ∀ a, (k0_off157 i v1 k0_t15 (BitVec.ofNat 32 (4 * r₁.val)) (BitVec.ofNat 32 r₂.val)) a + S1x1x1x128.size a ≤ S1x32x4x128.size a) ∧
  (∀ k0_t15 : Fin (k0_t15_loop i v1).trips, ∀ (k0_h11 : k0_cond11 i = 1#1), ∀ (r₁ : Fin 4) (r₂ : Fin 4), ∀ a, (k0_off158 i v1 k0_t15 (BitVec.ofNat 32 (4 * r₁.val)) (BitVec.ofNat 32 r₂.val)) a + S1x1x128x128.size a ≤ S1x32x128x512.size a) ∧
  (∀ k0_t15 : Fin (k0_t15_loop i v1).trips, ∀ (k0_h11 : k0_cond11 i = 1#1), ∀ (r₁ : Fin 4) (r₂ : Fin 4), ∀ a, (k0_off159 i v1 k0_t15 (BitVec.ofNat 32 (4 * r₁.val)) (BitVec.ofNat 32 r₂.val)) a + S1x1x1x128.size a ≤ S1x32x4x128.size a) ∧
  (∀ k0_t15 : Fin (k0_t15_loop i v1).trips, ∀ (k0_h11 : k0_cond11 i = 1#1), ∀ (r₁ : Fin 4) (r₂ : Fin 4), ∀ a, (k0_off160 i v1 k0_t15 (BitVec.ofNat 32 (4 * r₁.val)) (BitVec.ofNat 32 r₂.val)) a + S1x1x128x128.size a ≤ S1x32x128x512.size a) ∧
  (∀ k0_t15 : Fin (k0_t15_loop i v1).trips, ∀ (k0_h11 : k0_cond11 i = 1#1), ∀ (r₁ : Fin 4) (r₂ : Fin 4), ∀ a, (k0_off161 i v1 k0_t15 (BitVec.ofNat 32 (4 * r₁.val)) (BitVec.ofNat 32 r₂.val)) a + S1x1x1x128.size a ≤ S1x32x4x128.size a) ∧
  (∀ k0_t15 : Fin (k0_t15_loop i v1).trips, ∀ (k0_h11 : k0_cond11 i = 1#1), ∀ (r₁ : Fin 4) (r₂ : Fin 4), ∀ a, (k0_off162 i v1 k0_t15 (BitVec.ofNat 32 (4 * r₁.val)) (BitVec.ofNat 32 r₂.val)) a + S1x1x128x128.size a ≤ S1x32x128x512.size a) ∧
  (∀ k0_t15 : Fin (k0_t15_loop i v1).trips, ∀ (k0_h11 : k0_cond11 i = 1#1), ∀ (r₁ : Fin 4) (r₂ : Fin 4), ∀ a, (k0_off163 i v1 k0_t15 (BitVec.ofNat 32 (4 * r₁.val)) (BitVec.ofNat 32 r₂.val)) a + S1x1x1x128.size a ≤ S1x32x4x128.size a) ∧
  (∀ k0_t15 : Fin (k0_t15_loop i v1).trips, ∀ (k0_h11 : k0_cond11 i = 1#1), ∀ (r₁ : Fin 4) (r₂ : Fin 4), ∀ a, (k0_off164 i v1 k0_t15 (BitVec.ofNat 32 (4 * r₁.val)) (BitVec.ofNat 32 r₂.val)) a + S1x1x64x128.size a ≤ S1x32x64x128.size a)
def k0_chk1_6 (i : grid0.Coords) (v1 : BitVec 32) : Prop :=
  (∀ k0_t15 : Fin (k0_t15_loop i v1).trips, ∀ (k0_h11 : k0_cond11 i = 1#1), ∀ (r₁ : Fin 4) (r₂ : Fin 4), ∀ a, (k0_off165 i v1 k0_t15 (BitVec.ofNat 32 (4 * r₁.val)) (BitVec.ofNat 32 r₂.val)) a + S1x1x128x512.size a ≤ S1x32x128x512.size a) ∧
  (∀ k0_t15 : Fin (k0_t15_loop i v1).trips, ∀ (k0_h11 : k0_cond11 i = 1#1), ∀ (r₁ : Fin 4) (r₂ : Fin 4), ∀ (hinb : ∀ a, (k0_off165 i v1 k0_t15 (BitVec.ofNat 32 (4 * r₁.val)) (BitVec.ofNat 32 r₂.val)) a + S1x1x128x512.size a ≤ S1x32x128x512.size a), (Rect.unit (s := S1x32x128x512) (k0_off165 i v1 k0_t15 (BitVec.ofNat 32 (4 * r₁.val)) (BitVec.ofNat 32 r₂.val)) S1x1x128x512.size hinb).PackedRows (EltTy.packing .bf16)) ∧
  (∀ k0_t15 : Fin (k0_t15_loop i v1).trips, ∀ (k0_h11 : k0_cond11 i = 1#1), ∀ (r₁ : Fin 4) (r₂ : Fin 4), ∀ a, (k0_off166 i v1 k0_t15 (BitVec.ofNat 32 (4 * r₁.val)) (BitVec.ofNat 32 r₂.val)) a + S1x1x128.size a ≤ S1x32x128.size a) ∧
  (∀ (k0_h11 : k0_cond11 i = 1#1), (k0_t16_loop i v1).OK) ∧
  (∀ k0_t16 : Fin (k0_t16_loop i v1).trips, ∀ (k0_h11 : k0_cond11 i = 1#1), ∀ (r₁ : Fin 4) (r₂ : Fin 4), ∀ a, (k0_off167 i v1 k0_t16 (BitVec.ofNat 32 (4 * r₁.val)) (BitVec.ofNat 32 r₂.val)) a + S1x1x128x128.size a ≤ S1x32x128x512.size a) ∧
  (∀ k0_t16 : Fin (k0_t16_loop i v1).trips, ∀ (k0_h11 : k0_cond11 i = 1#1), ∀ (r₁ : Fin 4) (r₂ : Fin 4), ∀ a, (k0_off168 i v1 k0_t16 (BitVec.ofNat 32 (4 * r₁.val)) (BitVec.ofNat 32 r₂.val)) a + S1x1x1x128.size a ≤ S1x32x4x128.size a) ∧
  (∀ k0_t16 : Fin (k0_t16_loop i v1).trips, ∀ (k0_h11 : k0_cond11 i = 1#1), ∀ (r₁ : Fin 4) (r₂ : Fin 4), ∀ a, (k0_off169 i v1 k0_t16 (BitVec.ofNat 32 (4 * r₁.val)) (BitVec.ofNat 32 r₂.val)) a + S1x1x128x128.size a ≤ S1x32x128x512.size a) ∧
  (∀ k0_t16 : Fin (k0_t16_loop i v1).trips, ∀ (k0_h11 : k0_cond11 i = 1#1), ∀ (r₁ : Fin 4) (r₂ : Fin 4), ∀ a, (k0_off170 i v1 k0_t16 (BitVec.ofNat 32 (4 * r₁.val)) (BitVec.ofNat 32 r₂.val)) a + S1x1x1x128.size a ≤ S1x32x4x128.size a) ∧
  (∀ k0_t16 : Fin (k0_t16_loop i v1).trips, ∀ (k0_h11 : k0_cond11 i = 1#1), ∀ (r₁ : Fin 4) (r₂ : Fin 4), ∀ a, (k0_off171 i v1 k0_t16 (BitVec.ofNat 32 (4 * r₁.val)) (BitVec.ofNat 32 r₂.val)) a + S1x1x128x128.size a ≤ S1x32x128x512.size a) ∧
  (∀ k0_t16 : Fin (k0_t16_loop i v1).trips, ∀ (k0_h11 : k0_cond11 i = 1#1), ∀ (r₁ : Fin 4) (r₂ : Fin 4), ∀ a, (k0_off172 i v1 k0_t16 (BitVec.ofNat 32 (4 * r₁.val)) (BitVec.ofNat 32 r₂.val)) a + S1x1x1x128.size a ≤ S1x32x4x128.size a) ∧
  (∀ k0_t16 : Fin (k0_t16_loop i v1).trips, ∀ (k0_h11 : k0_cond11 i = 1#1), ∀ (r₁ : Fin 4) (r₂ : Fin 4), ∀ a, (k0_off173 i v1 k0_t16 (BitVec.ofNat 32 (4 * r₁.val)) (BitVec.ofNat 32 r₂.val)) a + S1x1x128x128.size a ≤ S1x32x128x512.size a) ∧
  (∀ k0_t16 : Fin (k0_t16_loop i v1).trips, ∀ (k0_h11 : k0_cond11 i = 1#1), ∀ (r₁ : Fin 4) (r₂ : Fin 4), ∀ a, (k0_off174 i v1 k0_t16 (BitVec.ofNat 32 (4 * r₁.val)) (BitVec.ofNat 32 r₂.val)) a + S1x1x1x128.size a ≤ S1x32x4x128.size a) ∧
  (∀ k0_t16 : Fin (k0_t16_loop i v1).trips, ∀ (k0_h11 : k0_cond11 i = 1#1), ∀ (r₁ : Fin 4) (r₂ : Fin 4), ∀ a, (k0_off175 i v1 k0_t16 (BitVec.ofNat 32 (4 * r₁.val)) (BitVec.ofNat 32 r₂.val)) a + S1x1x64x128.size a ≤ S1x32x64x128.size a) ∧
  (∀ k0_t16 : Fin (k0_t16_loop i v1).trips, ∀ (k0_h11 : k0_cond11 i = 1#1), ∀ (r₁ : Fin 4) (r₂ : Fin 4), ∀ a, (k0_off176 i v1 k0_t16 (BitVec.ofNat 32 (4 * r₁.val)) (BitVec.ofNat 32 r₂.val)) a + S1x1x128x512.size a ≤ S1x32x128x512.size a) ∧
  (∀ k0_t16 : Fin (k0_t16_loop i v1).trips, ∀ (k0_h11 : k0_cond11 i = 1#1), ∀ (r₁ : Fin 4) (r₂ : Fin 4), ∀ (hinb : ∀ a, (k0_off176 i v1 k0_t16 (BitVec.ofNat 32 (4 * r₁.val)) (BitVec.ofNat 32 r₂.val)) a + S1x1x128x512.size a ≤ S1x32x128x512.size a), (Rect.unit (s := S1x32x128x512) (k0_off176 i v1 k0_t16 (BitVec.ofNat 32 (4 * r₁.val)) (BitVec.ofNat 32 r₂.val)) S1x1x128x512.size hinb).PackedRows (EltTy.packing .bf16)) ∧
  (∀ k0_t16 : Fin (k0_t16_loop i v1).trips, ∀ (k0_h11 : k0_cond11 i = 1#1), ∀ (r₁ : Fin 4) (r₂ : Fin 4), ∀ a, (k0_off177 i v1 k0_t16 (BitVec.ofNat 32 (4 * r₁.val)) (BitVec.ofNat 32 r₂.val)) a + S1x1x128.size a ≤ S1x32x128.size a) ∧
  (∀ (k0_h12 : k0_cond12 i = 1#1), (k0_t17_loop i v1).OK) ∧
  (∀ k0_t17 : Fin (k0_t17_loop i v1).trips, ∀ (k0_h12 : k0_cond12 i = 1#1), ∀ (r₁ : Fin 4) (r₂ : Fin 4), ∀ a, (k0_off178 i v1 k0_t17 (BitVec.ofNat 32 (4 * r₁.val)) (BitVec.ofNat 32 r₂.val)) a + S1x1x128x128.size a ≤ S1x32x128x512.size a) ∧
  (∀ k0_t17 : Fin (k0_t17_loop i v1).trips, ∀ (k0_h12 : k0_cond12 i = 1#1), ∀ (r₁ : Fin 4) (r₂ : Fin 4), ∀ a, (k0_off179 i v1 k0_t17 (BitVec.ofNat 32 (4 * r₁.val)) (BitVec.ofNat 32 r₂.val)) a + S1x1x1x128.size a ≤ S1x32x4x128.size a) ∧
  (∀ k0_t17 : Fin (k0_t17_loop i v1).trips, ∀ (k0_h12 : k0_cond12 i = 1#1), ∀ (r₁ : Fin 4) (r₂ : Fin 4), ∀ a, (k0_off180 i v1 k0_t17 (BitVec.ofNat 32 (4 * r₁.val)) (BitVec.ofNat 32 r₂.val)) a + S1x1x128x128.size a ≤ S1x32x128x512.size a) ∧
  (∀ k0_t17 : Fin (k0_t17_loop i v1).trips, ∀ (k0_h12 : k0_cond12 i = 1#1), ∀ (r₁ : Fin 4) (r₂ : Fin 4), ∀ a, (k0_off181 i v1 k0_t17 (BitVec.ofNat 32 (4 * r₁.val)) (BitVec.ofNat 32 r₂.val)) a + S1x1x1x128.size a ≤ S1x32x4x128.size a) ∧
  (∀ k0_t17 : Fin (k0_t17_loop i v1).trips, ∀ (k0_h12 : k0_cond12 i = 1#1), ∀ (r₁ : Fin 4) (r₂ : Fin 4), ∀ a, (k0_off182 i v1 k0_t17 (BitVec.ofNat 32 (4 * r₁.val)) (BitVec.ofNat 32 r₂.val)) a + S1x1x128x128.size a ≤ S1x32x128x512.size a) ∧
  (∀ k0_t17 : Fin (k0_t17_loop i v1).trips, ∀ (k0_h12 : k0_cond12 i = 1#1), ∀ (r₁ : Fin 4) (r₂ : Fin 4), ∀ a, (k0_off183 i v1 k0_t17 (BitVec.ofNat 32 (4 * r₁.val)) (BitVec.ofNat 32 r₂.val)) a + S1x1x1x128.size a ≤ S1x32x4x128.size a) ∧
  (∀ k0_t17 : Fin (k0_t17_loop i v1).trips, ∀ (k0_h12 : k0_cond12 i = 1#1), ∀ (r₁ : Fin 4) (r₂ : Fin 4), ∀ a, (k0_off184 i v1 k0_t17 (BitVec.ofNat 32 (4 * r₁.val)) (BitVec.ofNat 32 r₂.val)) a + S1x1x128x128.size a ≤ S1x32x128x512.size a) ∧
  (∀ k0_t17 : Fin (k0_t17_loop i v1).trips, ∀ (k0_h12 : k0_cond12 i = 1#1), ∀ (r₁ : Fin 4) (r₂ : Fin 4), ∀ a, (k0_off185 i v1 k0_t17 (BitVec.ofNat 32 (4 * r₁.val)) (BitVec.ofNat 32 r₂.val)) a + S1x1x1x128.size a ≤ S1x32x4x128.size a) ∧
  (∀ k0_t17 : Fin (k0_t17_loop i v1).trips, ∀ (k0_h12 : k0_cond12 i = 1#1), ∀ (r₁ : Fin 4) (r₂ : Fin 4), ∀ a, (k0_off186 i v1 k0_t17 (BitVec.ofNat 32 (4 * r₁.val)) (BitVec.ofNat 32 r₂.val)) a + S1x1x64x128.size a ≤ S1x32x64x128.size a) ∧
  (∀ k0_t17 : Fin (k0_t17_loop i v1).trips, ∀ (k0_h12 : k0_cond12 i = 1#1), ∀ (r₁ : Fin 4) (r₂ : Fin 4), ∀ a, (k0_off187 i v1 k0_t17 (BitVec.ofNat 32 (4 * r₁.val)) (BitVec.ofNat 32 r₂.val)) a + S1x1x128x512.size a ≤ S1x32x128x512.size a) ∧
  (∀ k0_t17 : Fin (k0_t17_loop i v1).trips, ∀ (k0_h12 : k0_cond12 i = 1#1), ∀ (r₁ : Fin 4) (r₂ : Fin 4), ∀ (hinb : ∀ a, (k0_off187 i v1 k0_t17 (BitVec.ofNat 32 (4 * r₁.val)) (BitVec.ofNat 32 r₂.val)) a + S1x1x128x512.size a ≤ S1x32x128x512.size a), (Rect.unit (s := S1x32x128x512) (k0_off187 i v1 k0_t17 (BitVec.ofNat 32 (4 * r₁.val)) (BitVec.ofNat 32 r₂.val)) S1x1x128x512.size hinb).PackedRows (EltTy.packing .bf16)) ∧
  (∀ k0_t17 : Fin (k0_t17_loop i v1).trips, ∀ (k0_h12 : k0_cond12 i = 1#1), ∀ (r₁ : Fin 4) (r₂ : Fin 4), ∀ a, (k0_off188 i v1 k0_t17 (BitVec.ofNat 32 (4 * r₁.val)) (BitVec.ofNat 32 r₂.val)) a + S1x1x128.size a ≤ S1x32x128.size a) ∧
  (∀ (k0_h12 : k0_cond12 i = 1#1), (k0_t18_loop i v1).OK) ∧
  (∀ k0_t18 : Fin (k0_t18_loop i v1).trips, ∀ (k0_h12 : k0_cond12 i = 1#1), ∀ (r₁ : Fin 4) (r₂ : Fin 4), ∀ a, (k0_off189 i v1 k0_t18 (BitVec.ofNat 32 (4 * r₁.val)) (BitVec.ofNat 32 r₂.val)) a + S1x1x128x128.size a ≤ S1x32x128x512.size a) ∧
  (∀ k0_t18 : Fin (k0_t18_loop i v1).trips, ∀ (k0_h12 : k0_cond12 i = 1#1), ∀ (r₁ : Fin 4) (r₂ : Fin 4), ∀ a, (k0_off190 i v1 k0_t18 (BitVec.ofNat 32 (4 * r₁.val)) (BitVec.ofNat 32 r₂.val)) a + S1x1x1x128.size a ≤ S1x32x4x128.size a)
def k0_chk1_7 (i : grid0.Coords) (v1 : BitVec 32) : Prop :=
  (∀ k0_t18 : Fin (k0_t18_loop i v1).trips, ∀ (k0_h12 : k0_cond12 i = 1#1), ∀ (r₁ : Fin 4) (r₂ : Fin 4), ∀ a, (k0_off191 i v1 k0_t18 (BitVec.ofNat 32 (4 * r₁.val)) (BitVec.ofNat 32 r₂.val)) a + S1x1x128x128.size a ≤ S1x32x128x512.size a) ∧
  (∀ k0_t18 : Fin (k0_t18_loop i v1).trips, ∀ (k0_h12 : k0_cond12 i = 1#1), ∀ (r₁ : Fin 4) (r₂ : Fin 4), ∀ a, (k0_off192 i v1 k0_t18 (BitVec.ofNat 32 (4 * r₁.val)) (BitVec.ofNat 32 r₂.val)) a + S1x1x1x128.size a ≤ S1x32x4x128.size a) ∧
  (∀ k0_t18 : Fin (k0_t18_loop i v1).trips, ∀ (k0_h12 : k0_cond12 i = 1#1), ∀ (r₁ : Fin 4) (r₂ : Fin 4), ∀ a, (k0_off193 i v1 k0_t18 (BitVec.ofNat 32 (4 * r₁.val)) (BitVec.ofNat 32 r₂.val)) a + S1x1x128x128.size a ≤ S1x32x128x512.size a) ∧
  (∀ k0_t18 : Fin (k0_t18_loop i v1).trips, ∀ (k0_h12 : k0_cond12 i = 1#1), ∀ (r₁ : Fin 4) (r₂ : Fin 4), ∀ a, (k0_off194 i v1 k0_t18 (BitVec.ofNat 32 (4 * r₁.val)) (BitVec.ofNat 32 r₂.val)) a + S1x1x1x128.size a ≤ S1x32x4x128.size a) ∧
  (∀ k0_t18 : Fin (k0_t18_loop i v1).trips, ∀ (k0_h12 : k0_cond12 i = 1#1), ∀ (r₁ : Fin 4) (r₂ : Fin 4), ∀ a, (k0_off195 i v1 k0_t18 (BitVec.ofNat 32 (4 * r₁.val)) (BitVec.ofNat 32 r₂.val)) a + S1x1x128x128.size a ≤ S1x32x128x512.size a) ∧
  (∀ k0_t18 : Fin (k0_t18_loop i v1).trips, ∀ (k0_h12 : k0_cond12 i = 1#1), ∀ (r₁ : Fin 4) (r₂ : Fin 4), ∀ a, (k0_off196 i v1 k0_t18 (BitVec.ofNat 32 (4 * r₁.val)) (BitVec.ofNat 32 r₂.val)) a + S1x1x1x128.size a ≤ S1x32x4x128.size a) ∧
  (∀ k0_t18 : Fin (k0_t18_loop i v1).trips, ∀ (k0_h12 : k0_cond12 i = 1#1), ∀ (r₁ : Fin 4) (r₂ : Fin 4), ∀ a, (k0_off197 i v1 k0_t18 (BitVec.ofNat 32 (4 * r₁.val)) (BitVec.ofNat 32 r₂.val)) a + S1x1x64x128.size a ≤ S1x32x64x128.size a) ∧
  (∀ k0_t18 : Fin (k0_t18_loop i v1).trips, ∀ (k0_h12 : k0_cond12 i = 1#1), ∀ (r₁ : Fin 4) (r₂ : Fin 4), ∀ a, (k0_off198 i v1 k0_t18 (BitVec.ofNat 32 (4 * r₁.val)) (BitVec.ofNat 32 r₂.val)) a + S1x1x128x512.size a ≤ S1x32x128x512.size a) ∧
  (∀ k0_t18 : Fin (k0_t18_loop i v1).trips, ∀ (k0_h12 : k0_cond12 i = 1#1), ∀ (r₁ : Fin 4) (r₂ : Fin 4), ∀ (hinb : ∀ a, (k0_off198 i v1 k0_t18 (BitVec.ofNat 32 (4 * r₁.val)) (BitVec.ofNat 32 r₂.val)) a + S1x1x128x512.size a ≤ S1x32x128x512.size a), (Rect.unit (s := S1x32x128x512) (k0_off198 i v1 k0_t18 (BitVec.ofNat 32 (4 * r₁.val)) (BitVec.ofNat 32 r₂.val)) S1x1x128x512.size hinb).PackedRows (EltTy.packing .bf16)) ∧
  (∀ k0_t18 : Fin (k0_t18_loop i v1).trips, ∀ (k0_h12 : k0_cond12 i = 1#1), ∀ (r₁ : Fin 4) (r₂ : Fin 4), ∀ a, (k0_off199 i v1 k0_t18 (BitVec.ofNat 32 (4 * r₁.val)) (BitVec.ofNat 32 r₂.val)) a + S1x1x128.size a ≤ S1x32x128.size a) ∧
  (∀ (k0_h13 : k0_cond13 i = 1#1), (k0_t19_loop i v1).OK) ∧
  (∀ k0_t19 : Fin (k0_t19_loop i v1).trips, ∀ (k0_h13 : k0_cond13 i = 1#1), ∀ (r₁ : Fin 4) (r₂ : Fin 4), ∀ a, (k0_off200 i v1 k0_t19 (BitVec.ofNat 32 (4 * r₁.val)) (BitVec.ofNat 32 r₂.val)) a + S1x1x128x128.size a ≤ S1x32x128x512.size a) ∧
  (∀ k0_t19 : Fin (k0_t19_loop i v1).trips, ∀ (k0_h13 : k0_cond13 i = 1#1), ∀ (r₁ : Fin 4) (r₂ : Fin 4), ∀ a, (k0_off201 i v1 k0_t19 (BitVec.ofNat 32 (4 * r₁.val)) (BitVec.ofNat 32 r₂.val)) a + S1x1x1x128.size a ≤ S1x32x4x128.size a) ∧
  (∀ k0_t19 : Fin (k0_t19_loop i v1).trips, ∀ (k0_h13 : k0_cond13 i = 1#1), ∀ (r₁ : Fin 4) (r₂ : Fin 4), ∀ a, (k0_off202 i v1 k0_t19 (BitVec.ofNat 32 (4 * r₁.val)) (BitVec.ofNat 32 r₂.val)) a + S1x1x128x128.size a ≤ S1x32x128x512.size a) ∧
  (∀ k0_t19 : Fin (k0_t19_loop i v1).trips, ∀ (k0_h13 : k0_cond13 i = 1#1), ∀ (r₁ : Fin 4) (r₂ : Fin 4), ∀ a, (k0_off203 i v1 k0_t19 (BitVec.ofNat 32 (4 * r₁.val)) (BitVec.ofNat 32 r₂.val)) a + S1x1x1x128.size a ≤ S1x32x4x128.size a) ∧
  (∀ k0_t19 : Fin (k0_t19_loop i v1).trips, ∀ (k0_h13 : k0_cond13 i = 1#1), ∀ (r₁ : Fin 4) (r₂ : Fin 4), ∀ a, (k0_off204 i v1 k0_t19 (BitVec.ofNat 32 (4 * r₁.val)) (BitVec.ofNat 32 r₂.val)) a + S1x1x128x128.size a ≤ S1x32x128x512.size a) ∧
  (∀ k0_t19 : Fin (k0_t19_loop i v1).trips, ∀ (k0_h13 : k0_cond13 i = 1#1), ∀ (r₁ : Fin 4) (r₂ : Fin 4), ∀ a, (k0_off205 i v1 k0_t19 (BitVec.ofNat 32 (4 * r₁.val)) (BitVec.ofNat 32 r₂.val)) a + S1x1x1x128.size a ≤ S1x32x4x128.size a) ∧
  (∀ k0_t19 : Fin (k0_t19_loop i v1).trips, ∀ (k0_h13 : k0_cond13 i = 1#1), ∀ (r₁ : Fin 4) (r₂ : Fin 4), ∀ a, (k0_off206 i v1 k0_t19 (BitVec.ofNat 32 (4 * r₁.val)) (BitVec.ofNat 32 r₂.val)) a + S1x1x128x128.size a ≤ S1x32x128x512.size a) ∧
  (∀ k0_t19 : Fin (k0_t19_loop i v1).trips, ∀ (k0_h13 : k0_cond13 i = 1#1), ∀ (r₁ : Fin 4) (r₂ : Fin 4), ∀ a, (k0_off207 i v1 k0_t19 (BitVec.ofNat 32 (4 * r₁.val)) (BitVec.ofNat 32 r₂.val)) a + S1x1x1x128.size a ≤ S1x32x4x128.size a) ∧
  (∀ k0_t19 : Fin (k0_t19_loop i v1).trips, ∀ (k0_h13 : k0_cond13 i = 1#1), ∀ (r₁ : Fin 4) (r₂ : Fin 4), ∀ a, (k0_off208 i v1 k0_t19 (BitVec.ofNat 32 (4 * r₁.val)) (BitVec.ofNat 32 r₂.val)) a + S1x1x64x128.size a ≤ S1x32x64x128.size a) ∧
  (∀ k0_t19 : Fin (k0_t19_loop i v1).trips, ∀ (k0_h13 : k0_cond13 i = 1#1), ∀ (r₁ : Fin 4) (r₂ : Fin 4), ∀ a, (k0_off209 i v1 k0_t19 (BitVec.ofNat 32 (4 * r₁.val)) (BitVec.ofNat 32 r₂.val)) a + S1x1x128x512.size a ≤ S1x32x128x512.size a) ∧
  (∀ k0_t19 : Fin (k0_t19_loop i v1).trips, ∀ (k0_h13 : k0_cond13 i = 1#1), ∀ (r₁ : Fin 4) (r₂ : Fin 4), ∀ (hinb : ∀ a, (k0_off209 i v1 k0_t19 (BitVec.ofNat 32 (4 * r₁.val)) (BitVec.ofNat 32 r₂.val)) a + S1x1x128x512.size a ≤ S1x32x128x512.size a), (Rect.unit (s := S1x32x128x512) (k0_off209 i v1 k0_t19 (BitVec.ofNat 32 (4 * r₁.val)) (BitVec.ofNat 32 r₂.val)) S1x1x128x512.size hinb).PackedRows (EltTy.packing .bf16)) ∧
  (∀ k0_t19 : Fin (k0_t19_loop i v1).trips, ∀ (k0_h13 : k0_cond13 i = 1#1), ∀ (r₁ : Fin 4) (r₂ : Fin 4), ∀ a, (k0_off210 i v1 k0_t19 (BitVec.ofNat 32 (4 * r₁.val)) (BitVec.ofNat 32 r₂.val)) a + S1x1x128.size a ≤ S1x32x128.size a) ∧
  (∀ (k0_h13 : k0_cond13 i = 1#1), (k0_t20_loop i v1).OK) ∧
  (∀ k0_t20 : Fin (k0_t20_loop i v1).trips, ∀ (k0_h13 : k0_cond13 i = 1#1), ∀ (r₁ : Fin 4) (r₂ : Fin 4), ∀ a, (k0_off211 i v1 k0_t20 (BitVec.ofNat 32 (4 * r₁.val)) (BitVec.ofNat 32 r₂.val)) a + S1x1x128x128.size a ≤ S1x32x128x512.size a) ∧
  (∀ k0_t20 : Fin (k0_t20_loop i v1).trips, ∀ (k0_h13 : k0_cond13 i = 1#1), ∀ (r₁ : Fin 4) (r₂ : Fin 4), ∀ a, (k0_off212 i v1 k0_t20 (BitVec.ofNat 32 (4 * r₁.val)) (BitVec.ofNat 32 r₂.val)) a + S1x1x1x128.size a ≤ S1x32x4x128.size a) ∧
  (∀ k0_t20 : Fin (k0_t20_loop i v1).trips, ∀ (k0_h13 : k0_cond13 i = 1#1), ∀ (r₁ : Fin 4) (r₂ : Fin 4), ∀ a, (k0_off213 i v1 k0_t20 (BitVec.ofNat 32 (4 * r₁.val)) (BitVec.ofNat 32 r₂.val)) a + S1x1x128x128.size a ≤ S1x32x128x512.size a) ∧
  (∀ k0_t20 : Fin (k0_t20_loop i v1).trips, ∀ (k0_h13 : k0_cond13 i = 1#1), ∀ (r₁ : Fin 4) (r₂ : Fin 4), ∀ a, (k0_off214 i v1 k0_t20 (BitVec.ofNat 32 (4 * r₁.val)) (BitVec.ofNat 32 r₂.val)) a + S1x1x1x128.size a ≤ S1x32x4x128.size a) ∧
  (∀ k0_t20 : Fin (k0_t20_loop i v1).trips, ∀ (k0_h13 : k0_cond13 i = 1#1), ∀ (r₁ : Fin 4) (r₂ : Fin 4), ∀ a, (k0_off215 i v1 k0_t20 (BitVec.ofNat 32 (4 * r₁.val)) (BitVec.ofNat 32 r₂.val)) a + S1x1x128x128.size a ≤ S1x32x128x512.size a) ∧
  (∀ k0_t20 : Fin (k0_t20_loop i v1).trips, ∀ (k0_h13 : k0_cond13 i = 1#1), ∀ (r₁ : Fin 4) (r₂ : Fin 4), ∀ a, (k0_off216 i v1 k0_t20 (BitVec.ofNat 32 (4 * r₁.val)) (BitVec.ofNat 32 r₂.val)) a + S1x1x1x128.size a ≤ S1x32x4x128.size a) ∧
  (∀ k0_t20 : Fin (k0_t20_loop i v1).trips, ∀ (k0_h13 : k0_cond13 i = 1#1), ∀ (r₁ : Fin 4) (r₂ : Fin 4), ∀ a, (k0_off217 i v1 k0_t20 (BitVec.ofNat 32 (4 * r₁.val)) (BitVec.ofNat 32 r₂.val)) a + S1x1x128x128.size a ≤ S1x32x128x512.size a) ∧
  (∀ k0_t20 : Fin (k0_t20_loop i v1).trips, ∀ (k0_h13 : k0_cond13 i = 1#1), ∀ (r₁ : Fin 4) (r₂ : Fin 4), ∀ a, (k0_off218 i v1 k0_t20 (BitVec.ofNat 32 (4 * r₁.val)) (BitVec.ofNat 32 r₂.val)) a + S1x1x1x128.size a ≤ S1x32x4x128.size a)
def k0_chk1_8 (i : grid0.Coords) (v1 : BitVec 32) : Prop :=
  (∀ k0_t20 : Fin (k0_t20_loop i v1).trips, ∀ (k0_h13 : k0_cond13 i = 1#1), ∀ (r₁ : Fin 4) (r₂ : Fin 4), ∀ a, (k0_off219 i v1 k0_t20 (BitVec.ofNat 32 (4 * r₁.val)) (BitVec.ofNat 32 r₂.val)) a + S1x1x64x128.size a ≤ S1x32x64x128.size a) ∧
  (∀ k0_t20 : Fin (k0_t20_loop i v1).trips, ∀ (k0_h13 : k0_cond13 i = 1#1), ∀ (r₁ : Fin 4) (r₂ : Fin 4), ∀ a, (k0_off220 i v1 k0_t20 (BitVec.ofNat 32 (4 * r₁.val)) (BitVec.ofNat 32 r₂.val)) a + S1x1x128x512.size a ≤ S1x32x128x512.size a) ∧
  (∀ k0_t20 : Fin (k0_t20_loop i v1).trips, ∀ (k0_h13 : k0_cond13 i = 1#1), ∀ (r₁ : Fin 4) (r₂ : Fin 4), ∀ (hinb : ∀ a, (k0_off220 i v1 k0_t20 (BitVec.ofNat 32 (4 * r₁.val)) (BitVec.ofNat 32 r₂.val)) a + S1x1x128x512.size a ≤ S1x32x128x512.size a), (Rect.unit (s := S1x32x128x512) (k0_off220 i v1 k0_t20 (BitVec.ofNat 32 (4 * r₁.val)) (BitVec.ofNat 32 r₂.val)) S1x1x128x512.size hinb).PackedRows (EltTy.packing .bf16)) ∧
  (∀ k0_t20 : Fin (k0_t20_loop i v1).trips, ∀ (k0_h13 : k0_cond13 i = 1#1), ∀ (r₁ : Fin 4) (r₂ : Fin 4), ∀ a, (k0_off221 i v1 k0_t20 (BitVec.ofNat 32 (4 * r₁.val)) (BitVec.ofNat 32 r₂.val)) a + S1x1x128.size a ≤ S1x32x128.size a)
def k0_chk1 (i : grid0.Coords) (v1 : BitVec 32) : Prop :=
  k0_chk1_0 i v1 ∧
  k0_chk1_1 i v1 ∧
  k0_chk1_2 i v1 ∧
  k0_chk1_3 i v1 ∧
  k0_chk1_4 i v1 ∧
  k0_chk1_5 i v1 ∧
  k0_chk1_6 i v1 ∧
  k0_chk1_7 i v1 ∧
  k0_chk1_8 i v1
theorem k0_t1_ok : ∀ (i : grid0.Coords) (v1 : BitVec 32) (k0_hw1 : k0_chk1 i v1), ∀ (k0_h4 : k0_cond4 i = 1#1), (k0_t1_loop i v1).OK := fun i v1 k0_hw1 k0_h4 => k0_hw1.1.1 k0_h4
theorem k0_off2_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off2 i v1 k0_t1 (BitVec.ofNat 32 (4 * r₁.val)) (BitVec.ofNat 32 r₂.val)) a + S1x1x128x128.size a ≤ S1x32x128x512.size a := fun i v1 k0_hw1 k0_t1 k0_h4 r₁ r₂ => k0_hw1.1.2.1 k0_t1 k0_h4 r₁ r₂
theorem k0_off3_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off3 i v1 k0_t1 (BitVec.ofNat 32 (4 * r₁.val)) (BitVec.ofNat 32 r₂.val)) a + S1x1x1x128.size a ≤ S1x32x4x128.size a := fun i v1 k0_hw1 k0_t1 k0_h4 r₁ r₂ => k0_hw1.1.2.2.1 k0_t1 k0_h4 r₁ r₂
theorem k0_off4_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off4 i v1 k0_t1 (BitVec.ofNat 32 (4 * r₁.val)) (BitVec.ofNat 32 r₂.val)) a + S1x1x128x128.size a ≤ S1x32x128x512.size a := fun i v1 k0_hw1 k0_t1 k0_h4 r₁ r₂ => k0_hw1.1.2.2.2.1 k0_t1 k0_h4 r₁ r₂
theorem k0_off5_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off5 i v1 k0_t1 (BitVec.ofNat 32 (4 * r₁.val)) (BitVec.ofNat 32 r₂.val)) a + S1x1x1x128.size a ≤ S1x32x4x128.size a := fun i v1 k0_hw1 k0_t1 k0_h4 r₁ r₂ => k0_hw1.1.2.2.2.2.1 k0_t1 k0_h4 r₁ r₂
theorem k0_off6_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off6 i v1 k0_t1 (BitVec.ofNat 32 (4 * r₁.val)) (BitVec.ofNat 32 r₂.val)) a + S1x1x128x128.size a ≤ S1x32x128x512.size a := fun i v1 k0_hw1 k0_t1 k0_h4 r₁ r₂ => k0_hw1.1.2.2.2.2.2.1 k0_t1 k0_h4 r₁ r₂
theorem k0_off7_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off7 i v1 k0_t1 (BitVec.ofNat 32 (4 * r₁.val)) (BitVec.ofNat 32 r₂.val)) a + S1x1x1x128.size a ≤ S1x32x4x128.size a := fun i v1 k0_hw1 k0_t1 k0_h4 r₁ r₂ => k0_hw1.1.2.2.2.2.2.2.1 k0_t1 k0_h4 r₁ r₂
theorem k0_off8_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off8 i v1 k0_t1 (BitVec.ofNat 32 (4 * r₁.val)) (BitVec.ofNat 32 r₂.val)) a + S1x1x128x128.size a ≤ S1x32x128x512.size a := fun i v1 k0_hw1 k0_t1 k0_h4 r₁ r₂ => k0_hw1.1.2.2.2.2.2.2.2.1 k0_t1 k0_h4 r₁ r₂
theorem k0_off9_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off9 i v1 k0_t1 (BitVec.ofNat 32 (4 * r₁.val)) (BitVec.ofNat 32 r₂.val)) a + S1x1x1x128.size a ≤ S1x32x4x128.size a := fun i v1 k0_hw1 k0_t1 k0_h4 r₁ r₂ => k0_hw1.1.2.2.2.2.2.2.2.2.1 k0_t1 k0_h4 r₁ r₂
theorem k0_off10_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off10 i v1 k0_t1 (BitVec.ofNat 32 (4 * r₁.val)) (BitVec.ofNat 32 r₂.val)) a + S1x1x64x128.size a ≤ S1x32x64x128.size a := fun i v1 k0_hw1 k0_t1 k0_h4 r₁ r₂ => k0_hw1.1.2.2.2.2.2.2.2.2.2.1 k0_t1 k0_h4 r₁ r₂
theorem k0_off11_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off11 i v1 k0_t1 (BitVec.ofNat 32 (4 * r₁.val)) (BitVec.ofNat 32 r₂.val)) a + S1x1x128x512.size a ≤ S1x32x128x512.size a := fun i v1 k0_hw1 k0_t1 k0_h4 r₁ r₂ => k0_hw1.1.2.2.2.2.2.2.2.2.2.2.1 k0_t1 k0_h4 r₁ r₂
theorem k0_off11_packedbf16 : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), (Rect.unit (s := S1x32x128x512) (k0_off11 i v1 k0_t1 (BitVec.ofNat 32 (4 * r₁.val)) (BitVec.ofNat 32 r₂.val)) S1x1x128x512.size (k0_off11_inb i v1 k0_hw1 k0_t1 k0_h4 r₁ r₂)).PackedRows (EltTy.packing .bf16) := fun i v1 k0_hw1 k0_t1 k0_h4 r₁ r₂ => k0_hw1.1.2.2.2.2.2.2.2.2.2.2.2.1 k0_t1 k0_h4 r₁ r₂ (k0_off11_inb i v1 k0_hw1 k0_t1 k0_h4 r₁ r₂)
theorem k0_off12_inb : ∀ (i : grid0.Coords) (v1 : BitVec 32) (k0_hw1 : k0_chk1 i v1) (k0_t1 : Fin (k0_t1_loop i v1).trips), ∀ (k0_h4 : k0_cond4 i = 1#1), ∀ (r₁ : Fin 4) (r₂ : Fin 4), ∀ a, (k0_off12 i v1 k0_t1 (BitVec.ofNat 32 (4 * r₁.val)) (BitVec.ofNat 32 r₂.val)) a + S1x1x128.size a ≤ S1x32x128.size a := fun i v1 k0_hw1 k0_t1 k0_h4 r₁ r₂ => k0_hw1.1.2.2.2.2.2.2.2.2.2.2.2.2.1 k0_t1 k0_h4 r₁ r₂
theorem k0_t2_ok : ∀ (i : grid0.Coords) (v1 : BitVec 32) (k0_hw1 : k0_chk1 i v1), ∀ (k0_h4 : k0_cond4 i = 1#1), (k0_t2_loop i v1).OK := fun i v1 k0_hw1 k0_h4 => k0_hw1.1.2.2.2.2.2.2.2.2.2.2.2.2.2.1 k0_h4
theorem k0_off13_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off13 i v1 k0_t2 (BitVec.ofNat 32 (4 * r₁.val)) (BitVec.ofNat 32 r₂.val)) a + S1x1x128x128.size a ≤ S1x32x128x512.size a := fun i v1 k0_hw1 k0_t2 k0_h4 r₁ r₂ => k0_hw1.1.2.2.2.2.2.2.2.2.2.2.2.2.2.2.1 k0_t2 k0_h4 r₁ r₂
theorem k0_off14_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off14 i v1 k0_t2 (BitVec.ofNat 32 (4 * r₁.val)) (BitVec.ofNat 32 r₂.val)) a + S1x1x1x128.size a ≤ S1x32x4x128.size a := fun i v1 k0_hw1 k0_t2 k0_h4 r₁ r₂ => k0_hw1.1.2.2.2.2.2.2.2.2.2.2.2.2.2.2.2.1 k0_t2 k0_h4 r₁ r₂
theorem k0_off15_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off15 i v1 k0_t2 (BitVec.ofNat 32 (4 * r₁.val)) (BitVec.ofNat 32 r₂.val)) a + S1x1x128x128.size a ≤ S1x32x128x512.size a := fun i v1 k0_hw1 k0_t2 k0_h4 r₁ r₂ => k0_hw1.1.2.2.2.2.2.2.2.2.2.2.2.2.2.2.2.2.1 k0_t2 k0_h4 r₁ r₂
theorem k0_off16_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off16 i v1 k0_t2 (BitVec.ofNat 32 (4 * r₁.val)) (BitVec.ofNat 32 r₂.val)) a + S1x1x1x128.size a ≤ S1x32x4x128.size a := fun i v1 k0_hw1 k0_t2 k0_h4 r₁ r₂ => k0_hw1.1.2.2.2.2.2.2.2.2.2.2.2.2.2.2.2.2.2.1 k0_t2 k0_h4 r₁ r₂
theorem k0_off17_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off17 i v1 k0_t2 (BitVec.ofNat 32 (4 * r₁.val)) (BitVec.ofNat 32 r₂.val)) a + S1x1x128x128.size a ≤ S1x32x128x512.size a := fun i v1 k0_hw1 k0_t2 k0_h4 r₁ r₂ => k0_hw1.1.2.2.2.2.2.2.2.2.2.2.2.2.2.2.2.2.2.2.1 k0_t2 k0_h4 r₁ r₂
theorem k0_off18_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off18 i v1 k0_t2 (BitVec.ofNat 32 (4 * r₁.val)) (BitVec.ofNat 32 r₂.val)) a + S1x1x1x128.size a ≤ S1x32x4x128.size a := fun i v1 k0_hw1 k0_t2 k0_h4 r₁ r₂ => k0_hw1.1.2.2.2.2.2.2.2.2.2.2.2.2.2.2.2.2.2.2.2.1 k0_t2 k0_h4 r₁ r₂
theorem k0_off19_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off19 i v1 k0_t2 (BitVec.ofNat 32 (4 * r₁.val)) (BitVec.ofNat 32 r₂.val)) a + S1x1x128x128.size a ≤ S1x32x128x512.size a := fun i v1 k0_hw1 k0_t2 k0_h4 r₁ r₂ => k0_hw1.1.2.2.2.2.2.2.2.2.2.2.2.2.2.2.2.2.2.2.2.2.1 k0_t2 k0_h4 r₁ r₂
theorem k0_off20_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off20 i v1 k0_t2 (BitVec.ofNat 32 (4 * r₁.val)) (BitVec.ofNat 32 r₂.val)) a + S1x1x1x128.size a ≤ S1x32x4x128.size a := fun i v1 k0_hw1 k0_t2 k0_h4 r₁ r₂ => k0_hw1.1.2.2.2.2.2.2.2.2.2.2.2.2.2.2.2.2.2.2.2.2.2.1 k0_t2 k0_h4 r₁ r₂
theorem k0_off21_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off21 i v1 k0_t2 (BitVec.ofNat 32 (4 * r₁.val)) (BitVec.ofNat 32 r₂.val)) a + S1x1x64x128.size a ≤ S1x32x64x128.size a := fun i v1 k0_hw1 k0_t2 k0_h4 r₁ r₂ => k0_hw1.1.2.2.2.2.2.2.2.2.2.2.2.2.2.2.2.2.2.2.2.2.2.2.1 k0_t2 k0_h4 r₁ r₂
theorem k0_off22_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off22 i v1 k0_t2 (BitVec.ofNat 32 (4 * r₁.val)) (BitVec.ofNat 32 r₂.val)) a + S1x1x128x512.size a ≤ S1x32x128x512.size a := fun i v1 k0_hw1 k0_t2 k0_h4 r₁ r₂ => k0_hw1.1.2.2.2.2.2.2.2.2.2.2.2.2.2.2.2.2.2.2.2.2.2.2.2.1 k0_t2 k0_h4 r₁ r₂
theorem k0_off22_packedbf16 : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), (Rect.unit (s := S1x32x128x512) (k0_off22 i v1 k0_t2 (BitVec.ofNat 32 (4 * r₁.val)) (BitVec.ofNat 32 r₂.val)) S1x1x128x512.size (k0_off22_inb i v1 k0_hw1 k0_t2 k0_h4 r₁ r₂)).PackedRows (EltTy.packing .bf16) := fun i v1 k0_hw1 k0_t2 k0_h4 r₁ r₂ => k0_hw1.1.2.2.2.2.2.2.2.2.2.2.2.2.2.2.2.2.2.2.2.2.2.2.2.2.1 k0_t2 k0_h4 r₁ r₂ (k0_off22_inb i v1 k0_hw1 k0_t2 k0_h4 r₁ r₂)
theorem k0_off23_inb : ∀ (i : grid0.Coords) (v1 : BitVec 32) (k0_hw1 : k0_chk1 i v1) (k0_t2 : Fin (k0_t2_loop i v1).trips), ∀ (k0_h4 : k0_cond4 i = 1#1), ∀ (r₁ : Fin 4) (r₂ : Fin 4), ∀ a, (k0_off23 i v1 k0_t2 (BitVec.ofNat 32 (4 * r₁.val)) (BitVec.ofNat 32 r₂.val)) a + S1x1x128.size a ≤ S1x32x128.size a := fun i v1 k0_hw1 k0_t2 k0_h4 r₁ r₂ => k0_hw1.1.2.2.2.2.2.2.2.2.2.2.2.2.2.2.2.2.2.2.2.2.2.2.2.2.2.1 k0_t2 k0_h4 r₁ r₂
theorem k0_t3_ok : ∀ (i : grid0.Coords) (v1 : BitVec 32) (k0_hw1 : k0_chk1 i v1), ∀ (k0_h5 : k0_cond5 i = 1#1), (k0_t3_loop i v1).OK := fun i v1 k0_hw1 k0_h5 => k0_hw1.1.2.2.2.2.2.2.2.2.2.2.2.2.2.2.2.2.2.2.2.2.2.2.2.2.2.2.1 k0_h5
theorem k0_off24_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off24 i v1 k0_t3 (BitVec.ofNat 32 (4 * r₁.val)) (BitVec.ofNat 32 r₂.val)) a + S1x1x128x128.size a ≤ S1x32x128x512.size a := fun i v1 k0_hw1 k0_t3 k0_h5 r₁ r₂ => k0_hw1.1.2.2.2.2.2.2.2.2.2.2.2.2.2.2.2.2.2.2.2.2.2.2.2.2.2.2.2.1 k0_t3 k0_h5 r₁ r₂
theorem k0_off25_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off25 i v1 k0_t3 (BitVec.ofNat 32 (4 * r₁.val)) (BitVec.ofNat 32 r₂.val)) a + S1x1x1x128.size a ≤ S1x32x4x128.size a := fun i v1 k0_hw1 k0_t3 k0_h5 r₁ r₂ => k0_hw1.1.2.2.2.2.2.2.2.2.2.2.2.2.2.2.2.2.2.2.2.2.2.2.2.2.2.2.2.2.1 k0_t3 k0_h5 r₁ r₂
theorem k0_off26_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off26 i v1 k0_t3 (BitVec.ofNat 32 (4 * r₁.val)) (BitVec.ofNat 32 r₂.val)) a + S1x1x128x128.size a ≤ S1x32x128x512.size a := fun i v1 k0_hw1 k0_t3 k0_h5 r₁ r₂ => k0_hw1.1.2.2.2.2.2.2.2.2.2.2.2.2.2.2.2.2.2.2.2.2.2.2.2.2.2.2.2.2.2.1 k0_t3 k0_h5 r₁ r₂
theorem k0_off27_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off27 i v1 k0_t3 (BitVec.ofNat 32 (4 * r₁.val)) (BitVec.ofNat 32 r₂.val)) a + S1x1x1x128.size a ≤ S1x32x4x128.size a := fun i v1 k0_hw1 k0_t3 k0_h5 r₁ r₂ => k0_hw1.1.2.2.2.2.2.2.2.2.2.2.2.2.2.2.2.2.2.2.2.2.2.2.2.2.2.2.2.2.2.2.1 k0_t3 k0_h5 r₁ r₂
theorem k0_off28_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off28 i v1 k0_t3 (BitVec.ofNat 32 (4 * r₁.val)) (BitVec.ofNat 32 r₂.val)) a + S1x1x128x128.size a ≤ S1x32x128x512.size a := fun i v1 k0_hw1 k0_t3 k0_h5 r₁ r₂ => k0_hw1.1.2.2.2.2.2.2.2.2.2.2.2.2.2.2.2.2.2.2.2.2.2.2.2.2.2.2.2.2.2.2.2 k0_t3 k0_h5 r₁ r₂
theorem k0_off29_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off29 i v1 k0_t3 (BitVec.ofNat 32 (4 * r₁.val)) (BitVec.ofNat 32 r₂.val)) a + S1x1x1x128.size a ≤ S1x32x4x128.size a := fun i v1 k0_hw1 k0_t3 k0_h5 r₁ r₂ => k0_hw1.2.1.1 k0_t3 k0_h5 r₁ r₂
theorem k0_off30_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off30 i v1 k0_t3 (BitVec.ofNat 32 (4 * r₁.val)) (BitVec.ofNat 32 r₂.val)) a + S1x1x128x128.size a ≤ S1x32x128x512.size a := fun i v1 k0_hw1 k0_t3 k0_h5 r₁ r₂ => k0_hw1.2.1.2.1 k0_t3 k0_h5 r₁ r₂
theorem k0_off31_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off31 i v1 k0_t3 (BitVec.ofNat 32 (4 * r₁.val)) (BitVec.ofNat 32 r₂.val)) a + S1x1x1x128.size a ≤ S1x32x4x128.size a := fun i v1 k0_hw1 k0_t3 k0_h5 r₁ r₂ => k0_hw1.2.1.2.2.1 k0_t3 k0_h5 r₁ r₂
theorem k0_off32_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off32 i v1 k0_t3 (BitVec.ofNat 32 (4 * r₁.val)) (BitVec.ofNat 32 r₂.val)) a + S1x1x64x128.size a ≤ S1x32x64x128.size a := fun i v1 k0_hw1 k0_t3 k0_h5 r₁ r₂ => k0_hw1.2.1.2.2.2.1 k0_t3 k0_h5 r₁ r₂
theorem k0_off33_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off33 i v1 k0_t3 (BitVec.ofNat 32 (4 * r₁.val)) (BitVec.ofNat 32 r₂.val)) a + S1x1x128x512.size a ≤ S1x32x128x512.size a := fun i v1 k0_hw1 k0_t3 k0_h5 r₁ r₂ => k0_hw1.2.1.2.2.2.2.1 k0_t3 k0_h5 r₁ r₂
theorem k0_off33_packedbf16 : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), (Rect.unit (s := S1x32x128x512) (k0_off33 i v1 k0_t3 (BitVec.ofNat 32 (4 * r₁.val)) (BitVec.ofNat 32 r₂.val)) S1x1x128x512.size (k0_off33_inb i v1 k0_hw1 k0_t3 k0_h5 r₁ r₂)).PackedRows (EltTy.packing .bf16) := fun i v1 k0_hw1 k0_t3 k0_h5 r₁ r₂ => k0_hw1.2.1.2.2.2.2.2.1 k0_t3 k0_h5 r₁ r₂ (k0_off33_inb i v1 k0_hw1 k0_t3 k0_h5 r₁ r₂)
theorem k0_off34_inb : ∀ (i : grid0.Coords) (v1 : BitVec 32) (k0_hw1 : k0_chk1 i v1) (k0_t3 : Fin (k0_t3_loop i v1).trips), ∀ (k0_h5 : k0_cond5 i = 1#1), ∀ (r₁ : Fin 4) (r₂ : Fin 4), ∀ a, (k0_off34 i v1 k0_t3 (BitVec.ofNat 32 (4 * r₁.val)) (BitVec.ofNat 32 r₂.val)) a + S1x1x128.size a ≤ S1x32x128.size a := fun i v1 k0_hw1 k0_t3 k0_h5 r₁ r₂ => k0_hw1.2.1.2.2.2.2.2.2.1 k0_t3 k0_h5 r₁ r₂
theorem k0_t4_ok : ∀ (i : grid0.Coords) (v1 : BitVec 32) (k0_hw1 : k0_chk1 i v1), ∀ (k0_h5 : k0_cond5 i = 1#1), (k0_t4_loop i v1).OK := fun i v1 k0_hw1 k0_h5 => k0_hw1.2.1.2.2.2.2.2.2.2.1 k0_h5
theorem k0_off35_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off35 i v1 k0_t4 (BitVec.ofNat 32 (4 * r₁.val)) (BitVec.ofNat 32 r₂.val)) a + S1x1x128x128.size a ≤ S1x32x128x512.size a := fun i v1 k0_hw1 k0_t4 k0_h5 r₁ r₂ => k0_hw1.2.1.2.2.2.2.2.2.2.2.1 k0_t4 k0_h5 r₁ r₂
theorem k0_off36_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off36 i v1 k0_t4 (BitVec.ofNat 32 (4 * r₁.val)) (BitVec.ofNat 32 r₂.val)) a + S1x1x1x128.size a ≤ S1x32x4x128.size a := fun i v1 k0_hw1 k0_t4 k0_h5 r₁ r₂ => k0_hw1.2.1.2.2.2.2.2.2.2.2.2.1 k0_t4 k0_h5 r₁ r₂
theorem k0_off37_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off37 i v1 k0_t4 (BitVec.ofNat 32 (4 * r₁.val)) (BitVec.ofNat 32 r₂.val)) a + S1x1x128x128.size a ≤ S1x32x128x512.size a := fun i v1 k0_hw1 k0_t4 k0_h5 r₁ r₂ => k0_hw1.2.1.2.2.2.2.2.2.2.2.2.2.1 k0_t4 k0_h5 r₁ r₂
theorem k0_off38_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off38 i v1 k0_t4 (BitVec.ofNat 32 (4 * r₁.val)) (BitVec.ofNat 32 r₂.val)) a + S1x1x1x128.size a ≤ S1x32x4x128.size a := fun i v1 k0_hw1 k0_t4 k0_h5 r₁ r₂ => k0_hw1.2.1.2.2.2.2.2.2.2.2.2.2.2.1 k0_t4 k0_h5 r₁ r₂
theorem k0_off39_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off39 i v1 k0_t4 (BitVec.ofNat 32 (4 * r₁.val)) (BitVec.ofNat 32 r₂.val)) a + S1x1x128x128.size a ≤ S1x32x128x512.size a := fun i v1 k0_hw1 k0_t4 k0_h5 r₁ r₂ => k0_hw1.2.1.2.2.2.2.2.2.2.2.2.2.2.2.1 k0_t4 k0_h5 r₁ r₂
theorem k0_off40_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off40 i v1 k0_t4 (BitVec.ofNat 32 (4 * r₁.val)) (BitVec.ofNat 32 r₂.val)) a + S1x1x1x128.size a ≤ S1x32x4x128.size a := fun i v1 k0_hw1 k0_t4 k0_h5 r₁ r₂ => k0_hw1.2.1.2.2.2.2.2.2.2.2.2.2.2.2.2.1 k0_t4 k0_h5 r₁ r₂
theorem k0_off41_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off41 i v1 k0_t4 (BitVec.ofNat 32 (4 * r₁.val)) (BitVec.ofNat 32 r₂.val)) a + S1x1x128x128.size a ≤ S1x32x128x512.size a := fun i v1 k0_hw1 k0_t4 k0_h5 r₁ r₂ => k0_hw1.2.1.2.2.2.2.2.2.2.2.2.2.2.2.2.2.1 k0_t4 k0_h5 r₁ r₂
theorem k0_off42_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off42 i v1 k0_t4 (BitVec.ofNat 32 (4 * r₁.val)) (BitVec.ofNat 32 r₂.val)) a + S1x1x1x128.size a ≤ S1x32x4x128.size a := fun i v1 k0_hw1 k0_t4 k0_h5 r₁ r₂ => k0_hw1.2.1.2.2.2.2.2.2.2.2.2.2.2.2.2.2.2.1 k0_t4 k0_h5 r₁ r₂
theorem k0_off43_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off43 i v1 k0_t4 (BitVec.ofNat 32 (4 * r₁.val)) (BitVec.ofNat 32 r₂.val)) a + S1x1x64x128.size a ≤ S1x32x64x128.size a := fun i v1 k0_hw1 k0_t4 k0_h5 r₁ r₂ => k0_hw1.2.1.2.2.2.2.2.2.2.2.2.2.2.2.2.2.2.2.1 k0_t4 k0_h5 r₁ r₂
theorem k0_off44_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off44 i v1 k0_t4 (BitVec.ofNat 32 (4 * r₁.val)) (BitVec.ofNat 32 r₂.val)) a + S1x1x128x512.size a ≤ S1x32x128x512.size a := fun i v1 k0_hw1 k0_t4 k0_h5 r₁ r₂ => k0_hw1.2.1.2.2.2.2.2.2.2.2.2.2.2.2.2.2.2.2.2.1 k0_t4 k0_h5 r₁ r₂
theorem k0_off44_packedbf16 : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), (Rect.unit (s := S1x32x128x512) (k0_off44 i v1 k0_t4 (BitVec.ofNat 32 (4 * r₁.val)) (BitVec.ofNat 32 r₂.val)) S1x1x128x512.size (k0_off44_inb i v1 k0_hw1 k0_t4 k0_h5 r₁ r₂)).PackedRows (EltTy.packing .bf16) := fun i v1 k0_hw1 k0_t4 k0_h5 r₁ r₂ => k0_hw1.2.1.2.2.2.2.2.2.2.2.2.2.2.2.2.2.2.2.2.2.1 k0_t4 k0_h5 r₁ r₂ (k0_off44_inb i v1 k0_hw1 k0_t4 k0_h5 r₁ r₂)
theorem k0_off45_inb : ∀ (i : grid0.Coords) (v1 : BitVec 32) (k0_hw1 : k0_chk1 i v1) (k0_t4 : Fin (k0_t4_loop i v1).trips), ∀ (k0_h5 : k0_cond5 i = 1#1), ∀ (r₁ : Fin 4) (r₂ : Fin 4), ∀ a, (k0_off45 i v1 k0_t4 (BitVec.ofNat 32 (4 * r₁.val)) (BitVec.ofNat 32 r₂.val)) a + S1x1x128.size a ≤ S1x32x128.size a := fun i v1 k0_hw1 k0_t4 k0_h5 r₁ r₂ => k0_hw1.2.1.2.2.2.2.2.2.2.2.2.2.2.2.2.2.2.2.2.2.2.1 k0_t4 k0_h5 r₁ r₂
theorem k0_t5_ok : ∀ (i : grid0.Coords) (v1 : BitVec 32) (k0_hw1 : k0_chk1 i v1), ∀ (k0_h6 : k0_cond6 i = 1#1), (k0_t5_loop i v1).OK := fun i v1 k0_hw1 k0_h6 => k0_hw1.2.1.2.2.2.2.2.2.2.2.2.2.2.2.2.2.2.2.2.2.2.2.1 k0_h6
theorem k0_off46_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off46 i v1 k0_t5 (BitVec.ofNat 32 (4 * r₁.val)) (BitVec.ofNat 32 r₂.val)) a + S1x1x128x128.size a ≤ S1x32x128x512.size a := fun i v1 k0_hw1 k0_t5 k0_h6 r₁ r₂ => k0_hw1.2.1.2.2.2.2.2.2.2.2.2.2.2.2.2.2.2.2.2.2.2.2.2.1 k0_t5 k0_h6 r₁ r₂
theorem k0_off47_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off47 i v1 k0_t5 (BitVec.ofNat 32 (4 * r₁.val)) (BitVec.ofNat 32 r₂.val)) a + S1x1x1x128.size a ≤ S1x32x4x128.size a := fun i v1 k0_hw1 k0_t5 k0_h6 r₁ r₂ => k0_hw1.2.1.2.2.2.2.2.2.2.2.2.2.2.2.2.2.2.2.2.2.2.2.2.2.1 k0_t5 k0_h6 r₁ r₂
theorem k0_off48_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off48 i v1 k0_t5 (BitVec.ofNat 32 (4 * r₁.val)) (BitVec.ofNat 32 r₂.val)) a + S1x1x128x128.size a ≤ S1x32x128x512.size a := fun i v1 k0_hw1 k0_t5 k0_h6 r₁ r₂ => k0_hw1.2.1.2.2.2.2.2.2.2.2.2.2.2.2.2.2.2.2.2.2.2.2.2.2.2.1 k0_t5 k0_h6 r₁ r₂
theorem k0_off49_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off49 i v1 k0_t5 (BitVec.ofNat 32 (4 * r₁.val)) (BitVec.ofNat 32 r₂.val)) a + S1x1x1x128.size a ≤ S1x32x4x128.size a := fun i v1 k0_hw1 k0_t5 k0_h6 r₁ r₂ => k0_hw1.2.1.2.2.2.2.2.2.2.2.2.2.2.2.2.2.2.2.2.2.2.2.2.2.2.2.1 k0_t5 k0_h6 r₁ r₂
theorem k0_off50_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off50 i v1 k0_t5 (BitVec.ofNat 32 (4 * r₁.val)) (BitVec.ofNat 32 r₂.val)) a + S1x1x128x128.size a ≤ S1x32x128x512.size a := fun i v1 k0_hw1 k0_t5 k0_h6 r₁ r₂ => k0_hw1.2.1.2.2.2.2.2.2.2.2.2.2.2.2.2.2.2.2.2.2.2.2.2.2.2.2.2.1 k0_t5 k0_h6 r₁ r₂
theorem k0_off51_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off51 i v1 k0_t5 (BitVec.ofNat 32 (4 * r₁.val)) (BitVec.ofNat 32 r₂.val)) a + S1x1x1x128.size a ≤ S1x32x4x128.size a := fun i v1 k0_hw1 k0_t5 k0_h6 r₁ r₂ => k0_hw1.2.1.2.2.2.2.2.2.2.2.2.2.2.2.2.2.2.2.2.2.2.2.2.2.2.2.2.2.1 k0_t5 k0_h6 r₁ r₂
theorem k0_off52_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off52 i v1 k0_t5 (BitVec.ofNat 32 (4 * r₁.val)) (BitVec.ofNat 32 r₂.val)) a + S1x1x128x128.size a ≤ S1x32x128x512.size a := fun i v1 k0_hw1 k0_t5 k0_h6 r₁ r₂ => k0_hw1.2.1.2.2.2.2.2.2.2.2.2.2.2.2.2.2.2.2.2.2.2.2.2.2.2.2.2.2.2.1 k0_t5 k0_h6 r₁ r₂
theorem k0_off53_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off53 i v1 k0_t5 (BitVec.ofNat 32 (4 * r₁.val)) (BitVec.ofNat 32 r₂.val)) a + S1x1x1x128.size a ≤ S1x32x4x128.size a := fun i v1 k0_hw1 k0_t5 k0_h6 r₁ r₂ => k0_hw1.2.1.2.2.2.2.2.2.2.2.2.2.2.2.2.2.2.2.2.2.2.2.2.2.2.2.2.2.2.2.1 k0_t5 k0_h6 r₁ r₂
theorem k0_off54_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off54 i v1 k0_t5 (BitVec.ofNat 32 (4 * r₁.val)) (BitVec.ofNat 32 r₂.val)) a + S1x1x64x128.size a ≤ S1x32x64x128.size a := fun i v1 k0_hw1 k0_t5 k0_h6 r₁ r₂ => k0_hw1.2.1.2.2.2.2.2.2.2.2.2.2.2.2.2.2.2.2.2.2.2.2.2.2.2.2.2.2.2.2.2.1 k0_t5 k0_h6 r₁ r₂
theorem k0_off55_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off55 i v1 k0_t5 (BitVec.ofNat 32 (4 * r₁.val)) (BitVec.ofNat 32 r₂.val)) a + S1x1x128x512.size a ≤ S1x32x128x512.size a := fun i v1 k0_hw1 k0_t5 k0_h6 r₁ r₂ => k0_hw1.2.1.2.2.2.2.2.2.2.2.2.2.2.2.2.2.2.2.2.2.2.2.2.2.2.2.2.2.2.2.2.2.1 k0_t5 k0_h6 r₁ r₂
theorem k0_off55_packedbf16 : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), (Rect.unit (s := S1x32x128x512) (k0_off55 i v1 k0_t5 (BitVec.ofNat 32 (4 * r₁.val)) (BitVec.ofNat 32 r₂.val)) S1x1x128x512.size (k0_off55_inb i v1 k0_hw1 k0_t5 k0_h6 r₁ r₂)).PackedRows (EltTy.packing .bf16) := fun i v1 k0_hw1 k0_t5 k0_h6 r₁ r₂ => k0_hw1.2.1.2.2.2.2.2.2.2.2.2.2.2.2.2.2.2.2.2.2.2.2.2.2.2.2.2.2.2.2.2.2.2 k0_t5 k0_h6 r₁ r₂ (k0_off55_inb i v1 k0_hw1 k0_t5 k0_h6 r₁ r₂)
theorem k0_off56_inb : ∀ (i : grid0.Coords) (v1 : BitVec 32) (k0_hw1 : k0_chk1 i v1) (k0_t5 : Fin (k0_t5_loop i v1).trips), ∀ (k0_h6 : k0_cond6 i = 1#1), ∀ (r₁ : Fin 4) (r₂ : Fin 4), ∀ a, (k0_off56 i v1 k0_t5 (BitVec.ofNat 32 (4 * r₁.val)) (BitVec.ofNat 32 r₂.val)) a + S1x1x128.size a ≤ S1x32x128.size a := fun i v1 k0_hw1 k0_t5 k0_h6 r₁ r₂ => k0_hw1.2.2.1.1 k0_t5 k0_h6 r₁ r₂
theorem k0_t6_ok : ∀ (i : grid0.Coords) (v1 : BitVec 32) (k0_hw1 : k0_chk1 i v1), ∀ (k0_h6 : k0_cond6 i = 1#1), (k0_t6_loop i v1).OK := fun i v1 k0_hw1 k0_h6 => k0_hw1.2.2.1.2.1 k0_h6
theorem k0_off57_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off57 i v1 k0_t6 (BitVec.ofNat 32 (4 * r₁.val)) (BitVec.ofNat 32 r₂.val)) a + S1x1x128x128.size a ≤ S1x32x128x512.size a := fun i v1 k0_hw1 k0_t6 k0_h6 r₁ r₂ => k0_hw1.2.2.1.2.2.1 k0_t6 k0_h6 r₁ r₂
theorem k0_off58_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off58 i v1 k0_t6 (BitVec.ofNat 32 (4 * r₁.val)) (BitVec.ofNat 32 r₂.val)) a + S1x1x1x128.size a ≤ S1x32x4x128.size a := fun i v1 k0_hw1 k0_t6 k0_h6 r₁ r₂ => k0_hw1.2.2.1.2.2.2.1 k0_t6 k0_h6 r₁ r₂
theorem k0_off59_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off59 i v1 k0_t6 (BitVec.ofNat 32 (4 * r₁.val)) (BitVec.ofNat 32 r₂.val)) a + S1x1x128x128.size a ≤ S1x32x128x512.size a := fun i v1 k0_hw1 k0_t6 k0_h6 r₁ r₂ => k0_hw1.2.2.1.2.2.2.2.1 k0_t6 k0_h6 r₁ r₂
theorem k0_off60_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off60 i v1 k0_t6 (BitVec.ofNat 32 (4 * r₁.val)) (BitVec.ofNat 32 r₂.val)) a + S1x1x1x128.size a ≤ S1x32x4x128.size a := fun i v1 k0_hw1 k0_t6 k0_h6 r₁ r₂ => k0_hw1.2.2.1.2.2.2.2.2.1 k0_t6 k0_h6 r₁ r₂
theorem k0_off61_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off61 i v1 k0_t6 (BitVec.ofNat 32 (4 * r₁.val)) (BitVec.ofNat 32 r₂.val)) a + S1x1x128x128.size a ≤ S1x32x128x512.size a := fun i v1 k0_hw1 k0_t6 k0_h6 r₁ r₂ => k0_hw1.2.2.1.2.2.2.2.2.2.1 k0_t6 k0_h6 r₁ r₂
theorem k0_off62_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off62 i v1 k0_t6 (BitVec.ofNat 32 (4 * r₁.val)) (BitVec.ofNat 32 r₂.val)) a + S1x1x1x128.size a ≤ S1x32x4x128.size a := fun i v1 k0_hw1 k0_t6 k0_h6 r₁ r₂ => k0_hw1.2.2.1.2.2.2.2.2.2.2.1 k0_t6 k0_h6 r₁ r₂
theorem k0_off63_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off63 i v1 k0_t6 (BitVec.ofNat 32 (4 * r₁.val)) (BitVec.ofNat 32 r₂.val)) a + S1x1x128x128.size a ≤ S1x32x128x512.size a := fun i v1 k0_hw1 k0_t6 k0_h6 r₁ r₂ => k0_hw1.2.2.1.2.2.2.2.2.2.2.2.1 k0_t6 k0_h6 r₁ r₂
theorem k0_off64_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off64 i v1 k0_t6 (BitVec.ofNat 32 (4 * r₁.val)) (BitVec.ofNat 32 r₂.val)) a + S1x1x1x128.size a ≤ S1x32x4x128.size a := fun i v1 k0_hw1 k0_t6 k0_h6 r₁ r₂ => k0_hw1.2.2.1.2.2.2.2.2.2.2.2.2.1 k0_t6 k0_h6 r₁ r₂
theorem k0_off65_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off65 i v1 k0_t6 (BitVec.ofNat 32 (4 * r₁.val)) (BitVec.ofNat 32 r₂.val)) a + S1x1x64x128.size a ≤ S1x32x64x128.size a := fun i v1 k0_hw1 k0_t6 k0_h6 r₁ r₂ => k0_hw1.2.2.1.2.2.2.2.2.2.2.2.2.2.1 k0_t6 k0_h6 r₁ r₂
theorem k0_off66_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off66 i v1 k0_t6 (BitVec.ofNat 32 (4 * r₁.val)) (BitVec.ofNat 32 r₂.val)) a + S1x1x128x512.size a ≤ S1x32x128x512.size a := fun i v1 k0_hw1 k0_t6 k0_h6 r₁ r₂ => k0_hw1.2.2.1.2.2.2.2.2.2.2.2.2.2.2.1 k0_t6 k0_h6 r₁ r₂
theorem k0_off66_packedbf16 : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), (Rect.unit (s := S1x32x128x512) (k0_off66 i v1 k0_t6 (BitVec.ofNat 32 (4 * r₁.val)) (BitVec.ofNat 32 r₂.val)) S1x1x128x512.size (k0_off66_inb i v1 k0_hw1 k0_t6 k0_h6 r₁ r₂)).PackedRows (EltTy.packing .bf16) := fun i v1 k0_hw1 k0_t6 k0_h6 r₁ r₂ => k0_hw1.2.2.1.2.2.2.2.2.2.2.2.2.2.2.2.1 k0_t6 k0_h6 r₁ r₂ (k0_off66_inb i v1 k0_hw1 k0_t6 k0_h6 r₁ r₂)
theorem k0_off67_inb : ∀ (i : grid0.Coords) (v1 : BitVec 32) (k0_hw1 : k0_chk1 i v1) (k0_t6 : Fin (k0_t6_loop i v1).trips), ∀ (k0_h6 : k0_cond6 i = 1#1), ∀ (r₁ : Fin 4) (r₂ : Fin 4), ∀ a, (k0_off67 i v1 k0_t6 (BitVec.ofNat 32 (4 * r₁.val)) (BitVec.ofNat 32 r₂.val)) a + S1x1x128.size a ≤ S1x32x128.size a := fun i v1 k0_hw1 k0_t6 k0_h6 r₁ r₂ => k0_hw1.2.2.1.2.2.2.2.2.2.2.2.2.2.2.2.2.1 k0_t6 k0_h6 r₁ r₂
theorem k0_t7_ok : ∀ (i : grid0.Coords) (v1 : BitVec 32) (k0_hw1 : k0_chk1 i v1), ∀ (k0_h7 : k0_cond7 i = 1#1), (k0_t7_loop i v1).OK := fun i v1 k0_hw1 k0_h7 => k0_hw1.2.2.1.2.2.2.2.2.2.2.2.2.2.2.2.2.2.1 k0_h7
theorem k0_off68_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off68 i v1 k0_t7 (BitVec.ofNat 32 (4 * r₁.val)) (BitVec.ofNat 32 r₂.val)) a + S1x1x128x128.size a ≤ S1x32x128x512.size a := fun i v1 k0_hw1 k0_t7 k0_h7 r₁ r₂ => k0_hw1.2.2.1.2.2.2.2.2.2.2.2.2.2.2.2.2.2.2.1 k0_t7 k0_h7 r₁ r₂
theorem k0_off69_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off69 i v1 k0_t7 (BitVec.ofNat 32 (4 * r₁.val)) (BitVec.ofNat 32 r₂.val)) a + S1x1x1x128.size a ≤ S1x32x4x128.size a := fun i v1 k0_hw1 k0_t7 k0_h7 r₁ r₂ => k0_hw1.2.2.1.2.2.2.2.2.2.2.2.2.2.2.2.2.2.2.2.1 k0_t7 k0_h7 r₁ r₂
theorem k0_off70_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off70 i v1 k0_t7 (BitVec.ofNat 32 (4 * r₁.val)) (BitVec.ofNat 32 r₂.val)) a + S1x1x128x128.size a ≤ S1x32x128x512.size a := fun i v1 k0_hw1 k0_t7 k0_h7 r₁ r₂ => k0_hw1.2.2.1.2.2.2.2.2.2.2.2.2.2.2.2.2.2.2.2.2.1 k0_t7 k0_h7 r₁ r₂
theorem k0_off71_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off71 i v1 k0_t7 (BitVec.ofNat 32 (4 * r₁.val)) (BitVec.ofNat 32 r₂.val)) a + S1x1x1x128.size a ≤ S1x32x4x128.size a := fun i v1 k0_hw1 k0_t7 k0_h7 r₁ r₂ => k0_hw1.2.2.1.2.2.2.2.2.2.2.2.2.2.2.2.2.2.2.2.2.2.1 k0_t7 k0_h7 r₁ r₂
theorem k0_off72_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off72 i v1 k0_t7 (BitVec.ofNat 32 (4 * r₁.val)) (BitVec.ofNat 32 r₂.val)) a + S1x1x128x128.size a ≤ S1x32x128x512.size a := fun i v1 k0_hw1 k0_t7 k0_h7 r₁ r₂ => k0_hw1.2.2.1.2.2.2.2.2.2.2.2.2.2.2.2.2.2.2.2.2.2.2.1 k0_t7 k0_h7 r₁ r₂
theorem k0_off73_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off73 i v1 k0_t7 (BitVec.ofNat 32 (4 * r₁.val)) (BitVec.ofNat 32 r₂.val)) a + S1x1x1x128.size a ≤ S1x32x4x128.size a := fun i v1 k0_hw1 k0_t7 k0_h7 r₁ r₂ => k0_hw1.2.2.1.2.2.2.2.2.2.2.2.2.2.2.2.2.2.2.2.2.2.2.2.1 k0_t7 k0_h7 r₁ r₂
theorem k0_off74_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off74 i v1 k0_t7 (BitVec.ofNat 32 (4 * r₁.val)) (BitVec.ofNat 32 r₂.val)) a + S1x1x128x128.size a ≤ S1x32x128x512.size a := fun i v1 k0_hw1 k0_t7 k0_h7 r₁ r₂ => k0_hw1.2.2.1.2.2.2.2.2.2.2.2.2.2.2.2.2.2.2.2.2.2.2.2.2.1 k0_t7 k0_h7 r₁ r₂
theorem k0_off75_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off75 i v1 k0_t7 (BitVec.ofNat 32 (4 * r₁.val)) (BitVec.ofNat 32 r₂.val)) a + S1x1x1x128.size a ≤ S1x32x4x128.size a := fun i v1 k0_hw1 k0_t7 k0_h7 r₁ r₂ => k0_hw1.2.2.1.2.2.2.2.2.2.2.2.2.2.2.2.2.2.2.2.2.2.2.2.2.2.1 k0_t7 k0_h7 r₁ r₂
theorem k0_off76_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off76 i v1 k0_t7 (BitVec.ofNat 32 (4 * r₁.val)) (BitVec.ofNat 32 r₂.val)) a + S1x1x64x128.size a ≤ S1x32x64x128.size a := fun i v1 k0_hw1 k0_t7 k0_h7 r₁ r₂ => k0_hw1.2.2.1.2.2.2.2.2.2.2.2.2.2.2.2.2.2.2.2.2.2.2.2.2.2.2.1 k0_t7 k0_h7 r₁ r₂
theorem k0_off77_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off77 i v1 k0_t7 (BitVec.ofNat 32 (4 * r₁.val)) (BitVec.ofNat 32 r₂.val)) a + S1x1x128x512.size a ≤ S1x32x128x512.size a := fun i v1 k0_hw1 k0_t7 k0_h7 r₁ r₂ => k0_hw1.2.2.1.2.2.2.2.2.2.2.2.2.2.2.2.2.2.2.2.2.2.2.2.2.2.2.2.1 k0_t7 k0_h7 r₁ r₂
theorem k0_off77_packedbf16 : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), (Rect.unit (s := S1x32x128x512) (k0_off77 i v1 k0_t7 (BitVec.ofNat 32 (4 * r₁.val)) (BitVec.ofNat 32 r₂.val)) S1x1x128x512.size (k0_off77_inb i v1 k0_hw1 k0_t7 k0_h7 r₁ r₂)).PackedRows (EltTy.packing .bf16) := fun i v1 k0_hw1 k0_t7 k0_h7 r₁ r₂ => k0_hw1.2.2.1.2.2.2.2.2.2.2.2.2.2.2.2.2.2.2.2.2.2.2.2.2.2.2.2.2.1 k0_t7 k0_h7 r₁ r₂ (k0_off77_inb i v1 k0_hw1 k0_t7 k0_h7 r₁ r₂)
theorem k0_off78_inb : ∀ (i : grid0.Coords) (v1 : BitVec 32) (k0_hw1 : k0_chk1 i v1) (k0_t7 : Fin (k0_t7_loop i v1).trips), ∀ (k0_h7 : k0_cond7 i = 1#1), ∀ (r₁ : Fin 4) (r₂ : Fin 4), ∀ a, (k0_off78 i v1 k0_t7 (BitVec.ofNat 32 (4 * r₁.val)) (BitVec.ofNat 32 r₂.val)) a + S1x1x128.size a ≤ S1x32x128.size a := fun i v1 k0_hw1 k0_t7 k0_h7 r₁ r₂ => k0_hw1.2.2.1.2.2.2.2.2.2.2.2.2.2.2.2.2.2.2.2.2.2.2.2.2.2.2.2.2.2.1 k0_t7 k0_h7 r₁ r₂
theorem k0_t8_ok : ∀ (i : grid0.Coords) (v1 : BitVec 32) (k0_hw1 : k0_chk1 i v1), ∀ (k0_h7 : k0_cond7 i = 1#1), (k0_t8_loop i v1).OK := fun i v1 k0_hw1 k0_h7 => k0_hw1.2.2.1.2.2.2.2.2.2.2.2.2.2.2.2.2.2.2.2.2.2.2.2.2.2.2.2.2.2.2.1 k0_h7
theorem k0_off79_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off79 i v1 k0_t8 (BitVec.ofNat 32 (4 * r₁.val)) (BitVec.ofNat 32 r₂.val)) a + S1x1x128x128.size a ≤ S1x32x128x512.size a := fun i v1 k0_hw1 k0_t8 k0_h7 r₁ r₂ => k0_hw1.2.2.1.2.2.2.2.2.2.2.2.2.2.2.2.2.2.2.2.2.2.2.2.2.2.2.2.2.2.2.2.1 k0_t8 k0_h7 r₁ r₂
theorem k0_off80_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off80 i v1 k0_t8 (BitVec.ofNat 32 (4 * r₁.val)) (BitVec.ofNat 32 r₂.val)) a + S1x1x1x128.size a ≤ S1x32x4x128.size a := fun i v1 k0_hw1 k0_t8 k0_h7 r₁ r₂ => k0_hw1.2.2.1.2.2.2.2.2.2.2.2.2.2.2.2.2.2.2.2.2.2.2.2.2.2.2.2.2.2.2.2.2.1 k0_t8 k0_h7 r₁ r₂
theorem k0_off81_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off81 i v1 k0_t8 (BitVec.ofNat 32 (4 * r₁.val)) (BitVec.ofNat 32 r₂.val)) a + S1x1x128x128.size a ≤ S1x32x128x512.size a := fun i v1 k0_hw1 k0_t8 k0_h7 r₁ r₂ => k0_hw1.2.2.1.2.2.2.2.2.2.2.2.2.2.2.2.2.2.2.2.2.2.2.2.2.2.2.2.2.2.2.2.2.2.1 k0_t8 k0_h7 r₁ r₂
theorem k0_off82_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off82 i v1 k0_t8 (BitVec.ofNat 32 (4 * r₁.val)) (BitVec.ofNat 32 r₂.val)) a + S1x1x1x128.size a ≤ S1x32x4x128.size a := fun i v1 k0_hw1 k0_t8 k0_h7 r₁ r₂ => k0_hw1.2.2.1.2.2.2.2.2.2.2.2.2.2.2.2.2.2.2.2.2.2.2.2.2.2.2.2.2.2.2.2.2.2.2 k0_t8 k0_h7 r₁ r₂
theorem k0_off83_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off83 i v1 k0_t8 (BitVec.ofNat 32 (4 * r₁.val)) (BitVec.ofNat 32 r₂.val)) a + S1x1x128x128.size a ≤ S1x32x128x512.size a := fun i v1 k0_hw1 k0_t8 k0_h7 r₁ r₂ => k0_hw1.2.2.2.1.1 k0_t8 k0_h7 r₁ r₂
theorem k0_off84_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off84 i v1 k0_t8 (BitVec.ofNat 32 (4 * r₁.val)) (BitVec.ofNat 32 r₂.val)) a + S1x1x1x128.size a ≤ S1x32x4x128.size a := fun i v1 k0_hw1 k0_t8 k0_h7 r₁ r₂ => k0_hw1.2.2.2.1.2.1 k0_t8 k0_h7 r₁ r₂
theorem k0_off85_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off85 i v1 k0_t8 (BitVec.ofNat 32 (4 * r₁.val)) (BitVec.ofNat 32 r₂.val)) a + S1x1x128x128.size a ≤ S1x32x128x512.size a := fun i v1 k0_hw1 k0_t8 k0_h7 r₁ r₂ => k0_hw1.2.2.2.1.2.2.1 k0_t8 k0_h7 r₁ r₂
theorem k0_off86_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off86 i v1 k0_t8 (BitVec.ofNat 32 (4 * r₁.val)) (BitVec.ofNat 32 r₂.val)) a + S1x1x1x128.size a ≤ S1x32x4x128.size a := fun i v1 k0_hw1 k0_t8 k0_h7 r₁ r₂ => k0_hw1.2.2.2.1.2.2.2.1 k0_t8 k0_h7 r₁ r₂
theorem k0_off87_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off87 i v1 k0_t8 (BitVec.ofNat 32 (4 * r₁.val)) (BitVec.ofNat 32 r₂.val)) a + S1x1x64x128.size a ≤ S1x32x64x128.size a := fun i v1 k0_hw1 k0_t8 k0_h7 r₁ r₂ => k0_hw1.2.2.2.1.2.2.2.2.1 k0_t8 k0_h7 r₁ r₂
theorem k0_off88_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off88 i v1 k0_t8 (BitVec.ofNat 32 (4 * r₁.val)) (BitVec.ofNat 32 r₂.val)) a + S1x1x128x512.size a ≤ S1x32x128x512.size a := fun i v1 k0_hw1 k0_t8 k0_h7 r₁ r₂ => k0_hw1.2.2.2.1.2.2.2.2.2.1 k0_t8 k0_h7 r₁ r₂
theorem k0_off88_packedbf16 : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), (Rect.unit (s := S1x32x128x512) (k0_off88 i v1 k0_t8 (BitVec.ofNat 32 (4 * r₁.val)) (BitVec.ofNat 32 r₂.val)) S1x1x128x512.size (k0_off88_inb i v1 k0_hw1 k0_t8 k0_h7 r₁ r₂)).PackedRows (EltTy.packing .bf16) := fun i v1 k0_hw1 k0_t8 k0_h7 r₁ r₂ => k0_hw1.2.2.2.1.2.2.2.2.2.2.1 k0_t8 k0_h7 r₁ r₂ (k0_off88_inb i v1 k0_hw1 k0_t8 k0_h7 r₁ r₂)
theorem k0_off89_inb : ∀ (i : grid0.Coords) (v1 : BitVec 32) (k0_hw1 : k0_chk1 i v1) (k0_t8 : Fin (k0_t8_loop i v1).trips), ∀ (k0_h7 : k0_cond7 i = 1#1), ∀ (r₁ : Fin 4) (r₂ : Fin 4), ∀ a, (k0_off89 i v1 k0_t8 (BitVec.ofNat 32 (4 * r₁.val)) (BitVec.ofNat 32 r₂.val)) a + S1x1x128.size a ≤ S1x32x128.size a := fun i v1 k0_hw1 k0_t8 k0_h7 r₁ r₂ => k0_hw1.2.2.2.1.2.2.2.2.2.2.2.1 k0_t8 k0_h7 r₁ r₂
theorem k0_t9_ok : ∀ (i : grid0.Coords) (v1 : BitVec 32) (k0_hw1 : k0_chk1 i v1), ∀ (k0_h8 : k0_cond8 i = 1#1), (k0_t9_loop i v1).OK := fun i v1 k0_hw1 k0_h8 => k0_hw1.2.2.2.1.2.2.2.2.2.2.2.2.1 k0_h8
theorem k0_off90_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off90 i v1 k0_t9 (BitVec.ofNat 32 (4 * r₁.val)) (BitVec.ofNat 32 r₂.val)) a + S1x1x128x128.size a ≤ S1x32x128x512.size a := fun i v1 k0_hw1 k0_t9 k0_h8 r₁ r₂ => k0_hw1.2.2.2.1.2.2.2.2.2.2.2.2.2.1 k0_t9 k0_h8 r₁ r₂
theorem k0_off91_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off91 i v1 k0_t9 (BitVec.ofNat 32 (4 * r₁.val)) (BitVec.ofNat 32 r₂.val)) a + S1x1x1x128.size a ≤ S1x32x4x128.size a := fun i v1 k0_hw1 k0_t9 k0_h8 r₁ r₂ => k0_hw1.2.2.2.1.2.2.2.2.2.2.2.2.2.2.1 k0_t9 k0_h8 r₁ r₂
theorem k0_off92_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off92 i v1 k0_t9 (BitVec.ofNat 32 (4 * r₁.val)) (BitVec.ofNat 32 r₂.val)) a + S1x1x128x128.size a ≤ S1x32x128x512.size a := fun i v1 k0_hw1 k0_t9 k0_h8 r₁ r₂ => k0_hw1.2.2.2.1.2.2.2.2.2.2.2.2.2.2.2.1 k0_t9 k0_h8 r₁ r₂
theorem k0_off93_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off93 i v1 k0_t9 (BitVec.ofNat 32 (4 * r₁.val)) (BitVec.ofNat 32 r₂.val)) a + S1x1x1x128.size a ≤ S1x32x4x128.size a := fun i v1 k0_hw1 k0_t9 k0_h8 r₁ r₂ => k0_hw1.2.2.2.1.2.2.2.2.2.2.2.2.2.2.2.2.1 k0_t9 k0_h8 r₁ r₂
theorem k0_off94_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off94 i v1 k0_t9 (BitVec.ofNat 32 (4 * r₁.val)) (BitVec.ofNat 32 r₂.val)) a + S1x1x128x128.size a ≤ S1x32x128x512.size a := fun i v1 k0_hw1 k0_t9 k0_h8 r₁ r₂ => k0_hw1.2.2.2.1.2.2.2.2.2.2.2.2.2.2.2.2.2.1 k0_t9 k0_h8 r₁ r₂
theorem k0_off95_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off95 i v1 k0_t9 (BitVec.ofNat 32 (4 * r₁.val)) (BitVec.ofNat 32 r₂.val)) a + S1x1x1x128.size a ≤ S1x32x4x128.size a := fun i v1 k0_hw1 k0_t9 k0_h8 r₁ r₂ => k0_hw1.2.2.2.1.2.2.2.2.2.2.2.2.2.2.2.2.2.2.1 k0_t9 k0_h8 r₁ r₂
theorem k0_off96_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off96 i v1 k0_t9 (BitVec.ofNat 32 (4 * r₁.val)) (BitVec.ofNat 32 r₂.val)) a + S1x1x128x128.size a ≤ S1x32x128x512.size a := fun i v1 k0_hw1 k0_t9 k0_h8 r₁ r₂ => k0_hw1.2.2.2.1.2.2.2.2.2.2.2.2.2.2.2.2.2.2.2.1 k0_t9 k0_h8 r₁ r₂
theorem k0_off97_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off97 i v1 k0_t9 (BitVec.ofNat 32 (4 * r₁.val)) (BitVec.ofNat 32 r₂.val)) a + S1x1x1x128.size a ≤ S1x32x4x128.size a := fun i v1 k0_hw1 k0_t9 k0_h8 r₁ r₂ => k0_hw1.2.2.2.1.2.2.2.2.2.2.2.2.2.2.2.2.2.2.2.2.1 k0_t9 k0_h8 r₁ r₂
theorem k0_off98_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off98 i v1 k0_t9 (BitVec.ofNat 32 (4 * r₁.val)) (BitVec.ofNat 32 r₂.val)) a + S1x1x64x128.size a ≤ S1x32x64x128.size a := fun i v1 k0_hw1 k0_t9 k0_h8 r₁ r₂ => k0_hw1.2.2.2.1.2.2.2.2.2.2.2.2.2.2.2.2.2.2.2.2.2.1 k0_t9 k0_h8 r₁ r₂
theorem k0_off99_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off99 i v1 k0_t9 (BitVec.ofNat 32 (4 * r₁.val)) (BitVec.ofNat 32 r₂.val)) a + S1x1x128x512.size a ≤ S1x32x128x512.size a := fun i v1 k0_hw1 k0_t9 k0_h8 r₁ r₂ => k0_hw1.2.2.2.1.2.2.2.2.2.2.2.2.2.2.2.2.2.2.2.2.2.2.1 k0_t9 k0_h8 r₁ r₂
theorem k0_off99_packedbf16 : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), (Rect.unit (s := S1x32x128x512) (k0_off99 i v1 k0_t9 (BitVec.ofNat 32 (4 * r₁.val)) (BitVec.ofNat 32 r₂.val)) S1x1x128x512.size (k0_off99_inb i v1 k0_hw1 k0_t9 k0_h8 r₁ r₂)).PackedRows (EltTy.packing .bf16) := fun i v1 k0_hw1 k0_t9 k0_h8 r₁ r₂ => k0_hw1.2.2.2.1.2.2.2.2.2.2.2.2.2.2.2.2.2.2.2.2.2.2.2.1 k0_t9 k0_h8 r₁ r₂ (k0_off99_inb i v1 k0_hw1 k0_t9 k0_h8 r₁ r₂)
theorem k0_off100_inb : ∀ (i : grid0.Coords) (v1 : BitVec 32) (k0_hw1 : k0_chk1 i v1) (k0_t9 : Fin (k0_t9_loop i v1).trips), ∀ (k0_h8 : k0_cond8 i = 1#1), ∀ (r₁ : Fin 4) (r₂ : Fin 4), ∀ a, (k0_off100 i v1 k0_t9 (BitVec.ofNat 32 (4 * r₁.val)) (BitVec.ofNat 32 r₂.val)) a + S1x1x128.size a ≤ S1x32x128.size a := fun i v1 k0_hw1 k0_t9 k0_h8 r₁ r₂ => k0_hw1.2.2.2.1.2.2.2.2.2.2.2.2.2.2.2.2.2.2.2.2.2.2.2.2.1 k0_t9 k0_h8 r₁ r₂
theorem k0_t10_ok : ∀ (i : grid0.Coords) (v1 : BitVec 32) (k0_hw1 : k0_chk1 i v1), ∀ (k0_h8 : k0_cond8 i = 1#1), (k0_t10_loop i v1).OK := fun i v1 k0_hw1 k0_h8 => k0_hw1.2.2.2.1.2.2.2.2.2.2.2.2.2.2.2.2.2.2.2.2.2.2.2.2.2.1 k0_h8
theorem k0_off101_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off101 i v1 k0_t10 (BitVec.ofNat 32 (4 * r₁.val)) (BitVec.ofNat 32 r₂.val)) a + S1x1x128x128.size a ≤ S1x32x128x512.size a := fun i v1 k0_hw1 k0_t10 k0_h8 r₁ r₂ => k0_hw1.2.2.2.1.2.2.2.2.2.2.2.2.2.2.2.2.2.2.2.2.2.2.2.2.2.2.1 k0_t10 k0_h8 r₁ r₂
theorem k0_off102_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off102 i v1 k0_t10 (BitVec.ofNat 32 (4 * r₁.val)) (BitVec.ofNat 32 r₂.val)) a + S1x1x1x128.size a ≤ S1x32x4x128.size a := fun i v1 k0_hw1 k0_t10 k0_h8 r₁ r₂ => k0_hw1.2.2.2.1.2.2.2.2.2.2.2.2.2.2.2.2.2.2.2.2.2.2.2.2.2.2.2.1 k0_t10 k0_h8 r₁ r₂
theorem k0_off103_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off103 i v1 k0_t10 (BitVec.ofNat 32 (4 * r₁.val)) (BitVec.ofNat 32 r₂.val)) a + S1x1x128x128.size a ≤ S1x32x128x512.size a := fun i v1 k0_hw1 k0_t10 k0_h8 r₁ r₂ => k0_hw1.2.2.2.1.2.2.2.2.2.2.2.2.2.2.2.2.2.2.2.2.2.2.2.2.2.2.2.2.1 k0_t10 k0_h8 r₁ r₂
theorem k0_off104_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off104 i v1 k0_t10 (BitVec.ofNat 32 (4 * r₁.val)) (BitVec.ofNat 32 r₂.val)) a + S1x1x1x128.size a ≤ S1x32x4x128.size a := fun i v1 k0_hw1 k0_t10 k0_h8 r₁ r₂ => k0_hw1.2.2.2.1.2.2.2.2.2.2.2.2.2.2.2.2.2.2.2.2.2.2.2.2.2.2.2.2.2.1 k0_t10 k0_h8 r₁ r₂
theorem k0_off105_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off105 i v1 k0_t10 (BitVec.ofNat 32 (4 * r₁.val)) (BitVec.ofNat 32 r₂.val)) a + S1x1x128x128.size a ≤ S1x32x128x512.size a := fun i v1 k0_hw1 k0_t10 k0_h8 r₁ r₂ => k0_hw1.2.2.2.1.2.2.2.2.2.2.2.2.2.2.2.2.2.2.2.2.2.2.2.2.2.2.2.2.2.2.1 k0_t10 k0_h8 r₁ r₂
theorem k0_off106_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off106 i v1 k0_t10 (BitVec.ofNat 32 (4 * r₁.val)) (BitVec.ofNat 32 r₂.val)) a + S1x1x1x128.size a ≤ S1x32x4x128.size a := fun i v1 k0_hw1 k0_t10 k0_h8 r₁ r₂ => k0_hw1.2.2.2.1.2.2.2.2.2.2.2.2.2.2.2.2.2.2.2.2.2.2.2.2.2.2.2.2.2.2.2.1 k0_t10 k0_h8 r₁ r₂
theorem k0_off107_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off107 i v1 k0_t10 (BitVec.ofNat 32 (4 * r₁.val)) (BitVec.ofNat 32 r₂.val)) a + S1x1x128x128.size a ≤ S1x32x128x512.size a := fun i v1 k0_hw1 k0_t10 k0_h8 r₁ r₂ => k0_hw1.2.2.2.1.2.2.2.2.2.2.2.2.2.2.2.2.2.2.2.2.2.2.2.2.2.2.2.2.2.2.2.2.1 k0_t10 k0_h8 r₁ r₂
theorem k0_off108_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off108 i v1 k0_t10 (BitVec.ofNat 32 (4 * r₁.val)) (BitVec.ofNat 32 r₂.val)) a + S1x1x1x128.size a ≤ S1x32x4x128.size a := fun i v1 k0_hw1 k0_t10 k0_h8 r₁ r₂ => k0_hw1.2.2.2.1.2.2.2.2.2.2.2.2.2.2.2.2.2.2.2.2.2.2.2.2.2.2.2.2.2.2.2.2.2.1 k0_t10 k0_h8 r₁ r₂
theorem k0_off109_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off109 i v1 k0_t10 (BitVec.ofNat 32 (4 * r₁.val)) (BitVec.ofNat 32 r₂.val)) a + S1x1x64x128.size a ≤ S1x32x64x128.size a := fun i v1 k0_hw1 k0_t10 k0_h8 r₁ r₂ => k0_hw1.2.2.2.1.2.2.2.2.2.2.2.2.2.2.2.2.2.2.2.2.2.2.2.2.2.2.2.2.2.2.2.2.2.2.1 k0_t10 k0_h8 r₁ r₂
theorem k0_off110_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off110 i v1 k0_t10 (BitVec.ofNat 32 (4 * r₁.val)) (BitVec.ofNat 32 r₂.val)) a + S1x1x128x512.size a ≤ S1x32x128x512.size a := fun i v1 k0_hw1 k0_t10 k0_h8 r₁ r₂ => k0_hw1.2.2.2.1.2.2.2.2.2.2.2.2.2.2.2.2.2.2.2.2.2.2.2.2.2.2.2.2.2.2.2.2.2.2.2 k0_t10 k0_h8 r₁ r₂
theorem k0_off110_packedbf16 : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), (Rect.unit (s := S1x32x128x512) (k0_off110 i v1 k0_t10 (BitVec.ofNat 32 (4 * r₁.val)) (BitVec.ofNat 32 r₂.val)) S1x1x128x512.size (k0_off110_inb i v1 k0_hw1 k0_t10 k0_h8 r₁ r₂)).PackedRows (EltTy.packing .bf16) := fun i v1 k0_hw1 k0_t10 k0_h8 r₁ r₂ => k0_hw1.2.2.2.2.1.1 k0_t10 k0_h8 r₁ r₂ (k0_off110_inb i v1 k0_hw1 k0_t10 k0_h8 r₁ r₂)
theorem k0_off111_inb : ∀ (i : grid0.Coords) (v1 : BitVec 32) (k0_hw1 : k0_chk1 i v1) (k0_t10 : Fin (k0_t10_loop i v1).trips), ∀ (k0_h8 : k0_cond8 i = 1#1), ∀ (r₁ : Fin 4) (r₂ : Fin 4), ∀ a, (k0_off111 i v1 k0_t10 (BitVec.ofNat 32 (4 * r₁.val)) (BitVec.ofNat 32 r₂.val)) a + S1x1x128.size a ≤ S1x32x128.size a := fun i v1 k0_hw1 k0_t10 k0_h8 r₁ r₂ => k0_hw1.2.2.2.2.1.2.1 k0_t10 k0_h8 r₁ r₂
theorem k0_t11_ok : ∀ (i : grid0.Coords) (v1 : BitVec 32) (k0_hw1 : k0_chk1 i v1), ∀ (k0_h9 : k0_cond9 i = 1#1), (k0_t11_loop i v1).OK := fun i v1 k0_hw1 k0_h9 => k0_hw1.2.2.2.2.1.2.2.1 k0_h9
theorem k0_off112_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off112 i v1 k0_t11 (BitVec.ofNat 32 (4 * r₁.val)) (BitVec.ofNat 32 r₂.val)) a + S1x1x128x128.size a ≤ S1x32x128x512.size a := fun i v1 k0_hw1 k0_t11 k0_h9 r₁ r₂ => k0_hw1.2.2.2.2.1.2.2.2.1 k0_t11 k0_h9 r₁ r₂
theorem k0_off113_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off113 i v1 k0_t11 (BitVec.ofNat 32 (4 * r₁.val)) (BitVec.ofNat 32 r₂.val)) a + S1x1x1x128.size a ≤ S1x32x4x128.size a := fun i v1 k0_hw1 k0_t11 k0_h9 r₁ r₂ => k0_hw1.2.2.2.2.1.2.2.2.2.1 k0_t11 k0_h9 r₁ r₂
theorem k0_off114_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off114 i v1 k0_t11 (BitVec.ofNat 32 (4 * r₁.val)) (BitVec.ofNat 32 r₂.val)) a + S1x1x128x128.size a ≤ S1x32x128x512.size a := fun i v1 k0_hw1 k0_t11 k0_h9 r₁ r₂ => k0_hw1.2.2.2.2.1.2.2.2.2.2.1 k0_t11 k0_h9 r₁ r₂
theorem k0_off115_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off115 i v1 k0_t11 (BitVec.ofNat 32 (4 * r₁.val)) (BitVec.ofNat 32 r₂.val)) a + S1x1x1x128.size a ≤ S1x32x4x128.size a := fun i v1 k0_hw1 k0_t11 k0_h9 r₁ r₂ => k0_hw1.2.2.2.2.1.2.2.2.2.2.2.1 k0_t11 k0_h9 r₁ r₂
theorem k0_off116_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off116 i v1 k0_t11 (BitVec.ofNat 32 (4 * r₁.val)) (BitVec.ofNat 32 r₂.val)) a + S1x1x128x128.size a ≤ S1x32x128x512.size a := fun i v1 k0_hw1 k0_t11 k0_h9 r₁ r₂ => k0_hw1.2.2.2.2.1.2.2.2.2.2.2.2.1 k0_t11 k0_h9 r₁ r₂
theorem k0_off117_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off117 i v1 k0_t11 (BitVec.ofNat 32 (4 * r₁.val)) (BitVec.ofNat 32 r₂.val)) a + S1x1x1x128.size a ≤ S1x32x4x128.size a := fun i v1 k0_hw1 k0_t11 k0_h9 r₁ r₂ => k0_hw1.2.2.2.2.1.2.2.2.2.2.2.2.2.1 k0_t11 k0_h9 r₁ r₂
theorem k0_off118_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off118 i v1 k0_t11 (BitVec.ofNat 32 (4 * r₁.val)) (BitVec.ofNat 32 r₂.val)) a + S1x1x128x128.size a ≤ S1x32x128x512.size a := fun i v1 k0_hw1 k0_t11 k0_h9 r₁ r₂ => k0_hw1.2.2.2.2.1.2.2.2.2.2.2.2.2.2.1 k0_t11 k0_h9 r₁ r₂
theorem k0_off119_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off119 i v1 k0_t11 (BitVec.ofNat 32 (4 * r₁.val)) (BitVec.ofNat 32 r₂.val)) a + S1x1x1x128.size a ≤ S1x32x4x128.size a := fun i v1 k0_hw1 k0_t11 k0_h9 r₁ r₂ => k0_hw1.2.2.2.2.1.2.2.2.2.2.2.2.2.2.2.1 k0_t11 k0_h9 r₁ r₂
theorem k0_off120_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off120 i v1 k0_t11 (BitVec.ofNat 32 (4 * r₁.val)) (BitVec.ofNat 32 r₂.val)) a + S1x1x64x128.size a ≤ S1x32x64x128.size a := fun i v1 k0_hw1 k0_t11 k0_h9 r₁ r₂ => k0_hw1.2.2.2.2.1.2.2.2.2.2.2.2.2.2.2.2.1 k0_t11 k0_h9 r₁ r₂
theorem k0_off121_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off121 i v1 k0_t11 (BitVec.ofNat 32 (4 * r₁.val)) (BitVec.ofNat 32 r₂.val)) a + S1x1x128x512.size a ≤ S1x32x128x512.size a := fun i v1 k0_hw1 k0_t11 k0_h9 r₁ r₂ => k0_hw1.2.2.2.2.1.2.2.2.2.2.2.2.2.2.2.2.2.1 k0_t11 k0_h9 r₁ r₂
theorem k0_off121_packedbf16 : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), (Rect.unit (s := S1x32x128x512) (k0_off121 i v1 k0_t11 (BitVec.ofNat 32 (4 * r₁.val)) (BitVec.ofNat 32 r₂.val)) S1x1x128x512.size (k0_off121_inb i v1 k0_hw1 k0_t11 k0_h9 r₁ r₂)).PackedRows (EltTy.packing .bf16) := fun i v1 k0_hw1 k0_t11 k0_h9 r₁ r₂ => k0_hw1.2.2.2.2.1.2.2.2.2.2.2.2.2.2.2.2.2.2.1 k0_t11 k0_h9 r₁ r₂ (k0_off121_inb i v1 k0_hw1 k0_t11 k0_h9 r₁ r₂)
theorem k0_off122_inb : ∀ (i : grid0.Coords) (v1 : BitVec 32) (k0_hw1 : k0_chk1 i v1) (k0_t11 : Fin (k0_t11_loop i v1).trips), ∀ (k0_h9 : k0_cond9 i = 1#1), ∀ (r₁ : Fin 4) (r₂ : Fin 4), ∀ a, (k0_off122 i v1 k0_t11 (BitVec.ofNat 32 (4 * r₁.val)) (BitVec.ofNat 32 r₂.val)) a + S1x1x128.size a ≤ S1x32x128.size a := fun i v1 k0_hw1 k0_t11 k0_h9 r₁ r₂ => k0_hw1.2.2.2.2.1.2.2.2.2.2.2.2.2.2.2.2.2.2.2.1 k0_t11 k0_h9 r₁ r₂
theorem k0_t12_ok : ∀ (i : grid0.Coords) (v1 : BitVec 32) (k0_hw1 : k0_chk1 i v1), ∀ (k0_h9 : k0_cond9 i = 1#1), (k0_t12_loop i v1).OK := fun i v1 k0_hw1 k0_h9 => k0_hw1.2.2.2.2.1.2.2.2.2.2.2.2.2.2.2.2.2.2.2.2.1 k0_h9
theorem k0_off123_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off123 i v1 k0_t12 (BitVec.ofNat 32 (4 * r₁.val)) (BitVec.ofNat 32 r₂.val)) a + S1x1x128x128.size a ≤ S1x32x128x512.size a := fun i v1 k0_hw1 k0_t12 k0_h9 r₁ r₂ => k0_hw1.2.2.2.2.1.2.2.2.2.2.2.2.2.2.2.2.2.2.2.2.2.1 k0_t12 k0_h9 r₁ r₂
theorem k0_off124_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off124 i v1 k0_t12 (BitVec.ofNat 32 (4 * r₁.val)) (BitVec.ofNat 32 r₂.val)) a + S1x1x1x128.size a ≤ S1x32x4x128.size a := fun i v1 k0_hw1 k0_t12 k0_h9 r₁ r₂ => k0_hw1.2.2.2.2.1.2.2.2.2.2.2.2.2.2.2.2.2.2.2.2.2.2.1 k0_t12 k0_h9 r₁ r₂
theorem k0_off125_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off125 i v1 k0_t12 (BitVec.ofNat 32 (4 * r₁.val)) (BitVec.ofNat 32 r₂.val)) a + S1x1x128x128.size a ≤ S1x32x128x512.size a := fun i v1 k0_hw1 k0_t12 k0_h9 r₁ r₂ => k0_hw1.2.2.2.2.1.2.2.2.2.2.2.2.2.2.2.2.2.2.2.2.2.2.2.1 k0_t12 k0_h9 r₁ r₂
theorem k0_off126_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off126 i v1 k0_t12 (BitVec.ofNat 32 (4 * r₁.val)) (BitVec.ofNat 32 r₂.val)) a + S1x1x1x128.size a ≤ S1x32x4x128.size a := fun i v1 k0_hw1 k0_t12 k0_h9 r₁ r₂ => k0_hw1.2.2.2.2.1.2.2.2.2.2.2.2.2.2.2.2.2.2.2.2.2.2.2.2.1 k0_t12 k0_h9 r₁ r₂
theorem k0_off127_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off127 i v1 k0_t12 (BitVec.ofNat 32 (4 * r₁.val)) (BitVec.ofNat 32 r₂.val)) a + S1x1x128x128.size a ≤ S1x32x128x512.size a := fun i v1 k0_hw1 k0_t12 k0_h9 r₁ r₂ => k0_hw1.2.2.2.2.1.2.2.2.2.2.2.2.2.2.2.2.2.2.2.2.2.2.2.2.2.1 k0_t12 k0_h9 r₁ r₂
theorem k0_off128_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off128 i v1 k0_t12 (BitVec.ofNat 32 (4 * r₁.val)) (BitVec.ofNat 32 r₂.val)) a + S1x1x1x128.size a ≤ S1x32x4x128.size a := fun i v1 k0_hw1 k0_t12 k0_h9 r₁ r₂ => k0_hw1.2.2.2.2.1.2.2.2.2.2.2.2.2.2.2.2.2.2.2.2.2.2.2.2.2.2.1 k0_t12 k0_h9 r₁ r₂
theorem k0_off129_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off129 i v1 k0_t12 (BitVec.ofNat 32 (4 * r₁.val)) (BitVec.ofNat 32 r₂.val)) a + S1x1x128x128.size a ≤ S1x32x128x512.size a := fun i v1 k0_hw1 k0_t12 k0_h9 r₁ r₂ => k0_hw1.2.2.2.2.1.2.2.2.2.2.2.2.2.2.2.2.2.2.2.2.2.2.2.2.2.2.2.1 k0_t12 k0_h9 r₁ r₂
theorem k0_off130_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off130 i v1 k0_t12 (BitVec.ofNat 32 (4 * r₁.val)) (BitVec.ofNat 32 r₂.val)) a + S1x1x1x128.size a ≤ S1x32x4x128.size a := fun i v1 k0_hw1 k0_t12 k0_h9 r₁ r₂ => k0_hw1.2.2.2.2.1.2.2.2.2.2.2.2.2.2.2.2.2.2.2.2.2.2.2.2.2.2.2.2.1 k0_t12 k0_h9 r₁ r₂
theorem k0_off131_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off131 i v1 k0_t12 (BitVec.ofNat 32 (4 * r₁.val)) (BitVec.ofNat 32 r₂.val)) a + S1x1x64x128.size a ≤ S1x32x64x128.size a := fun i v1 k0_hw1 k0_t12 k0_h9 r₁ r₂ => k0_hw1.2.2.2.2.1.2.2.2.2.2.2.2.2.2.2.2.2.2.2.2.2.2.2.2.2.2.2.2.2.1 k0_t12 k0_h9 r₁ r₂
theorem k0_off132_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off132 i v1 k0_t12 (BitVec.ofNat 32 (4 * r₁.val)) (BitVec.ofNat 32 r₂.val)) a + S1x1x128x512.size a ≤ S1x32x128x512.size a := fun i v1 k0_hw1 k0_t12 k0_h9 r₁ r₂ => k0_hw1.2.2.2.2.1.2.2.2.2.2.2.2.2.2.2.2.2.2.2.2.2.2.2.2.2.2.2.2.2.2.1 k0_t12 k0_h9 r₁ r₂
theorem k0_off132_packedbf16 : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), (Rect.unit (s := S1x32x128x512) (k0_off132 i v1 k0_t12 (BitVec.ofNat 32 (4 * r₁.val)) (BitVec.ofNat 32 r₂.val)) S1x1x128x512.size (k0_off132_inb i v1 k0_hw1 k0_t12 k0_h9 r₁ r₂)).PackedRows (EltTy.packing .bf16) := fun i v1 k0_hw1 k0_t12 k0_h9 r₁ r₂ => k0_hw1.2.2.2.2.1.2.2.2.2.2.2.2.2.2.2.2.2.2.2.2.2.2.2.2.2.2.2.2.2.2.2.1 k0_t12 k0_h9 r₁ r₂ (k0_off132_inb i v1 k0_hw1 k0_t12 k0_h9 r₁ r₂)
theorem k0_off133_inb : ∀ (i : grid0.Coords) (v1 : BitVec 32) (k0_hw1 : k0_chk1 i v1) (k0_t12 : Fin (k0_t12_loop i v1).trips), ∀ (k0_h9 : k0_cond9 i = 1#1), ∀ (r₁ : Fin 4) (r₂ : Fin 4), ∀ a, (k0_off133 i v1 k0_t12 (BitVec.ofNat 32 (4 * r₁.val)) (BitVec.ofNat 32 r₂.val)) a + S1x1x128.size a ≤ S1x32x128.size a := fun i v1 k0_hw1 k0_t12 k0_h9 r₁ r₂ => k0_hw1.2.2.2.2.1.2.2.2.2.2.2.2.2.2.2.2.2.2.2.2.2.2.2.2.2.2.2.2.2.2.2.2.1 k0_t12 k0_h9 r₁ r₂
theorem k0_t13_ok : ∀ (i : grid0.Coords) (v1 : BitVec 32) (k0_hw1 : k0_chk1 i v1), ∀ (k0_h10 : k0_cond10 i = 1#1), (k0_t13_loop i v1).OK := fun i v1 k0_hw1 k0_h10 => k0_hw1.2.2.2.2.1.2.2.2.2.2.2.2.2.2.2.2.2.2.2.2.2.2.2.2.2.2.2.2.2.2.2.2.2.1 k0_h10
theorem k0_off134_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off134 i v1 k0_t13 (BitVec.ofNat 32 (4 * r₁.val)) (BitVec.ofNat 32 r₂.val)) a + S1x1x128x128.size a ≤ S1x32x128x512.size a := fun i v1 k0_hw1 k0_t13 k0_h10 r₁ r₂ => k0_hw1.2.2.2.2.1.2.2.2.2.2.2.2.2.2.2.2.2.2.2.2.2.2.2.2.2.2.2.2.2.2.2.2.2.2.1 k0_t13 k0_h10 r₁ r₂
theorem k0_off135_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off135 i v1 k0_t13 (BitVec.ofNat 32 (4 * r₁.val)) (BitVec.ofNat 32 r₂.val)) a + S1x1x1x128.size a ≤ S1x32x4x128.size a := fun i v1 k0_hw1 k0_t13 k0_h10 r₁ r₂ => k0_hw1.2.2.2.2.1.2.2.2.2.2.2.2.2.2.2.2.2.2.2.2.2.2.2.2.2.2.2.2.2.2.2.2.2.2.2.1 k0_t13 k0_h10 r₁ r₂
theorem k0_off136_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off136 i v1 k0_t13 (BitVec.ofNat 32 (4 * r₁.val)) (BitVec.ofNat 32 r₂.val)) a + S1x1x128x128.size a ≤ S1x32x128x512.size a := fun i v1 k0_hw1 k0_t13 k0_h10 r₁ r₂ => k0_hw1.2.2.2.2.1.2.2.2.2.2.2.2.2.2.2.2.2.2.2.2.2.2.2.2.2.2.2.2.2.2.2.2.2.2.2.2 k0_t13 k0_h10 r₁ r₂
theorem k0_off137_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off137 i v1 k0_t13 (BitVec.ofNat 32 (4 * r₁.val)) (BitVec.ofNat 32 r₂.val)) a + S1x1x1x128.size a ≤ S1x32x4x128.size a := fun i v1 k0_hw1 k0_t13 k0_h10 r₁ r₂ => k0_hw1.2.2.2.2.2.1.1 k0_t13 k0_h10 r₁ r₂
theorem k0_off138_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off138 i v1 k0_t13 (BitVec.ofNat 32 (4 * r₁.val)) (BitVec.ofNat 32 r₂.val)) a + S1x1x128x128.size a ≤ S1x32x128x512.size a := fun i v1 k0_hw1 k0_t13 k0_h10 r₁ r₂ => k0_hw1.2.2.2.2.2.1.2.1 k0_t13 k0_h10 r₁ r₂
theorem k0_off139_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off139 i v1 k0_t13 (BitVec.ofNat 32 (4 * r₁.val)) (BitVec.ofNat 32 r₂.val)) a + S1x1x1x128.size a ≤ S1x32x4x128.size a := fun i v1 k0_hw1 k0_t13 k0_h10 r₁ r₂ => k0_hw1.2.2.2.2.2.1.2.2.1 k0_t13 k0_h10 r₁ r₂
theorem k0_off140_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off140 i v1 k0_t13 (BitVec.ofNat 32 (4 * r₁.val)) (BitVec.ofNat 32 r₂.val)) a + S1x1x128x128.size a ≤ S1x32x128x512.size a := fun i v1 k0_hw1 k0_t13 k0_h10 r₁ r₂ => k0_hw1.2.2.2.2.2.1.2.2.2.1 k0_t13 k0_h10 r₁ r₂
theorem k0_off141_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off141 i v1 k0_t13 (BitVec.ofNat 32 (4 * r₁.val)) (BitVec.ofNat 32 r₂.val)) a + S1x1x1x128.size a ≤ S1x32x4x128.size a := fun i v1 k0_hw1 k0_t13 k0_h10 r₁ r₂ => k0_hw1.2.2.2.2.2.1.2.2.2.2.1 k0_t13 k0_h10 r₁ r₂
theorem k0_off142_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off142 i v1 k0_t13 (BitVec.ofNat 32 (4 * r₁.val)) (BitVec.ofNat 32 r₂.val)) a + S1x1x64x128.size a ≤ S1x32x64x128.size a := fun i v1 k0_hw1 k0_t13 k0_h10 r₁ r₂ => k0_hw1.2.2.2.2.2.1.2.2.2.2.2.1 k0_t13 k0_h10 r₁ r₂
theorem k0_off143_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off143 i v1 k0_t13 (BitVec.ofNat 32 (4 * r₁.val)) (BitVec.ofNat 32 r₂.val)) a + S1x1x128x512.size a ≤ S1x32x128x512.size a := fun i v1 k0_hw1 k0_t13 k0_h10 r₁ r₂ => k0_hw1.2.2.2.2.2.1.2.2.2.2.2.2.1 k0_t13 k0_h10 r₁ r₂
theorem k0_off143_packedbf16 : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), (Rect.unit (s := S1x32x128x512) (k0_off143 i v1 k0_t13 (BitVec.ofNat 32 (4 * r₁.val)) (BitVec.ofNat 32 r₂.val)) S1x1x128x512.size (k0_off143_inb i v1 k0_hw1 k0_t13 k0_h10 r₁ r₂)).PackedRows (EltTy.packing .bf16) := fun i v1 k0_hw1 k0_t13 k0_h10 r₁ r₂ => k0_hw1.2.2.2.2.2.1.2.2.2.2.2.2.2.1 k0_t13 k0_h10 r₁ r₂ (k0_off143_inb i v1 k0_hw1 k0_t13 k0_h10 r₁ r₂)
theorem k0_off144_inb : ∀ (i : grid0.Coords) (v1 : BitVec 32) (k0_hw1 : k0_chk1 i v1) (k0_t13 : Fin (k0_t13_loop i v1).trips), ∀ (k0_h10 : k0_cond10 i = 1#1), ∀ (r₁ : Fin 4) (r₂ : Fin 4), ∀ a, (k0_off144 i v1 k0_t13 (BitVec.ofNat 32 (4 * r₁.val)) (BitVec.ofNat 32 r₂.val)) a + S1x1x128.size a ≤ S1x32x128.size a := fun i v1 k0_hw1 k0_t13 k0_h10 r₁ r₂ => k0_hw1.2.2.2.2.2.1.2.2.2.2.2.2.2.2.1 k0_t13 k0_h10 r₁ r₂
theorem k0_t14_ok : ∀ (i : grid0.Coords) (v1 : BitVec 32) (k0_hw1 : k0_chk1 i v1), ∀ (k0_h10 : k0_cond10 i = 1#1), (k0_t14_loop i v1).OK := fun i v1 k0_hw1 k0_h10 => k0_hw1.2.2.2.2.2.1.2.2.2.2.2.2.2.2.2.1 k0_h10
theorem k0_off145_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off145 i v1 k0_t14 (BitVec.ofNat 32 (4 * r₁.val)) (BitVec.ofNat 32 r₂.val)) a + S1x1x128x128.size a ≤ S1x32x128x512.size a := fun i v1 k0_hw1 k0_t14 k0_h10 r₁ r₂ => k0_hw1.2.2.2.2.2.1.2.2.2.2.2.2.2.2.2.2.1 k0_t14 k0_h10 r₁ r₂
theorem k0_off146_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off146 i v1 k0_t14 (BitVec.ofNat 32 (4 * r₁.val)) (BitVec.ofNat 32 r₂.val)) a + S1x1x1x128.size a ≤ S1x32x4x128.size a := fun i v1 k0_hw1 k0_t14 k0_h10 r₁ r₂ => k0_hw1.2.2.2.2.2.1.2.2.2.2.2.2.2.2.2.2.2.1 k0_t14 k0_h10 r₁ r₂
theorem k0_off147_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off147 i v1 k0_t14 (BitVec.ofNat 32 (4 * r₁.val)) (BitVec.ofNat 32 r₂.val)) a + S1x1x128x128.size a ≤ S1x32x128x512.size a := fun i v1 k0_hw1 k0_t14 k0_h10 r₁ r₂ => k0_hw1.2.2.2.2.2.1.2.2.2.2.2.2.2.2.2.2.2.2.1 k0_t14 k0_h10 r₁ r₂
theorem k0_off148_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off148 i v1 k0_t14 (BitVec.ofNat 32 (4 * r₁.val)) (BitVec.ofNat 32 r₂.val)) a + S1x1x1x128.size a ≤ S1x32x4x128.size a := fun i v1 k0_hw1 k0_t14 k0_h10 r₁ r₂ => k0_hw1.2.2.2.2.2.1.2.2.2.2.2.2.2.2.2.2.2.2.2.1 k0_t14 k0_h10 r₁ r₂
theorem k0_off149_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off149 i v1 k0_t14 (BitVec.ofNat 32 (4 * r₁.val)) (BitVec.ofNat 32 r₂.val)) a + S1x1x128x128.size a ≤ S1x32x128x512.size a := fun i v1 k0_hw1 k0_t14 k0_h10 r₁ r₂ => k0_hw1.2.2.2.2.2.1.2.2.2.2.2.2.2.2.2.2.2.2.2.2.1 k0_t14 k0_h10 r₁ r₂
theorem k0_off150_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off150 i v1 k0_t14 (BitVec.ofNat 32 (4 * r₁.val)) (BitVec.ofNat 32 r₂.val)) a + S1x1x1x128.size a ≤ S1x32x4x128.size a := fun i v1 k0_hw1 k0_t14 k0_h10 r₁ r₂ => k0_hw1.2.2.2.2.2.1.2.2.2.2.2.2.2.2.2.2.2.2.2.2.2.1 k0_t14 k0_h10 r₁ r₂
theorem k0_off151_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off151 i v1 k0_t14 (BitVec.ofNat 32 (4 * r₁.val)) (BitVec.ofNat 32 r₂.val)) a + S1x1x128x128.size a ≤ S1x32x128x512.size a := fun i v1 k0_hw1 k0_t14 k0_h10 r₁ r₂ => k0_hw1.2.2.2.2.2.1.2.2.2.2.2.2.2.2.2.2.2.2.2.2.2.2.1 k0_t14 k0_h10 r₁ r₂
theorem k0_off152_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off152 i v1 k0_t14 (BitVec.ofNat 32 (4 * r₁.val)) (BitVec.ofNat 32 r₂.val)) a + S1x1x1x128.size a ≤ S1x32x4x128.size a := fun i v1 k0_hw1 k0_t14 k0_h10 r₁ r₂ => k0_hw1.2.2.2.2.2.1.2.2.2.2.2.2.2.2.2.2.2.2.2.2.2.2.2.1 k0_t14 k0_h10 r₁ r₂
theorem k0_off153_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off153 i v1 k0_t14 (BitVec.ofNat 32 (4 * r₁.val)) (BitVec.ofNat 32 r₂.val)) a + S1x1x64x128.size a ≤ S1x32x64x128.size a := fun i v1 k0_hw1 k0_t14 k0_h10 r₁ r₂ => k0_hw1.2.2.2.2.2.1.2.2.2.2.2.2.2.2.2.2.2.2.2.2.2.2.2.2.1 k0_t14 k0_h10 r₁ r₂
theorem k0_off154_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off154 i v1 k0_t14 (BitVec.ofNat 32 (4 * r₁.val)) (BitVec.ofNat 32 r₂.val)) a + S1x1x128x512.size a ≤ S1x32x128x512.size a := fun i v1 k0_hw1 k0_t14 k0_h10 r₁ r₂ => k0_hw1.2.2.2.2.2.1.2.2.2.2.2.2.2.2.2.2.2.2.2.2.2.2.2.2.2.1 k0_t14 k0_h10 r₁ r₂
theorem k0_off154_packedbf16 : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), (Rect.unit (s := S1x32x128x512) (k0_off154 i v1 k0_t14 (BitVec.ofNat 32 (4 * r₁.val)) (BitVec.ofNat 32 r₂.val)) S1x1x128x512.size (k0_off154_inb i v1 k0_hw1 k0_t14 k0_h10 r₁ r₂)).PackedRows (EltTy.packing .bf16) := fun i v1 k0_hw1 k0_t14 k0_h10 r₁ r₂ => k0_hw1.2.2.2.2.2.1.2.2.2.2.2.2.2.2.2.2.2.2.2.2.2.2.2.2.2.2.1 k0_t14 k0_h10 r₁ r₂ (k0_off154_inb i v1 k0_hw1 k0_t14 k0_h10 r₁ r₂)
theorem k0_off155_inb : ∀ (i : grid0.Coords) (v1 : BitVec 32) (k0_hw1 : k0_chk1 i v1) (k0_t14 : Fin (k0_t14_loop i v1).trips), ∀ (k0_h10 : k0_cond10 i = 1#1), ∀ (r₁ : Fin 4) (r₂ : Fin 4), ∀ a, (k0_off155 i v1 k0_t14 (BitVec.ofNat 32 (4 * r₁.val)) (BitVec.ofNat 32 r₂.val)) a + S1x1x128.size a ≤ S1x32x128.size a := fun i v1 k0_hw1 k0_t14 k0_h10 r₁ r₂ => k0_hw1.2.2.2.2.2.1.2.2.2.2.2.2.2.2.2.2.2.2.2.2.2.2.2.2.2.2.2.1 k0_t14 k0_h10 r₁ r₂
theorem k0_t15_ok : ∀ (i : grid0.Coords) (v1 : BitVec 32) (k0_hw1 : k0_chk1 i v1), ∀ (k0_h11 : k0_cond11 i = 1#1), (k0_t15_loop i v1).OK := fun i v1 k0_hw1 k0_h11 => k0_hw1.2.2.2.2.2.1.2.2.2.2.2.2.2.2.2.2.2.2.2.2.2.2.2.2.2.2.2.2.1 k0_h11
theorem k0_off156_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off156 i v1 k0_t15 (BitVec.ofNat 32 (4 * r₁.val)) (BitVec.ofNat 32 r₂.val)) a + S1x1x128x128.size a ≤ S1x32x128x512.size a := fun i v1 k0_hw1 k0_t15 k0_h11 r₁ r₂ => k0_hw1.2.2.2.2.2.1.2.2.2.2.2.2.2.2.2.2.2.2.2.2.2.2.2.2.2.2.2.2.2.1 k0_t15 k0_h11 r₁ r₂
theorem k0_off157_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off157 i v1 k0_t15 (BitVec.ofNat 32 (4 * r₁.val)) (BitVec.ofNat 32 r₂.val)) a + S1x1x1x128.size a ≤ S1x32x4x128.size a := fun i v1 k0_hw1 k0_t15 k0_h11 r₁ r₂ => k0_hw1.2.2.2.2.2.1.2.2.2.2.2.2.2.2.2.2.2.2.2.2.2.2.2.2.2.2.2.2.2.2.1 k0_t15 k0_h11 r₁ r₂
theorem k0_off158_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off158 i v1 k0_t15 (BitVec.ofNat 32 (4 * r₁.val)) (BitVec.ofNat 32 r₂.val)) a + S1x1x128x128.size a ≤ S1x32x128x512.size a := fun i v1 k0_hw1 k0_t15 k0_h11 r₁ r₂ => k0_hw1.2.2.2.2.2.1.2.2.2.2.2.2.2.2.2.2.2.2.2.2.2.2.2.2.2.2.2.2.2.2.2.1 k0_t15 k0_h11 r₁ r₂
theorem k0_off159_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off159 i v1 k0_t15 (BitVec.ofNat 32 (4 * r₁.val)) (BitVec.ofNat 32 r₂.val)) a + S1x1x1x128.size a ≤ S1x32x4x128.size a := fun i v1 k0_hw1 k0_t15 k0_h11 r₁ r₂ => k0_hw1.2.2.2.2.2.1.2.2.2.2.2.2.2.2.2.2.2.2.2.2.2.2.2.2.2.2.2.2.2.2.2.2.1 k0_t15 k0_h11 r₁ r₂
theorem k0_off160_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off160 i v1 k0_t15 (BitVec.ofNat 32 (4 * r₁.val)) (BitVec.ofNat 32 r₂.val)) a + S1x1x128x128.size a ≤ S1x32x128x512.size a := fun i v1 k0_hw1 k0_t15 k0_h11 r₁ r₂ => k0_hw1.2.2.2.2.2.1.2.2.2.2.2.2.2.2.2.2.2.2.2.2.2.2.2.2.2.2.2.2.2.2.2.2.2.1 k0_t15 k0_h11 r₁ r₂
theorem k0_off161_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off161 i v1 k0_t15 (BitVec.ofNat 32 (4 * r₁.val)) (BitVec.ofNat 32 r₂.val)) a + S1x1x1x128.size a ≤ S1x32x4x128.size a := fun i v1 k0_hw1 k0_t15 k0_h11 r₁ r₂ => k0_hw1.2.2.2.2.2.1.2.2.2.2.2.2.2.2.2.2.2.2.2.2.2.2.2.2.2.2.2.2.2.2.2.2.2.2.1 k0_t15 k0_h11 r₁ r₂
theorem k0_off162_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off162 i v1 k0_t15 (BitVec.ofNat 32 (4 * r₁.val)) (BitVec.ofNat 32 r₂.val)) a + S1x1x128x128.size a ≤ S1x32x128x512.size a := fun i v1 k0_hw1 k0_t15 k0_h11 r₁ r₂ => k0_hw1.2.2.2.2.2.1.2.2.2.2.2.2.2.2.2.2.2.2.2.2.2.2.2.2.2.2.2.2.2.2.2.2.2.2.2.1 k0_t15 k0_h11 r₁ r₂
theorem k0_off163_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off163 i v1 k0_t15 (BitVec.ofNat 32 (4 * r₁.val)) (BitVec.ofNat 32 r₂.val)) a + S1x1x1x128.size a ≤ S1x32x4x128.size a := fun i v1 k0_hw1 k0_t15 k0_h11 r₁ r₂ => k0_hw1.2.2.2.2.2.1.2.2.2.2.2.2.2.2.2.2.2.2.2.2.2.2.2.2.2.2.2.2.2.2.2.2.2.2.2.2.1 k0_t15 k0_h11 r₁ r₂
theorem k0_off164_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off164 i v1 k0_t15 (BitVec.ofNat 32 (4 * r₁.val)) (BitVec.ofNat 32 r₂.val)) a + S1x1x64x128.size a ≤ S1x32x64x128.size a := fun i v1 k0_hw1 k0_t15 k0_h11 r₁ r₂ => k0_hw1.2.2.2.2.2.1.2.2.2.2.2.2.2.2.2.2.2.2.2.2.2.2.2.2.2.2.2.2.2.2.2.2.2.2.2.2.2 k0_t15 k0_h11 r₁ r₂
theorem k0_off165_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off165 i v1 k0_t15 (BitVec.ofNat 32 (4 * r₁.val)) (BitVec.ofNat 32 r₂.val)) a + S1x1x128x512.size a ≤ S1x32x128x512.size a := fun i v1 k0_hw1 k0_t15 k0_h11 r₁ r₂ => k0_hw1.2.2.2.2.2.2.1.1 k0_t15 k0_h11 r₁ r₂
theorem k0_off165_packedbf16 : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), (Rect.unit (s := S1x32x128x512) (k0_off165 i v1 k0_t15 (BitVec.ofNat 32 (4 * r₁.val)) (BitVec.ofNat 32 r₂.val)) S1x1x128x512.size (k0_off165_inb i v1 k0_hw1 k0_t15 k0_h11 r₁ r₂)).PackedRows (EltTy.packing .bf16) := fun i v1 k0_hw1 k0_t15 k0_h11 r₁ r₂ => k0_hw1.2.2.2.2.2.2.1.2.1 k0_t15 k0_h11 r₁ r₂ (k0_off165_inb i v1 k0_hw1 k0_t15 k0_h11 r₁ r₂)
theorem k0_off166_inb : ∀ (i : grid0.Coords) (v1 : BitVec 32) (k0_hw1 : k0_chk1 i v1) (k0_t15 : Fin (k0_t15_loop i v1).trips), ∀ (k0_h11 : k0_cond11 i = 1#1), ∀ (r₁ : Fin 4) (r₂ : Fin 4), ∀ a, (k0_off166 i v1 k0_t15 (BitVec.ofNat 32 (4 * r₁.val)) (BitVec.ofNat 32 r₂.val)) a + S1x1x128.size a ≤ S1x32x128.size a := fun i v1 k0_hw1 k0_t15 k0_h11 r₁ r₂ => k0_hw1.2.2.2.2.2.2.1.2.2.1 k0_t15 k0_h11 r₁ r₂
theorem k0_t16_ok : ∀ (i : grid0.Coords) (v1 : BitVec 32) (k0_hw1 : k0_chk1 i v1), ∀ (k0_h11 : k0_cond11 i = 1#1), (k0_t16_loop i v1).OK := fun i v1 k0_hw1 k0_h11 => k0_hw1.2.2.2.2.2.2.1.2.2.2.1 k0_h11
theorem k0_off167_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off167 i v1 k0_t16 (BitVec.ofNat 32 (4 * r₁.val)) (BitVec.ofNat 32 r₂.val)) a + S1x1x128x128.size a ≤ S1x32x128x512.size a := fun i v1 k0_hw1 k0_t16 k0_h11 r₁ r₂ => k0_hw1.2.2.2.2.2.2.1.2.2.2.2.1 k0_t16 k0_h11 r₁ r₂
theorem k0_off168_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off168 i v1 k0_t16 (BitVec.ofNat 32 (4 * r₁.val)) (BitVec.ofNat 32 r₂.val)) a + S1x1x1x128.size a ≤ S1x32x4x128.size a := fun i v1 k0_hw1 k0_t16 k0_h11 r₁ r₂ => k0_hw1.2.2.2.2.2.2.1.2.2.2.2.2.1 k0_t16 k0_h11 r₁ r₂
theorem k0_off169_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off169 i v1 k0_t16 (BitVec.ofNat 32 (4 * r₁.val)) (BitVec.ofNat 32 r₂.val)) a + S1x1x128x128.size a ≤ S1x32x128x512.size a := fun i v1 k0_hw1 k0_t16 k0_h11 r₁ r₂ => k0_hw1.2.2.2.2.2.2.1.2.2.2.2.2.2.1 k0_t16 k0_h11 r₁ r₂
theorem k0_off170_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off170 i v1 k0_t16 (BitVec.ofNat 32 (4 * r₁.val)) (BitVec.ofNat 32 r₂.val)) a + S1x1x1x128.size a ≤ S1x32x4x128.size a := fun i v1 k0_hw1 k0_t16 k0_h11 r₁ r₂ => k0_hw1.2.2.2.2.2.2.1.2.2.2.2.2.2.2.1 k0_t16 k0_h11 r₁ r₂
theorem k0_off171_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off171 i v1 k0_t16 (BitVec.ofNat 32 (4 * r₁.val)) (BitVec.ofNat 32 r₂.val)) a + S1x1x128x128.size a ≤ S1x32x128x512.size a := fun i v1 k0_hw1 k0_t16 k0_h11 r₁ r₂ => k0_hw1.2.2.2.2.2.2.1.2.2.2.2.2.2.2.2.1 k0_t16 k0_h11 r₁ r₂
theorem k0_off172_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off172 i v1 k0_t16 (BitVec.ofNat 32 (4 * r₁.val)) (BitVec.ofNat 32 r₂.val)) a + S1x1x1x128.size a ≤ S1x32x4x128.size a := fun i v1 k0_hw1 k0_t16 k0_h11 r₁ r₂ => k0_hw1.2.2.2.2.2.2.1.2.2.2.2.2.2.2.2.2.1 k0_t16 k0_h11 r₁ r₂
theorem k0_off173_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off173 i v1 k0_t16 (BitVec.ofNat 32 (4 * r₁.val)) (BitVec.ofNat 32 r₂.val)) a + S1x1x128x128.size a ≤ S1x32x128x512.size a := fun i v1 k0_hw1 k0_t16 k0_h11 r₁ r₂ => k0_hw1.2.2.2.2.2.2.1.2.2.2.2.2.2.2.2.2.2.1 k0_t16 k0_h11 r₁ r₂
theorem k0_off174_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off174 i v1 k0_t16 (BitVec.ofNat 32 (4 * r₁.val)) (BitVec.ofNat 32 r₂.val)) a + S1x1x1x128.size a ≤ S1x32x4x128.size a := fun i v1 k0_hw1 k0_t16 k0_h11 r₁ r₂ => k0_hw1.2.2.2.2.2.2.1.2.2.2.2.2.2.2.2.2.2.2.1 k0_t16 k0_h11 r₁ r₂
theorem k0_off175_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off175 i v1 k0_t16 (BitVec.ofNat 32 (4 * r₁.val)) (BitVec.ofNat 32 r₂.val)) a + S1x1x64x128.size a ≤ S1x32x64x128.size a := fun i v1 k0_hw1 k0_t16 k0_h11 r₁ r₂ => k0_hw1.2.2.2.2.2.2.1.2.2.2.2.2.2.2.2.2.2.2.2.1 k0_t16 k0_h11 r₁ r₂
theorem k0_off176_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off176 i v1 k0_t16 (BitVec.ofNat 32 (4 * r₁.val)) (BitVec.ofNat 32 r₂.val)) a + S1x1x128x512.size a ≤ S1x32x128x512.size a := fun i v1 k0_hw1 k0_t16 k0_h11 r₁ r₂ => k0_hw1.2.2.2.2.2.2.1.2.2.2.2.2.2.2.2.2.2.2.2.2.1 k0_t16 k0_h11 r₁ r₂
theorem k0_off176_packedbf16 : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), (Rect.unit (s := S1x32x128x512) (k0_off176 i v1 k0_t16 (BitVec.ofNat 32 (4 * r₁.val)) (BitVec.ofNat 32 r₂.val)) S1x1x128x512.size (k0_off176_inb i v1 k0_hw1 k0_t16 k0_h11 r₁ r₂)).PackedRows (EltTy.packing .bf16) := fun i v1 k0_hw1 k0_t16 k0_h11 r₁ r₂ => k0_hw1.2.2.2.2.2.2.1.2.2.2.2.2.2.2.2.2.2.2.2.2.2.1 k0_t16 k0_h11 r₁ r₂ (k0_off176_inb i v1 k0_hw1 k0_t16 k0_h11 r₁ r₂)
theorem k0_off177_inb : ∀ (i : grid0.Coords) (v1 : BitVec 32) (k0_hw1 : k0_chk1 i v1) (k0_t16 : Fin (k0_t16_loop i v1).trips), ∀ (k0_h11 : k0_cond11 i = 1#1), ∀ (r₁ : Fin 4) (r₂ : Fin 4), ∀ a, (k0_off177 i v1 k0_t16 (BitVec.ofNat 32 (4 * r₁.val)) (BitVec.ofNat 32 r₂.val)) a + S1x1x128.size a ≤ S1x32x128.size a := fun i v1 k0_hw1 k0_t16 k0_h11 r₁ r₂ => k0_hw1.2.2.2.2.2.2.1.2.2.2.2.2.2.2.2.2.2.2.2.2.2.2.1 k0_t16 k0_h11 r₁ r₂
theorem k0_t17_ok : ∀ (i : grid0.Coords) (v1 : BitVec 32) (k0_hw1 : k0_chk1 i v1), ∀ (k0_h12 : k0_cond12 i = 1#1), (k0_t17_loop i v1).OK := fun i v1 k0_hw1 k0_h12 => k0_hw1.2.2.2.2.2.2.1.2.2.2.2.2.2.2.2.2.2.2.2.2.2.2.2.1 k0_h12
theorem k0_off178_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off178 i v1 k0_t17 (BitVec.ofNat 32 (4 * r₁.val)) (BitVec.ofNat 32 r₂.val)) a + S1x1x128x128.size a ≤ S1x32x128x512.size a := fun i v1 k0_hw1 k0_t17 k0_h12 r₁ r₂ => k0_hw1.2.2.2.2.2.2.1.2.2.2.2.2.2.2.2.2.2.2.2.2.2.2.2.2.1 k0_t17 k0_h12 r₁ r₂
theorem k0_off179_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off179 i v1 k0_t17 (BitVec.ofNat 32 (4 * r₁.val)) (BitVec.ofNat 32 r₂.val)) a + S1x1x1x128.size a ≤ S1x32x4x128.size a := fun i v1 k0_hw1 k0_t17 k0_h12 r₁ r₂ => k0_hw1.2.2.2.2.2.2.1.2.2.2.2.2.2.2.2.2.2.2.2.2.2.2.2.2.2.1 k0_t17 k0_h12 r₁ r₂
theorem k0_off180_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off180 i v1 k0_t17 (BitVec.ofNat 32 (4 * r₁.val)) (BitVec.ofNat 32 r₂.val)) a + S1x1x128x128.size a ≤ S1x32x128x512.size a := fun i v1 k0_hw1 k0_t17 k0_h12 r₁ r₂ => k0_hw1.2.2.2.2.2.2.1.2.2.2.2.2.2.2.2.2.2.2.2.2.2.2.2.2.2.2.1 k0_t17 k0_h12 r₁ r₂
theorem k0_off181_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off181 i v1 k0_t17 (BitVec.ofNat 32 (4 * r₁.val)) (BitVec.ofNat 32 r₂.val)) a + S1x1x1x128.size a ≤ S1x32x4x128.size a := fun i v1 k0_hw1 k0_t17 k0_h12 r₁ r₂ => k0_hw1.2.2.2.2.2.2.1.2.2.2.2.2.2.2.2.2.2.2.2.2.2.2.2.2.2.2.2.1 k0_t17 k0_h12 r₁ r₂
theorem k0_off182_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off182 i v1 k0_t17 (BitVec.ofNat 32 (4 * r₁.val)) (BitVec.ofNat 32 r₂.val)) a + S1x1x128x128.size a ≤ S1x32x128x512.size a := fun i v1 k0_hw1 k0_t17 k0_h12 r₁ r₂ => k0_hw1.2.2.2.2.2.2.1.2.2.2.2.2.2.2.2.2.2.2.2.2.2.2.2.2.2.2.2.2.1 k0_t17 k0_h12 r₁ r₂
theorem k0_off183_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off183 i v1 k0_t17 (BitVec.ofNat 32 (4 * r₁.val)) (BitVec.ofNat 32 r₂.val)) a + S1x1x1x128.size a ≤ S1x32x4x128.size a := fun i v1 k0_hw1 k0_t17 k0_h12 r₁ r₂ => k0_hw1.2.2.2.2.2.2.1.2.2.2.2.2.2.2.2.2.2.2.2.2.2.2.2.2.2.2.2.2.2.1 k0_t17 k0_h12 r₁ r₂
theorem k0_off184_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off184 i v1 k0_t17 (BitVec.ofNat 32 (4 * r₁.val)) (BitVec.ofNat 32 r₂.val)) a + S1x1x128x128.size a ≤ S1x32x128x512.size a := fun i v1 k0_hw1 k0_t17 k0_h12 r₁ r₂ => k0_hw1.2.2.2.2.2.2.1.2.2.2.2.2.2.2.2.2.2.2.2.2.2.2.2.2.2.2.2.2.2.2.1 k0_t17 k0_h12 r₁ r₂
theorem k0_off185_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off185 i v1 k0_t17 (BitVec.ofNat 32 (4 * r₁.val)) (BitVec.ofNat 32 r₂.val)) a + S1x1x1x128.size a ≤ S1x32x4x128.size a := fun i v1 k0_hw1 k0_t17 k0_h12 r₁ r₂ => k0_hw1.2.2.2.2.2.2.1.2.2.2.2.2.2.2.2.2.2.2.2.2.2.2.2.2.2.2.2.2.2.2.2.1 k0_t17 k0_h12 r₁ r₂
theorem k0_off186_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off186 i v1 k0_t17 (BitVec.ofNat 32 (4 * r₁.val)) (BitVec.ofNat 32 r₂.val)) a + S1x1x64x128.size a ≤ S1x32x64x128.size a := fun i v1 k0_hw1 k0_t17 k0_h12 r₁ r₂ => k0_hw1.2.2.2.2.2.2.1.2.2.2.2.2.2.2.2.2.2.2.2.2.2.2.2.2.2.2.2.2.2.2.2.2.1 k0_t17 k0_h12 r₁ r₂
theorem k0_off187_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off187 i v1 k0_t17 (BitVec.ofNat 32 (4 * r₁.val)) (BitVec.ofNat 32 r₂.val)) a + S1x1x128x512.size a ≤ S1x32x128x512.size a := fun i v1 k0_hw1 k0_t17 k0_h12 r₁ r₂ => k0_hw1.2.2.2.2.2.2.1.2.2.2.2.2.2.2.2.2.2.2.2.2.2.2.2.2.2.2.2.2.2.2.2.2.2.1 k0_t17 k0_h12 r₁ r₂
theorem k0_off187_packedbf16 : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), (Rect.unit (s := S1x32x128x512) (k0_off187 i v1 k0_t17 (BitVec.ofNat 32 (4 * r₁.val)) (BitVec.ofNat 32 r₂.val)) S1x1x128x512.size (k0_off187_inb i v1 k0_hw1 k0_t17 k0_h12 r₁ r₂)).PackedRows (EltTy.packing .bf16) := fun i v1 k0_hw1 k0_t17 k0_h12 r₁ r₂ => k0_hw1.2.2.2.2.2.2.1.2.2.2.2.2.2.2.2.2.2.2.2.2.2.2.2.2.2.2.2.2.2.2.2.2.2.2.1 k0_t17 k0_h12 r₁ r₂ (k0_off187_inb i v1 k0_hw1 k0_t17 k0_h12 r₁ r₂)
theorem k0_off188_inb : ∀ (i : grid0.Coords) (v1 : BitVec 32) (k0_hw1 : k0_chk1 i v1) (k0_t17 : Fin (k0_t17_loop i v1).trips), ∀ (k0_h12 : k0_cond12 i = 1#1), ∀ (r₁ : Fin 4) (r₂ : Fin 4), ∀ a, (k0_off188 i v1 k0_t17 (BitVec.ofNat 32 (4 * r₁.val)) (BitVec.ofNat 32 r₂.val)) a + S1x1x128.size a ≤ S1x32x128.size a := fun i v1 k0_hw1 k0_t17 k0_h12 r₁ r₂ => k0_hw1.2.2.2.2.2.2.1.2.2.2.2.2.2.2.2.2.2.2.2.2.2.2.2.2.2.2.2.2.2.2.2.2.2.2.2.1 k0_t17 k0_h12 r₁ r₂
theorem k0_t18_ok : ∀ (i : grid0.Coords) (v1 : BitVec 32) (k0_hw1 : k0_chk1 i v1), ∀ (k0_h12 : k0_cond12 i = 1#1), (k0_t18_loop i v1).OK := fun i v1 k0_hw1 k0_h12 => k0_hw1.2.2.2.2.2.2.1.2.2.2.2.2.2.2.2.2.2.2.2.2.2.2.2.2.2.2.2.2.2.2.2.2.2.2.2.2.1 k0_h12
theorem k0_off189_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off189 i v1 k0_t18 (BitVec.ofNat 32 (4 * r₁.val)) (BitVec.ofNat 32 r₂.val)) a + S1x1x128x128.size a ≤ S1x32x128x512.size a := fun i v1 k0_hw1 k0_t18 k0_h12 r₁ r₂ => k0_hw1.2.2.2.2.2.2.1.2.2.2.2.2.2.2.2.2.2.2.2.2.2.2.2.2.2.2.2.2.2.2.2.2.2.2.2.2.2.1 k0_t18 k0_h12 r₁ r₂
theorem k0_off190_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off190 i v1 k0_t18 (BitVec.ofNat 32 (4 * r₁.val)) (BitVec.ofNat 32 r₂.val)) a + S1x1x1x128.size a ≤ S1x32x4x128.size a := fun i v1 k0_hw1 k0_t18 k0_h12 r₁ r₂ => k0_hw1.2.2.2.2.2.2.1.2.2.2.2.2.2.2.2.2.2.2.2.2.2.2.2.2.2.2.2.2.2.2.2.2.2.2.2.2.2.2 k0_t18 k0_h12 r₁ r₂
theorem k0_off191_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off191 i v1 k0_t18 (BitVec.ofNat 32 (4 * r₁.val)) (BitVec.ofNat 32 r₂.val)) a + S1x1x128x128.size a ≤ S1x32x128x512.size a := fun i v1 k0_hw1 k0_t18 k0_h12 r₁ r₂ => k0_hw1.2.2.2.2.2.2.2.1.1 k0_t18 k0_h12 r₁ r₂
theorem k0_off192_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off192 i v1 k0_t18 (BitVec.ofNat 32 (4 * r₁.val)) (BitVec.ofNat 32 r₂.val)) a + S1x1x1x128.size a ≤ S1x32x4x128.size a := fun i v1 k0_hw1 k0_t18 k0_h12 r₁ r₂ => k0_hw1.2.2.2.2.2.2.2.1.2.1 k0_t18 k0_h12 r₁ r₂
theorem k0_off193_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off193 i v1 k0_t18 (BitVec.ofNat 32 (4 * r₁.val)) (BitVec.ofNat 32 r₂.val)) a + S1x1x128x128.size a ≤ S1x32x128x512.size a := fun i v1 k0_hw1 k0_t18 k0_h12 r₁ r₂ => k0_hw1.2.2.2.2.2.2.2.1.2.2.1 k0_t18 k0_h12 r₁ r₂
theorem k0_off194_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off194 i v1 k0_t18 (BitVec.ofNat 32 (4 * r₁.val)) (BitVec.ofNat 32 r₂.val)) a + S1x1x1x128.size a ≤ S1x32x4x128.size a := fun i v1 k0_hw1 k0_t18 k0_h12 r₁ r₂ => k0_hw1.2.2.2.2.2.2.2.1.2.2.2.1 k0_t18 k0_h12 r₁ r₂
theorem k0_off195_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off195 i v1 k0_t18 (BitVec.ofNat 32 (4 * r₁.val)) (BitVec.ofNat 32 r₂.val)) a + S1x1x128x128.size a ≤ S1x32x128x512.size a := fun i v1 k0_hw1 k0_t18 k0_h12 r₁ r₂ => k0_hw1.2.2.2.2.2.2.2.1.2.2.2.2.1 k0_t18 k0_h12 r₁ r₂
theorem k0_off196_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off196 i v1 k0_t18 (BitVec.ofNat 32 (4 * r₁.val)) (BitVec.ofNat 32 r₂.val)) a + S1x1x1x128.size a ≤ S1x32x4x128.size a := fun i v1 k0_hw1 k0_t18 k0_h12 r₁ r₂ => k0_hw1.2.2.2.2.2.2.2.1.2.2.2.2.2.1 k0_t18 k0_h12 r₁ r₂
theorem k0_off197_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off197 i v1 k0_t18 (BitVec.ofNat 32 (4 * r₁.val)) (BitVec.ofNat 32 r₂.val)) a + S1x1x64x128.size a ≤ S1x32x64x128.size a := fun i v1 k0_hw1 k0_t18 k0_h12 r₁ r₂ => k0_hw1.2.2.2.2.2.2.2.1.2.2.2.2.2.2.1 k0_t18 k0_h12 r₁ r₂
theorem k0_off198_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off198 i v1 k0_t18 (BitVec.ofNat 32 (4 * r₁.val)) (BitVec.ofNat 32 r₂.val)) a + S1x1x128x512.size a ≤ S1x32x128x512.size a := fun i v1 k0_hw1 k0_t18 k0_h12 r₁ r₂ => k0_hw1.2.2.2.2.2.2.2.1.2.2.2.2.2.2.2.1 k0_t18 k0_h12 r₁ r₂
theorem k0_off198_packedbf16 : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), (Rect.unit (s := S1x32x128x512) (k0_off198 i v1 k0_t18 (BitVec.ofNat 32 (4 * r₁.val)) (BitVec.ofNat 32 r₂.val)) S1x1x128x512.size (k0_off198_inb i v1 k0_hw1 k0_t18 k0_h12 r₁ r₂)).PackedRows (EltTy.packing .bf16) := fun i v1 k0_hw1 k0_t18 k0_h12 r₁ r₂ => k0_hw1.2.2.2.2.2.2.2.1.2.2.2.2.2.2.2.2.1 k0_t18 k0_h12 r₁ r₂ (k0_off198_inb i v1 k0_hw1 k0_t18 k0_h12 r₁ r₂)
theorem k0_off199_inb : ∀ (i : grid0.Coords) (v1 : BitVec 32) (k0_hw1 : k0_chk1 i v1) (k0_t18 : Fin (k0_t18_loop i v1).trips), ∀ (k0_h12 : k0_cond12 i = 1#1), ∀ (r₁ : Fin 4) (r₂ : Fin 4), ∀ a, (k0_off199 i v1 k0_t18 (BitVec.ofNat 32 (4 * r₁.val)) (BitVec.ofNat 32 r₂.val)) a + S1x1x128.size a ≤ S1x32x128.size a := fun i v1 k0_hw1 k0_t18 k0_h12 r₁ r₂ => k0_hw1.2.2.2.2.2.2.2.1.2.2.2.2.2.2.2.2.2.1 k0_t18 k0_h12 r₁ r₂
theorem k0_t19_ok : ∀ (i : grid0.Coords) (v1 : BitVec 32) (k0_hw1 : k0_chk1 i v1), ∀ (k0_h13 : k0_cond13 i = 1#1), (k0_t19_loop i v1).OK := fun i v1 k0_hw1 k0_h13 => k0_hw1.2.2.2.2.2.2.2.1.2.2.2.2.2.2.2.2.2.2.1 k0_h13
theorem k0_off200_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off200 i v1 k0_t19 (BitVec.ofNat 32 (4 * r₁.val)) (BitVec.ofNat 32 r₂.val)) a + S1x1x128x128.size a ≤ S1x32x128x512.size a := fun i v1 k0_hw1 k0_t19 k0_h13 r₁ r₂ => k0_hw1.2.2.2.2.2.2.2.1.2.2.2.2.2.2.2.2.2.2.2.1 k0_t19 k0_h13 r₁ r₂
theorem k0_off201_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off201 i v1 k0_t19 (BitVec.ofNat 32 (4 * r₁.val)) (BitVec.ofNat 32 r₂.val)) a + S1x1x1x128.size a ≤ S1x32x4x128.size a := fun i v1 k0_hw1 k0_t19 k0_h13 r₁ r₂ => k0_hw1.2.2.2.2.2.2.2.1.2.2.2.2.2.2.2.2.2.2.2.2.1 k0_t19 k0_h13 r₁ r₂
theorem k0_off202_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off202 i v1 k0_t19 (BitVec.ofNat 32 (4 * r₁.val)) (BitVec.ofNat 32 r₂.val)) a + S1x1x128x128.size a ≤ S1x32x128x512.size a := fun i v1 k0_hw1 k0_t19 k0_h13 r₁ r₂ => k0_hw1.2.2.2.2.2.2.2.1.2.2.2.2.2.2.2.2.2.2.2.2.2.1 k0_t19 k0_h13 r₁ r₂
theorem k0_off203_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off203 i v1 k0_t19 (BitVec.ofNat 32 (4 * r₁.val)) (BitVec.ofNat 32 r₂.val)) a + S1x1x1x128.size a ≤ S1x32x4x128.size a := fun i v1 k0_hw1 k0_t19 k0_h13 r₁ r₂ => k0_hw1.2.2.2.2.2.2.2.1.2.2.2.2.2.2.2.2.2.2.2.2.2.2.1 k0_t19 k0_h13 r₁ r₂
theorem k0_off204_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off204 i v1 k0_t19 (BitVec.ofNat 32 (4 * r₁.val)) (BitVec.ofNat 32 r₂.val)) a + S1x1x128x128.size a ≤ S1x32x128x512.size a := fun i v1 k0_hw1 k0_t19 k0_h13 r₁ r₂ => k0_hw1.2.2.2.2.2.2.2.1.2.2.2.2.2.2.2.2.2.2.2.2.2.2.2.1 k0_t19 k0_h13 r₁ r₂
theorem k0_off205_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off205 i v1 k0_t19 (BitVec.ofNat 32 (4 * r₁.val)) (BitVec.ofNat 32 r₂.val)) a + S1x1x1x128.size a ≤ S1x32x4x128.size a := fun i v1 k0_hw1 k0_t19 k0_h13 r₁ r₂ => k0_hw1.2.2.2.2.2.2.2.1.2.2.2.2.2.2.2.2.2.2.2.2.2.2.2.2.1 k0_t19 k0_h13 r₁ r₂
theorem k0_off206_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off206 i v1 k0_t19 (BitVec.ofNat 32 (4 * r₁.val)) (BitVec.ofNat 32 r₂.val)) a + S1x1x128x128.size a ≤ S1x32x128x512.size a := fun i v1 k0_hw1 k0_t19 k0_h13 r₁ r₂ => k0_hw1.2.2.2.2.2.2.2.1.2.2.2.2.2.2.2.2.2.2.2.2.2.2.2.2.2.1 k0_t19 k0_h13 r₁ r₂
theorem k0_off207_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off207 i v1 k0_t19 (BitVec.ofNat 32 (4 * r₁.val)) (BitVec.ofNat 32 r₂.val)) a + S1x1x1x128.size a ≤ S1x32x4x128.size a := fun i v1 k0_hw1 k0_t19 k0_h13 r₁ r₂ => k0_hw1.2.2.2.2.2.2.2.1.2.2.2.2.2.2.2.2.2.2.2.2.2.2.2.2.2.2.1 k0_t19 k0_h13 r₁ r₂
theorem k0_off208_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off208 i v1 k0_t19 (BitVec.ofNat 32 (4 * r₁.val)) (BitVec.ofNat 32 r₂.val)) a + S1x1x64x128.size a ≤ S1x32x64x128.size a := fun i v1 k0_hw1 k0_t19 k0_h13 r₁ r₂ => k0_hw1.2.2.2.2.2.2.2.1.2.2.2.2.2.2.2.2.2.2.2.2.2.2.2.2.2.2.2.1 k0_t19 k0_h13 r₁ r₂
theorem k0_off209_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off209 i v1 k0_t19 (BitVec.ofNat 32 (4 * r₁.val)) (BitVec.ofNat 32 r₂.val)) a + S1x1x128x512.size a ≤ S1x32x128x512.size a := fun i v1 k0_hw1 k0_t19 k0_h13 r₁ r₂ => k0_hw1.2.2.2.2.2.2.2.1.2.2.2.2.2.2.2.2.2.2.2.2.2.2.2.2.2.2.2.2.1 k0_t19 k0_h13 r₁ r₂
theorem k0_off209_packedbf16 : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), (Rect.unit (s := S1x32x128x512) (k0_off209 i v1 k0_t19 (BitVec.ofNat 32 (4 * r₁.val)) (BitVec.ofNat 32 r₂.val)) S1x1x128x512.size (k0_off209_inb i v1 k0_hw1 k0_t19 k0_h13 r₁ r₂)).PackedRows (EltTy.packing .bf16) := fun i v1 k0_hw1 k0_t19 k0_h13 r₁ r₂ => k0_hw1.2.2.2.2.2.2.2.1.2.2.2.2.2.2.2.2.2.2.2.2.2.2.2.2.2.2.2.2.2.1 k0_t19 k0_h13 r₁ r₂ (k0_off209_inb i v1 k0_hw1 k0_t19 k0_h13 r₁ r₂)
theorem k0_off210_inb : ∀ (i : grid0.Coords) (v1 : BitVec 32) (k0_hw1 : k0_chk1 i v1) (k0_t19 : Fin (k0_t19_loop i v1).trips), ∀ (k0_h13 : k0_cond13 i = 1#1), ∀ (r₁ : Fin 4) (r₂ : Fin 4), ∀ a, (k0_off210 i v1 k0_t19 (BitVec.ofNat 32 (4 * r₁.val)) (BitVec.ofNat 32 r₂.val)) a + S1x1x128.size a ≤ S1x32x128.size a := fun i v1 k0_hw1 k0_t19 k0_h13 r₁ r₂ => k0_hw1.2.2.2.2.2.2.2.1.2.2.2.2.2.2.2.2.2.2.2.2.2.2.2.2.2.2.2.2.2.2.1 k0_t19 k0_h13 r₁ r₂
theorem k0_t20_ok : ∀ (i : grid0.Coords) (v1 : BitVec 32) (k0_hw1 : k0_chk1 i v1), ∀ (k0_h13 : k0_cond13 i = 1#1), (k0_t20_loop i v1).OK := fun i v1 k0_hw1 k0_h13 => k0_hw1.2.2.2.2.2.2.2.1.2.2.2.2.2.2.2.2.2.2.2.2.2.2.2.2.2.2.2.2.2.2.2.1 k0_h13
theorem k0_off211_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off211 i v1 k0_t20 (BitVec.ofNat 32 (4 * r₁.val)) (BitVec.ofNat 32 r₂.val)) a + S1x1x128x128.size a ≤ S1x32x128x512.size a := fun i v1 k0_hw1 k0_t20 k0_h13 r₁ r₂ => k0_hw1.2.2.2.2.2.2.2.1.2.2.2.2.2.2.2.2.2.2.2.2.2.2.2.2.2.2.2.2.2.2.2.2.1 k0_t20 k0_h13 r₁ r₂
theorem k0_off212_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off212 i v1 k0_t20 (BitVec.ofNat 32 (4 * r₁.val)) (BitVec.ofNat 32 r₂.val)) a + S1x1x1x128.size a ≤ S1x32x4x128.size a := fun i v1 k0_hw1 k0_t20 k0_h13 r₁ r₂ => k0_hw1.2.2.2.2.2.2.2.1.2.2.2.2.2.2.2.2.2.2.2.2.2.2.2.2.2.2.2.2.2.2.2.2.2.1 k0_t20 k0_h13 r₁ r₂
theorem k0_off213_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off213 i v1 k0_t20 (BitVec.ofNat 32 (4 * r₁.val)) (BitVec.ofNat 32 r₂.val)) a + S1x1x128x128.size a ≤ S1x32x128x512.size a := fun i v1 k0_hw1 k0_t20 k0_h13 r₁ r₂ => k0_hw1.2.2.2.2.2.2.2.1.2.2.2.2.2.2.2.2.2.2.2.2.2.2.2.2.2.2.2.2.2.2.2.2.2.2.1 k0_t20 k0_h13 r₁ r₂
theorem k0_off214_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off214 i v1 k0_t20 (BitVec.ofNat 32 (4 * r₁.val)) (BitVec.ofNat 32 r₂.val)) a + S1x1x1x128.size a ≤ S1x32x4x128.size a := fun i v1 k0_hw1 k0_t20 k0_h13 r₁ r₂ => k0_hw1.2.2.2.2.2.2.2.1.2.2.2.2.2.2.2.2.2.2.2.2.2.2.2.2.2.2.2.2.2.2.2.2.2.2.2.1 k0_t20 k0_h13 r₁ r₂
theorem k0_off215_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off215 i v1 k0_t20 (BitVec.ofNat 32 (4 * r₁.val)) (BitVec.ofNat 32 r₂.val)) a + S1x1x128x128.size a ≤ S1x32x128x512.size a := fun i v1 k0_hw1 k0_t20 k0_h13 r₁ r₂ => k0_hw1.2.2.2.2.2.2.2.1.2.2.2.2.2.2.2.2.2.2.2.2.2.2.2.2.2.2.2.2.2.2.2.2.2.2.2.2.1 k0_t20 k0_h13 r₁ r₂
theorem k0_off216_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off216 i v1 k0_t20 (BitVec.ofNat 32 (4 * r₁.val)) (BitVec.ofNat 32 r₂.val)) a + S1x1x1x128.size a ≤ S1x32x4x128.size a := fun i v1 k0_hw1 k0_t20 k0_h13 r₁ r₂ => k0_hw1.2.2.2.2.2.2.2.1.2.2.2.2.2.2.2.2.2.2.2.2.2.2.2.2.2.2.2.2.2.2.2.2.2.2.2.2.2.1 k0_t20 k0_h13 r₁ r₂
theorem k0_off217_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off217 i v1 k0_t20 (BitVec.ofNat 32 (4 * r₁.val)) (BitVec.ofNat 32 r₂.val)) a + S1x1x128x128.size a ≤ S1x32x128x512.size a := fun i v1 k0_hw1 k0_t20 k0_h13 r₁ r₂ => k0_hw1.2.2.2.2.2.2.2.1.2.2.2.2.2.2.2.2.2.2.2.2.2.2.2.2.2.2.2.2.2.2.2.2.2.2.2.2.2.2.1 k0_t20 k0_h13 r₁ r₂
theorem k0_off218_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off218 i v1 k0_t20 (BitVec.ofNat 32 (4 * r₁.val)) (BitVec.ofNat 32 r₂.val)) a + S1x1x1x128.size a ≤ S1x32x4x128.size a := fun i v1 k0_hw1 k0_t20 k0_h13 r₁ r₂ => k0_hw1.2.2.2.2.2.2.2.1.2.2.2.2.2.2.2.2.2.2.2.2.2.2.2.2.2.2.2.2.2.2.2.2.2.2.2.2.2.2.2 k0_t20 k0_h13 r₁ r₂
theorem k0_off219_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off219 i v1 k0_t20 (BitVec.ofNat 32 (4 * r₁.val)) (BitVec.ofNat 32 r₂.val)) a + S1x1x64x128.size a ≤ S1x32x64x128.size a := fun i v1 k0_hw1 k0_t20 k0_h13 r₁ r₂ => k0_hw1.2.2.2.2.2.2.2.2.1 k0_t20 k0_h13 r₁ r₂
theorem k0_off220_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off220 i v1 k0_t20 (BitVec.ofNat 32 (4 * r₁.val)) (BitVec.ofNat 32 r₂.val)) a + S1x1x128x512.size a ≤ S1x32x128x512.size a := fun i v1 k0_hw1 k0_t20 k0_h13 r₁ r₂ => k0_hw1.2.2.2.2.2.2.2.2.2.1 k0_t20 k0_h13 r₁ r₂
theorem k0_off220_packedbf16 : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), (Rect.unit (s := S1x32x128x512) (k0_off220 i v1 k0_t20 (BitVec.ofNat 32 (4 * r₁.val)) (BitVec.ofNat 32 r₂.val)) S1x1x128x512.size (k0_off220_inb i v1 k0_hw1 k0_t20 k0_h13 r₁ r₂)).PackedRows (EltTy.packing .bf16) := fun i v1 k0_hw1 k0_t20 k0_h13 r₁ r₂ => k0_hw1.2.2.2.2.2.2.2.2.2.2.1 k0_t20 k0_h13 r₁ r₂ (k0_off220_inb i v1 k0_hw1 k0_t20 k0_h13 r₁ r₂)
theorem k0_off221_inb : ∀ (i : grid0.Coords) (v1 : BitVec 32) (k0_hw1 : k0_chk1 i v1) (k0_t20 : Fin (k0_t20_loop i v1).trips), ∀ (k0_h13 : k0_cond13 i = 1#1), ∀ (r₁ : Fin 4) (r₂ : Fin 4), ∀ a, (k0_off221 i v1 k0_t20 (BitVec.ofNat 32 (4 * r₁.val)) (BitVec.ofNat 32 r₂.val)) a + S1x1x128.size a ≤ S1x32x128.size a := fun i v1 k0_hw1 k0_t20 k0_h13 r₁ r₂ => k0_hw1.2.2.2.2.2.2.2.2.2.2.2 k0_t20 k0_h13 r₁ r₂

def k0_cond2 (i : grid0.Coords) (v1 : BitVec 32) : BitVec 1 :=
  let arg1 : BitVec 32 := BitVec.ofNat 32 (i 1).val
  let c32_i32 : BitVec 32 := 32#32
  let v2 : BitVec 32 := Scalar.muli arg1 c32_i32
  let c0_i32_1 : BitVec 32 := 0#32
  let v6 : BitVec 32 := Scalar.addi v2 c0_i32_1
  let v7 : BitVec 1 := Scalar.cmpi .sge v6 v1
  let v8 : BitVec 32 := Scalar.extui v7
  let c0_i32_2 : BitVec 32 := 0#32
  let v9 : BitVec 1 := Scalar.cmpi .ne v8 c0_i32_2
  v9

def k0_cond3 (i : grid0.Coords) (v1 : BitVec 32) : BitVec 1 :=
  let arg1 : BitVec 32 := BitVec.ofNat 32 (i 1).val
  let c32_i32 : BitVec 32 := 32#32
  let v2 : BitVec 32 := Scalar.muli arg1 c32_i32
  let c16_i32 : BitVec 32 := 16#32
  let v10 : BitVec 32 := Scalar.addi v2 c16_i32
  let v11 : BitVec 1 := Scalar.cmpi .sge v10 v1
  let v12 : BitVec 32 := Scalar.extui v11
  let c0_i32_3 : BitVec 32 := 0#32
  let v13 : BitVec 1 := Scalar.cmpi .ne v12 c0_i32_3
  v13

def cc0_transform_0 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c32_i32 : BitVec 32 := 32#32
  let v4 : BitVec 32 := Scalar.divsi v3 c32_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, v21.toNat, c0_i32_6.toNat, c0_i32_7.toNat]

def cc0_transform_1 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c32_i32 : BitVec 32 := 32#32
  let v4 : BitVec 32 := Scalar.divsi v3 c32_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, v21.toNat, c0_i32_6.toNat, c0_i32_7.toNat]

def cc0_transform_2 (k0_off1_inb : ∀ i : grid0.Coords, ∀ a, (k0_off1 i) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S2) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c32_i32 : BitVec 32 := 32#32
  let v4 : BitVec 32 := Scalar.divsi v3 c32_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c32_i32 c0_i32_2
  let v11 : BitVec 32 := Scalar.extui v10
  let c0_i32_3 : BitVec 32 := 0#32
  let v12 : BitVec 1 := Scalar.cmpi .slt c32_i32 c0_i32_3
  let v13 : BitVec 32 := Scalar.extui v12
  let v14 : BitVec 32 := Scalar.subi v11 v13
  let v15 : BitVec 1 := Scalar.cmpi .ne v9 v14
  let v16 : BitVec 32 := Scalar.remsi v3 c32_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  let c0_i32_8 : BitVec 32 := 0#32
  ![arg0.toNat, v21.toNat, c0_i32_6.toNat, c0_i32_7.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x32x128x512 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x64x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x640x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x64x640 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "softmax_scale" => some (((Real.sqrt 192)⁻¹ : ℝ) : EReal)
  | "softmax_scale_log2" => some (((Real.log 2)⁻¹ * (Real.sqrt 192)⁻¹ : ℝ) : EReal)
  | _ => none
-- ==== ReferenceIdeal.lean ====
abbrev S2x640x128x512 : Shape := ⟨4, ![2, 640, 128, 512]⟩
abbrev S2x640x128x4 : Shape := ⟨4, ![2, 640, 128, 4]⟩
abbrev S2x640x128x64 : Shape := ⟨4, ![2, 640, 128, 64]⟩
abbrev S2x640x512 : Shape := ⟨3, ![2, 640, 512]⟩
abbrev S2x640x4 : Shape := ⟨3, ![2, 640, 4]⟩
abbrev S2x640x64 : Shape := ⟨3, ![2, 640, 64]⟩
abbrev S2 : Shape := ⟨1, ![2]⟩
abbrev S8x128 : Shape := ⟨2, ![8, 128]⟩
abbrev S2x640x128x4x128 : Shape := ⟨5, ![2, 640, 128, 4, 128]⟩
abbrev S2x640x128x4x1 : Shape := ⟨5, ![2, 640, 128, 4, 1]⟩
abbrev S2x640x4x128 : Shape := ⟨4, ![2, 640, 4, 128]⟩
abbrev S2x640x4x1 : Shape := ⟨4, ![2, 640, 4, 1]⟩
abbrev S2x640x128x640 : Shape := ⟨4, ![2, 640, 128, 640]⟩
abbrev S1x1 : Shape := ⟨2, ![1, 1]⟩
abbrev S_ : Shape := ⟨0, ![]⟩
abbrev S640 : Shape := ⟨1, ![640]⟩
abbrev S1x1x1x640 : Shape := ⟨4, ![1, 1, 1, 640]⟩
abbrev S1x640x1x1 : Shape := ⟨4, ![1, 640, 1, 1]⟩
abbrev S1x640x1x640 : Shape := ⟨4, ![1, 640, 1, 640]⟩
abbrev S2x640x128 : Shape := ⟨3, ![2, 640, 128]⟩
abbrev S2x640x128x1 : Shape := ⟨4, ![2, 640, 128, 1]⟩
abbrev S1x640 : Shape := ⟨2, ![1, 640]⟩
abbrev S2x1 : Shape := ⟨2, ![2, 1]⟩
abbrev S2x640 : Shape := ⟨2, ![2, 640]⟩
abbrev S2x640x1x1 : Shape := ⟨4, ![2, 640, 1, 1]⟩
abbrev S2x640x1 : Shape := ⟨3, ![2, 640, 1]⟩

abbrev nBuf : Space → Nat
  | .hbm => 76
  | .vmem => 5
  | .smem => 0
  | _ => 0

abbrev bufTy : (tb : Table) → Fin (tcTables nBuf tb) → BufTy
  | .hbm, ⟨0, _⟩ => ⟨S2x640x128x512, .fp8e4m3⟩
  | .hbm, ⟨1, _⟩ => ⟨S2x640x128x4, .f32⟩
  | .hbm, ⟨2, _⟩ => ⟨S2x640x128x64, .bf16⟩
  | .hbm, ⟨3, _⟩ => ⟨S2x640x512, .fp8e4m3⟩
  | .hbm, ⟨4, _⟩ => ⟨S2x640x4, .f32⟩
  | .hbm, ⟨5, _⟩ => ⟨S2x640x64, .bf16⟩
  | .hbm, ⟨6, _⟩ => ⟨S2, .i32⟩
  | .hbm, ⟨7, _⟩ => ⟨S2x640x128x512, .bf16⟩
  | .hbm, ⟨8, _⟩ => ⟨S2x640x512, .bf16⟩
  | .hbm, ⟨9, _⟩ => ⟨S8x128, .f32⟩
  | .hbm, ⟨10, _⟩ => ⟨S2x640x128x4x128, .bf16⟩
  | .hbm, ⟨11, _⟩ => ⟨S2x640x128x4, .bf16⟩
  | .hbm, ⟨12, _⟩ => ⟨S2x640x128x4x1, .bf16⟩
  | .hbm, ⟨13, _⟩ => ⟨S2x640x128x4x128, .bf16⟩
  | .hbm, ⟨14, _⟩ => ⟨S2x640x128x4x128, .bf16⟩
  | .hbm, ⟨15, _⟩ => ⟨S2x640x128x512, .bf16⟩
  | .hbm, ⟨16, _⟩ => ⟨S2x640x4x128, .bf16⟩
  | .hbm, ⟨17, _⟩ => ⟨S2x640x4, .bf16⟩
  | .hbm, ⟨18, _⟩ => ⟨S2x640x4x1, .bf16⟩
  | .hbm, ⟨19, _⟩ => ⟨S2x640x4x128, .bf16⟩
  | .hbm, ⟨20, _⟩ => ⟨S2x640x4x128, .bf16⟩
  | .hbm, ⟨21, _⟩ => ⟨S2x640x512, .bf16⟩
  | .hbm, ⟨22, _⟩ => ⟨S2x640x128x640, .f32⟩
  | .hbm, ⟨23, _⟩ => ⟨S2x640x128x640, .f32⟩
  | .hbm, ⟨24, _⟩ => ⟨S2x640x128x640, .f32⟩
  | .hbm, ⟨25, _⟩ => ⟨S1x1, .f32⟩
  | .hbm, ⟨26, _⟩ => ⟨S_, .f32⟩
  | .hbm, ⟨27, _⟩ => ⟨S2x640x128x640, .f32⟩
  | .hbm, ⟨28, _⟩ => ⟨S2x640x128x640, .f32⟩
  | .hbm, ⟨29, _⟩ => ⟨S640, .i32⟩
  | .hbm, ⟨30, _⟩ => ⟨S1x1x1x640, .i32⟩
  | .hbm, ⟨31, _⟩ => ⟨S1x640x1x1, .i32⟩
  | .hbm, ⟨32, _⟩ => ⟨S1x640x1x640, .i32⟩
  | .hbm, ⟨33, _⟩ => ⟨S1x640x1x640, .i32⟩
  | .hbm, ⟨34, _⟩ => ⟨S1x640x1x640, .i1⟩
  | .hbm, ⟨35, _⟩ => ⟨S_, .f32⟩
  | .hbm, ⟨36, _⟩ => ⟨S_, .f32⟩
  | .hbm, ⟨37, _⟩ => ⟨S2x640x128x640, .i1⟩
  | .hbm, ⟨38, _⟩ => ⟨S2x640x128x640, .f32⟩
  | .hbm, ⟨39, _⟩ => ⟨S2x640x128x640, .f32⟩
  | .hbm, ⟨40, _⟩ => ⟨S_, .f32⟩
  | .hbm, ⟨41, _⟩ => ⟨S2x640x128, .f32⟩
  | .hbm, ⟨42, _⟩ => ⟨S2x640x128x1, .f32⟩
  | .hbm, ⟨43, _⟩ => ⟨S2x640x128x640, .f32⟩
  | .hbm, ⟨44, _⟩ => ⟨S2x640x128x640, .f32⟩
  | .hbm, ⟨45, _⟩ => ⟨S2x640x128x640, .f32⟩
  | .hbm, ⟨46, _⟩ => ⟨S_, .f32⟩
  | .hbm, ⟨47, _⟩ => ⟨S2x640x128, .f32⟩
  | .hbm, ⟨48, _⟩ => ⟨S2x640x128x1, .f32⟩
  | .hbm, ⟨49, _⟩ => ⟨S2x640x128x1, .f32⟩
  | .hbm, ⟨50, _⟩ => ⟨S2x640x128x1, .f32⟩
  | .hbm, ⟨51, _⟩ => ⟨S_, .f32⟩
  | .hbm, ⟨52, _⟩ => ⟨S2x640x128x1, .f32⟩
  | .hbm, ⟨53, _⟩ => ⟨S2x640x128x1, .f32⟩
  | .hbm, ⟨54, _⟩ => ⟨S2x640x128x640, .f32⟩
  | .hbm, ⟨55, _⟩ => ⟨S2x640x128x640, .f32⟩
  | .hbm, ⟨56, _⟩ => ⟨S2x640x128x640, .bf16⟩
  | .hbm, ⟨57, _⟩ => ⟨S2x640x128x512, .f32⟩
  | .hbm, ⟨58, _⟩ => ⟨S2x640x128x512, .bf16⟩
  | .hbm, ⟨59, _⟩ => ⟨S1x640, .i32⟩
  | .hbm, ⟨60, _⟩ => ⟨S2x1, .i32⟩
  | .hbm, ⟨61, _⟩ => ⟨S2x640, .i32⟩
  | .hbm, ⟨62, _⟩ => ⟨S2x640, .i32⟩
  | .hbm, ⟨63, _⟩ => ⟨S2x640, .i1⟩
  | .hbm, ⟨64, _⟩ => ⟨S2x640x1x1, .i1⟩
  | .hbm, ⟨65, _⟩ => ⟨S_, .bf16⟩
  | .hbm, ⟨66, _⟩ => ⟨S2x640x128x512, .i1⟩
  | .hbm, ⟨67, _⟩ => ⟨S2x640x128x512, .bf16⟩
  | .hbm, ⟨68, _⟩ => ⟨S2x640x128x512, .bf16⟩
  | .hbm, ⟨69, _⟩ => ⟨S2x640x1, .i1⟩
  | .hbm, ⟨70, _⟩ => ⟨S2x640x128, .f32⟩
  | .hbm, ⟨71, _⟩ => ⟨S_, .f32⟩
  | .hbm, ⟨72, _⟩ => ⟨S_, .f32⟩
  | .hbm, ⟨73, _⟩ => ⟨S2x640x128, .i1⟩
  | .hbm, ⟨74, _⟩ => ⟨S2x640x128, .f32⟩
  | .hbm, ⟨75, _⟩ => ⟨S2x640x128, .f32⟩
  | .local _ .vmem, ⟨0, _⟩ => ⟨S2x640x128x512, .fp8e4m3⟩
  | .local _ .vmem, ⟨1, _⟩ => ⟨S2x640x512, .fp8e4m3⟩
  | .local _ .vmem, ⟨2, _⟩ => ⟨S2x640x128x512, .bf16⟩
  | .local _ .vmem, ⟨3, _⟩ => ⟨S2x640x512, .bf16⟩
  | .local _ .vmem, ⟨4, _⟩ => ⟨S8x128, .f32⟩
  | _, _ => ⟨S2x640x128x512, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_v26 : Ref sig .tc := ⟨.hbm, 39, rfl⟩
abbrev main_cst_0 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_3 : Ref sig .tc := ⟨.hbm, 65, rfl⟩
abbrev main_call1_v0 : Ref sig .tc := ⟨.hbm, 66, rfl⟩
abbrev main_call1_v1 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_4 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v52 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F] [Named F]

def κ : String → Option EReal := fun
  | "softmax_scale" => some (((Real.sqrt 192)⁻¹ : ℝ) : EReal)
  | _ => none

abbrev grid0 : Pipeline.Grid := .none

abbrev stage0_0 : Fin 1 → Memref sig .tc .vmem S2x640x128x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x640x512 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x640x128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x640x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Blk.lean ====
/-
  The block index at which the query windows are read: the step's own block, unless the batch ends before it.
-/
module

public import Idealize.ShloMosaic.Lib.Affine

@[expose] public section

namespace Mla

open Idealize.ShloMosaic Idealize.ShloMosaic.Affine

theorem isInt_iff {x : BitVec 32} {e : Int} : IsInt x e ↔ x.toInt = e := by unfold IsInt; exact Iff.rfl

/-- The floored quotient by 32 as the index map computes it. -/
def fdiv32 (w : BitVec 32) : BitVec 32 :=
  Scalar.select (Scalar.andi (Scalar.cmpi .ne (Scalar.subi (Scalar.extui (Scalar.cmpi .sgt w 0#32)) (Scalar.extui (Scalar.cmpi .slt w 0#32)))
      (Scalar.subi (Scalar.extui (Scalar.cmpi .sgt 32#32 0#32)) (Scalar.extui (Scalar.cmpi .slt 32#32 0#32))))
    (Scalar.cmpi .ne (Scalar.remsi w 32#32) 0#32)) (Scalar.subi (Scalar.divsi w 32#32) 1#32) (Scalar.divsi w 32#32)

/-- The query block's index at step `i` of a batch of length `v`. -/
def qBlk (i v : BitVec 32) : BitVec 32 := Scalar.minsi i (fdiv32 (Scalar.maxsi (Scalar.subi v 1#32) 0#32))

theorem fdiv32_eq (w : BitVec 32) (h : 0 ≤ w.toInt) : fdiv32 w = Scalar.divsi w 32#32 := by
  unfold fdiv32
  have hlt : Scalar.cmpi .slt w 0#32 = 0#1 := by
    show BitVec.ofBool (w.slt 0#32) = 0#1
    have : w.slt 0#32 = false := by simp only [BitVec.slt]; simpa using h
    rw [this]; rfl
  by_cases h0 : w = 0#32
  · subst h0; decide
  · have hgt : Scalar.cmpi .sgt w 0#32 = 1#1 := by
      show BitVec.ofBool ((0#32).slt w) = 1#1
      have : (0#32).slt w = true := by
        simp only [BitVec.slt]
        have : w.toInt ≠ 0 := fun e => h0 (BitVec.toInt_inj.mp (by simpa using e))
        simpa using (by omega : 0 < w.toInt)
      rw [this]; rfl
    rw [hlt, hgt]
    have : ∀ b : BitVec 1, Scalar.andi (Scalar.cmpi .ne (Scalar.subi (Scalar.extui 1#1) (Scalar.extui 0#1))
      (Scalar.subi (Scalar.extui (Scalar.cmpi .sgt 32#32 0#32)) (Scalar.extui (Scalar.cmpi .slt 32#32 0#32)))) b = 0#1 := by decide
    rw [this]; rfl

theorem fdiv32_toInt (w : BitVec 32) (h : 0 ≤ w.toInt) : (fdiv32 w).toInt = w.toInt / 32 := by
  rw [fdiv32_eq w h]
  exact isInt_iff.1 (Affine.divsi (ea := w.toInt) (eb := 32) (isInt_iff.2 rfl) (isInt_iff.2 (by decide)) ⟨rfl, h, by decide⟩)

theorem max0_nonneg (w : BitVec 32) : 0 ≤ (Scalar.maxsi w 0#32).toInt := by
  have : (Scalar.maxsi w 0#32).toInt = max w.toInt 0 := isInt_iff.1 (Affine.maxsi (ea := w.toInt) (eb := 0) (isInt_iff.2 rfl) (isInt_iff.2 (by decide)) rfl)
  omega

theorem qBlk_toInt (i v : BitVec 32) : (qBlk i v).toInt = min i.toInt ((max (Scalar.subi v 1#32).toInt 0) / 32) := by
  have e : (Scalar.maxsi (Scalar.subi v 1#32) 0#32).toInt = max (Scalar.subi v 1#32).toInt 0 :=
    isInt_iff.1 (Affine.maxsi (ea := (Scalar.subi v 1#32).toInt) (eb := 0) (isInt_iff.2 rfl) (isInt_iff.2 (by decide)) rfl)
  exact isInt_iff.1 (Affine.minsi (isInt_iff.2 rfl) (isInt_iff.2 (show (fdiv32 _).toInt = _ by rw [fdiv32_toInt _ (max0_nonneg _), e])) rfl)

theorem toInt_small (i : BitVec 32) (hi : i.toNat < 2 ^ 31) : i.toInt = i.toNat := by
  rw [BitVec.toInt_eq_toNat_cond]; omega

theorem qBlk_le (i v : BitVec 32) (hi : i.toNat < 20) : (qBlk i v).toNat ≤ i.toNat := by
  have h := qBlk_toInt i v
  have h1 := toInt_small i (by omega)
  have h2 : 0 ≤ (qBlk i v).toInt := by omega
  have h3 : (qBlk i v).toInt = (qBlk i v).toNat := by
    rw [BitVec.toInt_eq_toNat_cond] at h2 ⊢; split at h2 <;> split <;> omega
  omega

/-- Where the batch reaches the step's block, the block read is the step's own. -/
theorem qBlk_live (i v : BitVec 32) (hi : i.toNat < 20) (hv : 32 * (i.toNat : Int) < v.toInt) : (qBlk i v).toNat = i.toNat := by
  have h := qBlk_toInt i v
  have h1 := toInt_small i (by omega)
  have h4 : (Scalar.subi v 1#32).toInt = v.toInt - 1 := by
    show (v - 1#32).toInt = _
    rw [BitVec.toInt_sub]
    have h5 := BitVec.toInt_lt (x := v)
    have : (1#32).toInt = 1 := by decide
    rw [this, Int.bmod_eq_of_le_mul_two] <;> omega
  have h2 : 0 ≤ (qBlk i v).toInt := by omega
  have h3 : (qBlk i v).toInt = (qBlk i v).toNat := by
    rw [BitVec.toInt_eq_toNat_cond] at h2 ⊢; split at h2 <;> split <;> omega
  omega

end Mla
-- ==== Proof.Rules.lean ====
/-
  Loads and stores of whole memrefs in closed form.

  A memref owned at contents `X` is loaded through a rectangle as `ld X r`, the contents read at the rectangle's
  coordinates; a store of `w` through a rectangle leaves the memref owned at `upd X r w`, the contents with `w` put there.
-/
module

public import Idealize.ShloMosaic.Lib.Pipeline.Frame
public import Idealize.ShloMosaic.Lib.Scf
public import Idealize.ShloMosaic.Lib.Writes

@[expose] public section

noncomputable section

namespace Mla

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode

/-- The contents `X` read at the coordinates of the rectangle `r`. -/
def ld {s : Shape} {V : Type} (X : s.Idx → V) (r : Rect s) : r.shape.Idx → V := fun x => X (r.emb x)

open Classical in
/-- The contents `X` with `w` put at the coordinates of the rectangle `r`. -/
def upd {s : Shape} {V : Type} (X : s.Idx → V) (r : Rect s) (w : r.shape.Idx → V) : s.Idx → V :=
  fun y => if h : ∃ x, r.emb x = y then w h.choose else X y

theorem upd_emb {s : Shape} {V : Type} (X : s.Idx → V) (r : Rect s) (w : r.shape.Idx → V) (x : r.shape.Idx) :
    upd X r w (r.emb x) = w x := by
  have h : ∃ z, r.emb z = r.emb x := ⟨x, rfl⟩
  unfold upd; rw [dif_pos h]; exact congrArg w (r.emb.injective h.choose_spec)

theorem upd_of_not {s : Shape} {V : Type} (X : s.Idx → V) (r : Rect s) (w : r.shape.Idx → V) (y : s.Idx)
    (h : ∀ x, r.emb x ≠ y) : upd X r w y = X y := by
  unfold upd; rw [dif_neg]; rintro ⟨x, hx⟩; exact h x hx

/-- Contents that put `w` at the rectangle and keep `X` elsewhere are `upd X r w`. -/
theorem eq_upd {s : Shape} {V : Type} (X Z : s.Idx → V) (r : Rect s) (w : r.shape.Idx → V) (h1 : ∀ x, Z (r.emb x) = w x)
    (h2 : ∀ y, (∀ x, r.emb x ≠ y) → Z y = X y) : Z = upd X r w := by
  funext y
  by_cases h : ∃ x, r.emb x = y
  · obtain ⟨x, rfl⟩ := h; rw [h1, upd_emb]
  · have h' : ∀ x, r.emb x ≠ y := fun x hx => h ⟨x, hx⟩
    rw [h2 y h', upd_of_not X r w y h']

section Rules

variable {nD : Nat} {τ : Topo} {sig : RefSig} {Val : EltTy → Type} {U : Type} [URA U] {Λ : Labels}
variable {defs : Defs nD τ sig Val Λ} (𝒱 : Variants) (c : Dev nD)

local notation "𝕄" => MT nD τ sig Unit Val ℕ U ℕ

variable {sp : CoreSpace} {s : Shape} {e : EltTy} {α : Type}

/-- A memref of core `c` owned whole at `X`. -/
abbrev own {sp : Space} (m : Memref sig .tc sp s e) (X : s.Idx → Val e) : sProp 𝕄 := owns (c : Thread nD τ) m fullShare X

theorem wp_ld {m : Memref sig .tc sp s e} {r : Rect s} {hl : m.view.LoadsAt r.toLoadRect}
    {k : (r.shape.Idx → Val e) → Prog (TpuEff nD τ sig Val Λ .tc) α} {X : s.Idx → Val e} {q : PosShare TreeShare} {R : α → sProp 𝕄} :
    (owns (c : Thread nD τ) m q X : sProp 𝕄)
      ⊢ iprop((owns (c : Thread nD τ) m q X -∗ wp frame (wpE defs 𝒱 (c : Thread nD τ) none) Set.univ (k (ld X r)) R)
        -∗ wp frame (wpE defs 𝒱 (c : Thread nD τ) none) Set.univ (.op (.load m r.toLoadRect hl) k) R) := by
  unfold owns
  iintro ⟨%f, %hf, H⟩ HK
  iapply (wp_load_rect 𝒱 (c : Thread nD τ) none Set.univ (m := m) (r := r) (View.set_slice_subset m.view r)) $$ H
  iintro H
  have hld : (m.access r).read Val f = ld X r := by subst hf; rfl
  rw [hld]
  iapply HK
  iexists f; isplitr; · ipureintro; exact hf
  iexact H

theorem wp_st {m : Memref sig .tc sp s e} {r : Rect s} {w : r.shape.Idx → Val e} {hx : (m.access r).Stores Finset.univ}
    {hm : Finset.univ = Finset.univ ∨ ∀ a, r.stride a = 1}
    {k : PUnit → Prog (TpuEff nD τ sig Val Λ .tc) α} {X : s.Idx → Val e} {R : α → sProp 𝕄} :
    (own c m X : sProp 𝕄)
      ⊢ iprop((own c m (upd X r w) -∗ wp frame (wpE defs 𝒱 (c : Thread nD τ) none) Set.univ (k ⟨⟩) R)
        -∗ wp frame (wpE defs 𝒱 (c : Thread nD τ) none) Set.univ (.op (.store m r w Finset.univ hx hm) k) R) := by
  unfold own owns
  iintro ⟨%f, %hf, H⟩ HK
  iapply (wp_store 𝒱 (c : Thread nD τ) none Set.univ (m := m) (r := r) (Mk := Finset.univ) (Memref.setOn_access_subset m r Finset.univ)) $$ H
  iintro H
  iapply HK
  iexists ((m.access r).write Val f w Finset.univ); isplitr
  · ipureintro
    apply eq_upd
    · intro x; exact View.read_slice_write_emb r f w (Finset.mem_univ x)
    · intro y hy
      rw [View.read_slice_write_of_not_mem]
      · rw [hf]
      · intro hm; obtain ⟨x, _, hx⟩ := Finset.mem_map.mp hm; exact hy x hx
  iexact H

end Rules

end Mla
end
-- ==== Proof.Unit.lean ====
/-
  The kernel body's program, written once for every size of key range.

  The printed kernel repeats the same straight-line block for ten sizes of key range, two loops each, four units a trip.
  Here the block is one definition with the key range `nk`, its padded size `kp`, the masking of the last 64 keys (`mask`)
  and the zero padding of the weights (`pad`) as arguments. Its arithmetic is given by pure functions of what was loaded,
  so that what the block stores is named.
-/
module

public import proofs.«01_k».proof.Proof.Rules

@[expose] public section

noncomputable section

namespace Mla

open Idealize.ShloMosaic Idealize.ShloMosaic.TcCoe
open Idealize.SL.Sem

abbrev B3 : Shape := ⟨4, ![1, 32, 128, 512]⟩
abbrev B4 : Shape := ⟨4, ![1, 32, 4, 128]⟩
abbrev B5 : Shape := ⟨4, ![1, 32, 64, 128]⟩
abbrev B10 : Shape := ⟨3, ![1, 32, 128]⟩
abbrev B6 : Shape := ⟨3, ![1, 640, 512]⟩
abbrev B7 : Shape := ⟨3, ![1, 4, 640]⟩
abbrev B8 : Shape := ⟨3, ![1, 64, 640]⟩
/-- A matrix shape. -/
abbrev M2 (a b : Nat) : Shape := ⟨2, ![a, b]⟩
abbrev T3 (a b c : Nat) : Shape := ⟨3, ![a, b, c]⟩
abbrev T4 (a b c d : Nat) : Shape := ⟨4, ![a, b, c, d]⟩

/-! ### The rectangles of one query row -/

theorem inb4 {A B : Nat} (n : Nat) (hn : n < 32) (o p b c : Nat) (ho : o + b ≤ A) (hp : p + c ≤ B) :
    ∀ a, (![0, n, o, p] : Fin 4 → Nat) a + (T4 1 1 b c).size a ≤ (T4 1 32 A B).size a := by
  intro a; fin_cases a <;> simp <;> omega

theorem inb3 {A : Nat} (n : Nat) (hn : n < 32) :
    ∀ a, (![0, n, 0] : Fin 3 → Nat) a + (T3 1 1 A).size a ≤ (T3 1 32 A).size a := by
  intro a; fin_cases a <;> simp <;> omega

/-- 128 code columns from column `o` of query row `n`. -/
abbrev codeR (n : Nat) (hn : n < 32) (o : Nat) (ho : o + 128 ≤ 512) : Rect B3 :=
  Rect.unit (s := B3) ![0, n, 0, o] (T4 1 1 128 128).size (inb4 n hn 0 o 128 128 (by decide) ho)
/-- The scales of group `g` of query row `n`. -/
abbrev scaleR (n : Nat) (hn : n < 32) (g : Nat) (hg : g + 1 ≤ 4) : Rect B4 :=
  Rect.unit (s := B4) ![0, n, g, 0] (T4 1 1 1 128).size (inb4 n hn g 0 1 128 hg (by decide))
/-- The rope queries of row `n`. -/
abbrev ropeR (n : Nat) (hn : n < 32) : Rect B5 :=
  Rect.unit (s := B5) ![0, n, 0, 0] (T4 1 1 64 128).size (inb4 n hn 0 0 64 128 (by decide) (by decide))
/-- Row `n` of the output block. -/
abbrev outR (n : Nat) (hn : n < 32) : Rect B3 :=
  Rect.unit (s := B3) ![0, n, 0, 0] (T4 1 1 128 512).size (inb4 n hn 0 0 128 512 (by decide) (by decide))
/-- Row `n` of the log-sum-exp block. -/
abbrev lseR (n : Nat) (hn : n < 32) : Rect B10 :=
  Rect.unit (s := B10) ![0, n, 0] (T3 1 1 128).size (inb3 n hn)

theorem outR_packed (n : Nat) (hn : n < 32) : (outR n hn).PackedRows (EltTy.packing .bf16) := by
  right
  refine ⟨by decide, rfl, .inr ⟨rfl, rfl, rfl, rfl, rfl⟩⟩

/-! ### The arithmetic of one unit -/

section Pure
variable {F : FTy → Type} [FloatOps F]

/-- One dequantised 128 × 128 block of the queries, transposed: codes times their group's scales. -/
def grp (c : Vec F (T4 1 1 128 128) .fp8e4m3) (s : Vec F (T4 1 1 1 128) .f32) : FVec F (M2 128 128) .bf16 :=
  mulf (transpose (M2 128 128) [1, 0] (extf .bf16 (shapeCast (M2 128 128) c (by decide)) (by decide)) (by decide))
    (broadcastTo (M2 128 128) (truncf .bf16 (shapeCast (M2 1 128) s (by decide)) (by decide)) (by decide))

/-- Four blocks of one query row stacked: 512 lanes by 128 heads. -/
def stackTok (g0 g1 g2 g3 : FVec F (M2 128 128) .bf16) : FVec F (M2 512 128) .bf16 :=
  concatenate (M2 512 128) 0 [⟨M2 128 128, g0⟩, ⟨M2 128 128, g1⟩, ⟨M2 128 128, g2⟩, ⟨M2 128 128, g3⟩]
    (show Shape.Concatenates [M2 128 128, M2 128 128, M2 128 128, M2 128 128] (M2 512 128) 0 by decide)

def ropeTok (r : Vec F (T4 1 1 64 128) .bf16) : FVec F (M2 64 128) .bf16 := shapeCast (M2 64 128) r (by decide)

/-- Four query rows side by side. -/
def qAll (q0 q1 q2 q3 : FVec F (M2 512 128) .bf16) : FVec F (M2 512 512) .bf16 :=
  concatenate (M2 512 512) 1 [⟨M2 512 128, q0⟩, ⟨M2 512 128, q1⟩, ⟨M2 512 128, q2⟩, ⟨M2 512 128, q3⟩]
    (show Shape.Concatenates [M2 512 128, M2 512 128, M2 512 128, M2 512 128] (M2 512 512) 1 by decide)
def rAll (r0 r1 r2 r3 : FVec F (M2 64 128) .bf16) : FVec F (M2 64 512) .bf16 :=
  concatenate (M2 64 512) 1 [⟨M2 64 128, r0⟩, ⟨M2 64 128, r1⟩, ⟨M2 64 128, r2⟩, ⟨M2 64 128, r3⟩]
    (show Shape.Concatenates [M2 64 128, M2 64 128, M2 64 128, M2 64 128] (M2 64 512) 1 by decide)

/-- The unscaled scores of `nk` keys against the four query rows. -/
def scores (nk : Nat) (C : FVec F (M2 nk 512) .bf16) (K : FVec F (M2 nk 64) .bf16) (q : FVec F (M2 512 512) .bf16)
    (r : FVec F (M2 64 512) .bf16) : FVec F (M2 nk 512) .f32 :=
  addf (matmul (DotDims.plain nk 512 512) none C q (constant (M2 nk 512) .f32 0x00000000#32))
    (matmul (DotDims.plain nk 64 512) none K r (constant (M2 nk 512) .f32 0x00000000#32))

/-- One query row's masked last 64 keys. -/
def tailTok (nk : Nat) (o : Nat) (ho : (M2 nk 512).Slices ![nk - 64, o] (M2 64 128)) (v2 t : BitVec 32)
    (s : FVec F (M2 nk 512) .f32) : FVec F (M2 64 128) .f32 :=
  select (cmpi .sle (iota .tc (M2 64 128) 32 [0] (by decide))
      (broadcast (M2 64 128) (Scalar.subi (Scalar.addi v2 t) (BitVec.ofNat 32 (nk - 64)))))
    (extractStridedSlice (M2 64 128) ![nk - 64, o] s ho) (broadcast (M2 64 128) (Scalar.ofBits .f32 0xFF800000#32))

end Pure

/-- The shape facts of a key range `nk` padded to `kp`. -/
structure Ev (nk kp : Nat) : Prop where
  inbC : ∀ a, (![0, 0] : Fin 2 → Nat) a + (M2 nk 512).size a ≤ (M2 640 512).size a
  hC : 0 < (M2 nk 512).numel
  inbK : ∀ a, (![0, 0] : Fin 2 → Nat) a + (M2 nk 64).size a ≤ (M2 640 64).size a
  hK : 0 < (M2 nk 64).numel
  inbT : ∀ a, (![0, 0] : Fin 2 → Nat) a + (M2 512 kp).size a ≤ (M2 512 640).size a
  hT : 0 < (M2 512 kp).numel
  s0 : (M2 nk 512).Slices ![nk - 64, 0] (M2 64 128)
  s1 : (M2 nk 512).Slices ![nk - 64, 128] (M2 64 128)
  s2 : (M2 nk 512).Slices ![nk - 64, 256] (M2 64 128)
  s3 : (M2 nk 512).Slices ![nk - 64, 384] (M2 64 128)
  red : (M2 nk 512).Reduces [0] ⟨1, ![512]⟩
  bc : (M2 1 512).Broadcasts (M2 nk 512)

section Pure2
variable {F : FTy → Type} [FloatOps F] {nk kp : Nat} (ev : Ev nk kp)

/-- The masked last 64 keys of the four query rows. -/
def tailAll (v2 t0 t1 t2 t3 : BitVec 32) (s : FVec F (M2 nk 512) .f32) : FVec F (M2 64 512) .f32 :=
  concatenate (M2 64 512) 1 [⟨M2 64 128, tailTok nk 0 ev.s0 v2 t0 s⟩, ⟨M2 64 128, tailTok nk 128 ev.s1 v2 t1 s⟩,
    ⟨M2 64 128, tailTok nk 256 ev.s2 v2 t2 s⟩, ⟨M2 64 128, tailTok nk 384 ev.s3 v2 t3 s⟩]
    (show Shape.Concatenates [M2 64 128, M2 64 128, M2 64 128, M2 64 128] (M2 64 512) 1 by decide)

/-- The column maxima. -/
def colMax (s : FVec F (M2 nk 512) .f32) : FVec F (M2 1 512) .f32 :=
  shapeCast (M2 1 512) (multiReduction .maximumf [0] ⟨1, ![512]⟩ s 0xFF800000#32 ev.red (.inl rfl) rfl) (by decide)

/-- The unnormalised weights. -/
def wts (kl : F .f32) (s : FVec F (M2 nk 512) .f32) : FVec F (M2 nk 512) .f32 :=
  exp2 (mulf (subf s (broadcastTo (M2 nk 512) (colMax ev s) ev.bc)) (broadcast (M2 nk 512) kl))

/-- The column sums of the weights. -/
def colSum (e : FVec F (M2 nk 512) .f32) : FVec F (M2 1 512) .f32 :=
  shapeCast (M2 1 512) (multiReduction .add [0] ⟨1, ![512]⟩ e 0x00000000#32 ev.red (.inl rfl) rfl) (by decide)

/-- The weighted sum of the latents. -/
def outMat (T : FVec F (M2 512 kp) .bf16) (p : FVec F (M2 kp 512) .bf16) : FVec F (M2 512 512) .f32 :=
  matmul (DotDims.plain 512 kp 512) none T p (constant (M2 512 512) .f32 0x00000000#32)

def invSum (l : FVec F (M2 1 512) .f32) : FVec F (M2 1 512) .f32 :=
  divf (broadcast (M2 1 512) (Scalar.ofBits .f32 0x3F800000#32)) l

def lseRow (sl : F .f32) (m l : FVec F (M2 1 512) .f32) : FVec F (M2 1 512) .f32 :=
  addf (mulf m (broadcast (M2 1 512) sl)) (log l)

end Pure2

section Pure3
variable {F : FTy → Type} [FloatOps F]

/-- What one query row's output is stored as. -/
def oTok (o : Nat) (h1 : (M2 512 512).Slices ![0, o] (M2 512 128)) (h2 : (M2 1 512).Slices ![0, o] (M2 1 128))
    (v1 v2 t : BitVec 32) (ot : FVec F (M2 512 512) .f32) (inv : FVec F (M2 1 512) .f32) : Vec F (T4 1 1 128 512) .bf16 :=
  shapeCast (T4 1 1 128 512)
    (transpose (M2 128 512) [1, 0]
      (truncf .bf16
        (mulf (extractStridedSlice (M2 512 128) ![0, o] ot h1)
          (broadcastTo (M2 512 128)
            (Scalar.select (Scalar.cmpi .slt (Scalar.addi v2 t) v1) (extractStridedSlice (M2 1 128) ![0, o] inv h2)
              (broadcast (M2 1 128) (Scalar.ofBits .f32 0x00000000#32))) (by decide)))
        (by decide)) (by decide)) (by decide)

/-- What one query row's log-sum-exp is stored as. -/
def lTok (o : Nat) (h2 : (M2 1 512).Slices ![0, o] (M2 1 128)) (v1 v2 t : BitVec 32) (lse : FVec F (M2 1 512) .f32) :
    Vec F (T3 1 1 128) .f32 :=
  shapeCast (T3 1 1 128)
    (Scalar.select (Scalar.cmpi .slt (Scalar.addi v2 t) v1) (extractStridedSlice (M2 1 128) ![0, o] lse h2)
      (broadcast (M2 1 128) (Scalar.ofBits .f32 0x00000000#32))) (by decide)

end Pure3

/-! ### The programs -/

section Progs
variable {F : FTy → Type} [FloatOps F] {nD : Nat} {τ : Topo} {sig : RefSig} {Λ : Labels}

/-- Load and dequantise one block. -/
def loadGrp (a3 : Memref sig .tc .vmem B3 .fp8e4m3) (a4 : Memref sig .tc .vmem B4 .f32) (n : Nat) (hn : n < 32) (g : Nat)
    (hg : g + 1 ≤ 4) (o : Nat) (ho : o + 128 ≤ 512) : Prog (TpuEff nD τ sig (Elt F) Λ .tc) (FVec F (M2 128 128) .bf16) := do
  let c : Vec F (T4 1 1 128 128) .fp8e4m3 ← Prog.lift (.load a3 (codeR n hn o ho).toLoadRect (View.loadsAt_vmem (by show 0 < (T4 1 1 128 128).numel; decide)))
  let s : Vec F (T4 1 1 1 128) .f32 ← Prog.lift (.load a4 (scaleR n hn g hg).toLoadRect (View.loadsAt_vmem (by show 0 < (T4 1 1 1 128).numel; decide)))
  pure (grp c s)

/-- Load and dequantise one query row. -/
def loadTok (a3 : Memref sig .tc .vmem B3 .fp8e4m3) (a4 : Memref sig .tc .vmem B4 .f32) (n : Nat) (hn : n < 32) :
    Prog (TpuEff nD τ sig (Elt F) Λ .tc) (FVec F (M2 512 128) .bf16) := do
  let g0 ← loadGrp a3 a4 n hn 0 (by decide) 0 (by decide)
  let g1 ← loadGrp a3 a4 n hn 1 (by decide) 128 (by decide)
  let g2 ← loadGrp a3 a4 n hn 2 (by decide) 256 (by decide)
  let g3 ← loadGrp a3 a4 n hn 3 (by decide) 384 (by decide)
  pure (stackTok g0 g1 g2 g3)

def loadRope (a5 : Memref sig .tc .vmem B5 .bf16) (n : Nat) (hn : n < 32) :
    Prog (TpuEff nD τ sig (Elt F) Λ .tc) (FVec F (M2 64 128) .bf16) := do
  let r : Vec F (T4 1 1 64 128) .bf16 ← Prog.lift (.load a5 (ropeR n hn).toLoadRect (View.loadsAt_vmem (by show 0 < (T4 1 1 64 128).numel; decide)))
  pure (ropeTok r)

/-- Store one query row's output and log-sum-exp. -/
def storeTok (a9 : Memref sig .tc .vmem B3 .bf16) (h9 : a9.IsWhole) (a10 : Memref sig .tc .vmem B10 .f32) (n : Nat) (hn : n < 32)
    (o : Vec F (T4 1 1 128 512) .bf16) (l : Vec F (T3 1 1 128) .f32) : Prog (TpuEff nD τ sig (Elt F) Λ .tc) PUnit := do
  let _ : Vec F (T4 1 1 128 512) .bf16 ← Prog.lift (.load a9 (outR n hn).toLoadRect (View.loadsAt_vmem (by show 0 < (T4 1 1 128 512).numel; decide)))
  Prog.lift (.store a9 (outR n hn) o Finset.univ
    (View.stores_vmem (by show 0 < (T4 1 1 128 512).numel; decide) (h9.storeExact_slice rfl _ (outR_packed n hn)) (fun _ => rfl)) (.inl rfl))
  let _ : Vec F (T3 1 1 128) .f32 ← Prog.lift (.load a10 (lseR n hn).toLoadRect (View.loadsAt_vmem (by show 0 < (T3 1 1 128).numel; decide)))
  Prog.lift (.store a10 (lseR n hn) l Finset.univ (View.stores_vmem_bits_univ (by show 0 < (T3 1 1 128).numel; decide) rfl) (.inl rfl))

/-- The memrefs the units work on. -/
structure Bufs (sig : RefSig) where
  a3 : Memref sig .tc .vmem B3 .fp8e4m3
  h3 : a3.IsWhole
  a4 : Memref sig .tc .vmem B4 .f32
  h4 : a4.IsWhole
  a5 : Memref sig .tc .vmem B5 .bf16
  h5 : a5.IsWhole
  a6 : Memref sig .tc .vmem B6 .fp8e4m3
  h6 : a6.IsWhole
  a7 : Memref sig .tc .vmem B7 .f32
  h7 : a7.IsWhole
  a8 : Memref sig .tc .vmem B8 .bf16
  h8 : a8.IsWhole
  a9 : Memref sig .tc .vmem B3 .bf16
  h9 : a9.IsWhole
  a10 : Memref sig .tc .vmem B10 .f32
  h10 : a10.IsWhole
  a11 : Memref sig .tc .vmem (M2 640 512) .bf16
  h11 : a11.IsWhole
  a12 : Memref sig .tc .vmem (M2 512 640) .bf16
  h12 : a12.IsWhole
  a13 : Memref sig .tc .vmem (M2 640 64) .bf16
  h13 : a13.IsWhole

abbrev cR {nk kp : Nat} (ev : Ev nk kp) : Rect (M2 640 512) := Rect.unit (s := M2 640 512) ![0, 0] (M2 nk 512).size ev.inbC
abbrev kR {nk kp : Nat} (ev : Ev nk kp) : Rect (M2 640 64) := Rect.unit (s := M2 640 64) ![0, 0] (M2 nk 64).size ev.inbK
abbrev tR {nk kp : Nat} (ev : Ev nk kp) : Rect (M2 512 640) := Rect.unit (s := M2 512 640) ![0, 0] (M2 512 kp).size ev.inbT

/-- How a key range treats its scores and weights: its sizes, the masked scores put together from all scores and the
    masked last 64, the weights padded, the two scale constants. -/
structure Sec (F : FTy → Type) where
  nk : Nat
  kp : Nat
  ev : Ev nk kp
  mask : FVec F (M2 nk 512) .f32 → FVec F (M2 64 512) .f32 → FVec F (M2 nk 512) .f32
  pad : FVec F (M2 nk 512) .bf16 → FVec F (M2 kp 512) .bf16

/-- The masked scores. -/
def Sec.masked (S : Sec F) (v2 t0 t1 t2 t3 : BitVec 32) (s : FVec F (M2 S.nk 512) .f32) : FVec F (M2 S.nk 512) .f32 :=
  S.mask s (tailAll S.ev v2 t0 t1 t2 t3 s)

/-- One unit: four query rows `t0 … t3` of the block. -/
def unit (S : Sec F) (kl sl : F .f32) (B : Bufs sig) (v1 v2 t0 t1 t2 t3 : BitVec 32) (h0 : t0.toNat < 32) (h1 : t1.toNat < 32)
    (h2 : t2.toNat < 32) (h3 : t3.toNat < 32) : Prog (TpuEff nD τ sig (Elt F) Λ .tc) PUnit := do
  let q0 ← loadTok B.a3 B.a4 t0.toNat h0
  let q1 ← loadTok B.a3 B.a4 t1.toNat h1
  let q2 ← loadTok B.a3 B.a4 t2.toNat h2
  let q3 ← loadTok B.a3 B.a4 t3.toNat h3
  let r0 ← loadRope B.a5 t0.toNat h0
  let r1 ← loadRope B.a5 t1.toNat h1
  let r2 ← loadRope B.a5 t2.toNat h2
  let r3 ← loadRope B.a5 t3.toNat h3
  let C : Vec F (M2 S.nk 512) .bf16 ← Prog.lift (.load B.a11 (cR S.ev).toLoadRect (View.loadsAt_vmem S.ev.hC))
  let K : Vec F (M2 S.nk 64) .bf16 ← Prog.lift (.load B.a13 (kR S.ev).toLoadRect (View.loadsAt_vmem S.ev.hK))
  let T : Vec F (M2 512 S.kp) .bf16 ← Prog.lift (.load B.a12 (tR S.ev).toLoadRect (View.loadsAt_vmem S.ev.hT))
  let s := S.masked v2 t0 t1 t2 t3 (scores S.nk C K (qAll q0 q1 q2 q3) (rAll r0 r1 r2 r3))
  let e := wts S.ev kl s
  let l := colSum S.ev e
  let ot := outMat T (S.pad (truncf .bf16 e (by decide)))
  storeTok B.a9 B.h9 B.a10 t0.toNat h0 (oTok 0 (by decide) (by decide) v1 v2 t0 ot (invSum l)) (lTok 0 (by decide) v1 v2 t0 (lseRow sl (colMax S.ev s) l))
  storeTok B.a9 B.h9 B.a10 t1.toNat h1 (oTok 128 (by decide) (by decide) v1 v2 t1 ot (invSum l)) (lTok 128 (by decide) v1 v2 t1 (lseRow sl (colMax S.ev s) l))
  storeTok B.a9 B.h9 B.a10 t2.toNat h2 (oTok 256 (by decide) (by decide) v1 v2 t2 ot (invSum l)) (lTok 256 (by decide) v1 v2 t2 (lseRow sl (colMax S.ev s) l))
  storeTok B.a9 B.h9 B.a10 t3.toNat h3 (oTok 384 (by decide) (by decide) v1 v2 t3 ot (invSum l)) (lTok 384 (by decide) v1 v2 t3 (lseRow sl (colMax S.ev s) l))

/-! ### The loops over units -/

/-- The row a trip's unit works on. -/
def rowW (lb : BitVec 32) (k : Nat) (u j : BitVec 32) : BitVec 32 :=
  Scalar.addi (Scalar.addi (Scalar.muli (Scf.iv lb 1#32 k) 16#32) u) j

/-- How many 16-row trips of a block are live: between none and two. -/
def live (v1 v2 : BitVec 32) : BitVec 32 :=
  Scalar.minsi 2#32 (Scalar.maxsi 0#32 (Scalar.divsi (Scalar.addi (Scalar.subi v1 v2) 15#32) 16#32))

abbrev mid (n : BitVec 32) : BitVec 32 := Scalar.addi 0#32 (Scalar.muli (Scalar.divsi (Scalar.subi n 0#32) 1#32) 1#32)
abbrev top (n : BitVec 32) : BitVec 32 := Scalar.addi 0#32 (Scalar.subi n 0#32)
/-- The main loop and the remainder loop, which never runs. -/
abbrev mainL (n : BitVec 32) : Scf.Loop 32 := ⟨0#32, mid n, 1#32⟩
abbrev remL (n : BitVec 32) : Scf.Loop 32 := ⟨mid n, top n, 1#32⟩

theorem live_cases (v1 v2 : BitVec 32) : live v1 v2 = 0#32 ∨ live v1 v2 = 1#32 ∨ live v1 v2 = 2#32 := by
  unfold live
  generalize Scalar.divsi (Scalar.addi (Scalar.subi v1 v2) 15#32) 16#32 = x
  unfold Scalar.minsi IntOp.minsi Scalar.maxsi IntOp.maxsi
  have e2 : (2#32 : BitVec 32).toInt = 2 := by decide
  have e0 : (0#32 : BitVec 32).toInt = 0 := by decide
  by_cases h : x.slt 0#32 = true
  · left; rw [if_pos h]; decide
  · rw [if_neg h]
    by_cases h2 : (2#32).slt x = true
    · right; right; rw [if_pos h2]
    · rw [if_neg h2]
      simp only [BitVec.slt, decide_eq_true_eq, not_lt] at h h2
      have h1 : x.toInt = 0 ∨ x.toInt = 1 ∨ x.toInt = 2 := by omega
      rcases h1 with h1 | h1 | h1
      · left; exact BitVec.eq_of_toInt_eq (h1.trans (by decide))
      · right; left; exact BitVec.eq_of_toInt_eq (h1.trans (by decide))
      · right; right; exact BitVec.eq_of_toInt_eq (h1.trans (by decide))

theorem main_trips (v1 v2 : BitVec 32) : (mainL (live v1 v2)).trips = (live v1 v2).toNat := by
  rcases live_cases v1 v2 with h | h | h <;> rw [h] <;> decide
theorem live_le (v1 v2 : BitVec 32) : (live v1 v2).toNat ≤ 2 := by
  rcases live_cases v1 v2 with h | h | h <;> rw [h] <;> decide
theorem rem_trips (v1 v2 : BitVec 32) : (remL (live v1 v2)).trips = 0 := by
  rcases live_cases v1 v2 with h | h | h <;> rw [h] <;> decide
theorem main_ok (v1 v2 : BitVec 32) : (mainL (live v1 v2)).OK := by
  rcases live_cases v1 v2 with h | h | h <;> rw [h] <;> decide
theorem rem_ok (v1 v2 : BitVec 32) : (remL (live v1 v2)).OK := by
  rcases live_cases v1 v2 with h | h | h <;> rw [h] <;> decide

theorem rowW_eq (k : Nat) (hk : k < 2) (u j : Fin 4) :
    (rowW 0#32 k (BitVec.ofNat 32 (4 * u.val)) (BitVec.ofNat 32 j.val)).toNat = 16 * k + 4 * u.val + j.val := by
  have : ∀ k : Fin 2, ∀ u j : Fin 4,
    (rowW 0#32 k.val (BitVec.ofNat 32 (4 * u.val)) (BitVec.ofNat 32 j.val)).toNat = 16 * k.val + 4 * u.val + j.val := by decide
  exact this ⟨k, hk⟩ u j

theorem main_row (v1 v2 : BitVec 32) (k : Fin (mainL (live v1 v2)).trips) (u j : Fin 4) :
    (rowW 0#32 k.val (BitVec.ofNat 32 (4 * u.val)) (BitVec.ofNat 32 j.val)).toNat < 32 := by
  have h : k.val < 2 := lt_of_lt_of_le k.isLt (le_of_eq_of_le (main_trips v1 v2) (live_le v1 v2))
  generalize k.val = n at h
  rw [rowW_eq n h]; omega

theorem rem_row (v1 v2 : BitVec 32) (lb : BitVec 32) (k : Fin (remL (live v1 v2)).trips) (u j : Fin 4) :
    (rowW lb k.val (BitVec.ofNat 32 (4 * u.val)) (BitVec.ofNat 32 j.val)).toNat < 32 :=
  absurd (lt_of_lt_of_eq k.isLt (rem_trips v1 v2)) (Nat.not_lt_zero _)

/-- The unit starting at row `u` of a trip. -/
def unitAt (S : Sec F) (kl sl : F .f32) (B : Bufs sig) (v1 v2 lb : BitVec 32) (k : Nat) (u : BitVec 32)
    (h : ∀ j : Fin 4, (rowW lb k u (BitVec.ofNat 32 j.val)).toNat < 32) : Prog (TpuEff nD τ sig (Elt F) Λ .tc) PUnit :=
  unit S kl sl B v1 v2 (rowW lb k u 0#32) (rowW lb k u 1#32) (rowW lb k u 2#32) (rowW lb k u 3#32) (h 0) (h 1) (h 2) (h 3)

/-- One trip: four units. -/
def trip (S : Sec F) (kl sl : F .f32) (B : Bufs sig) (v1 v2 lb : BitVec 32) (k : Nat)
    (h : ∀ u j : Fin 4, (rowW lb k (BitVec.ofNat 32 (4 * u.val)) (BitVec.ofNat 32 j.val)).toNat < 32) :
    Prog (TpuEff nD τ sig (Elt F) Λ .tc) PUnit := do
  unitAt S kl sl B v1 v2 lb k 0#32 (h 0)
  unitAt S kl sl B v1 v2 lb k 4#32 (h 1)
  unitAt S kl sl B v1 v2 lb k 8#32 (h 2)
  unitAt S kl sl B v1 v2 lb k 12#32 (h 3)
  pure ⟨⟩

/-- A key range's main loop. -/
def mainP (S : Sec F) (kl sl : F .f32) (B : Bufs sig) (v1 v2 : BitVec 32) : Prog (TpuEff nD τ sig (Elt F) Λ .tc) PUnit :=
  Scf.Loop.for (mainL (live v1 v2)) (main_ok v1 v2) ⟨⟩ fun k _ => trip S kl sl B v1 v2 0#32 k.val (main_row v1 v2 k)

/-- A key range's remainder loop. -/
def remP (S : Sec F) (kl sl : F .f32) (B : Bufs sig) (v1 v2 : BitVec 32) : Prog (TpuEff nD τ sig (Elt F) Λ .tc) PUnit :=
  Scf.Loop.for (remL (live v1 v2)) (rem_ok v1 v2) ⟨⟩ fun k _ => trip S kl sl B v1 v2 (mid (live v1 v2)) k.val (rem_row v1 v2 _ k)

end Progs

end Mla
end
-- ==== Proof.Body.lean ====
/-
  The whole kernel body as one program over the units: the latents filled at the first step of a batch, the zero fill of
  dead halves, and the ten key ranges.
-/
module

public import proofs.«01_k».proof.Proof.Unit

@[expose] public section

noncomputable section

namespace Mla

open Idealize.ShloMosaic Idealize.ShloMosaic.TcCoe
open Idealize.SL.Sem

/-! ### The ten key ranges -/

theorem ev64 : Ev 64 128 := by constructor <;> decide
theorem ev128 : Ev 128 128 := by constructor <;> decide
theorem ev192 : Ev 192 256 := by constructor <;> decide
theorem ev256 : Ev 256 256 := by constructor <;> decide
theorem ev320 : Ev 320 384 := by constructor <;> decide
theorem ev384 : Ev 384 384 := by constructor <;> decide
theorem ev448 : Ev 448 512 := by constructor <;> decide
theorem ev512 : Ev 512 512 := by constructor <;> decide
theorem ev576 : Ev 576 640 := by constructor <;> decide
theorem ev640 : Ev 640 640 := by constructor <;> decide

section
variable {F : FTy → Type} [FloatOps F]

/-- Keys below 64. -/
def sec64 : Sec F where
  nk := 64
  kp := 128
  ev := ev64
  mask := fun _ t => t
  pad := fun p => concatenate (M2 128 512) 0 [⟨M2 64 512, p⟩, ⟨M2 64 512, broadcast (M2 64 512) (Scalar.ofBits .bf16 0x0000#16)⟩]
    (show Shape.Concatenates [M2 64 512, M2 64 512] (M2 128 512) 0 by decide)

/-- Keys below 128. -/
def sec128 : Sec F where
  nk := 128
  kp := 128
  ev := ev128
  mask := fun s t => concatenate (M2 128 512) 0 [⟨M2 64 512, extractStridedSlice (M2 64 512) ![0, 0] s (by decide)⟩, ⟨M2 64 512, t⟩]
    (show Shape.Concatenates [M2 64 512, M2 64 512] (M2 128 512) 0 by decide)
  pad := fun p => p

/-- Keys below 192. -/
def sec192 : Sec F where
  nk := 192
  kp := 256
  ev := ev192
  mask := fun s t => concatenate (M2 192 512) 0 [⟨M2 128 512, extractStridedSlice (M2 128 512) ![0, 0] s (by decide)⟩, ⟨M2 64 512, t⟩]
    (show Shape.Concatenates [M2 128 512, M2 64 512] (M2 192 512) 0 by decide)
  pad := fun p => concatenate (M2 256 512) 0 [⟨M2 192 512, p⟩, ⟨M2 64 512, broadcast (M2 64 512) (Scalar.ofBits .bf16 0x0000#16)⟩]
    (show Shape.Concatenates [M2 192 512, M2 64 512] (M2 256 512) 0 by decide)

/-- Keys below 256. -/
def sec256 : Sec F where
  nk := 256
  kp := 256
  ev := ev256
  mask := fun s t => concatenate (M2 256 512) 0 [⟨M2 192 512, extractStridedSlice (M2 192 512) ![0, 0] s (by decide)⟩, ⟨M2 64 512, t⟩]
    (show Shape.Concatenates [M2 192 512, M2 64 512] (M2 256 512) 0 by decide)
  pad := fun p => p

/-- Keys below 320. -/
def sec320 : Sec F where
  nk := 320
  kp := 384
  ev := ev320
  mask := fun s t => concatenate (M2 320 512) 0 [⟨M2 256 512, extractStridedSlice (M2 256 512) ![0, 0] s (by decide)⟩, ⟨M2 64 512, t⟩]
    (show Shape.Concatenates [M2 256 512, M2 64 512] (M2 320 512) 0 by decide)
  pad := fun p => concatenate (M2 384 512) 0 [⟨M2 320 512, p⟩, ⟨M2 64 512, broadcast (M2 64 512) (Scalar.ofBits .bf16 0x0000#16)⟩]
    (show Shape.Concatenates [M2 320 512, M2 64 512] (M2 384 512) 0 by decide)

/-- Keys below 384. -/
def sec384 : Sec F where
  nk := 384
  kp := 384
  ev := ev384
  mask := fun s t => concatenate (M2 384 512) 0 [⟨M2 320 512, extractStridedSlice (M2 320 512) ![0, 0] s (by decide)⟩, ⟨M2 64 512, t⟩]
    (show Shape.Concatenates [M2 320 512, M2 64 512] (M2 384 512) 0 by decide)
  pad := fun p => p

/-- Keys below 448. -/
def sec448 : Sec F where
  nk := 448
  kp := 512
  ev := ev448
  mask := fun s t => concatenate (M2 448 512) 0 [⟨M2 384 512, extractStridedSlice (M2 384 512) ![0, 0] s (by decide)⟩, ⟨M2 64 512, t⟩]
    (show Shape.Concatenates [M2 384 512, M2 64 512] (M2 448 512) 0 by decide)
  pad := fun p => concatenate (M2 512 512) 0 [⟨M2 448 512, p⟩, ⟨M2 64 512, broadcast (M2 64 512) (Scalar.ofBits .bf16 0x0000#16)⟩]
    (show Shape.Concatenates [M2 448 512, M2 64 512] (M2 512 512) 0 by decide)

/-- Keys below 512. -/
def sec512 : Sec F where
  nk := 512
  kp := 512
  ev := ev512
  mask := fun s t => concatenate (M2 512 512) 0 [⟨M2 448 512, extractStridedSlice (M2 448 512) ![0, 0] s (by decide)⟩, ⟨M2 64 512, t⟩]
    (show Shape.Concatenates [M2 448 512, M2 64 512] (M2 512 512) 0 by decide)
  pad := fun p => p

/-- Keys below 576. -/
def sec576 : Sec F where
  nk := 576
  kp := 640
  ev := ev576
  mask := fun s t => concatenate (M2 576 512) 0 [⟨M2 512 512, extractStridedSlice (M2 512 512) ![0, 0] s (by decide)⟩, ⟨M2 64 512, t⟩]
    (show Shape.Concatenates [M2 512 512, M2 64 512] (M2 576 512) 0 by decide)
  pad := fun p => concatenate (M2 640 512) 0 [⟨M2 576 512, p⟩, ⟨M2 64 512, broadcast (M2 64 512) (Scalar.ofBits .bf16 0x0000#16)⟩]
    (show Shape.Concatenates [M2 576 512, M2 64 512] (M2 640 512) 0 by decide)

/-- Keys below 640. -/
def sec640 : Sec F where
  nk := 640
  kp := 640
  ev := ev640
  mask := fun s t => concatenate (M2 640 512) 0 [⟨M2 576 512, extractStridedSlice (M2 576 512) ![0, 0] s (by decide)⟩, ⟨M2 64 512, t⟩]
    (show Shape.Concatenates [M2 576 512, M2 64 512] (M2 640 512) 0 by decide)
  pad := fun p => p

end

/-! ### The latents -/

theorem inbL3 {A B : Nat} (o p b c : Nat) (ho : o + b ≤ A) (hp : p + c ≤ B) :
    ∀ a, (![0, o, p] : Fin 3 → Nat) a + (T3 1 b c).size a ≤ (T3 1 A B).size a := by
  intro a; fin_cases a <;> simp <;> omega
theorem inbM {A B : Nat} (o p b c : Nat) (ho : o + b ≤ A) (hp : p + c ≤ B) :
    ∀ a, (![o, p] : Fin 2 → Nat) a + (M2 b c).size a ≤ (M2 A B).size a := by
  intro a; fin_cases a <;> simp <;> omega

/-- The 128 × 128 block of an `A × B` matrix at `(o, p)`, and such a rectangle of other sizes. -/
abbrev matR (A B o p b c : Nat) (ho : o + b ≤ A) (hp : p + c ≤ B) : Rect (M2 A B) :=
  Rect.unit (s := M2 A B) ![o, p] (M2 b c).size (inbM o p b c ho hp)
abbrev cubR (A B o p b c : Nat) (ho : o + b ≤ A) (hp : p + c ≤ B) : Rect (T3 1 A B) :=
  Rect.unit (s := T3 1 A B) ![0, o, p] (T3 1 b c).size (inbL3 o p b c ho hp)

theorem matR_packed (A B o p b c : Nat) (ho : o + b ≤ A) (hp : p + c ≤ B) (h1 : 2 ∣ o) (h2 : 2 ∣ b) :
    (matR A B o p b c ho hp).PackedRows (EltTy.packing .bf16) :=
  .inr ⟨Nat.le_refl 2, rfl, .inl ⟨h1, h2⟩⟩

section
variable {F : FTy → Type} [FloatOps F]

/-- One dequantised block of the latents, transposed. -/
def latT (c : Vec F (T3 1 128 128) .fp8e4m3) (s : Vec F (T3 1 1 128) .f32) : FVec F (M2 128 128) .bf16 :=
  mulf (transpose (M2 128 128) [1, 0] (extf .bf16 (shapeCast (M2 128 128) c (by decide)) (by decide)) (by decide))
    (broadcastTo (M2 128 128) (truncf .bf16 (shapeCast (M2 1 128) s (by decide)) (by decide)) (by decide))
def latT' (c : Vec F (T3 1 128 128) .fp8e4m3) (s : Vec F (T3 1 1 128) .f32) : FVec F (M2 128 128) .bf16 :=
  shapeCast (M2 128 128) (latT c s) (by decide)
/-- The same block untransposed. -/
def latN (c : Vec F (T3 1 128 128) .fp8e4m3) (s : Vec F (T3 1 1 128) .f32) : FVec F (M2 128 128) .bf16 :=
  shapeCast (M2 128 128) (transpose (M2 128 128) [1, 0] (latT c s) (by decide)) (by decide)
/-- One block of the rope keys, transposed. -/
def ropeN (r : Vec F (T3 1 64 128) .bf16) : FVec F (M2 128 64) .bf16 :=
  shapeCast (M2 128 64) (transpose (M2 128 64) [1, 0] (shapeCast (M2 64 128) r (by decide) : FVec F (M2 64 128) .bf16) (by decide)) (by decide)
end

section Progs
variable {F : FTy → Type} [FloatOps F] {nD : Nat} {τ : Topo} {sig : RefSig} {Λ : Labels}

/-- Fill the block of lanes `o …` and keys `p …`, of scale group `g`. -/
def latGrp (B : Bufs sig) (g o p : Nat) (hg : g + 1 ≤ 4) (ho : o + 128 ≤ 512) (hp : p + 128 ≤ 640) (h1 : 2 ∣ o) (h2 : 2 ∣ p) :
    Prog (TpuEff nD τ sig (Elt F) Λ .tc) PUnit := do
  let c : Vec F (T3 1 128 128) .fp8e4m3 ← Prog.lift (.load B.a6 (cubR 640 512 p o 128 128 hp ho).toLoadRect (View.loadsAt_vmem (by show 0 < (T3 1 128 128).numel; decide)))
  let s : Vec F (T3 1 1 128) .f32 ← Prog.lift (.load B.a7 (cubR 4 640 g p 1 128 hg hp).toLoadRect (View.loadsAt_vmem (by show 0 < (T3 1 1 128).numel; decide)))
  let _ : Vec F (M2 128 128) .bf16 ← Prog.lift (.load B.a12 (matR 512 640 o p 128 128 ho hp).toLoadRect (View.loadsAt_vmem (by show 0 < (M2 128 128).numel; decide)))
  Prog.lift (.store B.a12 (matR 512 640 o p 128 128 ho hp) (latT' c s) Finset.univ
    (View.stores_vmem (by show 0 < (M2 128 128).numel; decide) (B.h12.storeExact_slice rfl _ (matR_packed _ _ _ _ _ _ ho hp h1 (by decide))) (fun _ => rfl)) (.inl rfl))
  let _ : Vec F (M2 128 128) .bf16 ← Prog.lift (.load B.a11 (matR 640 512 p o 128 128 hp ho).toLoadRect (View.loadsAt_vmem (by show 0 < (M2 128 128).numel; decide)))
  Prog.lift (.store B.a11 (matR 640 512 p o 128 128 hp ho) (latN c s) Finset.univ
    (View.stores_vmem (by show 0 < (M2 128 128).numel; decide) (B.h11.storeExact_slice rfl _ (matR_packed _ _ _ _ _ _ hp ho h2 (by decide))) (fun _ => rfl)) (.inl rfl))

/-- Fill 128 keys from `p`. -/
def latBlk (B : Bufs sig) (p : Nat) (hp : p + 128 ≤ 640) (h2 : 2 ∣ p) : Prog (TpuEff nD τ sig (Elt F) Λ .tc) PUnit := do
  latGrp B 0 0 p (by decide) (by decide) hp (by decide) h2
  latGrp B 1 128 p (by decide) (by decide) hp (by decide) h2
  latGrp B 2 256 p (by decide) (by decide) hp (by decide) h2
  latGrp B 3 384 p (by decide) (by decide) hp (by decide) h2
  let r : Vec F (T3 1 64 128) .bf16 ← Prog.lift (.load B.a8 (cubR 64 640 0 p 64 128 (by decide) hp).toLoadRect (View.loadsAt_vmem (by show 0 < (T3 1 64 128).numel; decide)))
  let _ : Vec F (M2 128 64) .bf16 ← Prog.lift (.load B.a13 (matR 640 64 p 0 128 64 hp (by decide)).toLoadRect (View.loadsAt_vmem (by show 0 < (M2 128 64).numel; decide)))
  Prog.lift (.store B.a13 (matR 640 64 p 0 128 64 hp (by decide)) (ropeN r) Finset.univ
    (View.stores_vmem (by show 0 < (M2 128 64).numel; decide) (B.h13.storeExact_slice rfl _ (matR_packed _ _ _ _ _ _ hp (by decide) h2 (by decide))) (fun _ => rfl)) (.inl rfl))

def latents (B : Bufs sig) : Prog (TpuEff nD τ sig (Elt F) Λ .tc) PUnit := do
  latBlk B 0 (by decide) (by decide)
  latBlk B 128 (by decide) (by decide)
  latBlk B 256 (by decide) (by decide)
  latBlk B 384 (by decide) (by decide)
  latBlk B 512 (by decide) (by decide)
  pure ⟨⟩

/-! ### The zero fill -/

theorem inbZ4 (o : Nat) (ho : o + 16 ≤ 32) : ∀ a, (![0, o, 0, 0] : Fin 4 → Nat) a + (T4 1 16 128 512).size a ≤ B3.size a := by
  intro a; fin_cases a <;> simp; omega
theorem inbZ3 (o : Nat) (ho : o + 16 ≤ 32) : ∀ a, (![0, o, 0] : Fin 3 → Nat) a + (T3 1 16 128).size a ≤ B10.size a := by
  intro a; fin_cases a <;> simp; omega
abbrev zO (o : Nat) (ho : o + 16 ≤ 32) : Rect B3 := Rect.unit (s := B3) ![0, o, 0, 0] (T4 1 16 128 512).size (inbZ4 o ho)
abbrev zL (o : Nat) (ho : o + 16 ≤ 32) : Rect B10 := Rect.unit (s := B10) ![0, o, 0] (T3 1 16 128).size (inbZ3 o ho)
theorem zO_packed (o : Nat) (ho : o + 16 ≤ 32) : (zO o ho).PackedRows (EltTy.packing .bf16) :=
  .inr ⟨by decide, rfl, .inr ⟨rfl, rfl, rfl, rfl, rfl⟩⟩
def zeroO : Vec F (T4 1 16 128 512) .bf16 :=
  shapeCast (T4 1 16 128 512) (broadcast (T3 16 128 512) (Scalar.ofBits .bf16 0x0000#16 : F .bf16)) (by decide)
def zeroL : Vec F (T3 1 16 128) .f32 :=
  shapeCast (T3 1 16 128) (broadcast (M2 16 128) (Scalar.ofBits .f32 0x00000000#32 : F .f32)) (by decide)

/-- Zero the sixteen rows from `o`. -/
def zeroFill (B : Bufs sig) (o : Nat) (ho : o + 16 ≤ 32) : Prog (TpuEff nD τ sig (Elt F) Λ .tc) PUnit := do
  let _ : Vec F (T4 1 16 128 512) .bf16 ← Prog.lift (.load B.a9 (zO o ho).toLoadRect (View.loadsAt_vmem (by show 0 < (T4 1 16 128 512).numel; decide)))
  Prog.lift (.store B.a9 (zO o ho) zeroO Finset.univ
    (View.stores_vmem (by show 0 < (T4 1 16 128 512).numel; decide) (B.h9.storeExact_slice rfl _ (zO_packed o ho)) (fun _ => rfl)) (.inl rfl))
  let _ : Vec F (T3 1 16 128) .f32 ← Prog.lift (.load B.a10 (zL o ho).toLoadRect (View.loadsAt_vmem (by show 0 < (T3 1 16 128).numel; decide)))
  Prog.lift (.store B.a10 (zL o ho) zeroL Finset.univ (View.stores_vmem_bits_univ (by show 0 < (T3 1 16 128).numel; decide) rfl) (.inl rfl))
  pure ⟨⟩

/-! ### The body -/

/-- The printed test that a word is nonzero after widening a one-bit condition. -/
abbrev nz (b : BitVec 1) : BitVec 1 := Scalar.cmpi .ne (Scalar.extui b : BitVec 32) 0#32
/-- The printed test `lo ≤ v < hi`. -/
abbrev isIn (v lo hi : BitVec 32) : BitVec 1 := nz (Scalar.andi (Scalar.cmpi .sge v lo) (Scalar.cmpi .slt v hi))

/-- The step's first row. -/
abbrev row0 (a1 : BitVec 32) : BitVec 32 := Scalar.muli a1 32#32

/-- What follows the reading of the length, up to the second key range. -/
def bodyA1 (kl sl : F .f32) (B : Bufs sig) (chk : BitVec 32 → Prop) (a1 : BitVec 32) (v1 : Elt F .i32) (hw : chk v1) :
    Prog (TpuEff nD τ sig (Elt F) Λ .tc) (Σ' (v1 : Elt F .i32) (_ : chk v1) (_ : BitVec 32) (_ : BitVec 32), BitVec 32) := do
  let v2 : BitVec 32 := row0 a1
  if h1 : nz (Scalar.cmpi .eq a1 0#32) = 1#1 then do
    latents B
  else do
    pure ⟨⟩
  if h2 : nz (Scalar.cmpi .sge (Scalar.addi v2 0#32) v1) = 1#1 then do
    zeroFill B 0 (by decide)
  else do
    pure ⟨⟩
  if h3 : nz (Scalar.cmpi .sge (Scalar.addi v2 16#32) v1) = 1#1 then do
    zeroFill B 16 (by decide)
  else do
    pure ⟨⟩
  if h4 : isIn v2 0#32 64#32 = 1#1 then do
    mainP sec64 kl sl B v1 v2
    remP sec64 kl sl B v1 v2
    pure ⟨⟩
  else do
    pure ⟨⟩
  if h5 : isIn v2 64#32 128#32 = 1#1 then do
    mainP sec128 kl sl B v1 v2
    remP sec128 kl sl B v1 v2
    pure ⟨⟩
  else do
    pure ⟨⟩
  pure ⟨v1, hw, v2, live v1 v2, Scalar.extui (Scalar.andi (Scalar.cmpi .sge v2 128#32) (Scalar.cmpi .slt v2 192#32))⟩

/-- The body up to the second key range. -/
def bodyA (kl sl : F .f32) (B : Bufs sig) (a2 : Memref sig .tc .smem ⟨1, ![2]⟩ .i32) (r : Rect ⟨1, ![2]⟩) (hr : r.shape.numel = 1)
    (chk : BitVec 32 → Prop) (dec : ∀ v, Decidable (chk v)) (a1 : BitVec 32) :
    Prog (TpuEff nD τ sig (Elt F) Λ .tc) (Σ' (v1 : Elt F .i32) (_ : chk v1) (_ : BitVec 32) (_ : BitVec 32), BitVec 32) := do
  let v1 : Elt F .i32 ← smemLoad a2 r hr rfl
  let u ← Prog.lift (TpuEff.assume (chk v1) (dec v1))
  bodyA1 kl sl B chk a1 v1 u.down

/-- The next seven key ranges. -/
def bodyB (kl sl : F .f32) (B : Bufs sig) (v1 : BitVec 32) (v2 : BitVec 32) :
    Prog (TpuEff nD τ sig (Elt F) Λ .tc) (Σ' (_ : BitVec 1), BitVec 32) := do
  if h : isIn v2 128#32 192#32 = 1#1 then do
    mainP sec192 kl sl B v1 v2
    remP sec192 kl sl B v1 v2
    pure ⟨⟩
  else do
    pure ⟨⟩
  if h : isIn v2 192#32 256#32 = 1#1 then do
    mainP sec256 kl sl B v1 v2
    remP sec256 kl sl B v1 v2
    pure ⟨⟩
  else do
    pure ⟨⟩
  if h : isIn v2 256#32 320#32 = 1#1 then do
    mainP sec320 kl sl B v1 v2
    remP sec320 kl sl B v1 v2
    pure ⟨⟩
  else do
    pure ⟨⟩
  if h : isIn v2 320#32 384#32 = 1#1 then do
    mainP sec384 kl sl B v1 v2
    remP sec384 kl sl B v1 v2
    pure ⟨⟩
  else do
    pure ⟨⟩
  if h : isIn v2 384#32 448#32 = 1#1 then do
    mainP sec448 kl sl B v1 v2
    remP sec448 kl sl B v1 v2
    pure ⟨⟩
  else do
    pure ⟨⟩
  if h : isIn v2 448#32 512#32 = 1#1 then do
    mainP sec512 kl sl B v1 v2
    remP sec512 kl sl B v1 v2
    pure ⟨⟩
  else do
    pure ⟨⟩
  if h : isIn v2 512#32 576#32 = 1#1 then do
    mainP sec576 kl sl B v1 v2
    remP sec576 kl sl B v1 v2
    pure ⟨⟩
  else do
    pure ⟨⟩
  pure ⟨Scalar.cmpi .sge v2 576#32, 640#32⟩

/-- The last key range. -/
def bodyC (kl sl : F .f32) (B : Bufs sig) (v1 : BitVec 32) (v2 : BitVec 32) : Prog (TpuEff nD τ sig (Elt F) Λ .tc) PUnit := do
  if h : isIn v2 576#32 640#32 = 1#1 then do
    mainP sec640 kl sl B v1 v2
    remP sec640 kl sl B v1 v2
    pure ⟨⟩
  else do
    pure ⟨⟩
  pure ⟨⟩

end Progs

end Mla
end
-- ==== Proof.EqK.lean ====
/-
  The printed body is the generic one.
-/
module

public import proofs.«01_k».proof.Proof.Body
public import proofs.«01_k».proof.Proof.Gen.Kernel
public import Idealize.ShloMosaic.Lib.Pipeline.Regions

@[expose] public section

noncomputable section

namespace Cert.Kernel

open Idealize.ShloMosaic Idealize.ShloMosaic.TcCoe
open Idealize.SL.Sem Mla

variable {F : FTy → Type} [FloatOps F]

/-- The two scale constants of the body. -/
def kl : F .f32 := Scalar.ofBits .f32 0x3DD53B95#32
def sl : F .f32 := Scalar.ofBits .f32 0x3D93CD3A#32

/-- Where the step reads its length. -/
def lenR (i : grid0.Coords) : Rect ⟨1, ![2]⟩ := Rect.unit (s := S2) (k0_off1 i) S1.size (Facts₀.k0_off1_inb i)

def lenR_numel (i : grid0.Coords) : (lenR i).shape.numel = 1 := Facts₀.numel1_S1

/-- The step's second coordinate as the body reads it. -/
abbrev arg1 (i : grid0.Coords) : BitVec 32 := BitVec.ofNat 32 (i 1).val

/-- The word the first part hands on beside the row and the live count. -/
abbrev in128 (v2 : BitVec 32) : BitVec 32 := Scalar.extui (Scalar.andi (Scalar.cmpi .sge v2 128#32) (Scalar.cmpi .slt v2 192#32))

set_option maxRecDepth 1000000 in
theorem partA_eq (i : grid0.Coords) (a2 : Memref sig .tc .smem S2 .i32) (h2 : a2.IsWhole) (B : Bufs sig) :
    k0_part691 (F := F) i a2 h2 B.a3 B.h3 B.a4 B.h4 B.a5 B.h5 B.a6 B.h6 B.a7 B.h7 B.a8 B.h8 B.a9 B.h9 B.a10 B.h10 B.a11 B.h11 B.a12 B.h12 B.a13 B.h13
      = bodyA kl sl B a2 (lenR i) (lenR_numel i) (k0_chk1 i) (k0_chk1.dec i) (arg1 i) := by
  chain_rfl

set_option maxRecDepth 1000000 in
theorem partB_eq (i : grid0.Coords) (a2 : Memref sig .tc .smem S2 .i32) (h2 : a2.IsWhole) (B : Bufs sig) (v1 : Elt F .i32) (hw : k0_chk1 i v1) :
    k0_part692 (F := F) i a2 h2 B.a3 B.h3 B.a4 B.h4 B.a5 B.h5 B.a6 B.h6 B.a7 B.h7 B.a8 B.h8 B.a9 B.h9 B.a10 B.h10 B.a11 B.h11 B.a12 B.h12 B.a13 B.h13 v1 hw (row0 (arg1 i)) (live v1 (row0 (arg1 i))) (in128 (row0 (arg1 i)))
      = bodyB kl sl B v1 (row0 (arg1 i)) := by
  chain_rfl

set_option maxRecDepth 1000000 in
/-- The body: its first part, and what follows the tuple that part hands on. -/
theorem body_eq (i : grid0.Coords) (a2 : Memref sig .tc .smem S2 .i32) (h2 : a2.IsWhole) (B : Bufs sig) :
    ∃ rest, cc0_mla_prompt (F := F) i a2 h2 B.a3 B.h3 B.a4 B.h4 B.a5 B.h5 B.a6 B.h6 B.a7 B.h7 B.a8 B.h8 B.a9 B.h9 B.a10 B.h10 B.a11 B.h11 B.a12 B.h12 B.a13 B.h13
        = Prog.bind (bodyA kl sl B a2 (lenR i) (lenR_numel i) (k0_chk1 i) (k0_chk1.dec i) (arg1 i)) rest ∧
      ∀ v1 hw, rest ⟨v1, hw, row0 (arg1 i), live v1 (row0 (arg1 i)), in128 (row0 (arg1 i))⟩
        = Prog.bind (bodyB kl sl B v1 (row0 (arg1 i))) (fun _ => bodyC kl sl B v1 (row0 (arg1 i))) := by
  simp only [← partA_eq i a2 h2 B]
  refine ⟨_, by unfold cc0_mla_prompt; rfl, fun v1 hw => ?_⟩
  refine Eq.trans (b := Prog.bind (k0_part692 (F := F) i a2 h2 B.a3 B.h3 B.a4 B.h4 B.a5 B.h5 B.a6 B.h6 B.a7 B.h7 B.a8 B.h8 B.a9 B.h9 B.a10 B.h10 B.a11 B.h11 B.a12 B.h12 B.a13 B.h13 v1 hw (row0 (arg1 i)) (live v1 (row0 (arg1 i))) (in128 (row0 (arg1 i)))) (fun _ => bodyC kl sl B v1 (row0 (arg1 i)))) ?_
    (congrArg (fun p => Prog.bind p _) (partB_eq i a2 h2 B v1 hw))
  chain_rfl

end Cert.Kernel
end
-- ==== Proof.OkK.lean ====
/-
  Every table of lengths is admissible: the query windows' blocks lie inside their arrays at every step.
-/
module

public import proofs.«01_k».proof.Proof.Blk
public import proofs.«01_k».proof.Proof.EqK

@[expose] public section

noncomputable section

namespace Cert.Kernel

open Idealize.ShloMosaic Idealize.ShloMosaic.TcCoe Mla

variable {F : FTy → Type} [FloatOps F]

/-- The batch's length at step `i`, read from the table's contents. -/
def lenAt (pf : pre0.Contents (Elt F)) (i : grid0.Coords) : BitVec 32 :=
  pf.at 0 (Rect.unit (s := S2) ![(Scalar.indexCast (BitVec.ofNat 32 (i 0).val)).toNat] S1.size (Facts₀.k0_off1_inb i)) Facts₀.numel1_S1

theorem tr0 (pf : pre0.Contents (Elt F)) (i : grid0.Coords) :
    cc0_transform_0 Facts₀.k0_off1_inb Facts₀.numel1_S1 pf i = ![(BitVec.ofNat 32 (i 0).val).toNat, (qBlk (arg1 i) (lenAt pf i)).toNat, 0, 0] := rfl
theorem tr1 (pf : pre0.Contents (Elt F)) (i : grid0.Coords) :
    cc0_transform_1 Facts₀.k0_off1_inb Facts₀.numel1_S1 pf i = ![(BitVec.ofNat 32 (i 0).val).toNat, (qBlk (arg1 i) (lenAt pf i)).toNat, 0, 0] := rfl
theorem tr2 (pf : pre0.Contents (Elt F)) (i : grid0.Coords) :
    cc0_transform_2 Facts₀.k0_off1_inb Facts₀.numel1_S1 pf i = ![(BitVec.ofNat 32 (i 0).val).toNat, (qBlk (arg1 i) (lenAt pf i)).toNat, 0, 0] := rfl

theorem arg1_lt (i : grid0.Coords) : (arg1 i).toNat < 20 := by
  have h : (i 1).val < 20 := (i 1).isLt
  simp only [arg1, BitVec.toNat_ofNat]; omega
theorem arg0_lt (i : grid0.Coords) : (BitVec.ofNat 32 (i 0).val).toNat < 2 := by
  have h : (i 0).val < 2 := (i 0).isLt
  simp only [BitVec.toNat_ofNat]; omega

theorem ok_all (pf : pre0.Contents (Elt F)) : ok0 pf := by
  have hq : ∀ i, (qBlk (arg1 i) (lenAt pf i)).toNat < 20 := fun i => Nat.lt_of_le_of_lt (qBlk_le _ _ (arg1_lt i)) (arg1_lt i)
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩⟩
  · rw [tr0]; have h0 := arg0_lt i; have h1 := hq i
    match a with
    | 0 => show ((BitVec.ofNat 32 (i 0).val).toNat + 1) * 1 ≤ 2; omega
    | 1 => show ((qBlk (arg1 i) (lenAt pf i)).toNat + 1) * 32 ≤ 640; omega
    | 2 => show (0 + 1) * 128 ≤ 128; omega
    | 3 => show (0 + 1) * 512 ≤ 512; omega
  · rw [tr1]; have h0 := arg0_lt i; have h1 := hq i
    match a with
    | 0 => show ((BitVec.ofNat 32 (i 0).val).toNat + 1) * 1 ≤ 2; omega
    | 1 => show ((qBlk (arg1 i) (lenAt pf i)).toNat + 1) * 32 ≤ 640; omega
    | 2 => show (0 + 1) * 4 ≤ 4; omega
    | 3 => show (0 + 1) * 128 ≤ 128; omega
  · rw [tr2]; have h0 := arg0_lt i; have h1 := hq i
    match a with
    | 0 => show ((BitVec.ofNat 32 (i 0).val).toNat + 1) * 1 ≤ 2; omega
    | 1 => show ((qBlk (arg1 i) (lenAt pf i)).toNat + 1) * 32 ≤ 640; omega
    | 2 => show (0 + 1) * 64 ≤ 64; omega
    | 3 => show (0 + 1) * 128 ≤ 128; omega

end Cert.Kernel

end
-- ==== Proof.Spec.lean ====
/-
  What the parts of the body do to the memrefs they work on, as functions of the contents.
-/
module

public import proofs.«01_k».proof.Proof.Body
public import proofs.«01_k».proof.Proof.Rules

@[expose] public section

set_option cleanup.letToHave false

noncomputable section

namespace Mla

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode

/-- The contents of the memrefs of one step. -/
structure State (F : FTy → Type) where
  x3 : Vec F B3 .fp8e4m3
  x4 : Vec F B4 .f32
  x5 : Vec F B5 .bf16
  x6 : Vec F B6 .fp8e4m3
  x7 : Vec F B7 .f32
  x8 : Vec F B8 .bf16
  y9 : Vec F B3 .bf16
  y10 : Vec F B10 .f32
  z11 : Vec F (M2 640 512) .bf16
  z12 : Vec F (M2 512 640) .bf16
  z13 : Vec F (M2 640 64) .bf16

/-! ### The contents after each part -/

section Fun
variable {F : FTy → Type} [FloatOps F]

def grpV (s : State F) (n : Nat) (hn : n < 32) (g : Nat) (hg : g + 1 ≤ 4) (o : Nat) (ho : o + 128 ≤ 512) : FVec F (M2 128 128) .bf16 :=
  grp (ld s.x3 (codeR n hn o ho)) (ld s.x4 (scaleR n hn g hg))

/-- One dequantised query row of the block. -/
def tokV (s : State F) (n : Nat) (hn : n < 32) : FVec F (M2 512 128) .bf16 :=
  stackTok (grpV s n hn 0 (by decide) 0 (by decide)) (grpV s n hn 1 (by decide) 128 (by decide))
    (grpV s n hn 2 (by decide) 256 (by decide)) (grpV s n hn 3 (by decide) 384 (by decide))

def ropeV (s : State F) (n : Nat) (hn : n < 32) : FVec F (M2 64 128) .bf16 := ropeTok (ld s.x5 (ropeR n hn))

def storeF (n : Nat) (hn : n < 32) (o : Vec F (T4 1 1 128 512) .bf16) (l : Vec F (T3 1 1 128) .f32) (s : State F) : State F :=
  { s with y9 := upd s.y9 (outR n hn) o, y10 := upd s.y10 (lseR n hn) l }

/-- The masked scores of one unit. -/
def unitS (S : Sec F) (v2 t0 t1 t2 t3 : BitVec 32) (h0 : t0.toNat < 32) (h1 : t1.toNat < 32)
    (h2 : t2.toNat < 32) (h3 : t3.toNat < 32) (s : State F) : FVec F (M2 S.nk 512) .f32 :=
  S.masked v2 t0 t1 t2 t3 (scores S.nk (ld s.z11 (cR S.ev)) (ld s.z13 (kR S.ev))
    (qAll (tokV s t0.toNat h0) (tokV s t1.toNat h1) (tokV s t2.toNat h2) (tokV s t3.toNat h3))
    (rAll (ropeV s t0.toNat h0) (ropeV s t1.toNat h1) (ropeV s t2.toNat h2) (ropeV s t3.toNat h3)))

/-- The weighted sum, the inverse sums and the log-sum-exps of masked scores. -/
def unitO (S : Sec F) (kl : F .f32) (T : FVec F (M2 512 S.kp) .bf16) (m : FVec F (M2 S.nk 512) .f32) : FVec F (M2 512 512) .f32 :=
  outMat T (S.pad (truncf .bf16 (wts S.ev kl m) (by decide)))
def unitI (S : Sec F) (kl : F .f32) (m : FVec F (M2 S.nk 512) .f32) : FVec F (M2 1 512) .f32 :=
  invSum (colSum S.ev (wts S.ev kl m))
def unitL (S : Sec F) (kl sl : F .f32) (m : FVec F (M2 S.nk 512) .f32) : FVec F (M2 1 512) .f32 :=
  lseRow sl (colMax S.ev m) (colSum S.ev (wts S.ev kl m))

/-- The four stores of one unit, from its masked scores. -/
def storesF (S : Sec F) (kl sl : F .f32) (v1 v2 t0 t1 t2 t3 : BitVec 32) (h0 : t0.toNat < 32) (h1 : t1.toNat < 32)
    (h2 : t2.toNat < 32) (h3 : t3.toNat < 32) (m : FVec F (M2 S.nk 512) .f32) (T : FVec F (M2 512 S.kp) .bf16) (s : State F) : State F :=
  storeF t3.toNat h3 (oTok 384 (by decide) (by decide) v1 v2 t3 (unitO S kl T m) (unitI S kl m)) (lTok 384 (by decide) v1 v2 t3 (unitL S kl sl m))
  (storeF t2.toNat h2 (oTok 256 (by decide) (by decide) v1 v2 t2 (unitO S kl T m) (unitI S kl m)) (lTok 256 (by decide) v1 v2 t2 (unitL S kl sl m))
  (storeF t1.toNat h1 (oTok 128 (by decide) (by decide) v1 v2 t1 (unitO S kl T m) (unitI S kl m)) (lTok 128 (by decide) v1 v2 t1 (unitL S kl sl m))
  (storeF t0.toNat h0 (oTok 0 (by decide) (by decide) v1 v2 t0 (unitO S kl T m) (unitI S kl m)) (lTok 0 (by decide) v1 v2 t0 (unitL S kl sl m)) s)))

def unitF (S : Sec F) (kl sl : F .f32) (v1 v2 t0 t1 t2 t3 : BitVec 32) (h0 : t0.toNat < 32) (h1 : t1.toNat < 32)
    (h2 : t2.toNat < 32) (h3 : t3.toNat < 32) (s : State F) : State F :=
  storesF S kl sl v1 v2 t0 t1 t2 t3 h0 h1 h2 h3 (unitS S v2 t0 t1 t2 t3 h0 h1 h2 h3 s) (ld s.z12 (tR S.ev)) s

open Classical in
def unitAtF (S : Sec F) (kl sl : F .f32) (v1 v2 lb : BitVec 32) (k : Nat) (u : BitVec 32) (s : State F) : State F :=
  if h : ∀ j : Fin 4, (rowW lb k u (BitVec.ofNat 32 j.val)).toNat < 32 then
    unitF S kl sl v1 v2 (rowW lb k u 0#32) (rowW lb k u 1#32) (rowW lb k u 2#32) (rowW lb k u 3#32) (h 0) (h 1) (h 2) (h 3) s
  else s

def tripF (S : Sec F) (kl sl : F .f32) (v1 v2 lb : BitVec 32) (k : Nat) (s : State F) : State F :=
  unitAtF S kl sl v1 v2 lb k 12#32 (unitAtF S kl sl v1 v2 lb k 8#32 (unitAtF S kl sl v1 v2 lb k 4#32 (unitAtF S kl sl v1 v2 lb k 0#32 s)))

/-- Trips `0 … n-1` one after another. -/
def loopF (f : Nat → State F → State F) : Nat → State F → State F
  | 0, s => s
  | n + 1, s => f n (loopF f n s)

def secF (S : Sec F) (kl sl : F .f32) (v1 v2 : BitVec 32) (s : State F) : State F :=
  loopF (fun k => tripF S kl sl v1 v2 0#32 k) (live v1 v2).toNat s

def latGrpF (g o p : Nat) (hg : g + 1 ≤ 4) (ho : o + 128 ≤ 512) (hp : p + 128 ≤ 640) (s : State F) : State F :=
  { s with
    z12 := upd s.z12 (matR 512 640 o p 128 128 ho hp) (latT' (ld s.x6 (cubR 640 512 p o 128 128 hp ho)) (ld s.x7 (cubR 4 640 g p 1 128 hg hp)))
    z11 := upd s.z11 (matR 640 512 p o 128 128 hp ho) (latN (ld s.x6 (cubR 640 512 p o 128 128 hp ho)) (ld s.x7 (cubR 4 640 g p 1 128 hg hp))) }

def latRopeF (p : Nat) (hp : p + 128 ≤ 640) (s : State F) : State F :=
  { s with z13 := upd s.z13 (matR 640 64 p 0 128 64 hp (by decide)) (ropeN (ld s.x8 (cubR 64 640 0 p 64 128 (by decide) hp))) }

def latBlkF (p : Nat) (hp : p + 128 ≤ 640) (s : State F) : State F :=
  latRopeF p hp (latGrpF 3 384 p (by decide) (by decide) hp (latGrpF 2 256 p (by decide) (by decide) hp
    (latGrpF 1 128 p (by decide) (by decide) hp (latGrpF 0 0 p (by decide) (by decide) hp s))))

/-- The scratch filled. -/
def latF (s : State F) : State F :=
  latBlkF 512 (by decide) (latBlkF 384 (by decide) (latBlkF 256 (by decide) (latBlkF 128 (by decide) (latBlkF 0 (by decide) s))))

def zeroF (o : Nat) (ho : o + 16 ≤ 32) (s : State F) : State F :=
  { s with y9 := upd s.y9 (zO o ho) zeroO, y10 := upd s.y10 (zL o ho) zeroL }

def rngF (S : Sec F) (lo hi : BitVec 32) (kl sl : F .f32) (v1 v2 : BitVec 32) (s : State F) : State F :=
  if isIn v2 lo hi = 1#1 then secF S kl sl v1 v2 s else s

/-- The first part. -/
def bodyAF (kl sl : F .f32) (v1 a1 : BitVec 32) (s : State F) : State F :=
  rngF sec128 64#32 128#32 kl sl v1 (row0 a1) (rngF sec64 0#32 64#32 kl sl v1 (row0 a1)
    ((fun s => if nz (Scalar.cmpi .sge (Scalar.addi (row0 a1) 16#32) v1) = 1#1 then zeroF 16 (by decide) s else s)
      ((fun s => if nz (Scalar.cmpi .sge (Scalar.addi (row0 a1) 0#32) v1) = 1#1 then zeroF 0 (by decide) s else s)
        (if nz (Scalar.cmpi .eq a1 0#32) = 1#1 then latF s else s))))

def bodyBF (kl sl : F .f32) (v1 v2 : BitVec 32) (s : State F) : State F :=
  rngF sec576 512#32 576#32 kl sl v1 v2 (rngF sec512 448#32 512#32 kl sl v1 v2 (rngF sec448 384#32 448#32 kl sl v1 v2
    (rngF sec384 320#32 384#32 kl sl v1 v2 (rngF sec320 256#32 320#32 kl sl v1 v2 (rngF sec256 192#32 256#32 kl sl v1 v2
      (rngF sec192 128#32 192#32 kl sl v1 v2 s))))))

def bodyCF (kl sl : F .f32) (v1 v2 : BitVec 32) (s : State F) : State F := rngF sec640 576#32 640#32 kl sl v1 v2 s

end Fun

/-! ### The triples -/

section Spec
variable {F : FTy → Type} [FloatOps F] {nD : Nat} {τ : Topo} {sig : RefSig} {Λ : Labels} {U : Type} [URA U]
variable {defs : Defs nD τ sig (Elt F) Λ} (𝒱 : Variants) (c : Dev nD) (B : Bufs sig)

local notation "𝕄" => MT nD τ sig Unit (Elt F) ℕ U ℕ

/-- The memrefs of one step owned whole at the contents `s`. -/
def St (s : State F) : sProp 𝕄 :=
  iprop(own c B.a3 s.x3 ∗ own c B.a4 s.x4 ∗ own c B.a5 s.x5 ∗ own c B.a6 s.x6 ∗ own c B.a7 s.x7 ∗ own c B.a8 s.x8
    ∗ own c B.a9 s.y9 ∗ own c B.a10 s.y10 ∗ own c B.a11 s.z11 ∗ own c B.a12 s.z12 ∗ own c B.a13 s.z13)

/-- `P` gives up a memref owned at `X` and takes it back at `X'` as `P'`. -/
theorem ld_of {P : sProp 𝕄} {sp : CoreSpace} {s : Shape} {e : EltTy} {α : Type} {m : Memref sig .tc sp s e} {r : Rect s}
    {hl : m.view.LoadsAt r.toLoadRect} {k : (r.shape.Idx → Elt F e) → Prog (TpuEff nD τ sig (Elt F) Λ .tc) α} {X : s.Idx → Elt F e}
    {R : α → sProp 𝕄} (hP : P ⊢ iprop(own c m X ∗ (own c m X -∗ P)))
    (h : P ⊢ wp frame (wpE defs 𝒱 (c : Thread nD τ) none) Set.univ (k (ld X r)) R) :
    P ⊢ wp frame (wpE defs 𝒱 (c : Thread nD τ) none) Set.univ (.op (.load m r.toLoadRect hl) k) R := by
  refine hP.trans ?_
  iintro ⟨H, HP⟩
  iapply (wp_ld 𝒱 c) $$ H
  iintro H
  iapply h
  iapply HP $$ H

theorem st_of {P P' : sProp 𝕄} {sp : CoreSpace} {s : Shape} {e : EltTy} {α : Type} {m : Memref sig .tc sp s e} {r : Rect s}
    {w : r.shape.Idx → Elt F e} {hx : (m.access r).Stores Finset.univ} {hm : Finset.univ = Finset.univ ∨ ∀ a, r.stride a = 1}
    {k : PUnit → Prog (TpuEff nD τ sig (Elt F) Λ .tc) α} {X : s.Idx → Elt F e} {R : α → sProp 𝕄}
    (hP : P ⊢ iprop(own c m X ∗ (own c m (upd X r w) -∗ P')))
    (h : P' ⊢ wp frame (wpE defs 𝒱 (c : Thread nD τ) none) Set.univ (k ⟨⟩) R) :
    P ⊢ wp frame (wpE defs 𝒱 (c : Thread nD τ) none) Set.univ (.op (.store m r w Finset.univ hx hm) k) R := by
  refine hP.trans ?_
  iintro ⟨H, HP⟩
  iapply (wp_st 𝒱 c) $$ H
  iintro H
  iapply h
  iapply HP $$ H

theorem acc3 (s : State F) : (St c B s : sProp 𝕄) ⊢ iprop(own c B.a3 s.x3 ∗ (own c B.a3 s.x3 -∗ St c B s)) := by
  unfold St; iintro ⟨H3, HR⟩; isplitl [H3]; · iexact H3
  iintro H3; isplitl [H3]; · iexact H3
  iexact HR
theorem acc4 (s : State F) : (St c B s : sProp 𝕄) ⊢ iprop(own c B.a4 s.x4 ∗ (own c B.a4 s.x4 -∗ St c B s)) := by
  unfold St; iintro ⟨H3, H4, HR⟩; isplitl [H4]; · iexact H4
  iintro H4; isplitl [H3]; · iexact H3
  isplitl [H4]; · iexact H4
  iexact HR
theorem acc5 (s : State F) : (St c B s : sProp 𝕄) ⊢ iprop(own c B.a5 s.x5 ∗ (own c B.a5 s.x5 -∗ St c B s)) := by
  unfold St; iintro ⟨H3, H4, H5, HR⟩; isplitl [H5]; · iexact H5
  iintro H5; isplitl [H3]; · iexact H3
  isplitl [H4]; · iexact H4
  isplitl [H5]; · iexact H5
  iexact HR
theorem acc6 (s : State F) : (St c B s : sProp 𝕄) ⊢ iprop(own c B.a6 s.x6 ∗ (own c B.a6 s.x6 -∗ St c B s)) := by
  unfold St; iintro ⟨H3, H4, H5, H6, HR⟩; isplitl [H6]; · iexact H6
  iintro H6; isplitl [H3]; · iexact H3
  isplitl [H4]; · iexact H4
  isplitl [H5]; · iexact H5
  isplitl [H6]; · iexact H6
  iexact HR
theorem acc7 (s : State F) : (St c B s : sProp 𝕄) ⊢ iprop(own c B.a7 s.x7 ∗ (own c B.a7 s.x7 -∗ St c B s)) := by
  unfold St; iintro ⟨H3, H4, H5, H6, H7, HR⟩; isplitl [H7]; · iexact H7
  iintro H7; isplitl [H3]; · iexact H3
  isplitl [H4]; · iexact H4
  isplitl [H5]; · iexact H5
  isplitl [H6]; · iexact H6
  isplitl [H7]; · iexact H7
  iexact HR
theorem acc8 (s : State F) : (St c B s : sProp 𝕄) ⊢ iprop(own c B.a8 s.x8 ∗ (own c B.a8 s.x8 -∗ St c B s)) := by
  unfold St; iintro ⟨H3, H4, H5, H6, H7, H8, HR⟩; isplitl [H8]; · iexact H8
  iintro H8; isplitl [H3]; · iexact H3
  isplitl [H4]; · iexact H4
  isplitl [H5]; · iexact H5
  isplitl [H6]; · iexact H6
  isplitl [H7]; · iexact H7
  isplitl [H8]; · iexact H8
  iexact HR
theorem acc9 (s : State F) (Y : Vec F B3 .bf16) : (St c B s : sProp 𝕄) ⊢ iprop(own c B.a9 s.y9 ∗ (own c B.a9 Y -∗ St c B { s with y9 := Y })) := by
  unfold St; iintro ⟨H3, H4, H5, H6, H7, H8, H9, HR⟩; isplitl [H9]; · iexact H9
  iintro H9; isplitl [H3]; · iexact H3
  isplitl [H4]; · iexact H4
  isplitl [H5]; · iexact H5
  isplitl [H6]; · iexact H6
  isplitl [H7]; · iexact H7
  isplitl [H8]; · iexact H8
  isplitl [H9]; · iexact H9
  iexact HR
theorem acc10 (s : State F) (Y : Vec F B10 .f32) : (St c B s : sProp 𝕄) ⊢ iprop(own c B.a10 s.y10 ∗ (own c B.a10 Y -∗ St c B { s with y10 := Y })) := by
  unfold St; iintro ⟨H3, H4, H5, H6, H7, H8, H9, H10, HR⟩; isplitl [H10]; · iexact H10
  iintro H10; isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact HR
theorem acc11 (s : State F) (Y : Vec F (M2 640 512) .bf16) : (St c B s : sProp 𝕄) ⊢ iprop(own c B.a11 s.z11 ∗ (own c B.a11 Y -∗ St c B { s with z11 := Y })) := by
  unfold St; iintro ⟨H3, H4, H5, H6, H7, H8, H9, H10, H11, HR⟩; isplitl [H11]; · iexact H11
  iintro H11; isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact HR
theorem acc12 (s : State F) (Y : Vec F (M2 512 640) .bf16) : (St c B s : sProp 𝕄) ⊢ iprop(own c B.a12 s.z12 ∗ (own c B.a12 Y -∗ St c B { s with z12 := Y })) := by
  unfold St; iintro ⟨H3, H4, H5, H6, H7, H8, H9, H10, H11, H12, HR⟩; isplitl [H12]; · iexact H12
  iintro H12; isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact HR
theorem acc13 (s : State F) (Y : Vec F (M2 640 64) .bf16) : (St c B s : sProp 𝕄) ⊢ iprop(own c B.a13 s.z13 ∗ (own c B.a13 Y -∗ St c B { s with z13 := Y })) := by
  unfold St; iintro ⟨H3, H4, H5, H6, H7, H8, H9, H10, H11, H12, H13⟩; isplitl [H13]; · iexact H13
  iintro H13; isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- A part's triple: it takes the contents `s` to `f s`, whatever follows. -/
def Does {β : Type} (p : Prog (TpuEff nD τ sig (Elt F) Λ .tc) β) (v : β) (s s' : State F) : Prop :=
  ∀ (α : Type) (k : β → Prog (TpuEff nD τ sig (Elt F) Λ .tc) α) (R : α → sProp 𝕄),
    (St c B s' ⊢ wp frame (wpE defs 𝒱 (c : Thread nD τ) none) Set.univ (k v) R) →
    (St c B s ⊢ wp frame (wpE defs 𝒱 (c : Thread nD τ) none) Set.univ (Prog.bind p k) R)

variable {𝒱 c B} in
theorem Does.bind {β γ : Type} {p : Prog (TpuEff nD τ sig (Elt F) Λ .tc) β} {f : β → Prog (TpuEff nD τ sig (Elt F) Λ .tc) γ} {v : β} {w : γ}
    {s s' s'' : State F} (h1 : Does (U := U) (defs := defs) 𝒱 c B p v s s') (h2 : Does (U := U) (defs := defs) 𝒱 c B (f v) w s' s'') :
    Does (U := U) (defs := defs) 𝒱 c B (Prog.bind p f) w s s'' := fun α k R h => by
  show St c B s ⊢ wp frame (wpE defs 𝒱 (c : Thread nD τ) none) Set.univ (p >>= f >>= k) R
  rw [Prog.bind_assoc]; exact h1 _ _ _ (h2 _ _ _ h)

theorem Does.pure {β : Type} (v : β) (s : State F) : Does (U := U) (defs := defs) 𝒱 c B (Prog.ret v) v s s := fun _ _ _ h => h

variable {𝒱 c B} in
theorem Does.ld {sp : CoreSpace} {sh : Shape} {e : EltTy} {m : Memref sig .tc sp sh e} {r : Rect sh}
    {hl : m.view.LoadsAt r.toLoadRect} {X : sh.Idx → Elt F e} {s : State F}
    (hP : (St c B s : sProp 𝕄) ⊢ iprop(own c m X ∗ (own c m X -∗ St c B s))) :
    Does (U := U) (defs := defs) 𝒱 c B (Prog.lift (.load m r.toLoadRect hl)) (Mla.ld X r) s s := fun _ _ _ h => ld_of 𝒱 c hP h

variable {𝒱 c B} in
theorem Does.st {sp : CoreSpace} {sh : Shape} {e : EltTy} {m : Memref sig .tc sp sh e} {r : Rect sh} {w : r.shape.Idx → Elt F e}
    {hx : (m.access r).Stores Finset.univ} {hm : Finset.univ = Finset.univ ∨ ∀ a, r.stride a = 1} {X : sh.Idx → Elt F e} {s s' : State F}
    (hP : (St c B s : sProp 𝕄) ⊢ iprop(own c m X ∗ (own c m (upd X r w) -∗ St c B s'))) :
    Does (U := U) (defs := defs) 𝒱 c B (Prog.lift (.store m r w Finset.univ hx hm)) ⟨⟩ s s' := fun _ _ _ h => st_of 𝒱 c hP h

end Spec
end Mla
end
-- ==== Proof.Triples.lean ====
/-
  The triples of the parts of the body.
-/
module

public import proofs.«01_k».proof.Proof.Spec

@[expose] public section

noncomputable section

namespace Mla

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode

section Spec
variable {F : FTy → Type} [FloatOps F] {nD : Nat} {τ : Topo} {sig : RefSig} {Λ : Labels} {U : Type} [URA U]
variable {defs : Defs nD τ sig (Elt F) Λ} (𝒱 : Variants) (c : Dev nD) (B : Bufs sig)

local notation "𝕄" => MT nD τ sig Unit (Elt F) ℕ U ℕ

theorem does_grp (s : State F) (n : Nat) (hn : n < 32) (g : Nat) (hg : g + 1 ≤ 4) (o : Nat) (ho : o + 128 ≤ 512) :
    Does (U := U) (defs := defs) 𝒱 c B (loadGrp B.a3 B.a4 n hn g hg o ho) (grpV s n hn g hg o ho) s s :=
  Does.bind (Does.ld (acc3 c B s)) (Does.bind (Does.ld (acc4 c B s)) (Does.pure 𝒱 c B _ _))

theorem does_tok (s : State F) (n : Nat) (hn : n < 32) :
    Does (U := U) (defs := defs) 𝒱 c B (loadTok B.a3 B.a4 n hn) (tokV s n hn) s s :=
  Does.bind (does_grp 𝒱 c B s n hn 0 _ 0 _) (Does.bind (does_grp 𝒱 c B s n hn 1 _ 128 _) (Does.bind (does_grp 𝒱 c B s n hn 2 _ 256 _)
    (Does.bind (does_grp 𝒱 c B s n hn 3 _ 384 _) (Does.pure 𝒱 c B _ _))))

theorem does_rope (s : State F) (n : Nat) (hn : n < 32) :
    Does (U := U) (defs := defs) 𝒱 c B (loadRope B.a5 n hn) (ropeV s n hn) s s :=
  Does.bind (Does.ld (acc5 c B s)) (Does.pure 𝒱 c B _ _)

seal Finset.univ in
theorem does_store (s : State F) (n : Nat) (hn : n < 32) (o : Vec F (T4 1 1 128 512) .bf16) (l : Vec F (T3 1 1 128) .f32) :
    Does (U := U) (defs := defs) 𝒱 c B (storeTok B.a9 B.h9 B.a10 n hn o l) ⟨⟩ s (storeF n hn o l s) :=
  Does.bind (Does.ld (acc9 c B s _)) (Does.bind (Does.st (acc9 c B s _)) (Does.bind (Does.ld (acc10 c B _ _)) (Does.st (acc10 c B _ _))))

theorem does_unit (S : Sec F) (kl sl : F .f32) (v1 v2 t0 t1 t2 t3 : BitVec 32) (h0 : t0.toNat < 32) (h1 : t1.toNat < 32)
    (h2 : t2.toNat < 32) (h3 : t3.toNat < 32) (s : State F) :
    Does (U := U) (defs := defs) 𝒱 c B (unit S kl sl B v1 v2 t0 t1 t2 t3 h0 h1 h2 h3) ⟨⟩ s
      (unitF S kl sl v1 v2 t0 t1 t2 t3 h0 h1 h2 h3 s) :=
  Does.bind (does_tok 𝒱 c B s _ h0) (Does.bind (does_tok 𝒱 c B s _ h1) (Does.bind (does_tok 𝒱 c B s _ h2) (Does.bind (does_tok 𝒱 c B s _ h3)
  (Does.bind (does_rope 𝒱 c B s _ h0) (Does.bind (does_rope 𝒱 c B s _ h1) (Does.bind (does_rope 𝒱 c B s _ h2) (Does.bind (does_rope 𝒱 c B s _ h3)
  (Does.bind (Does.ld (acc11 c B s _)) (Does.bind (Does.ld (acc13 c B s _)) (Does.bind (Does.ld (acc12 c B s _))
  (Does.bind (does_store 𝒱 c B _ _ h0 _ _) (Does.bind (does_store 𝒱 c B _ _ h1 _ _) (Does.bind (does_store 𝒱 c B _ _ h2 _ _)
  (does_store 𝒱 c B _ _ h3 _ _))))))))))))))

seal Finset.univ in
theorem does_latGrp (g o p : Nat) (hg : g + 1 ≤ 4) (ho : o + 128 ≤ 512) (hp : p + 128 ≤ 640) (h1 : 2 ∣ o) (h2 : 2 ∣ p) (s : State F) :
    Does (U := U) (defs := defs) 𝒱 c B (latGrp B g o p hg ho hp h1 h2) ⟨⟩ s (latGrpF g o p hg ho hp s) :=
  Does.bind (Does.ld (acc6 c B s)) (Does.bind (Does.ld (acc7 c B s)) (Does.bind (Does.ld (acc12 c B s _)) (Does.bind (Does.st (acc12 c B s _))
    (Does.bind (Does.ld (acc11 c B _ _)) (Does.st (acc11 c B _ _))))))

seal Finset.univ in
theorem does_latBlk (p : Nat) (hp : p + 128 ≤ 640) (h2 : 2 ∣ p) (s : State F) :
    Does (U := U) (defs := defs) 𝒱 c B (latBlk B p hp h2) ⟨⟩ s (latBlkF p hp s) :=
  Does.bind (does_latGrp 𝒱 c B _ _ _ _ _ _ _ _ _) (Does.bind (does_latGrp 𝒱 c B _ _ _ _ _ _ _ _ _) (Does.bind (does_latGrp 𝒱 c B _ _ _ _ _ _ _ _ _)
    (Does.bind (does_latGrp 𝒱 c B _ _ _ _ _ _ _ _ _) (Does.bind (Does.ld (acc8 c B _)) (Does.bind (Does.ld (acc13 c B _ _)) (Does.st (acc13 c B _ _)))))))

theorem does_latents (s : State F) : Does (U := U) (defs := defs) 𝒱 c B (latents B) ⟨⟩ s (latF s) :=
  Does.bind (does_latBlk 𝒱 c B _ _ _ _) (Does.bind (does_latBlk 𝒱 c B _ _ _ _) (Does.bind (does_latBlk 𝒱 c B _ _ _ _)
    (Does.bind (does_latBlk 𝒱 c B _ _ _ _) (Does.bind (does_latBlk 𝒱 c B _ _ _ _) (Does.pure 𝒱 c B _ _)))))

seal Finset.univ in
theorem does_zero (o : Nat) (ho : o + 16 ≤ 32) (s : State F) : Does (U := U) (defs := defs) 𝒱 c B (zeroFill B o ho) ⟨⟩ s (zeroF o ho s) :=
  Does.bind (Does.ld (acc9 c B s _)) (Does.bind (Does.st (acc9 c B s _)) (Does.bind (Does.ld (acc10 c B _ _))
    (Does.bind (Does.st (acc10 c B _ _)) (Does.pure 𝒱 c B _ _))))

theorem does_unitAt (S : Sec F) (kl sl : F .f32) (v1 v2 lb : BitVec 32) (k : Nat) (u : BitVec 32)
    (h : ∀ j : Fin 4, (rowW lb k u (BitVec.ofNat 32 j.val)).toNat < 32) (s : State F) :
    Does (U := U) (defs := defs) 𝒱 c B (unitAt S kl sl B v1 v2 lb k u h) ⟨⟩ s (unitAtF S kl sl v1 v2 lb k u s) := by
  unfold unitAtF; rw [dif_pos h]; exact does_unit 𝒱 c B S kl sl v1 v2 _ _ _ _ _ _ _ _ s

theorem does_trip (S : Sec F) (kl sl : F .f32) (v1 v2 lb : BitVec 32) (k : Nat)
    (h : ∀ u j : Fin 4, (rowW lb k (BitVec.ofNat 32 (4 * u.val)) (BitVec.ofNat 32 j.val)).toNat < 32) (s : State F) :
    Does (U := U) (defs := defs) 𝒱 c B (trip S kl sl B v1 v2 lb k h) ⟨⟩ s (tripF S kl sl v1 v2 lb k s) :=
  Does.bind (does_unitAt 𝒱 c B S kl sl v1 v2 lb k _ (h 0) s) (Does.bind (does_unitAt 𝒱 c B S kl sl v1 v2 lb k _ (h 1) _)
    (Does.bind (does_unitAt 𝒱 c B S kl sl v1 v2 lb k _ (h 2) _) (Does.bind (does_unitAt 𝒱 c B S kl sl v1 v2 lb k _ (h 3) _) (Does.pure 𝒱 c B _ _))))

/-- A loop whose trip `k` takes `s` to `f k s`. -/
theorem does_for (L : Scf.Loop 32) (ok : L.OK) (body : Fin L.trips → PUnit → Prog (TpuEff nD τ sig (Elt F) Λ .tc) PUnit)
    (f : Nat → State F → State F) (hb : ∀ k a s, Does (U := U) (defs := defs) 𝒱 c B (body k a) ⟨⟩ s (f k.val s)) (s : State F) :
    Does (U := U) (defs := defs) 𝒱 c B (Scf.Loop.for L ok ⟨⟩ body) ⟨⟩ s (loopF f L.trips s) := fun α k R h => by
  show St c B s ⊢ wp frame (wpE defs 𝒱 (c : Thread nD τ) none) Set.univ (Scf.Loop.for L ok ⟨⟩ body >>= k) R
  rw [wp_bind]
  have hfor := Scf.wp_for frame (wpE defs 𝒱 (c : Thread nD τ) none) Set.univ L.lb L.ub L.st ok ⟨⟩ body
    (fun n (_ : PUnit) => (St c B (loopF f n s) : sProp 𝕄))
    (Q := fun _ => wp frame (wpE defs 𝒱 (c : Thread nD τ) none) Set.univ (k ⟨⟩) R) ?_
  · refine BIBase.Entails.trans ?_ hfor
    iintro H
    isplitl [H]
    · iexact H
    · iintro %a H
      iapply h $$ H
  · intro n a
    have := hb n a (loopF f n.val s) PUnit Prog.ret (fun _ => St c B (loopF f (n.val + 1) s)) (by
      rw [wp_ret]; iintro H; imodintro; iexact H)
    have e : (body n a).bind Prog.ret = body n a := Prog.bind_pure (body n a)
    rwa [e] at this

end Spec
end Mla
end
-- ==== Proof.Parts.lean ====
/-
  The triples of the three parts of the body, and the reading of the length.
-/
module

public import proofs.«01_k».proof.Proof.Triples

@[expose] public section

noncomputable section

namespace Mla

open Idealize.ShloMosaic Idealize.ShloMosaic.TcCoe
open Idealize.SL Idealize.SL.RA Idealize.SL.BI Idealize.SL.Sem
open scoped Idealize.SL.BI
open Idealize.SL.BI.BIBase Idealize.SL.BI.Laws Idealize.SL.ProofMode

section Spec
variable {F : FTy → Type} [FloatOps F] {nD : Nat} {τ : Topo} {sig : RefSig} {Λ : Labels} {U : Type} [URA U]
variable {defs : Defs nD τ sig (Elt F) Λ} (𝒱 : Variants) (c : Dev nD) (B : Bufs sig)

local notation "𝕄" => MT nD τ sig Unit (Elt F) ℕ U ℕ

/-- A part run under a condition, and what follows. -/
theorem does_if {γ : Type} {b : Prop} [Decidable b] {p : Prog (TpuEff nD τ sig (Elt F) Λ .tc) PUnit} {g : State F → State F} {s s' : State F}
    {rest : Prog (TpuEff nD τ sig (Elt F) Λ .tc) γ} {w : γ} (hp : Does (U := U) (defs := defs) 𝒱 c B p ⟨⟩ s (g s))
    (h : Does (U := U) (defs := defs) 𝒱 c B rest w (if b then g s else s) s') :
    Does (U := U) (defs := defs) 𝒱 c B (if _h : b then p >>= fun _ => rest else rest) w s s' := by
  by_cases hb : b
  · rw [dif_pos hb]; rw [if_pos hb] at h; exact Does.bind hp h
  · rw [dif_neg hb]; rw [if_neg hb] at h; exact h

/-- A loop of known trip count. -/
theorem does_forN (L : Scf.Loop 32) (ok : L.OK) (body : Fin L.trips → PUnit → Prog (TpuEff nD τ sig (Elt F) Λ .tc) PUnit)
    (f : Nat → State F → State F) (n : Nat) (hn : L.trips = n) (hb : ∀ k a s, Does (U := U) (defs := defs) 𝒱 c B (body k a) ⟨⟩ s (f k.val s)) (s : State F) :
    Does (U := U) (defs := defs) 𝒱 c B (Scf.Loop.for L ok ⟨⟩ body) ⟨⟩ s (loopF f n s) := by
  subst hn; exact does_for 𝒱 c B L ok body f hb s

theorem does_main (S : Sec F) (kl sl : F .f32) (v1 v2 : BitVec 32) (s : State F) :
    Does (U := U) (defs := defs) 𝒱 c B (mainP S kl sl B v1 v2) ⟨⟩ s (secF S kl sl v1 v2 s) := by
  unfold mainP secF
  exact does_forN (U := U) (defs := defs) 𝒱 c B _ _ _ (fun k => tripF S kl sl v1 v2 0#32 k) _ (main_trips v1 v2)
    (fun k _ s => does_trip (U := U) (defs := defs) 𝒱 c B S kl sl v1 v2 0#32 k.val _ s) s

theorem does_rem (S : Sec F) (kl sl : F .f32) (v1 v2 : BitVec 32) (s : State F) :
    Does (U := U) (defs := defs) 𝒱 c B (remP S kl sl B v1 v2) ⟨⟩ s s := by
  unfold remP
  exact does_forN (U := U) (defs := defs) 𝒱 c B _ _ _ (fun k => tripF S kl sl v1 v2 (mid (live v1 v2)) k) 0 (rem_trips v1 v2)
    (fun k _ s => does_trip (U := U) (defs := defs) 𝒱 c B S kl sl v1 v2 (mid (live v1 v2)) k.val _ s) s

/-- A key range under its condition, and what follows. -/
theorem does_rng {γ : Type} (S : Sec F) (lo hi : BitVec 32) (kl sl : F .f32) (v1 v2 : BitVec 32) {s s' : State F}
    {rest : Prog (TpuEff nD τ sig (Elt F) Λ .tc) γ} {w : γ}
    (h : Does (U := U) (defs := defs) 𝒱 c B rest w (rngF S lo hi kl sl v1 v2 s) s') :
    Does (U := U) (defs := defs) 𝒱 c B (if _h : isIn v2 lo hi = 1#1 then
        mainP S kl sl B v1 v2 >>= fun _ => remP S kl sl B v1 v2 >>= fun _ => rest else rest) w s s' := by
  unfold rngF at h
  by_cases hb : isIn v2 lo hi = 1#1
  · rw [dif_pos hb]; rw [if_pos hb] at h; exact Does.bind (does_main 𝒱 c B S kl sl v1 v2 s) (Does.bind (does_rem 𝒱 c B S kl sl v1 v2 _) h)
  · rw [dif_neg hb]; rw [if_neg hb] at h; exact h

theorem does_bodyA1 (kl sl : F .f32) (chk : BitVec 32 → Prop) (a1 : BitVec 32) (v1 : Elt F .i32) (hw : chk v1) (s : State F) :
    Does (U := U) (defs := defs) 𝒱 c B (bodyA1 kl sl B chk a1 v1 hw)
      ⟨v1, hw, row0 a1, live v1 (row0 a1), Scalar.extui (Scalar.andi (Scalar.cmpi .sge (row0 a1) 128#32) (Scalar.cmpi .slt (row0 a1) 192#32))⟩ s
      (bodyAF kl sl v1 a1 s) := by
  unfold bodyA1
  refine does_if (U := U) (defs := defs) 𝒱 c B (g := latF) (does_latents 𝒱 c B s) ?_
  refine does_if (U := U) (defs := defs) 𝒱 c B (g := zeroF 0 (by decide)) (does_zero 𝒱 c B 0 _ _) ?_
  refine does_if (U := U) (defs := defs) 𝒱 c B (g := zeroF 16 (by decide)) (does_zero 𝒱 c B 16 _ _) ?_
  refine does_rng (U := U) (defs := defs) 𝒱 c B sec64 0#32 64#32 kl sl v1 (row0 a1) ?_
  refine does_rng (U := U) (defs := defs) 𝒱 c B sec128 64#32 128#32 kl sl v1 (row0 a1) ?_
  exact Does.pure 𝒱 c B _ _

theorem does_bodyB (kl sl : F .f32) (v1 v2 : BitVec 32) (s : State F) :
    Does (U := U) (defs := defs) 𝒱 c B (bodyB kl sl B v1 v2) ⟨Scalar.cmpi .sge v2 576#32, 640#32⟩ s (bodyBF kl sl v1 v2 s) := by
  unfold bodyB
  refine does_rng (U := U) (defs := defs) 𝒱 c B sec192 128#32 192#32 kl sl v1 v2 ?_
  refine does_rng (U := U) (defs := defs) 𝒱 c B sec256 192#32 256#32 kl sl v1 v2 ?_
  refine does_rng (U := U) (defs := defs) 𝒱 c B sec320 256#32 320#32 kl sl v1 v2 ?_
  refine does_rng (U := U) (defs := defs) 𝒱 c B sec384 320#32 384#32 kl sl v1 v2 ?_
  refine does_rng (U := U) (defs := defs) 𝒱 c B sec448 384#32 448#32 kl sl v1 v2 ?_
  refine does_rng (U := U) (defs := defs) 𝒱 c B sec512 448#32 512#32 kl sl v1 v2 ?_
  refine does_rng (U := U) (defs := defs) 𝒱 c B sec576 512#32 576#32 kl sl v1 v2 ?_
  exact Does.pure 𝒱 c B _ _

theorem does_bodyC (kl sl : F .f32) (v1 v2 : BitVec 32) (s : State F) :
    Does (U := U) (defs := defs) 𝒱 c B (bodyC kl sl B v1 v2) ⟨⟩ s (bodyCF kl sl v1 v2 s) := by
  unfold bodyC
  refine does_rng (U := U) (defs := defs) 𝒱 c B sec640 576#32 640#32 kl sl v1 v2 ?_
  exact Does.pure 𝒱 c B _ _

/-- What one step leaves, given its length `v1`. -/
def bodyF (kl sl : F .f32) (v1 a1 : BitVec 32) (s : State F) : State F :=
  bodyCF kl sl v1 (row0 a1) (bodyBF kl sl v1 (row0 a1) (bodyAF kl sl v1 a1 s))

/-- The whole body, from the table's memref at contents `X`. -/
theorem wp_body (kl sl : F .f32) (a2 : Memref sig .tc .smem ⟨1, ![2]⟩ .i32) (r : Rect ⟨1, ![2]⟩) (hr : r.shape.numel = 1)
    (chk : BitVec 32 → Prop) (dec : ∀ v, Decidable (chk v)) (hchk : ∀ v, chk v) (a1 : BitVec 32) (X : (⟨1, ![2]⟩ : Shape).Idx → Elt F .i32)
    {q : PosShare TreeShare}
    (rest : (Σ' (v1 : Elt F .i32) (_ : chk v1) (_ : BitVec 32) (_ : BitVec 32), BitVec 32) → Prog (TpuEff nD τ sig (Elt F) Λ .tc) PUnit)
    (hrest : ∀ (v1 : Elt F .i32) hw, rest ⟨v1, hw, row0 a1, live v1 (row0 a1), Scalar.extui (Scalar.andi (Scalar.cmpi .sge (row0 a1) 128#32) (Scalar.cmpi .slt (row0 a1) 192#32))⟩
      = Prog.bind (bodyB kl sl B v1 (row0 a1)) (fun _ => bodyC kl sl B v1 (row0 a1))) (s : State F) :
    iprop(owns (c : Thread nD τ) a2 q X ∗ St c B s)
      ⊢ wp frame (wpE defs 𝒱 (c : Thread nD τ) none) Set.univ (Prog.bind (bodyA kl sl B a2 r hr chk dec a1) rest)
        (fun _ => iprop(owns (c : Thread nD τ) a2 q X ∗ St c B (bodyF kl sl (ld X r (Shape.Idx.first (by rw [hr]; exact Nat.one_pos))) a1 s) : sProp 𝕄)) := by
  generalize hv : (ld X r (Shape.Idx.first (by rw [hr]; exact Nat.one_pos)) : BitVec 32) = v1
  have h1 : (St c B s : sProp 𝕄) ⊢ wp frame (wpE defs 𝒱 (c : Thread nD τ) none) Set.univ
      (Prog.bind (bodyA1 kl sl B chk a1 v1 (hchk v1)) rest) (fun _ => St c B (bodyF kl sl v1 a1 s)) := by
    refine does_bodyA1 (U := U) (defs := defs) 𝒱 c B kl sl chk a1 v1 (hchk v1) s _ rest _ ?_
    rw [hrest]
    refine does_bodyB (U := U) (defs := defs) 𝒱 c B kl sl v1 (row0 a1) _ _ _ _ ?_
    have h2 := does_bodyC (U := U) (defs := defs) 𝒱 c B kl sl v1 (row0 a1) (bodyBF kl sl v1 (row0 a1) (bodyAF kl sl v1 a1 s)) PUnit Prog.ret
      (fun _ => St c B (bodyF kl sl v1 a1 s)) (by rw [wp_ret]; unfold bodyF; iintro H; imodintro; iexact H)
    have e : (bodyC kl sl B v1 (row0 a1)).bind Prog.ret = bodyC (nD := nD) (τ := τ) (Λ := Λ) kl sl B v1 (row0 a1) := Prog.bind_pure _
    rwa [e] at h2
  have h3 := h1.trans (wp_assume (𝒱 := 𝒱) (c := (c : Thread nD τ)) (bd := none) (E := Set.univ) (d := dec v1)
    (k := fun u => Prog.bind (bodyA1 kl sl B chk a1 v1 u.down) rest) (hchk v1))
  iintro ⟨HT, HS⟩
  iapply (wp_ld 𝒱 c) $$ HT
  iintro HT
  have e : ∀ p, (ld X r (Shape.Idx.first p) : BitVec 32) = v1 := fun p => hv
  simp only [e]
  iapply wp_frame_l
  isplitl [HT]
  · iexact HT
  · iapply h3 $$ HS

end Spec
end Mla
end
-- ==== Proof.Chk.lean ====
/-
  The checks the body makes after reading a length hold of every word: the rows its units work on are inside the block.
-/
module

public import proofs.«01_k».proof.Proof.Unit

@[expose] public section

noncomputable section

namespace Mla

open Idealize.ShloMosaic Idealize.ShloMosaic.TcCoe

/-- Row `n < 32` at lane `o` of the code block is inside it, and the like for the other blocks. -/
theorem inC (n o : Nat) (hn : n < 32) (ho : o + 128 ≤ 512) : ∀ a, (![0, n, 0, o] : Fin 4 → Nat) a + (T4 1 1 128 128).size a ≤ B3.size a := by
  intro a; fin_cases a <;> simp <;> omega
theorem inS (n g : Nat) (hn : n < 32) (hg : g + 1 ≤ 4) : ∀ a, (![0, n, g, 0] : Fin 4 → Nat) a + (T4 1 1 1 128).size a ≤ B4.size a := by
  intro a; fin_cases a <;> simp <;> omega
theorem inR (n : Nat) (hn : n < 32) : ∀ a, (![0, n, 0, 0] : Fin 4 → Nat) a + (T4 1 1 64 128).size a ≤ B5.size a := by
  intro a; fin_cases a <;> simp; omega
theorem inO (n : Nat) (hn : n < 32) : ∀ a, (![0, n, 0, 0] : Fin 4 → Nat) a + (T4 1 1 128 512).size a ≤ B3.size a := by
  intro a; fin_cases a <;> simp; omega
theorem inL (n : Nat) (hn : n < 32) : ∀ a, (![0, n, 0] : Fin 3 → Nat) a + (T3 1 1 128).size a ≤ B10.size a := by
  intro a; fin_cases a <;> simp; omega

/-- A row word of a trip of the main loop is below 32; of the remainder loop there is none. -/
abbrev rw' (lb : BitVec 32) (k : Nat) (u j : Fin 4) : BitVec 32 := rowW lb k (BitVec.ofNat 32 (4 * u.val)) (BitVec.ofNat 32 j.val)

/-- The loop `L` from `lb` works on rows below 32. -/
abbrev Rows (L : Scf.Loop 32) (lb : BitVec 32) : Prop := ∀ (k : Fin L.trips) (u j : Fin 4), (rw' lb k.val u j).toNat < 32

variable {L : Scf.Loop 32} {lb : BitVec 32}

theorem chkOK (h : L.OK) (c : Prop) : ∀ _ : c, L.OK := fun _ => h
theorem chkC (h : Rows L lb) (c : Prop) (o : Nat) (ho : o + 128 ≤ 512) : ∀ k : Fin L.trips, ∀ _ : c, ∀ u j : Fin 4, ∀ a,
    (![0, (rw' lb k.val u j).toNat, 0, o] : Fin 4 → Nat) a + (T4 1 1 128 128).size a ≤ B3.size a := fun k _ u j => inC _ o (h k u j) ho
theorem chkS (h : Rows L lb) (c : Prop) (g : Nat) (hg : g + 1 ≤ 4) : ∀ k : Fin L.trips, ∀ _ : c, ∀ u j : Fin 4, ∀ a,
    (![0, (rw' lb k.val u j).toNat, g, 0] : Fin 4 → Nat) a + (T4 1 1 1 128).size a ≤ B4.size a := fun k _ u j => inS _ g (h k u j) hg
theorem chkR (h : Rows L lb) (c : Prop) : ∀ k : Fin L.trips, ∀ _ : c, ∀ u j : Fin 4, ∀ a,
    (![0, (rw' lb k.val u j).toNat, 0, 0] : Fin 4 → Nat) a + (T4 1 1 64 128).size a ≤ B5.size a := fun k _ u j => inR _ (h k u j)
theorem chkO (h : Rows L lb) (c : Prop) : ∀ k : Fin L.trips, ∀ _ : c, ∀ u j : Fin 4, ∀ a,
    (![0, (rw' lb k.val u j).toNat, 0, 0] : Fin 4 → Nat) a + (T4 1 1 128 512).size a ≤ B3.size a := fun k _ u j => inO _ (h k u j)
theorem chkP (lb : BitVec 32) (L : Scf.Loop 32) (c : Prop) : ∀ k : Fin L.trips, ∀ _ : c, ∀ u j : Fin 4, ∀ hinb,
    (Rect.unit (s := B3) ![0, (rw' lb k.val u j).toNat, 0, 0] (T4 1 1 128 512).size hinb).PackedRows (EltTy.packing .bf16) :=
  fun _ _ _ _ _ => .inr ⟨by decide, rfl, .inr ⟨rfl, rfl, rfl, rfl, rfl⟩⟩
theorem chkL (h : Rows L lb) (c : Prop) : ∀ k : Fin L.trips, ∀ _ : c, ∀ u j : Fin 4, ∀ a,
    (![0, (rw' lb k.val u j).toNat, 0] : Fin 3 → Nat) a + (T3 1 1 128).size a ≤ B10.size a := fun k _ u j => inL _ (h k u j)

end Mla
end
-- ==== Proof.ChkK.lean ====
/-
  The check of the printed body holds of every word.
-/
module

public import proofs.«01_k».proof.Proof.Chk
public import proofs.«01_k».proof.Proof.Body
public import proofs.«01_k».proof.Kernel

@[expose] public section

noncomputable section

namespace Cert.Kernel

open Idealize.ShloMosaic Idealize.ShloMosaic.TcCoe Mla

/-- The step's first row. -/
abbrev r (i : grid0.Coords) : BitVec 32 := row0 (BitVec.ofNat 32 (i 1).val)

theorem chk0 (i : grid0.Coords) (v1 : BitVec 32) : k0_chk1_0 i v1 :=
  ⟨chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide)⟩

theorem chk1 (i : grid0.Coords) (v1 : BitVec 32) : k0_chk1_1 i v1 :=
  ⟨chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _⟩

theorem chk2 (i : grid0.Coords) (v1 : BitVec 32) : k0_chk1_2 i v1 :=
  ⟨chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide)⟩

theorem chk3 (i : grid0.Coords) (v1 : BitVec 32) : k0_chk1_3 i v1 :=
  ⟨chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _⟩

theorem chk4 (i : grid0.Coords) (v1 : BitVec 32) : k0_chk1_4 i v1 :=
  ⟨chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide)⟩

theorem chk5 (i : grid0.Coords) (v1 : BitVec 32) : k0_chk1_5 i v1 :=
  ⟨chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _⟩

theorem chk6 (i : grid0.Coords) (v1 : BitVec 32) : k0_chk1_6 i v1 :=
  ⟨chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide)⟩

theorem chk7 (i : grid0.Coords) (v1 : BitVec 32) : k0_chk1_7 i v1 :=
  ⟨chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide)⟩

theorem chk8 (i : grid0.Coords) (v1 : BitVec 32) : k0_chk1_8 i v1 :=
  ⟨chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _⟩

theorem chk (i : grid0.Coords) (v1 : BitVec 32) : k0_chk1 i v1 :=
  ⟨chk0 i v1, chk1 i v1, chk2 i v1, chk3 i v1, chk4 i v1, chk5 i v1, chk6 i v1, chk7 i v1, chk8 i v1⟩

end Cert.Kernel
end
-- ==== Proof.DatK.lean ====
/-
  The relational data of the launch: what each step finds and leaves in its windows and in the scratch.
-/
module

public import proofs.«01_k».proof.Proof.OkK
public import proofs.«01_k».proof.Proof.Parts
public import proofs.«01_k».proof.Proof.ChkK
public import proofs.«01_k».proof.Proof.Gen.Kernel.Launch
public import Idealize.ShloMosaic.Lib.Pipeline.Frame
public import Idealize.ShloMosaic.Lib.Pipeline.FrameBody

@[expose] public section

noncomputable section

namespace Cert.Kernel

open Idealize.ShloMosaic Idealize.ShloMosaic.TcCoe
open Idealize.SL Idealize.SL.RA Idealize.SL.BI Idealize.SL.Sem Mla
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

/-- A memory at the launch. -/
abbrev Mem (F : FTy → Type) : Type := (ℓ : Loc nD τ sig) → Buf (Elt F) ℓ

variable (m : Mem F)

/-- The buffers' contents where the region starts: after the four transposes. -/
def V (c : Dev nD) (b : Ref sig .tc) : Buf (Elt F) ((c.tc : Thread nD τ).loc b) :=
  StableHlo.after Gen.hostOps0 (fun b => m (c, b)) b

/-- The table of lengths there. -/
def pf : pre0.Contents (Elt F) := fun k => V m 0 (pre0.ref k)

def adm : (p : Fin 1) → (pcfgs (F := F) p).Adm := fun _ => ⟨pf m, ok_all _⟩

abbrev cfgA : Pipeline.Cfg sig Λ₀ := cfg0 (adm m 0)

/-- Each window's array there. -/
def Ain (c : Dev nD) (w : Fin 8) : Buf (Elt F) (((cfgA m).win w).arr.view.loc (c.tc : Thread nD τ)) := V m c (Pipeline.arrRef spec0 w)

/-- The block of window `w` at step `t`. -/
def inp (c : Dev nD) (w : Fin 8) (t : Fin grid0.N) : (((cfgA m).win w).xblock (grid0.coords t)).Idx → Elt F ((cfgA m).win w).elt :=
  (((cfgA m).win w).blk t).view.read (Elt F) (Ain m c w)

/-- Contents of the three scratch buffers. -/
abbrev Scr (F : FTy → Type) : Type :=
  ((⟨2, ![640, 512]⟩ : Shape).Idx → Elt F .bf16) × ((⟨2, ![512, 640]⟩ : Shape).Idx → Elt F .bf16) × ((⟨2, ![640, 64]⟩ : Shape).Idx → Elt F .bf16)

/-- What step `t` finds. -/
def stIn (c : Dev nD) (t : Fin grid0.N) (y9 : S1x32x128x512.Idx → Elt F .bf16) (y10 : S1x32x128.Idx → Elt F .f32) (z : Scr F) : State F where
  x3 := inp m c 0 t
  x4 := inp m c 1 t
  x5 := inp m c 2 t
  x6 := inp m c 3 t
  x7 := inp m c 4 t
  x8 := inp m c 5 t
  y9 := y9
  y10 := y10
  z11 := z.1
  z12 := z.2.1
  z13 := z.2.2

/-- The length of step `t`'s batch. -/
def lenT (t : Fin grid0.N) : BitVec 32 :=
  ld (s := ⟨1, ![2]⟩) (pf m 0) (lenR (grid0.coords t)) (Shape.Idx.first (by rw [lenR_numel]; exact Nat.one_pos))

/-- What step `t` leaves. -/
def stOut (c : Dev nD) (t : Fin grid0.N) (y9 : S1x32x128x512.Idx → Elt F .bf16) (y10 : S1x32x128.Idx → Elt F .f32) (z : Scr F) : State F :=
  bodyF kl sl (lenT m t) (arg1 (grid0.coords t)) (stIn m c t y9 y10 z)

/-- The scratch contents that may stand before step `t`. -/
def Inv (c : Dev nD) : Nat → Scr F → Prop
  | 0, _ => True
  | t + 1, z => ∃ (h : t < grid0.N) (y9 : S1x32x128x512.Idx → Elt F .bf16) (y10 : S1x32x128.Idx → Elt F .f32) (z' : Scr F), Inv c t z' ∧
      z = ((stOut m c ⟨t, h⟩ y9 y10 z').z11, (stOut m c ⟨t, h⟩ y9 y10 z').z12, (stOut m c ⟨t, h⟩ y9 y10 z').z13)

/-- What step `t` may leave in window `w`, which held `Y`. -/
def aft (c : Dev nD) : (w : Fin 8) → Fin grid0.N → (Y X : ((cfgA m).win w).block.Idx → Elt F ((cfgA m).win w).elt) → Prop
  | 0, _, Y, X => X = Y
  | 1, _, Y, X => X = Y
  | 2, _, Y, X => X = Y
  | 3, _, Y, X => X = Y
  | 4, _, Y, X => X = Y
  | 5, _, Y, X => X = Y
  | 6, t, Y, X => ∃ y10 z, Inv m c t.val z ∧ X = (stOut m c t Y y10 z).y9
  | 7, t, Y, X => ∃ y9 z, Inv m c t.val z ∧ X = (stOut m c t y9 Y z).y10
  | ⟨_ + 8, h⟩, _, _, _ => absurd h (Nat.not_lt.2 (Nat.le_add_left _ _))

/-- What stands before step `t` beside the windows. -/
def Phi (c : Dev nD) (t : Nat) : sProp 𝕄 :=
  iprop(∃ z : Scr F, ⌜Inv m c t z⌝ ∗ own c (Memref.whole cc0_scratch0) z.1 ∗ own c (Memref.whole cc0_scratch1) z.2.1 ∗ own c (Memref.whole cc0_scratch2) z.2.2
    ∗ (∃ r, prngReg c r) ∗ owns (c : Thread nD τ) (Memref.whole main_arg6) fullShare.right (pf m 0))

def rdat (c : Dev nD) : Pipeline.RDat τ (Elt F) Unit ℕ (UR sig nD τ) ℕ (cfgA m) c where
  A := Ain m c
  after := aft m c
  Φ t := Phi m c t.val
  q _ := fullShare
  owed _ := 0

/-- The memrefs of step `t`. -/
def bufs (t : Fin grid0.N) : Bufs sig where
  a3 := spec0_0.stage ((cfgA m).slots t 0)
  h3 := Facts₀.hstage0_0 (((cfgA m).slots t 0).cast Facts₀.nbuf0_0)
  a4 := spec0_1.stage ((cfgA m).slots t 1)
  h4 := Facts₀.hstage0_1 (((cfgA m).slots t 1).cast Facts₀.nbuf0_1)
  a5 := spec0_2.stage ((cfgA m).slots t 2)
  h5 := Facts₀.hstage0_2 (((cfgA m).slots t 2).cast Facts₀.nbuf0_2)
  a6 := spec0_3.stage ((cfgA m).slots t 3)
  h6 := Facts₀.hstage0_3 (((cfgA m).slots t 3).cast Facts₀.nbuf0_3)
  a7 := spec0_4.stage ((cfgA m).slots t 4)
  h7 := Facts₀.hstage0_4 (((cfgA m).slots t 4).cast Facts₀.nbuf0_4)
  a8 := spec0_5.stage ((cfgA m).slots t 5)
  h8 := Facts₀.hstage0_5 (((cfgA m).slots t 5).cast Facts₀.nbuf0_5)
  a9 := spec0_6.stage ((cfgA m).slots t 6)
  h9 := Facts₀.hstage0_6 (((cfgA m).slots t 6).cast Facts₀.nbuf0_6)
  a10 := spec0_7.stage ((cfgA m).slots t 7)
  h10 := Facts₀.hstage0_7 (((cfgA m).slots t 7).cast Facts₀.nbuf0_7)
  a11 := Memref.whole cc0_scratch0
  h11 := Memref.isWhole_whole _
  a12 := Memref.whole cc0_scratch1
  h12 := Memref.isWhole_whole _
  a13 := Memref.whole cc0_scratch2
  h13 := Memref.isWhole_whole _

theorem body_at (c : Dev nD) (t : Fin grid0.N) :
    (defs₀ (F := F)) .tc (cfgA m).body ((cfgA m).bodyArgs t ((cfgA m).slots t)) =
      cc0_mla_prompt (F := F) (grid0.coords t) (Memref.whole main_arg6) (Memref.isWhole_whole _) (bufs m t).a3 (bufs m t).h3 (bufs m t).a4 (bufs m t).h4
        (bufs m t).a5 (bufs m t).h5 (bufs m t).a6 (bufs m t).h6 (bufs m t).a7 (bufs m t).h7 (bufs m t).a8 (bufs m t).h8 (bufs m t).a9 (bufs m t).h9
        (bufs m t).a10 (bufs m t).h10 (bufs m t).a11 (bufs m t).h11 (bufs m t).a12 (bufs m t).h12 (bufs m t).a13 (bufs m t).h13 := rfl

section
variable [∀ e, Nonempty (Elt F e)]

theorem fetched_eq (c : Dev nD) (w : Fin 8) (t : Fin grid0.N)
    (d : ((cfgA m).win w).block.Idx → Elt F ((cfgA m).win w).elt) (j : ((cfgA m).win w).block.Idx) (hj : ∀ a, (j a).val < ((cfgA m).win w).xsize (grid0.coords t) a) :
    (rdat m c).fetched w t d j = inp m c w t (fun a => ⟨(j a).val, hj a⟩) := by
  have hm : ((cfgA m).win w).moved (grid0.coords t) j = true := (((cfgA m).win w).moved_iff _ j).mpr hj
  unfold Pipeline.RDat.fetched Pipeline.Window.fill; rw [dif_pos hm]; rfl

theorem found0 (c : Dev nD) (t : Fin grid0.N) (Y) (h : (rdat m c).Finds 0 t Y) : Y = inp m c 0 t := by
  obtain ⟨d, rfl⟩ := (rdat m c).finds_in_eq_fetched 0 rfl (fun _ _ _ => rfl) (fun _ _ _ h => h) t Y h
  funext j; exact fetched_eq m c 0 t d j (fun a => (j a).isLt)
theorem found1 (c : Dev nD) (t : Fin grid0.N) (Y) (h : (rdat m c).Finds 1 t Y) : Y = inp m c 1 t := by
  obtain ⟨d, rfl⟩ := (rdat m c).finds_in_eq_fetched 1 rfl (fun _ _ _ => rfl) (fun _ _ _ h => h) t Y h
  funext j; exact fetched_eq m c 1 t d j (fun a => (j a).isLt)
theorem found2 (c : Dev nD) (t : Fin grid0.N) (Y) (h : (rdat m c).Finds 2 t Y) : Y = inp m c 2 t := by
  obtain ⟨d, rfl⟩ := (rdat m c).finds_in_eq_fetched 2 rfl (fun _ _ _ => rfl) (fun _ _ _ h => h) t Y h
  funext j; exact fetched_eq m c 2 t d j (fun a => (j a).isLt)
theorem found3 (c : Dev nD) (t : Fin grid0.N) (Y) (h : (rdat m c).Finds 3 t Y) : Y = inp m c 3 t := by
  obtain ⟨d, rfl⟩ := (rdat m c).finds_in_eq_fetched 3 rfl (fun _ _ _ => rfl) (fun _ _ _ h => h) t Y h
  funext j; exact fetched_eq m c 3 t d j (fun a => (j a).isLt)
theorem found4 (c : Dev nD) (t : Fin grid0.N) (Y) (h : (rdat m c).Finds 4 t Y) : Y = inp m c 4 t := by
  obtain ⟨d, rfl⟩ := (rdat m c).finds_in_eq_fetched 4 rfl (fun _ _ _ => rfl) (fun _ _ _ h => h) t Y h
  funext j; exact fetched_eq m c 4 t d j (fun a => (j a).isLt)
theorem found5 (c : Dev nD) (t : Fin grid0.N) (Y) (h : (rdat m c).Finds 5 t Y) : Y = inp m c 5 t := by
  obtain ⟨d, rfl⟩ := (rdat m c).finds_in_eq_fetched 5 rfl (fun _ _ _ => rfl) (fun _ _ _ h => h) t Y h
  funext j; exact fetched_eq m c 5 t d j (fun a => (j a).isLt)

end

end Cert.Kernel

end
-- ==== Proof.Keep.lean ====
/-
  One step leaves its six input blocks as it found them.
-/
module

public import proofs.«01_k».proof.Proof.Parts

@[expose] public section

noncomputable section

namespace Mla

open Idealize.ShloMosaic

variable {F : FTy → Type} [FloatOps F]

/-- The six input blocks of `s'` are those of `s`. -/
structure Keeps (s s' : State F) : Prop where
  x3 : s'.x3 = s.x3
  x4 : s'.x4 = s.x4
  x5 : s'.x5 = s.x5
  x6 : s'.x6 = s.x6
  x7 : s'.x7 = s.x7
  x8 : s'.x8 = s.x8

theorem Keeps.rfl' (s : State F) : Keeps s s := ⟨rfl, rfl, rfl, rfl, rfl, rfl⟩
theorem Keeps.trans {s s' s'' : State F} (h : Keeps s s') (h' : Keeps s' s'') : Keeps s s'' :=
  ⟨h'.x3.trans h.x3, h'.x4.trans h.x4, h'.x5.trans h.x5, h'.x6.trans h.x6, h'.x7.trans h.x7, h'.x8.trans h.x8⟩

theorem keeps_store (n : Nat) (hn : n < 32) (o l) (s : State F) : Keeps s (storeF n hn o l s) := by
  unfold storeF; constructor <;> dsimp only

theorem keeps_unit (S : Sec F) (kl sl : F .f32) (v1 v2 t0 t1 t2 t3 : BitVec 32) (h0 h1 h2 h3) (s : State F) :
    Keeps s (unitF S kl sl v1 v2 t0 t1 t2 t3 h0 h1 h2 h3 s) := by
  unfold unitF storesF
  exact   (((keeps_store _ _ _ _ _).trans (keeps_store _ _ _ _ _)).trans (keeps_store _ _ _ _ _)).trans (keeps_store _ _ _ _ _)

theorem keeps_unitAt (S : Sec F) (kl sl : F .f32) (v1 v2 lb : BitVec 32) (k : Nat) (u : BitVec 32) (s : State F) :
    Keeps s (unitAtF S kl sl v1 v2 lb k u s) := by
  unfold unitAtF
  split
  · exact keeps_unit ..
  · exact Keeps.rfl' s

theorem keeps_trip (S : Sec F) (kl sl : F .f32) (v1 v2 lb : BitVec 32) (k : Nat) (s : State F) :
    Keeps s (tripF S kl sl v1 v2 lb k s) := by
  unfold tripF
  exact   (((keeps_unitAt ..).trans (keeps_unitAt ..)).trans (keeps_unitAt ..)).trans (keeps_unitAt ..)

theorem keeps_loop (f : Nat → State F → State F) (hf : ∀ k s, Keeps s (f k s)) (n : Nat) (s : State F) : Keeps s (loopF f n s) := by
  induction n with
  | zero => exact Keeps.rfl' s
  | succ n ih => exact ih.trans (hf n _)

theorem keeps_rng (S : Sec F) (lo hi : BitVec 32) (kl sl : F .f32) (v1 v2 : BitVec 32) (s : State F) :
    Keeps s (rngF S lo hi kl sl v1 v2 s) := by
  unfold rngF
  split
  · exact keeps_loop _ (fun k s => keeps_trip ..) _ _
  · exact Keeps.rfl' s

theorem keeps_latGrp (g o p : Nat) (hg ho hp) (s : State F) : Keeps s (latGrpF g o p hg ho hp s) := by
  unfold latGrpF; constructor <;> dsimp only
theorem keeps_latRope (p : Nat) (hp) (s : State F) : Keeps s (latRopeF p hp s) := by
  unfold latRopeF; constructor <;> dsimp only
theorem keeps_latBlk (p : Nat) (hp) (s : State F) : Keeps s (latBlkF p hp s) := by
  unfold latBlkF
  exact ((((keeps_latGrp ..).trans (keeps_latGrp ..)).trans (keeps_latGrp ..)).trans (keeps_latGrp ..)).trans (keeps_latRope ..)
theorem keeps_lat (s : State F) : Keeps s (latF s) := by
  unfold latF
  exact ((((keeps_latBlk ..).trans (keeps_latBlk ..)).trans (keeps_latBlk ..)).trans (keeps_latBlk ..)).trans (keeps_latBlk ..)

theorem keeps_ite (p : Prop) [Decidable p] (f : State F → State F) (hf : ∀ s, Keeps s (f s)) (s : State F) : Keeps s (if p then f s else s) := by
  split
  · exact hf s
  · exact Keeps.rfl' s

theorem keeps_zero (o : Nat) (ho) (s : State F) : Keeps s (zeroF o ho s) := by
  unfold zeroF; constructor <;> dsimp only

theorem keeps_bodyA (kl sl : F .f32) (v1 a1 : BitVec 32) (s : State F) : Keeps s (bodyAF kl sl v1 a1 s) := by
  unfold bodyAF
  exact   ((((keeps_ite _ latF keeps_lat s).trans (keeps_ite _ (zeroF 0 (by decide)) (keeps_zero _ _) _)).trans (keeps_ite _ (zeroF 16 (by decide)) (keeps_zero _ _) _)).trans
    (keeps_rng ..)).trans (keeps_rng ..)

theorem keeps_bodyB (kl sl : F .f32) (v1 v2 : BitVec 32) (s : State F) : Keeps s (bodyBF kl sl v1 v2 s) := by
  unfold bodyBF
  exact   ((((((keeps_rng ..).trans (keeps_rng ..)).trans (keeps_rng ..)).trans (keeps_rng ..)).trans (keeps_rng ..)).trans
    (keeps_rng ..)).trans (keeps_rng ..)

theorem keeps_body (kl sl : F .f32) (v1 a1 : BitVec 32) (s : State F) : Keeps s (bodyF kl sl v1 a1 s) := by
  unfold bodyF bodyCF
  exact   ((keeps_bodyA ..).trans (keeps_bodyB ..)).trans (keeps_rng ..)

end Mla

end
-- ==== Proof.ObK.lean ====
/-
  The body obligation: one step of the kernel takes its windows and the scratch as the data say and leaves them so.
-/
module

public import proofs.«01_k».proof.Proof.DatK
public import proofs.«01_k».proof.Proof.Keep
public import Idealize.ShloMosaic.Lib.Pipeline.FrameBody

@[expose] public section

noncomputable section

namespace Cert.Kernel

open Idealize.ShloMosaic Idealize.ShloMosaic.TcCoe
open Idealize.SL Idealize.SL.RA Idealize.SL.BI Idealize.SL.Sem Mla
open scoped Idealize.SL.BI
open Idealize.SL.BI.BIBase Idealize.SL.BI.Laws Idealize.SL.ProofMode

variable {F : FTy → Type} [FloatOps F]

local notation "𝕄" => MT nD τ sig Unit (Elt F) ℕ (UR sig nD τ) ℕ

variable (m : Mem F)

/-- The step's program, from the contents of its memrefs. -/
theorem step_wp (c : Dev nD) (t : Fin grid0.N) (y9 : S1x32x128x512.Idx → Elt F .bf16) (y10 : S1x32x128.Idx → Elt F .f32) (z : Scr F) :
    iprop(owns (c : Thread nD τ) (Memref.whole main_arg6) fullShare.right (pf m 0) ∗ St c (bufs m t) (stIn m c t y9 y10 z))
      ⊢ wp frame (wpE (defs₀ (F := F)) Variants.none (c : Thread nD τ) none) Set.univ
        ((defs₀ (F := F)) .tc (cfgA m).body ((cfgA m).bodyArgs t ((cfgA m).slots t)))
        (fun _ => iprop(owns (c : Thread nD τ) (Memref.whole main_arg6) fullShare.right (pf m 0) ∗ St c (bufs m t) (stOut m c t y9 y10 z)) : PUnit → sProp 𝕄) := by
  rw [body_at m c t]
  obtain ⟨rest, e, hr⟩ := body_eq (F := F) (grid0.coords t) (Memref.whole main_arg6) (Memref.isWhole_whole _) (bufs m t)
  rw [e]
  exact wp_body (U := UR sig nD τ) (defs := defs₀ (F := F)) Variants.none c (bufs m t) kl sl (Memref.whole main_arg6) (lenR (grid0.coords t))
    (lenR_numel (grid0.coords t)) (k0_chk1 (grid0.coords t)) (k0_chk1.dec (grid0.coords t)) (chk (grid0.coords t)) (arg1 (grid0.coords t))
    (pf m 0) rest hr (stIn m c t y9 y10 z)

variable [∀ e, Nonempty (Elt F e)]

/-- The windows a step hands back. -/
theorem windows_out (c : Dev nD) (t : Fin grid0.N) (y9 : S1x32x128x512.Idx → Elt F .bf16) (y10 : S1x32x128.Idx → Elt F .f32) (z : Scr F)
    (hz : Inv m c t.val z) (Y : (w : Fin 8) → ((cfgA m).win w).block.Idx → Elt F ((cfgA m).win w).elt)
    (h0 : Y 0 = inp m c 0 t) (h1 : Y 1 = inp m c 1 t) (h2 : Y 2 = inp m c 2 t) (h3 : Y 3 = inp m c 3 t) (h4 : Y 4 = inp m c 4 t)
    (h5 : Y 5 = inp m c 5 t) (h6 : Y 6 = y9) (h7 : Y 7 = y10) :
    (St c (bufs m t) (stOut m c t y9 y10 z) : sProp 𝕄) ⊢
      iprop((bigSep Finset.univ fun w : Fin 8 => iprop(∃ X, ⌜aft m c w t (Y w) X⌝ ∗ owns (c : Thread nD τ) (((cfgA m).win w).stage ((cfgA m).slots t w)) fullShare X))
        ∗ own c (Memref.whole cc0_scratch0) (stOut m c t y9 y10 z).z11 ∗ own c (Memref.whole cc0_scratch1) (stOut m c t y9 y10 z).z12
        ∗ own c (Memref.whole cc0_scratch2) (stOut m c t y9 y10 z).z13) := by
  have k : Keeps (stIn m c t y9 y10 z) (stOut m c t y9 y10 z) := keeps_body ..
  rw [Gen.bigSep_W0]
  unfold St
  rw [k.x3, k.x4, k.x5, k.x6, k.x7, k.x8]
  iintro ⟨H3, H4, H5, H6, H7, H8, H9, H10, H11, H12, H13⟩
  isplitl [H3 H4 H5 H6 H7 H8 H9 H10]
  · isplitl [H3]
    · iexists _; isplitr; swap; · iexact H3
      ipureintro; exact h0.symm
    isplitl [H4]
    · iexists _; isplitr; swap; · iexact H4
      ipureintro; exact h1.symm
    isplitl [H5]
    · iexists _; isplitr; swap; · iexact H5
      ipureintro; exact h2.symm
    isplitl [H6]
    · iexists _; isplitr; swap; · iexact H6
      ipureintro; exact h3.symm
    isplitl [H7]
    · iexists _; isplitr; swap; · iexact H7
      ipureintro; exact h4.symm
    isplitl [H8]
    · iexists _; isplitr; swap; · iexact H8
      ipureintro; exact h5.symm
    isplitl [H9]
    · iexists _; isplitr; swap; · iexact H9
      ipureintro; exact ⟨y10, z, hz, by rw [h6]⟩
    · iexists _; isplitr; swap; · iexact H10
      ipureintro; exact ⟨y9, z, hz, by rw [h7]⟩
  isplitl [H11]; · iexact H11
  isplitl [H12]; · iexact H12
  iexact H13

/-- The windows a step takes. -/
theorem windows_in (c : Dev nD) (t : Fin grid0.N) (O : sProp 𝕄) (Y : (w : Fin 8) → ((cfgA m).win w).block.Idx → Elt F ((cfgA m).win w).elt)
    (h0 : Y 0 = inp m c 0 t) (h1 : Y 1 = inp m c 1 t) (h2 : Y 2 = inp m c 2 t) (h3 : Y 3 = inp m c 3 t) (h4 : Y 4 = inp m c 4 t)
    (h5 : Y 5 = inp m c 5 t) :
    iprop(Phi m c t.val ∗ O ∗ bigSep Finset.univ fun w : Fin 8 => owns (c : Thread nD τ) (((cfgA m).win w).stage ((cfgA m).slots t w)) fullShare (Y w))
      ⊢ iprop(∃ z : Scr F, ⌜Inv m c t.val z⌝ ∗ (iprop(O ∗ (∃ r, prngReg c r))
      ∗ (owns (c : Thread nD τ) (Memref.whole main_arg6) fullShare.right (pf m 0) ∗ St c (bufs m t) (stIn m c t (Y 6) (Y 7) z)))) := by
  rw [Gen.bigSep_W0, h0, h1, h2, h3, h4, h5]
  unfold Phi St
  iintro ⟨⟨%z, %hz, H11, H12, H13, Hp, Ht⟩, HO, H3, H4, H5, H6, H7, H8, H9, H10⟩
  iexists z
  isplitr; · ipureintro; exact hz
  isplitl [HO Hp]
  · isplitl [HO]; · iexact HO
    iexact Hp
  isplitl [Ht]; · iexact Ht
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- One step from scratch `z`, what it does not touch carried along. -/
theorem step_from (c : Dev nD) (t : Fin grid0.N) (O : sProp 𝕄) (Y : (w : Fin 8) → ((cfgA m).win w).block.Idx → Elt F ((cfgA m).win w).elt)
    (z : Scr F) (hz : Inv m c t.val z)
    (h0 : Y 0 = inp m c 0 t) (h1 : Y 1 = inp m c 1 t) (h2 : Y 2 = inp m c 2 t) (h3 : Y 3 = inp m c 3 t) (h4 : Y 4 = inp m c 4 t)
    (h5 : Y 5 = inp m c 5 t) :
    iprop((O ∗ (∃ r, prngReg c r))
      ∗ (owns (c : Thread nD τ) (Memref.whole main_arg6) fullShare.right (pf m 0) ∗ St c (bufs m t) (stIn m c t (Y 6) (Y 7) z)))
      ⊢ wp frame (wpE (defs₀ (F := F)) Variants.none (c : Thread nD τ) none) Set.univ
        ((defs₀ (F := F)) .tc (cfgA m).body ((cfgA m).bodyArgs t ((cfgA m).slots t)))
        (fun _ => iprop(Phi m c (t.val + 1) ∗ O ∗ bigSep Finset.univ fun w : Fin 8 =>
          iprop(∃ X, ⌜aft m c w t (Y w) X⌝ ∗ owns (c : Thread nD τ) (((cfgA m).win w).stage ((cfgA m).slots t w)) fullShare X)) : PUnit → sProp 𝕄) := by
  refine BIBase.Entails.trans (Laws.sep_mono_right (step_wp m c t (Y 6) (Y 7) z)) ?_
  refine BIBase.Entails.trans (wp_frame_l frame (wpE (defs₀ (F := F)) Variants.none (c : Thread nD τ) none) Set.univ)
    (wp_mono frame (wpE (defs₀ (F := F)) Variants.none (c : Thread nD τ) none) Set.univ fun _ => ?_)
  refine BIBase.Entails.trans (Laws.sep_mono_right (Laws.sep_mono_right
    (windows_out m c t (Y 6) (Y 7) z hz Y h0 h1 h2 h3 h4 h5 rfl rfl))) ?_
  unfold Phi
  iintro ⟨⟨HO, Hp⟩, Ht, HW, H11, H12, H13⟩
  isplitl [Hp Ht H11 H12 H13]
  · iexists ((stOut m c t (Y 6) (Y 7) z).z11, (stOut m c t (Y 6) (Y 7) z).z12, (stOut m c t (Y 6) (Y 7) z).z13)
    isplitr; · ipureintro; exact ⟨t.isLt, Y 6, Y 7, z, hz, rfl⟩
    isplitl [H11]; · iexact H11
    isplitl [H12]; · iexact H12
    isplitl [H13]; · iexact H13
    isplitl [Hp]; · iexact Hp
    iexact Ht
  isplitl [HO]; · iexact HO
  iexact HW

/-- One step, what it does not touch carried along. -/
theorem step_all (c : Dev nD) (t : Fin grid0.N) (O : sProp 𝕄) (Y : (w : Fin 8) → ((cfgA m).win w).block.Idx → Elt F ((cfgA m).win w).elt)
    (h0 : Y 0 = inp m c 0 t) (h1 : Y 1 = inp m c 1 t) (h2 : Y 2 = inp m c 2 t) (h3 : Y 3 = inp m c 3 t) (h4 : Y 4 = inp m c 4 t)
    (h5 : Y 5 = inp m c 5 t) :
    iprop(Phi m c t.val ∗ O ∗ bigSep Finset.univ fun w : Fin 8 => owns (c : Thread nD τ) (((cfgA m).win w).stage ((cfgA m).slots t w)) fullShare (Y w))
      ⊢ wp frame (wpE (defs₀ (F := F)) Variants.none (c : Thread nD τ) none) Set.univ
        ((defs₀ (F := F)) .tc (cfgA m).body ((cfgA m).bodyArgs t ((cfgA m).slots t)))
        (fun _ => iprop(Phi m c (t.val + 1) ∗ O ∗ bigSep Finset.univ fun w : Fin 8 =>
          iprop(∃ X, ⌜aft m c w t (Y w) X⌝ ∗ owns (c : Thread nD τ) (((cfgA m).win w).stage ((cfgA m).slots t w)) fullShare X)) : PUnit → sProp 𝕄) := by
  refine BIBase.Entails.trans (windows_in m c t O Y h0 h1 h2 h3 h4 h5) ?_
  iintro ⟨%z, %hz, H⟩
  iapply (step_from m c t O Y z hz h0 h1 h2 h3 h4 h5) $$ H

theorem phi_at (c : Dev nD) (t : Fin ((cfgA m).N + 1)) : (rdat m c).Φ t = Phi m c t.val := rfl

theorem phi_castSucc (c : Dev nD) (t : Fin (cfgA m).N) : (rdat m c).Φ t.castSucc = Phi m c t.val :=
  (phi_at m c _).trans (congrArg (Phi m c) (Fin.val_castSucc t))

theorem phi_succ (c : Dev nD) (t : Fin (cfgA m).N) : (rdat m c).Φ t.succ = Phi m c (t.val + 1) :=
  (phi_at m c _).trans (congrArg (Phi m c) (Fin.val_succ t))

theorem owes_at (c : Dev nD) (t : Fin (cfgA m).N) : (rdat m c).owesAt () t.succ = (rdat m c).owesAt () t.castSucc := rfl

theorem obligation (c : Dev nD) : (rdat m c).BodyObligation (defs₀ (F := F)) Variants.none () Set.univ :=
  fun t Y hY => by
  refine triple_restated (step_all m c t ((rdat m c).owesAt () t.castSucc) Y (found0 m c t _ (hY 0)) (found1 m c t _ (hY 1)) (found2 m c t _ (hY 2))
    (found3 m c t _ (hY 3)) (found4 m c t _ (hY 4)) (found5 m c t _ (hY 5))) ?_ ?_ ?_
  · rfl
  · refine Laws.sep_mono ?_ (Laws.sep_mono ?_ ?_)
    · rw [phi_castSucc]
    · exact Laws.entails_refl _
    · exact Laws.entails_refl _
  · intro a
    refine Laws.sep_mono ?_ (Laws.sep_mono ?_ ?_)
    · rw [phi_succ]
    · rw [owes_at]
    · exact Laws.entails_refl _

end Cert.Kernel

end
-- ==== Proof.LaunchK.lean ====
/-
  The run of the whole kernel from the obligation of one step.
-/
module

public import proofs.«01_k».proof.Proof.ObK

@[expose] public section

noncomputable section

namespace Cert.Kernel

open Idealize.ShloMosaic Idealize.ShloMosaic.TcCoe
open Idealize.SL Idealize.SL.RA Idealize.SL.BI Idealize.SL.Sem Mla
open scoped Idealize.SL.BI
open Idealize.SL.BI.BIBase Idealize.SL.BI.Laws Idealize.SL.ProofMode

variable {F : FTy → Type} [FloatOps F] [∀ e, Nonempty (Elt F e)]

local notation "𝕄" => MT nD τ sig Unit (Elt F) ℕ (UR sig nD τ) ℕ

variable (m : Mem F)

/-- The one table, held. -/
theorem table_owns (c : Dev nD) :
    (owns (c : Thread nD τ) (Memref.whole main_arg6) fullShare.right (pf m 0) : sProp 𝕄) = ((c : Thread nD τ).loc main_arg6) ↦{fullShare.right} (pf m 0) :=
  have h : ∀ f : Buf (Elt F) ((c : Thread nD τ).loc main_arg6),
      (owns (c : Thread nD τ) (Memref.whole main_arg6) fullShare.right f : sProp 𝕄) = ((c : Thread nD τ).loc main_arg6) ↦{fullShare.right} f :=
    fun f => owns_whole _ _ _ _
  h (pf m 0)

theorem table_held (c : Dev nD) :
    (Pipeline.ΦT pre0 (pf m) c : sProp 𝕄) = ((c : Thread nD τ).loc main_arg6) ↦{fullShare.right} (pf m 0) :=
  bigSep_univ_eq_bigSepL [(0 : Fin 1)] (by decide) (by decide) _

theorem phi_in (c : Dev nD) :
    (iprop(Pipeline.ΦA spec0 c ∗ Pipeline.ΦT pre0 (pf m) c) : sProp 𝕄) ⊢ Phi m c 0 := by
  unfold Pipeline.ΦA Phi
  rw [Gen.scopedRest0_eq, table_held, ← table_owns]
  simp only [owns_whole]
  iintro ⟨⟨⟨⟨%f11, H11⟩, ⟨%f12, H12⟩, ⟨%f13, H13⟩⟩, Hp⟩, Ht⟩
  iexists (f11, f12, f13)
  isplitr; · ipureintro; exact trivial
  isplitl [H11]; · iexact H11
  isplitl [H12]; · iexact H12
  isplitl [H13]; · iexact H13
  isplitl [Hp]; · iexact Hp
  iexact Ht

theorem phi_out (c : Dev nD) (t : Nat) :
    Phi m c t ⊢ (Pipeline.ΦA spec0 c : sProp 𝕄) := by
  unfold Pipeline.ΦA Phi
  rw [Gen.scopedRest0_eq]
  simp only [owns_whole]
  iintro ⟨%z, %hz, H11, H12, H13, Hp, Ht⟩
  isplitr [Hp]
  · isplitl [H11]; · iexists z.1; iexact H11
    isplitl [H12]; · iexists z.2.1; iexact H12
    iexists z.2.2; iexact H13
  iexact Hp

theorem run (g : Dev nD → PrngReg) :
    θ_run (defs (F := F)) (onTc main) ⟨m, fun _ => 0, g⟩
      (fun r => Pipeline.RDat.FramePost (cfgA m) (rdat m) (V m) r ∧ r.2.sem = fun _ => 0) :=
  Pipeline.RDat.θ_run_frameP_track (pcfgs (F := F)) (adm m) 0 Gen.launch0 (defs₀ (F := F)) Variants.none (rdat m) m g main
    (fun c => obligation m c) (fun c w => by unfold Pipeline.RDat.share; split <;> rfl) (fun c t => rfl) (V m)
    (Pipeline.hmainP_prefix (pcfgs (F := F)) 0 (defs₀ (F := F)) Variants.none m main Gen.hostOps0 Gen.hostOps0_sub ⟨rfl, rfl, rfl, rfl⟩ Gen.main_chain)
    (fun c w => rfl) (fun c k => by rw [Subsingleton.elim c 0]; rfl) (fun c => phi_in m c) (fun c => phi_out m c _) _ (fun r h => h)

/-- The four transposes write none of the arguments. -/
theorem V_arg (c : Dev nD) (b : Ref sig .tc) (h : b ∉ [main_v0, main_v1, main_v2, main_v3]) : V m c b = m (c, b) :=
  StableHlo.after_of_writes_sub (W := [main_v0, main_v1, main_v2, main_v3]) Gen.hostOps0 _ (by
    refine ⟨?_, ?_, ?_, ?_⟩ <;> simp [StableHlo.unary]) h

theorem frame (g : Dev nD → PrngReg) :
    θ_run (defs (F := F)) (onTc main) ⟨m, fun _ => 0, g⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) ∧ r.2.sem = fun _ => 0) := by
  refine (θ_run _ _ _).mono (fun r hr => ⟨fun c => ?_, hr.2⟩) (run m g)
  have h0 := Pipeline.RDat.FramePost.arr_in hr.1 c 0 rfl
  have h3 := Pipeline.RDat.FramePost.arr_in hr.1 c 3 rfl
  have hb : ∀ b ∈ Pipeline.restRefs sig spec0, r.2.mem ((c.tc : Thread nD τ).loc b) = V m c b := (hr.1 c).2
  refine ⟨h0.trans (V_arg m c main_arg0 (by decide)), (hb main_arg1 (by decide)).trans (V_arg m c main_arg1 (by decide)),
    (hb main_arg2 (by decide)).trans (V_arg m c main_arg2 (by decide)), h3.trans (V_arg m c main_arg3 (by decide)),
    (hb main_arg4 (by decide)).trans (V_arg m c main_arg4 (by decide)), (hb main_arg5 (by decide)).trans (V_arg m c main_arg5 (by decide)),
    (hb main_arg6 (by decide)).trans (V_arg m c main_arg6 (by decide))⟩

end Cert.Kernel

end
-- ==== Proof.EqI.lean ====
/-
  The printed body is the generic one.
-/
module

public import proofs.«01_k».proof.Proof.Body
public import proofs.«01_k».proof.Proof.Gen.KernelIdeal
public import Idealize.ShloMosaic.Lib.Pipeline.Regions

@[expose] public section

noncomputable section

namespace Cert.KernelIdeal

open Idealize.ShloMosaic Idealize.ShloMosaic.TcCoe
open Idealize.SL.Sem Mla

variable {F : FTy → Type} [FloatOps F] [Named F]

/-- The two scale constants of the body. -/
def kl : F .f32 := Named.named κ "softmax_scale_log2" 0x3DD53B95#32
def sl : F .f32 := Named.named κ "softmax_scale" 0x3D93CD3A#32

/-- Where the step reads its length. -/
def lenR (i : grid0.Coords) : Rect ⟨1, ![2]⟩ := Rect.unit (s := S2) (k0_off1 i) S1.size (Facts₀.k0_off1_inb i)

def lenR_numel (i : grid0.Coords) : (lenR i).shape.numel = 1 := Facts₀.numel1_S1

/-- The step's second coordinate as the body reads it. -/
abbrev arg1 (i : grid0.Coords) : BitVec 32 := BitVec.ofNat 32 (i 1).val

/-- The word the first part hands on beside the row and the live count. -/
abbrev in128 (v2 : BitVec 32) : BitVec 32 := Scalar.extui (Scalar.andi (Scalar.cmpi .sge v2 128#32) (Scalar.cmpi .slt v2 192#32))

set_option maxRecDepth 1000000 in
theorem partA_eq (i : grid0.Coords) (a2 : Memref sig .tc .smem S2 .i32) (h2 : a2.IsWhole) (B : Bufs sig) :
    k0_part691 (F := F) i a2 h2 B.a3 B.h3 B.a4 B.h4 B.a5 B.h5 B.a6 B.h6 B.a7 B.h7 B.a8 B.h8 B.a9 B.h9 B.a10 B.h10 B.a11 B.h11 B.a12 B.h12 B.a13 B.h13
      = bodyA kl sl B a2 (lenR i) (lenR_numel i) (k0_chk1 i) (k0_chk1.dec i) (arg1 i) := by
  chain_rfl

set_option maxRecDepth 1000000 in
theorem partB_eq (i : grid0.Coords) (a2 : Memref sig .tc .smem S2 .i32) (h2 : a2.IsWhole) (B : Bufs sig) (v1 : Elt F .i32) (hw : k0_chk1 i v1) :
    k0_part692 (F := F) i a2 h2 B.a3 B.h3 B.a4 B.h4 B.a5 B.h5 B.a6 B.h6 B.a7 B.h7 B.a8 B.h8 B.a9 B.h9 B.a10 B.h10 B.a11 B.h11 B.a12 B.h12 B.a13 B.h13 v1 hw (row0 (arg1 i)) (live v1 (row0 (arg1 i))) (in128 (row0 (arg1 i)))
      = bodyB kl sl B v1 (row0 (arg1 i)) := by
  chain_rfl

set_option maxRecDepth 1000000 in
/-- The body: its first part, and what follows the tuple that part hands on. -/
theorem body_eq (i : grid0.Coords) (a2 : Memref sig .tc .smem S2 .i32) (h2 : a2.IsWhole) (B : Bufs sig) :
    ∃ rest, cc0_mla_prompt (F := F) i a2 h2 B.a3 B.h3 B.a4 B.h4 B.a5 B.h5 B.a6 B.h6 B.a7 B.h7 B.a8 B.h8 B.a9 B.h9 B.a10 B.h10 B.a11 B.h11 B.a12 B.h12 B.a13 B.h13
        = Prog.bind (bodyA kl sl B a2 (lenR i) (lenR_numel i) (k0_chk1 i) (k0_chk1.dec i) (arg1 i)) rest ∧
      ∀ v1 hw, rest ⟨v1, hw, row0 (arg1 i), live v1 (row0 (arg1 i)), in128 (row0 (arg1 i))⟩
        = Prog.bind (bodyB kl sl B v1 (row0 (arg1 i))) (fun _ => bodyC kl sl B v1 (row0 (arg1 i))) := by
  simp only [← partA_eq i a2 h2 B]
  refine ⟨_, by unfold cc0_mla_prompt; rfl, fun v1 hw => ?_⟩
  refine Eq.trans (b := Prog.bind (k0_part692 (F := F) i a2 h2 B.a3 B.h3 B.a4 B.h4 B.a5 B.h5 B.a6 B.h6 B.a7 B.h7 B.a8 B.h8 B.a9 B.h9 B.a10 B.h10 B.a11 B.h11 B.a12 B.h12 B.a13 B.h13 v1 hw (row0 (arg1 i)) (live v1 (row0 (arg1 i))) (in128 (row0 (arg1 i)))) (fun _ => bodyC kl sl B v1 (row0 (arg1 i)))) ?_
    (congrArg (fun p => Prog.bind p _) (partB_eq i a2 h2 B v1 hw))
  chain_rfl

end Cert.KernelIdeal
end
-- ==== Proof.OkI.lean ====
/-
  Every table of lengths is admissible: the query windows' blocks lie inside their arrays at every step.
-/
module

public import proofs.«01_k».proof.Proof.Blk
public import proofs.«01_k».proof.Proof.EqI

@[expose] public section

noncomputable section

namespace Cert.KernelIdeal

open Idealize.ShloMosaic Idealize.ShloMosaic.TcCoe Mla

variable {F : FTy → Type} [FloatOps F] [Named F]

/-- The batch's length at step `i`, read from the table's contents. -/
def lenAt (pf : pre0.Contents (Elt F)) (i : grid0.Coords) : BitVec 32 :=
  pf.at 0 (Rect.unit (s := S2) ![(Scalar.indexCast (BitVec.ofNat 32 (i 0).val)).toNat] S1.size (Facts₀.k0_off1_inb i)) Facts₀.numel1_S1

theorem tr0 (pf : pre0.Contents (Elt F)) (i : grid0.Coords) :
    cc0_transform_0 Facts₀.k0_off1_inb Facts₀.numel1_S1 pf i = ![(BitVec.ofNat 32 (i 0).val).toNat, (qBlk (arg1 i) (lenAt pf i)).toNat, 0, 0] := rfl
theorem tr1 (pf : pre0.Contents (Elt F)) (i : grid0.Coords) :
    cc0_transform_1 Facts₀.k0_off1_inb Facts₀.numel1_S1 pf i = ![(BitVec.ofNat 32 (i 0).val).toNat, (qBlk (arg1 i) (lenAt pf i)).toNat, 0, 0] := rfl
theorem tr2 (pf : pre0.Contents (Elt F)) (i : grid0.Coords) :
    cc0_transform_2 Facts₀.k0_off1_inb Facts₀.numel1_S1 pf i = ![(BitVec.ofNat 32 (i 0).val).toNat, (qBlk (arg1 i) (lenAt pf i)).toNat, 0, 0] := rfl

theorem arg1_lt (i : grid0.Coords) : (arg1 i).toNat < 20 := by
  have h : (i 1).val < 20 := (i 1).isLt
  simp only [arg1, BitVec.toNat_ofNat]; omega
theorem arg0_lt (i : grid0.Coords) : (BitVec.ofNat 32 (i 0).val).toNat < 2 := by
  have h : (i 0).val < 2 := (i 0).isLt
  simp only [BitVec.toNat_ofNat]; omega

theorem ok_all (pf : pre0.Contents (Elt F)) : ok0 pf := by
  have hq : ∀ i, (qBlk (arg1 i) (lenAt pf i)).toNat < 20 := fun i => Nat.lt_of_le_of_lt (qBlk_le _ _ (arg1_lt i)) (arg1_lt i)
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩⟩
  · rw [tr0]; have h0 := arg0_lt i; have h1 := hq i
    match a with
    | 0 => show ((BitVec.ofNat 32 (i 0).val).toNat + 1) * 1 ≤ 2; omega
    | 1 => show ((qBlk (arg1 i) (lenAt pf i)).toNat + 1) * 32 ≤ 640; omega
    | 2 => show (0 + 1) * 128 ≤ 128; omega
    | 3 => show (0 + 1) * 512 ≤ 512; omega
  · rw [tr1]; have h0 := arg0_lt i; have h1 := hq i
    match a with
    | 0 => show ((BitVec.ofNat 32 (i 0).val).toNat + 1) * 1 ≤ 2; omega
    | 1 => show ((qBlk (arg1 i) (lenAt pf i)).toNat + 1) * 32 ≤ 640; omega
    | 2 => show (0 + 1) * 4 ≤ 4; omega
    | 3 => show (0 + 1) * 128 ≤ 128; omega
  · rw [tr2]; have h0 := arg0_lt i; have h1 := hq i
    match a with
    | 0 => show ((BitVec.ofNat 32 (i 0).val).toNat + 1) * 1 ≤ 2; omega
    | 1 => show ((qBlk (arg1 i) (lenAt pf i)).toNat + 1) * 32 ≤ 640; omega
    | 2 => show (0 + 1) * 64 ≤ 64; omega
    | 3 => show (0 + 1) * 128 ≤ 128; omega

end Cert.KernelIdeal

end
-- ==== Proof.ChkI.lean ====
/-
  The check of the printed body holds of every word.
-/
module

public import proofs.«01_k».proof.Proof.Chk
public import proofs.«01_k».proof.Proof.Body
public import proofs.«01_k».proof.KernelIdeal

@[expose] public section

noncomputable section

namespace Cert.KernelIdeal

open Idealize.ShloMosaic Idealize.ShloMosaic.TcCoe Mla

/-- The step's first row. -/
abbrev r (i : grid0.Coords) : BitVec 32 := row0 (BitVec.ofNat 32 (i 1).val)

theorem chk0 (i : grid0.Coords) (v1 : BitVec 32) : k0_chk1_0 i v1 :=
  ⟨chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide)⟩

theorem chk1 (i : grid0.Coords) (v1 : BitVec 32) : k0_chk1_1 i v1 :=
  ⟨chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _⟩

theorem chk2 (i : grid0.Coords) (v1 : BitVec 32) : k0_chk1_2 i v1 :=
  ⟨chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide)⟩

theorem chk3 (i : grid0.Coords) (v1 : BitVec 32) : k0_chk1_3 i v1 :=
  ⟨chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _⟩

theorem chk4 (i : grid0.Coords) (v1 : BitVec 32) : k0_chk1_4 i v1 :=
  ⟨chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide)⟩

theorem chk5 (i : grid0.Coords) (v1 : BitVec 32) : k0_chk1_5 i v1 :=
  ⟨chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _⟩

theorem chk6 (i : grid0.Coords) (v1 : BitVec 32) : k0_chk1_6 i v1 :=
  ⟨chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide)⟩

theorem chk7 (i : grid0.Coords) (v1 : BitVec 32) : k0_chk1_7 i v1 :=
  ⟨chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide),
   chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _,
   chkOK (main_ok v1 (r i)) _,
   chkC (main_row v1 (r i)) _ 0 (by decide),
   chkS (main_row v1 (r i)) _ 0 (by decide),
   chkC (main_row v1 (r i)) _ 128 (by decide),
   chkS (main_row v1 (r i)) _ 1 (by decide),
   chkC (main_row v1 (r i)) _ 256 (by decide),
   chkS (main_row v1 (r i)) _ 2 (by decide),
   chkC (main_row v1 (r i)) _ 384 (by decide),
   chkS (main_row v1 (r i)) _ 3 (by decide),
   chkR (main_row v1 (r i)) _,
   chkO (main_row v1 (r i)) _,
   chkP 0#32 (mainL (live v1 (r i))) _,
   chkL (main_row v1 (r i)) _,
   chkOK (rem_ok v1 (r i)) _,
   chkC (rem_row v1 (r i) (mid (live v1 (r i)))) _ 0 (by decide),
   chkS (rem_row v1 (r i) (mid (live v1 (r i)))) _ 0 (by decide),
   chkC (rem_row v1 (r i) (mid (live v1 (r i)))) _ 128 (by decide),
   chkS (rem_row v1 (r i) (mid (live v1 (r i)))) _ 1 (by decide),
   chkC (rem_row v1 (r i) (mid (live v1 (r i)))) _ 256 (by decide),
   chkS (rem_row v1 (r i) (mid (live v1 (r i)))) _ 2 (by decide),
   chkC (rem_row v1 (r i) (mid (live v1 (r i)))) _ 384 (by decide),
   chkS (rem_row v1 (r i) (mid (live v1 (r i)))) _ 3 (by decide)⟩

theorem chk8 (i : grid0.Coords) (v1 : BitVec 32) : k0_chk1_8 i v1 :=
  ⟨chkR (rem_row v1 (r i) (mid (live v1 (r i)))) _,
   chkO (rem_row v1 (r i) (mid (live v1 (r i)))) _,
   chkP (mid (live v1 (r i))) (remL (live v1 (r i))) _,
   chkL (rem_row v1 (r i) (mid (live v1 (r i)))) _⟩

theorem chk (i : grid0.Coords) (v1 : BitVec 32) : k0_chk1 i v1 :=
  ⟨chk0 i v1, chk1 i v1, chk2 i v1, chk3 i v1, chk4 i v1, chk5 i v1, chk6 i v1, chk7 i v1, chk8 i v1⟩

end Cert.KernelIdeal
end
-- ==== Proof.DatI.lean ====
/-
  The relational data of the launch: what each step finds and leaves in its windows and in the scratch.
-/
module

public import proofs.«01_k».proof.Proof.OkI
public import proofs.«01_k».proof.Proof.Parts
public import proofs.«01_k».proof.Proof.ChkI
public import proofs.«01_k».proof.Proof.Gen.KernelIdeal.Launch
public import Idealize.ShloMosaic.Lib.Pipeline.Frame
public import Idealize.ShloMosaic.Lib.Pipeline.FrameBody

@[expose] public section

noncomputable section

namespace Cert.KernelIdeal

open Idealize.ShloMosaic Idealize.ShloMosaic.TcCoe
open Idealize.SL Idealize.SL.RA Idealize.SL.BI Idealize.SL.Sem Mla
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

/-- A memory at the launch. -/
abbrev Mem (F : FTy → Type) : Type := (ℓ : Loc nD τ sig) → Buf (Elt F) ℓ

variable (m : Mem F)

/-- The buffers' contents where the region starts: after the four transposes. -/
def V (c : Dev nD) (b : Ref sig .tc) : Buf (Elt F) ((c.tc : Thread nD τ).loc b) :=
  StableHlo.after Gen.hostOps0 (fun b => m (c, b)) b

/-- The table of lengths there. -/
def pf : pre0.Contents (Elt F) := fun k => V m 0 (pre0.ref k)

def adm : (p : Fin 1) → (pcfgs (F := F) p).Adm := fun _ => ⟨pf m, ok_all _⟩

abbrev cfgA : Pipeline.Cfg sig Λ₀ := cfg0 (adm m 0)

/-- Each window's array there. -/
def Ain (c : Dev nD) (w : Fin 8) : Buf (Elt F) (((cfgA m).win w).arr.view.loc (c.tc : Thread nD τ)) := V m c (Pipeline.arrRef spec0 w)

/-- The block of window `w` at step `t`. -/
def inp (c : Dev nD) (w : Fin 8) (t : Fin grid0.N) : (((cfgA m).win w).xblock (grid0.coords t)).Idx → Elt F ((cfgA m).win w).elt :=
  (((cfgA m).win w).blk t).view.read (Elt F) (Ain m c w)

/-- Contents of the three scratch buffers. -/
abbrev Scr (F : FTy → Type) : Type :=
  ((⟨2, ![640, 512]⟩ : Shape).Idx → Elt F .bf16) × ((⟨2, ![512, 640]⟩ : Shape).Idx → Elt F .bf16) × ((⟨2, ![640, 64]⟩ : Shape).Idx → Elt F .bf16)

/-- What step `t` finds. -/
def stIn (c : Dev nD) (t : Fin grid0.N) (y9 : S1x32x128x512.Idx → Elt F .bf16) (y10 : S1x32x128.Idx → Elt F .f32) (z : Scr F) : State F where
  x3 := inp m c 0 t
  x4 := inp m c 1 t
  x5 := inp m c 2 t
  x6 := inp m c 3 t
  x7 := inp m c 4 t
  x8 := inp m c 5 t
  y9 := y9
  y10 := y10
  z11 := z.1
  z12 := z.2.1
  z13 := z.2.2

/-- The length of step `t`'s batch. -/
def lenT (t : Fin grid0.N) : BitVec 32 :=
  ld (s := ⟨1, ![2]⟩) (pf m 0) (lenR (grid0.coords t)) (Shape.Idx.first (by rw [lenR_numel]; exact Nat.one_pos))

/-- What step `t` leaves. -/
def stOut (c : Dev nD) (t : Fin grid0.N) (y9 : S1x32x128x512.Idx → Elt F .bf16) (y10 : S1x32x128.Idx → Elt F .f32) (z : Scr F) : State F :=
  bodyF kl sl (lenT m t) (arg1 (grid0.coords t)) (stIn m c t y9 y10 z)

/-- The scratch contents that may stand before step `t`. -/
def Inv (c : Dev nD) : Nat → Scr F → Prop
  | 0, _ => True
  | t + 1, z => ∃ (h : t < grid0.N) (y9 : S1x32x128x512.Idx → Elt F .bf16) (y10 : S1x32x128.Idx → Elt F .f32) (z' : Scr F), Inv c t z' ∧
      z = ((stOut m c ⟨t, h⟩ y9 y10 z').z11, (stOut m c ⟨t, h⟩ y9 y10 z').z12, (stOut m c ⟨t, h⟩ y9 y10 z').z13)

/-- What step `t` may leave in window `w`, which held `Y`. -/
def aft (c : Dev nD) : (w : Fin 8) → Fin grid0.N → (Y X : ((cfgA m).win w).block.Idx → Elt F ((cfgA m).win w).elt) → Prop
  | 0, _, Y, X => X = Y
  | 1, _, Y, X => X = Y
  | 2, _, Y, X => X = Y
  | 3, _, Y, X => X = Y
  | 4, _, Y, X => X = Y
  | 5, _, Y, X => X = Y
  | 6, t, Y, X => ∃ y10 z, Inv m c t.val z ∧ X = (stOut m c t Y y10 z).y9
  | 7, t, Y, X => ∃ y9 z, Inv m c t.val z ∧ X = (stOut m c t y9 Y z).y10
  | ⟨_ + 8, h⟩, _, _, _ => absurd h (Nat.not_lt.2 (Nat.le_add_left _ _))

/-- What stands before step `t` beside the windows. -/
def Phi (c : Dev nD) (t : Nat) : sProp 𝕄 :=
  iprop(∃ z : Scr F, ⌜Inv m c t z⌝ ∗ own c (Memref.whole cc0_scratch0) z.1 ∗ own c (Memref.whole cc0_scratch1) z.2.1 ∗ own c (Memref.whole cc0_scratch2) z.2.2
    ∗ (∃ r, prngReg c r) ∗ owns (c : Thread nD τ) (Memref.whole main_arg6) fullShare.right (pf m 0))

def rdat (c : Dev nD) : Pipeline.RDat τ (Elt F) Unit ℕ (UR sig nD τ) ℕ (cfgA m) c where
  A := Ain m c
  after := aft m c
  Φ t := Phi m c t.val
  q _ := fullShare
  owed _ := 0

/-- The memrefs of step `t`. -/
def bufs (t : Fin grid0.N) : Bufs sig where
  a3 := spec0_0.stage ((cfgA m).slots t 0)
  h3 := Facts₀.hstage0_0 (((cfgA m).slots t 0).cast Facts₀.nbuf0_0)
  a4 := spec0_1.stage ((cfgA m).slots t 1)
  h4 := Facts₀.hstage0_1 (((cfgA m).slots t 1).cast Facts₀.nbuf0_1)
  a5 := spec0_2.stage ((cfgA m).slots t 2)
  h5 := Facts₀.hstage0_2 (((cfgA m).slots t 2).cast Facts₀.nbuf0_2)
  a6 := spec0_3.stage ((cfgA m).slots t 3)
  h6 := Facts₀.hstage0_3 (((cfgA m).slots t 3).cast Facts₀.nbuf0_3)
  a7 := spec0_4.stage ((cfgA m).slots t 4)
  h7 := Facts₀.hstage0_4 (((cfgA m).slots t 4).cast Facts₀.nbuf0_4)
  a8 := spec0_5.stage ((cfgA m).slots t 5)
  h8 := Facts₀.hstage0_5 (((cfgA m).slots t 5).cast Facts₀.nbuf0_5)
  a9 := spec0_6.stage ((cfgA m).slots t 6)
  h9 := Facts₀.hstage0_6 (((cfgA m).slots t 6).cast Facts₀.nbuf0_6)
  a10 := spec0_7.stage ((cfgA m).slots t 7)
  h10 := Facts₀.hstage0_7 (((cfgA m).slots t 7).cast Facts₀.nbuf0_7)
  a11 := Memref.whole cc0_scratch0
  h11 := Memref.isWhole_whole _
  a12 := Memref.whole cc0_scratch1
  h12 := Memref.isWhole_whole _
  a13 := Memref.whole cc0_scratch2
  h13 := Memref.isWhole_whole _

theorem body_at (c : Dev nD) (t : Fin grid0.N) :
    (defs₀ (F := F)) .tc (cfgA m).body ((cfgA m).bodyArgs t ((cfgA m).slots t)) =
      cc0_mla_prompt (F := F) (grid0.coords t) (Memref.whole main_arg6) (Memref.isWhole_whole _) (bufs m t).a3 (bufs m t).h3 (bufs m t).a4 (bufs m t).h4
        (bufs m t).a5 (bufs m t).h5 (bufs m t).a6 (bufs m t).h6 (bufs m t).a7 (bufs m t).h7 (bufs m t).a8 (bufs m t).h8 (bufs m t).a9 (bufs m t).h9
        (bufs m t).a10 (bufs m t).h10 (bufs m t).a11 (bufs m t).h11 (bufs m t).a12 (bufs m t).h12 (bufs m t).a13 (bufs m t).h13 := rfl

section
variable [∀ e, Nonempty (Elt F e)]

theorem fetched_eq (c : Dev nD) (w : Fin 8) (t : Fin grid0.N)
    (d : ((cfgA m).win w).block.Idx → Elt F ((cfgA m).win w).elt) (j : ((cfgA m).win w).block.Idx) (hj : ∀ a, (j a).val < ((cfgA m).win w).xsize (grid0.coords t) a) :
    (rdat m c).fetched w t d j = inp m c w t (fun a => ⟨(j a).val, hj a⟩) := by
  have hm : ((cfgA m).win w).moved (grid0.coords t) j = true := (((cfgA m).win w).moved_iff _ j).mpr hj
  unfold Pipeline.RDat.fetched Pipeline.Window.fill; rw [dif_pos hm]; rfl

theorem found0 (c : Dev nD) (t : Fin grid0.N) (Y) (h : (rdat m c).Finds 0 t Y) : Y = inp m c 0 t := by
  obtain ⟨d, rfl⟩ := (rdat m c).finds_in_eq_fetched 0 rfl (fun _ _ _ => rfl) (fun _ _ _ h => h) t Y h
  funext j; exact fetched_eq m c 0 t d j (fun a => (j a).isLt)
theorem found1 (c : Dev nD) (t : Fin grid0.N) (Y) (h : (rdat m c).Finds 1 t Y) : Y = inp m c 1 t := by
  obtain ⟨d, rfl⟩ := (rdat m c).finds_in_eq_fetched 1 rfl (fun _ _ _ => rfl) (fun _ _ _ h => h) t Y h
  funext j; exact fetched_eq m c 1 t d j (fun a => (j a).isLt)
theorem found2 (c : Dev nD) (t : Fin grid0.N) (Y) (h : (rdat m c).Finds 2 t Y) : Y = inp m c 2 t := by
  obtain ⟨d, rfl⟩ := (rdat m c).finds_in_eq_fetched 2 rfl (fun _ _ _ => rfl) (fun _ _ _ h => h) t Y h
  funext j; exact fetched_eq m c 2 t d j (fun a => (j a).isLt)
theorem found3 (c : Dev nD) (t : Fin grid0.N) (Y) (h : (rdat m c).Finds 3 t Y) : Y = inp m c 3 t := by
  obtain ⟨d, rfl⟩ := (rdat m c).finds_in_eq_fetched 3 rfl (fun _ _ _ => rfl) (fun _ _ _ h => h) t Y h
  funext j; exact fetched_eq m c 3 t d j (fun a => (j a).isLt)
theorem found4 (c : Dev nD) (t : Fin grid0.N) (Y) (h : (rdat m c).Finds 4 t Y) : Y = inp m c 4 t := by
  obtain ⟨d, rfl⟩ := (rdat m c).finds_in_eq_fetched 4 rfl (fun _ _ _ => rfl) (fun _ _ _ h => h) t Y h
  funext j; exact fetched_eq m c 4 t d j (fun a => (j a).isLt)
theorem found5 (c : Dev nD) (t : Fin grid0.N) (Y) (h : (rdat m c).Finds 5 t Y) : Y = inp m c 5 t := by
  obtain ⟨d, rfl⟩ := (rdat m c).finds_in_eq_fetched 5 rfl (fun _ _ _ => rfl) (fun _ _ _ h => h) t Y h
  funext j; exact fetched_eq m c 5 t d j (fun a => (j a).isLt)

end

end Cert.KernelIdeal

end
-- ==== Proof.ObI.lean ====
/-
  The body obligation: one step of the kernel takes its windows and the scratch as the data say and leaves them so.
-/
module

public import proofs.«01_k».proof.Proof.DatI
public import proofs.«01_k».proof.Proof.Keep
public import Idealize.ShloMosaic.Lib.Pipeline.FrameBody

@[expose] public section

noncomputable section

namespace Cert.KernelIdeal

open Idealize.ShloMosaic Idealize.ShloMosaic.TcCoe
open Idealize.SL Idealize.SL.RA Idealize.SL.BI Idealize.SL.Sem Mla
open scoped Idealize.SL.BI
open Idealize.SL.BI.BIBase Idealize.SL.BI.Laws Idealize.SL.ProofMode

variable {F : FTy → Type} [FloatOps F] [Named F]

local notation "𝕄" => MT nD τ sig Unit (Elt F) ℕ (UR sig nD τ) ℕ

variable (m : Mem F)

/-- The step's program, from the contents of its memrefs. -/
theorem step_wp (c : Dev nD) (t : Fin grid0.N) (y9 : S1x32x128x512.Idx → Elt F .bf16) (y10 : S1x32x128.Idx → Elt F .f32) (z : Scr F) :
    iprop(owns (c : Thread nD τ) (Memref.whole main_arg6) fullShare.right (pf m 0) ∗ St c (bufs m t) (stIn m c t y9 y10 z))
      ⊢ wp frame (wpE (defs₀ (F := F)) Variants.none (c : Thread nD τ) none) Set.univ
        ((defs₀ (F := F)) .tc (cfgA m).body ((cfgA m).bodyArgs t ((cfgA m).slots t)))
        (fun _ => iprop(owns (c : Thread nD τ) (Memref.whole main_arg6) fullShare.right (pf m 0) ∗ St c (bufs m t) (stOut m c t y9 y10 z)) : PUnit → sProp 𝕄) := by
  rw [body_at m c t]
  obtain ⟨rest, e, hr⟩ := body_eq (F := F) (grid0.coords t) (Memref.whole main_arg6) (Memref.isWhole_whole _) (bufs m t)
  rw [e]
  exact wp_body (U := UR sig nD τ) (defs := defs₀ (F := F)) Variants.none c (bufs m t) kl sl (Memref.whole main_arg6) (lenR (grid0.coords t))
    (lenR_numel (grid0.coords t)) (k0_chk1 (grid0.coords t)) (k0_chk1.dec (grid0.coords t)) (chk (grid0.coords t)) (arg1 (grid0.coords t))
    (pf m 0) rest hr (stIn m c t y9 y10 z)

variable [∀ e, Nonempty (Elt F e)]

/-- The windows a step hands back. -/
theorem windows_out (c : Dev nD) (t : Fin grid0.N) (y9 : S1x32x128x512.Idx → Elt F .bf16) (y10 : S1x32x128.Idx → Elt F .f32) (z : Scr F)
    (hz : Inv m c t.val z) (Y : (w : Fin 8) → ((cfgA m).win w).block.Idx → Elt F ((cfgA m).win w).elt)
    (h0 : Y 0 = inp m c 0 t) (h1 : Y 1 = inp m c 1 t) (h2 : Y 2 = inp m c 2 t) (h3 : Y 3 = inp m c 3 t) (h4 : Y 4 = inp m c 4 t)
    (h5 : Y 5 = inp m c 5 t) (h6 : Y 6 = y9) (h7 : Y 7 = y10) :
    (St c (bufs m t) (stOut m c t y9 y10 z) : sProp 𝕄) ⊢
      iprop((bigSep Finset.univ fun w : Fin 8 => iprop(∃ X, ⌜aft m c w t (Y w) X⌝ ∗ owns (c : Thread nD τ) (((cfgA m).win w).stage ((cfgA m).slots t w)) fullShare X))
        ∗ own c (Memref.whole cc0_scratch0) (stOut m c t y9 y10 z).z11 ∗ own c (Memref.whole cc0_scratch1) (stOut m c t y9 y10 z).z12
        ∗ own c (Memref.whole cc0_scratch2) (stOut m c t y9 y10 z).z13) := by
  have k : Keeps (stIn m c t y9 y10 z) (stOut m c t y9 y10 z) := keeps_body ..
  rw [Gen.bigSep_W0]
  unfold St
  rw [k.x3, k.x4, k.x5, k.x6, k.x7, k.x8]
  iintro ⟨H3, H4, H5, H6, H7, H8, H9, H10, H11, H12, H13⟩
  isplitl [H3 H4 H5 H6 H7 H8 H9 H10]
  · isplitl [H3]
    · iexists _; isplitr; swap; · iexact H3
      ipureintro; exact h0.symm
    isplitl [H4]
    · iexists _; isplitr; swap; · iexact H4
      ipureintro; exact h1.symm
    isplitl [H5]
    · iexists _; isplitr; swap; · iexact H5
      ipureintro; exact h2.symm
    isplitl [H6]
    · iexists _; isplitr; swap; · iexact H6
      ipureintro; exact h3.symm
    isplitl [H7]
    · iexists _; isplitr; swap; · iexact H7
      ipureintro; exact h4.symm
    isplitl [H8]
    · iexists _; isplitr; swap; · iexact H8
      ipureintro; exact h5.symm
    isplitl [H9]
    · iexists _; isplitr; swap; · iexact H9
      ipureintro; exact ⟨y10, z, hz, by rw [h6]⟩
    · iexists _; isplitr; swap; · iexact H10
      ipureintro; exact ⟨y9, z, hz, by rw [h7]⟩
  isplitl [H11]; · iexact H11
  isplitl [H12]; · iexact H12
  iexact H13

/-- The windows a step takes. -/
theorem windows_in (c : Dev nD) (t : Fin grid0.N) (O : sProp 𝕄) (Y : (w : Fin 8) → ((cfgA m).win w).block.Idx → Elt F ((cfgA m).win w).elt)
    (h0 : Y 0 = inp m c 0 t) (h1 : Y 1 = inp m c 1 t) (h2 : Y 2 = inp m c 2 t) (h3 : Y 3 = inp m c 3 t) (h4 : Y 4 = inp m c 4 t)
    (h5 : Y 5 = inp m c 5 t) :
    iprop(Phi m c t.val ∗ O ∗ bigSep Finset.univ fun w : Fin 8 => owns (c : Thread nD τ) (((cfgA m).win w).stage ((cfgA m).slots t w)) fullShare (Y w))
      ⊢ iprop(∃ z : Scr F, ⌜Inv m c t.val z⌝ ∗ (iprop(O ∗ (∃ r, prngReg c r))
      ∗ (owns (c : Thread nD τ) (Memref.whole main_arg6) fullShare.right (pf m 0) ∗ St c (bufs m t) (stIn m c t (Y 6) (Y 7) z)))) := by
  rw [Gen.bigSep_W0, h0, h1, h2, h3, h4, h5]
  unfold Phi St
  iintro ⟨⟨%z, %hz, H11, H12, H13, Hp, Ht⟩, HO, H3, H4, H5, H6, H7, H8, H9, H10⟩
  iexists z
  isplitr; · ipureintro; exact hz
  isplitl [HO Hp]
  · isplitl [HO]; · iexact HO
    iexact Hp
  isplitl [Ht]; · iexact Ht
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- One step from scratch `z`, what it does not touch carried along. -/
theorem step_from (c : Dev nD) (t : Fin grid0.N) (O : sProp 𝕄) (Y : (w : Fin 8) → ((cfgA m).win w).block.Idx → Elt F ((cfgA m).win w).elt)
    (z : Scr F) (hz : Inv m c t.val z)
    (h0 : Y 0 = inp m c 0 t) (h1 : Y 1 = inp m c 1 t) (h2 : Y 2 = inp m c 2 t) (h3 : Y 3 = inp m c 3 t) (h4 : Y 4 = inp m c 4 t)
    (h5 : Y 5 = inp m c 5 t) :
    iprop((O ∗ (∃ r, prngReg c r))
      ∗ (owns (c : Thread nD τ) (Memref.whole main_arg6) fullShare.right (pf m 0) ∗ St c (bufs m t) (stIn m c t (Y 6) (Y 7) z)))
      ⊢ wp frame (wpE (defs₀ (F := F)) Variants.none (c : Thread nD τ) none) Set.univ
        ((defs₀ (F := F)) .tc (cfgA m).body ((cfgA m).bodyArgs t ((cfgA m).slots t)))
        (fun _ => iprop(Phi m c (t.val + 1) ∗ O ∗ bigSep Finset.univ fun w : Fin 8 =>
          iprop(∃ X, ⌜aft m c w t (Y w) X⌝ ∗ owns (c : Thread nD τ) (((cfgA m).win w).stage ((cfgA m).slots t w)) fullShare X)) : PUnit → sProp 𝕄) := by
  refine BIBase.Entails.trans (Laws.sep_mono_right (step_wp m c t (Y 6) (Y 7) z)) ?_
  refine BIBase.Entails.trans (wp_frame_l frame (wpE (defs₀ (F := F)) Variants.none (c : Thread nD τ) none) Set.univ)
    (wp_mono frame (wpE (defs₀ (F := F)) Variants.none (c : Thread nD τ) none) Set.univ fun _ => ?_)
  refine BIBase.Entails.trans (Laws.sep_mono_right (Laws.sep_mono_right
    (windows_out m c t (Y 6) (Y 7) z hz Y h0 h1 h2 h3 h4 h5 rfl rfl))) ?_
  unfold Phi
  iintro ⟨⟨HO, Hp⟩, Ht, HW, H11, H12, H13⟩
  isplitl [Hp Ht H11 H12 H13]
  · iexists ((stOut m c t (Y 6) (Y 7) z).z11, (stOut m c t (Y 6) (Y 7) z).z12, (stOut m c t (Y 6) (Y 7) z).z13)
    isplitr; · ipureintro; exact ⟨t.isLt, Y 6, Y 7, z, hz, rfl⟩
    isplitl [H11]; · iexact H11
    isplitl [H12]; · iexact H12
    isplitl [H13]; · iexact H13
    isplitl [Hp]; · iexact Hp
    iexact Ht
  isplitl [HO]; · iexact HO
  iexact HW

/-- One step, what it does not touch carried along. -/
theorem step_all (c : Dev nD) (t : Fin grid0.N) (O : sProp 𝕄) (Y : (w : Fin 8) → ((cfgA m).win w).block.Idx → Elt F ((cfgA m).win w).elt)
    (h0 : Y 0 = inp m c 0 t) (h1 : Y 1 = inp m c 1 t) (h2 : Y 2 = inp m c 2 t) (h3 : Y 3 = inp m c 3 t) (h4 : Y 4 = inp m c 4 t)
    (h5 : Y 5 = inp m c 5 t) :
    iprop(Phi m c t.val ∗ O ∗ bigSep Finset.univ fun w : Fin 8 => owns (c : Thread nD τ) (((cfgA m).win w).stage ((cfgA m).slots t w)) fullShare (Y w))
      ⊢ wp frame (wpE (defs₀ (F := F)) Variants.none (c : Thread nD τ) none) Set.univ
        ((defs₀ (F := F)) .tc (cfgA m).body ((cfgA m).bodyArgs t ((cfgA m).slots t)))
        (fun _ => iprop(Phi m c (t.val + 1) ∗ O ∗ bigSep Finset.univ fun w : Fin 8 =>
          iprop(∃ X, ⌜aft m c w t (Y w) X⌝ ∗ owns (c : Thread nD τ) (((cfgA m).win w).stage ((cfgA m).slots t w)) fullShare X)) : PUnit → sProp 𝕄) := by
  refine BIBase.Entails.trans (windows_in m c t O Y h0 h1 h2 h3 h4 h5) ?_
  iintro ⟨%z, %hz, H⟩
  iapply (step_from m c t O Y z hz h0 h1 h2 h3 h4 h5) $$ H

theorem phi_at (c : Dev nD) (t : Fin ((cfgA m).N + 1)) : (rdat m c).Φ t = Phi m c t.val := rfl

theorem phi_castSucc (c : Dev nD) (t : Fin (cfgA m).N) : (rdat m c).Φ t.castSucc = Phi m c t.val :=
  (phi_at m c _).trans (congrArg (Phi m c) (Fin.val_castSucc t))

theorem phi_succ (c : Dev nD) (t : Fin (cfgA m).N) : (rdat m c).Φ t.succ = Phi m c (t.val + 1) :=
  (phi_at m c _).trans (congrArg (Phi m c) (Fin.val_succ t))

theorem owes_at (c : Dev nD) (t : Fin (cfgA m).N) : (rdat m c).owesAt () t.succ = (rdat m c).owesAt () t.castSucc := rfl

theorem obligation (c : Dev nD) : (rdat m c).BodyObligation (defs₀ (F := F)) Variants.none () Set.univ :=
  fun t Y hY => by
  refine triple_restated (step_all m c t ((rdat m c).owesAt () t.castSucc) Y (found0 m c t _ (hY 0)) (found1 m c t _ (hY 1)) (found2 m c t _ (hY 2))
    (found3 m c t _ (hY 3)) (found4 m c t _ (hY 4)) (found5 m c t _ (hY 5))) ?_ ?_ ?_
  · rfl
  · refine Laws.sep_mono ?_ (Laws.sep_mono ?_ ?_)
    · rw [phi_castSucc]
    · exact Laws.entails_refl _
    · exact Laws.entails_refl _
  · intro a
    refine Laws.sep_mono ?_ (Laws.sep_mono ?_ ?_)
    · rw [phi_succ]
    · rw [owes_at]
    · exact Laws.entails_refl _

end Cert.KernelIdeal

end
-- ==== Proof.LaunchI.lean ====
/-
  The run of the whole kernel from the obligation of one step.
-/
module

public import proofs.«01_k».proof.Proof.ObI

@[expose] public section

noncomputable section

namespace Cert.KernelIdeal

open Idealize.ShloMosaic Idealize.ShloMosaic.TcCoe
open Idealize.SL Idealize.SL.RA Idealize.SL.BI Idealize.SL.Sem Mla
open scoped Idealize.SL.BI
open Idealize.SL.BI.BIBase Idealize.SL.BI.Laws Idealize.SL.ProofMode

variable {F : FTy → Type} [FloatOps F] [Named F] [∀ e, Nonempty (Elt F e)]

local notation "𝕄" => MT nD τ sig Unit (Elt F) ℕ (UR sig nD τ) ℕ

variable (m : Mem F)

/-- The one table, held. -/
theorem table_owns (c : Dev nD) :
    (owns (c : Thread nD τ) (Memref.whole main_arg6) fullShare.right (pf m 0) : sProp 𝕄) = ((c : Thread nD τ).loc main_arg6) ↦{fullShare.right} (pf m 0) :=
  have h : ∀ f : Buf (Elt F) ((c : Thread nD τ).loc main_arg6),
      (owns (c : Thread nD τ) (Memref.whole main_arg6) fullShare.right f : sProp 𝕄) = ((c : Thread nD τ).loc main_arg6) ↦{fullShare.right} f :=
    fun f => owns_whole _ _ _ _
  h (pf m 0)

theorem table_held (c : Dev nD) :
    (Pipeline.ΦT pre0 (pf m) c : sProp 𝕄) = ((c : Thread nD τ).loc main_arg6) ↦{fullShare.right} (pf m 0) :=
  bigSep_univ_eq_bigSepL [(0 : Fin 1)] (by decide) (by decide) _

theorem phi_in (c : Dev nD) :
    (iprop(Pipeline.ΦA spec0 c ∗ Pipeline.ΦT pre0 (pf m) c) : sProp 𝕄) ⊢ Phi m c 0 := by
  unfold Pipeline.ΦA Phi
  rw [Gen.scopedRest0_eq, table_held, ← table_owns]
  simp only [owns_whole]
  iintro ⟨⟨⟨⟨%f11, H11⟩, ⟨%f12, H12⟩, ⟨%f13, H13⟩⟩, Hp⟩, Ht⟩
  iexists (f11, f12, f13)
  isplitr; · ipureintro; exact trivial
  isplitl [H11]; · iexact H11
  isplitl [H12]; · iexact H12
  isplitl [H13]; · iexact H13
  isplitl [Hp]; · iexact Hp
  iexact Ht

theorem phi_out (c : Dev nD) (t : Nat) :
    Phi m c t ⊢ (Pipeline.ΦA spec0 c : sProp 𝕄) := by
  unfold Pipeline.ΦA Phi
  rw [Gen.scopedRest0_eq]
  simp only [owns_whole]
  iintro ⟨%z, %hz, H11, H12, H13, Hp, Ht⟩
  isplitr [Hp]
  · isplitl [H11]; · iexists z.1; iexact H11
    isplitl [H12]; · iexists z.2.1; iexact H12
    iexists z.2.2; iexact H13
  iexact Hp

theorem run (g : Dev nD → PrngReg) :
    θ_run (defs (F := F)) (onTc main) ⟨m, fun _ => 0, g⟩
      (fun r => Pipeline.RDat.FramePost (cfgA m) (rdat m) (V m) r ∧ r.2.sem = fun _ => 0) :=
  Pipeline.RDat.θ_run_frameP_track (pcfgs (F := F)) (adm m) 0 Gen.launch0 (defs₀ (F := F)) Variants.none (rdat m) m g main
    (fun c => obligation m c) (fun c w => by unfold Pipeline.RDat.share; split <;> rfl) (fun c t => rfl) (V m)
    (Pipeline.hmainP_prefix (pcfgs (F := F)) 0 (defs₀ (F := F)) Variants.none m main Gen.hostOps0 Gen.hostOps0_sub ⟨rfl, rfl, rfl, rfl⟩ Gen.main_chain)
    (fun c w => rfl) (fun c k => by rw [Subsingleton.elim c 0]; rfl) (fun c => phi_in m c) (fun c => phi_out m c _) _ (fun r h => h)

/-- The four transposes write none of the arguments. -/
theorem V_arg (c : Dev nD) (b : Ref sig .tc) (h : b ∉ [main_v0, main_v1, main_v2, main_v3]) : V m c b = m (c, b) :=
  StableHlo.after_of_writes_sub (W := [main_v0, main_v1, main_v2, main_v3]) Gen.hostOps0 _ (by
    refine ⟨?_, ?_, ?_, ?_⟩ <;> simp [StableHlo.unary]) h

theorem frame (g : Dev nD → PrngReg) :
    θ_run (defs (F := F)) (onTc main) ⟨m, fun _ => 0, g⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)) ∧ r.2.sem = fun _ => 0) := by
  refine (θ_run _ _ _).mono (fun r hr => ⟨fun c => ?_, hr.2⟩) (run m g)
  have h0 := Pipeline.RDat.FramePost.arr_in hr.1 c 0 rfl
  have h3 := Pipeline.RDat.FramePost.arr_in hr.1 c 3 rfl
  have hb : ∀ b ∈ Pipeline.restRefs sig spec0, r.2.mem ((c.tc : Thread nD τ).loc b) = V m c b := (hr.1 c).2
  refine ⟨h0.trans (V_arg m c main_arg0 (by decide)), (hb main_arg1 (by decide)).trans (V_arg m c main_arg1 (by decide)),
    (hb main_arg2 (by decide)).trans (V_arg m c main_arg2 (by decide)), h3.trans (V_arg m c main_arg3 (by decide)),
    (hb main_arg4 (by decide)).trans (V_arg m c main_arg4 (by decide)), (hb main_arg5 (by decide)).trans (V_arg m c main_arg5 (by decide)),
    (hb main_arg6 (by decide)).trans (V_arg m c main_arg6 (by decide))⟩

end Cert.KernelIdeal

end
-- ==== Proof.Preserves.lean ====
/-
  The two named constants of the kernel are the literals the program prints.
-/
module

public import proofs.«01_k».proof.Defs

@[expose] public section

namespace Cert.Proof

open Idealize.ShloMosaic

theorem preserves : Cert.preserves_Kernel_KernelIdeal :=
  ⟨IdealRules.named_const.statement Cert.KernelIdeal.κ "softmax_scale_log2" .f32 0x3DD53B95#32
      (((Real.log 2)⁻¹ * (Real.sqrt 192)⁻¹ : ℝ) : EReal) rfl,
    IdealRules.named_const.statement Cert.KernelIdeal.κ "softmax_scale" .f32 0x3D93CD3A#32 (((Real.sqrt 192)⁻¹ : ℝ) : EReal) rfl⟩

end Cert.Proof

end
-- ==== Proof.Soft.lean ====
/-
  The softmax of one query row, over the extended reals: the row's masked scores over a key range against the row over all
  keys, the base-two exponential against the natural one, and the division before or after the weighted sum.
-/
module

public import Idealize.ShloMosaic.PureOps.Ideal
public import Idealize.ShloMosaic.Lib.IdealHost

@[expose] public section

noncomputable section

namespace Mla

open Idealize.ShloMosaic

/-- The scale, and the scale of the base-two exponent. -/
def sS : EReal := (((Real.sqrt 192)⁻¹ : ℝ) : EReal)
def sK : EReal := (((Real.log 2)⁻¹ * (Real.sqrt 192)⁻¹ : ℝ) : EReal)

theorem sqrt_inv_pos : 0 < (Real.sqrt 192)⁻¹ := inv_pos.mpr (Real.sqrt_pos.mpr (by norm_num))
theorem log_inv_pos : 0 < (Real.log 2)⁻¹ := inv_pos.mpr (Real.log_pos (by norm_num))

theorem sub_mul_coe (x y : EReal) (s : ℝ) (hs : 0 < s) : x * (s : EReal) - y * (s : EReal) = (x - y) * (s : EReal) := by
  induction x with
  | bot => rw [EReal.bot_mul_coe_of_pos hs]; simp [EReal.bot_mul_coe_of_pos hs]
  | top =>
    rw [EReal.top_mul_coe_of_pos hs]
    induction y with
    | bot => rw [EReal.bot_mul_coe_of_pos hs]; simp [EReal.top_mul_coe_of_pos hs]
    | top => rw [EReal.top_mul_coe_of_pos hs]; simp [EReal.bot_mul_coe_of_pos hs]
    | coe y => rw [← EReal.coe_mul, EReal.top_sub_coe, EReal.top_sub_coe, EReal.top_mul_coe_of_pos hs]
  | coe x =>
    induction y with
    | bot => rw [EReal.bot_mul_coe_of_pos hs, ← EReal.coe_mul, EReal.coe_sub_bot, EReal.coe_sub_bot, EReal.top_mul_coe_of_pos hs]
    | top => rw [EReal.top_mul_coe_of_pos hs, ← EReal.coe_mul]; simp [EReal.bot_mul_coe_of_pos hs]
    | coe y => rw [← EReal.coe_mul, ← EReal.coe_mul, ← EReal.coe_sub, ← EReal.coe_sub, ← EReal.coe_mul]; congr 1; ring

theorem exp2_scaled (z : EReal) : Ideal.exp2 (z * sK) = Ideal.exp (z * sS) := by
  unfold sK sS
  have h1 := mul_pos log_inv_pos sqrt_inv_pos
  have h2 := sqrt_inv_pos
  induction z with
  | bot => rw [EReal.bot_mul_coe_of_pos h1, EReal.bot_mul_coe_of_pos h2]; rfl
  | top => rw [EReal.top_mul_coe_of_pos h1, EReal.top_mul_coe_of_pos h2]; rfl
  | coe z =>
    rw [← EReal.coe_mul, ← EReal.coe_mul]
    show ((Real.rpow 2 _ : ℝ) : EReal) = ((Real.exp _ : ℝ) : EReal)
    congr 1
    show (2 : ℝ) ^ (z * ((Real.log 2)⁻¹ * (Real.sqrt 192)⁻¹)) = _
    rw [Real.rpow_def_of_pos (by norm_num)]
    congr 1
    have : Real.log 2 ≠ 0 := (Real.log_pos (by norm_num)).ne'
    field_simp

theorem exp2_sub (x y : EReal) : Ideal.exp2 ((x - y) * sK) = Ideal.exp (x * sS - y * sS) := by
  rw [exp2_scaled]; unfold sS; rw [sub_mul_coe x y _ sqrt_inv_pos]

theorem exp_nonneg (z : EReal) : 0 ≤ Ideal.exp z := by
  induction z with
  | bot => exact le_refl _
  | top => exact le_top
  | coe z => exact EReal.coe_nonneg.mpr (Real.exp_pos z).le

theorem exp_bot_sub (y : EReal) : Ideal.exp (⊥ - y) = 0 := by simp

section Row
variable (pos : Nat) (sc : Fin 640 → EReal)

/-- The scaled and masked scores, their maximum, the weights, their sum, the log-sum-exp. -/
def rS (k : Fin 640) : EReal := if k.val ≤ pos then sc k * sS else ⊥
def rM : EReal := Finset.univ.sup (rS pos sc)
def rE (k : Fin 640) : EReal := Ideal.exp (rS pos sc k - rM pos sc)
def rL : EReal := ∑ k, rE pos sc k
def rLse : EReal := rM pos sc + Ideal.log (rL pos sc)
/-- The weighted sum of the values `C`. -/
def rO (C : Fin 640 → EReal) : EReal := ∑ k, rE pos sc k * Ideal.div 1 (rL pos sc) * C k

variable {pos sc} {nk : Nat} (hk : nk ≤ 640) (hp : pos < nk) (f : Fin nk → EReal)
  (hf : ∀ k : Fin nk, f k = if k.val ≤ pos then sc ⟨k.val, lt_of_lt_of_le k.isLt hk⟩ else ⊥)

theorem mul_sS_mono : Monotone (fun x : EReal => x * sS) := fun _ _ h =>
  mul_le_mul_of_nonneg_right h (EReal.coe_nonneg.mpr sqrt_inv_pos.le)

theorem bot_mul_sS : (⊥ : EReal) * sS = ⊥ := EReal.bot_mul_coe_of_pos sqrt_inv_pos

include hp hf in
theorem sup_scaled : Finset.univ.sup f * sS = rM pos sc := by
  unfold rM
  have h1 : Finset.univ.sup f * sS = Finset.univ.sup (fun k => f k * sS) :=
    Finset.comp_sup_eq_sup_comp_of_is_total (fun x : EReal => x * sS) mul_sS_mono bot_mul_sS
  rw [h1]
  apply le_antisymm
  · refine Finset.sup_le fun k _ => ?_
    refine le_trans ?_ (Finset.le_sup (f := rS pos sc) (Finset.mem_univ ⟨k.val, lt_of_lt_of_le k.isLt hk⟩))
    rw [hf k]; unfold rS
    by_cases h : k.val ≤ pos
    · rw [if_pos h, if_pos h]
    · rw [if_neg h, if_neg h, bot_mul_sS]
  · refine Finset.sup_le fun k _ => ?_
    unfold rS
    by_cases h : k.val ≤ pos
    · rw [if_pos h]
      refine le_trans ?_ (Finset.le_sup (f := fun k => f k * sS) (Finset.mem_univ ⟨k.val, by omega⟩))
      show _ ≤ f ⟨k.val, _⟩ * sS
      rw [hf, if_pos h]
    · rw [if_neg h]; exact bot_le

/-- The weight the kernel gives key `k`. -/
def wK (f : Fin nk → EReal) (k : Fin nk) : EReal := Ideal.exp2 ((f k - Finset.univ.sup f) * sK)

include hp hf in
theorem wK_eq (k : Fin nk) : wK f k = rE pos sc ⟨k.val, lt_of_lt_of_le k.isLt hk⟩ := by
  unfold wK rE
  rw [exp2_sub, sup_scaled hk hp f hf, hf k]; unfold rS
  by_cases h : k.val ≤ pos
  · rw [if_pos h, if_pos h]
  · rw [if_neg h, if_neg h, bot_mul_sS]

theorem rE_of_gt (k : Fin 640) (h : pos < k.val) : rE pos sc k = 0 := by
  unfold rE rS; rw [if_neg (by omega), exp_bot_sub]

/-- A sum over all keys of terms that vanish past a key range is the sum over the range. -/
theorem sum_range {n N : Nat} (h : n ≤ N) (g : Fin N → EReal) (h0 : ∀ k : Fin N, n ≤ k.val → g k = 0) :
    ∑ k : Fin n, g ⟨k.val, lt_of_lt_of_le k.isLt h⟩ = ∑ k, g k := by
  let emb : Fin n ↪ Fin N := ⟨fun k => ⟨k.val, lt_of_lt_of_le k.isLt h⟩, fun a b hab => Fin.ext (by simpa using hab)⟩
  have e := Finset.sum_map Finset.univ emb g
  refine e.symm.trans ?_
  refine Finset.sum_subset (Finset.subset_univ _) fun k _ hk => h0 k ?_
  by_contra hc
  exact hk (Finset.mem_map.mpr ⟨⟨k.val, by omega⟩, Finset.mem_univ _, rfl⟩)

include hp hf in
theorem sum_wK : ∑ k, wK f k = rL pos sc := by
  unfold rL
  rw [← sum_range hk (rE pos sc) (fun k h => rE_of_gt k (by omega))]
  exact Finset.sum_congr rfl fun k _ => wK_eq hk hp f hf k

include hp hf in
theorem lse_eq : Finset.univ.sup f * sS + Ideal.log (∑ k, wK f k) = rLse pos sc := by
  rw [sup_scaled hk hp f hf, sum_wK hk hp f hf]; rfl

theorem rE_nonneg (k : Fin 640) : 0 ≤ rE pos sc k := exp_nonneg _

/-- A nonnegative real factor goes into a sum. -/
theorem sum_mul_real {ι : Type} (s : Finset ι) (g : ι → EReal) (r : ℝ) (hr : 0 ≤ r) :
    (∑ k ∈ s, g k) * (r : EReal) = ∑ k ∈ s, g k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The division before or after the weighted sum. -/
theorem div_after {n : Nat} (e C : Fin n → EReal) (he : ∀ k, 0 ≤ e k) :
    (∑ k, C k * e k) * Ideal.div 1 (∑ k, e k) = ∑ k, e k * Ideal.div 1 (∑ k, e k) * C k := by
  generalize hl : ∑ k, e k = l
  have hl0 : 0 ≤ l := hl ▸ Finset.sum_nonneg fun k _ => he k
  by_cases h0 : l = 0
  · have hz : ∀ k, e k = 0 := fun k =>
      (Finset.sum_eq_zero_iff_of_nonneg (fun k _ => he k)).mp (hl.trans h0) k (Finset.mem_univ k)
    simp only [hz, mul_zero, zero_mul, Finset.sum_const_zero]
  · have hd : Ideal.div 1 l = l⁻¹ := by unfold Ideal.div; rw [if_neg h0, one_mul]
    rw [hd]
    induction l with
    | bot => exact absurd hl0 (by simp)
    | top => simp
    | coe r =>
      have hr : 0 ≤ r⁻¹ := inv_nonneg.mpr (EReal.coe_nonneg.mp hl0)
      rw [← EReal.coe_inv, sum_mul_real _ _ _ hr]
      refine Finset.sum_congr rfl fun k _ => ?_
      rw [mul_comm (C k), mul_assoc, mul_comm (C k), ← mul_assoc]

include hp hf in
/-- The kernel's weighted sum over the padded key range, divided, is the row's. -/
theorem out_eq {kp : Nat} (hkp : nk ≤ kp) (hkp' : kp ≤ 640) (C : Fin 640 → EReal) :
    (∑ k : Fin kp, C ⟨k.val, lt_of_lt_of_le k.isLt hkp'⟩ * (if h : k.val < nk then wK f ⟨k.val, h⟩ else 0)) * Ideal.div 1 (∑ k, wK f k)
      = rO pos sc C := by
  rw [sum_wK hk hp f hf]
  have h1 : ∀ k : Fin kp, C ⟨k.val, lt_of_lt_of_le k.isLt hkp'⟩ * (if h : k.val < nk then wK f ⟨k.val, h⟩ else 0)
      = (fun k : Fin 640 => C k * rE pos sc k) ⟨k.val, lt_of_lt_of_le k.isLt hkp'⟩ := by
    intro k
    show _ = C _ * rE pos sc _
    by_cases h : k.val < nk
    · rw [dif_pos h, wK_eq hk hp f hf]
    · rw [dif_neg h, rE_of_gt _ (by show pos < k.val; omega)]
  rw [Finset.sum_congr rfl fun k _ => h1 k, sum_range hkp' (fun k : Fin 640 => C k * rE pos sc k)
    (fun k h => by show C k * rE pos sc k = 0; rw [rE_of_gt k (by omega), mul_zero])]
  exact div_after (rE pos sc) C rE_nonneg

end Row

end Mla
end
-- ==== Proof.Pt.lean ====
/-
  The kernel's block arithmetic read at one element, over the extended reals.
-/
module

public import proofs.«01_k».proof.Proof.Spec
public import proofs.«01_k».proof.Proof.Soft
public import Idealize.ShloMosaic.Lib.ValueIdx
public import Idealize.ShloMosaic.Lib.ValueLayout
public import Idealize.ShloMosaic.Lib.MatmulPlain
public import Idealize.ShloMosaic.Lib.IdealHost
public import Idealize.ShloMosaic.Lib.Pipeline.Value
public import Idealize.ShloMosaic.PureOps.Ideal.Laws

@[expose] public section

noncomputable section

namespace Mla

open Idealize.ShloMosaic Idealize.ShloMosaic.TcCoe Idealize.ShloMosaic.ValueIdx Idealize.ShloMosaic.Ideal

/-- Column `h` of the `j`-th of four side-by-side blocks. -/
def col (j : Fin 4) (h : Fin 128) : Fin 512 := ⟨128 * j.val + h.val, by omega⟩

theorem ld_at {s : Shape} {V : Type} (X : s.Idx → V) (r : Rect s) (x : r.shape.Idx) (y : s.Idx)
    (h : ∀ a, r.off a + r.stride a * (x a).val = (y a).val) : ld X r x = X y :=
  congrArg X (funext fun a => Fin.ext (h a))

/-! ### Four blocks side by side or stacked -/

theorem cat4_axis1 {α : Type} {R : Nat} (q : Fin 4 → (M2 R 128).Idx → α)
    (H : Shape.Concatenates [M2 R 128, M2 R 128, M2 R 128, M2 R 128] (M2 R 512) 1) (d : Fin R) (j : Fin 4) (h : Fin 128) :
    concatenate (M2 R 512) 1 [⟨M2 R 128, q 0⟩, ⟨M2 R 128, q 1⟩, ⟨M2 R 128, q 2⟩, ⟨M2 R 128, q 3⟩] H (ix2 d (col j h)) = q j (ix2 d h) := by
  have hh : ∀ b : Fin 2, b ≠ 1 → b = 0 := by decide
  refine concatenate_apply_piece 1 [⟨M2 R 128, q 0⟩, ⟨M2 R 128, q 1⟩, ⟨M2 R 128, q 2⟩, ⟨M2 R 128, q 3⟩] H _ j.val (by exact j.isLt) (M2 R 128) (q j) ?_ rfl (128 * j.val) ?_ (ix2 d h) ?_ ?_
  · fin_cases j <;> rfl
  · fin_cases j <;> rfl
  · intro b hb; obtain rfl : b = 0 := hh b hb; rfl
  · rfl

theorem cat4_axis0 {α : Type} {R : Nat} (q : Fin 4 → (M2 128 R).Idx → α)
    (H : Shape.Concatenates [M2 128 R, M2 128 R, M2 128 R, M2 128 R] (M2 512 R) 0) (d : Fin R) (j : Fin 4) (h : Fin 128) :
    concatenate (M2 512 R) 0 [⟨M2 128 R, q 0⟩, ⟨M2 128 R, q 1⟩, ⟨M2 128 R, q 2⟩, ⟨M2 128 R, q 3⟩] H (ix2 (col j h) d) = q j (ix2 h d) := by
  have hh : ∀ b : Fin 2, b ≠ 0 → b = 1 := by decide
  refine concatenate_apply_piece 0 [⟨M2 128 R, q 0⟩, ⟨M2 128 R, q 1⟩, ⟨M2 128 R, q 2⟩, ⟨M2 128 R, q 3⟩] H _ j.val (by exact j.isLt) (M2 128 R) (q j) ?_ rfl (128 * j.val) ?_ (ix2 h d) ?_ ?_
  · fin_cases j <;> rfl
  · fin_cases j <;> rfl
  · intro b hb; obtain rfl : b = 1 := hh b hb; rfl
  · rfl

theorem cat2_axis0 {α : Type} {A B C : Nat} (p : (M2 A 512).Idx → α) (q : (M2 B 512).Idx → α) (hC : C = A + B)
    (H : Shape.Concatenates [M2 A 512, M2 B 512] (M2 C 512) 0) (k : Fin C) (c : Fin 512) :
    concatenate (M2 C 512) 0 [⟨M2 A 512, p⟩, ⟨M2 B 512, q⟩] H (ix2 k c)
      = if h : k.val < A then p (ix2 ⟨k.val, h⟩ c) else q (ix2 ⟨k.val - A, by omega⟩ c) := by
  have hh : ∀ b : Fin 2, b ≠ 0 → b = 1 := by decide
  by_cases h : k.val < A
  · rw [dif_pos h]
    refine concatenate_pair_apply_left 0 p q H _ rfl (ix2 ⟨k.val, h⟩ c) ?_
    intro b; fin_cases b <;> rfl
  · rw [dif_neg h]
    refine concatenate_pair_apply_right 0 p q H _ rfl rfl (ix2 ⟨k.val - A, by omega⟩ c) ?_ ?_
    · intro b hb; obtain rfl : b = 1 := hh b hb; rfl
    · show k.val - A + A = k.val; omega

/-! ### The queries -/

theorem grp_apply (c : Vec Ideal (T4 1 1 128 128) .fp8e4m3) (s : Vec Ideal (T4 1 1 1 128) .f32) (d h : Fin 128) :
    grp c s (ix2 d h) = (c (ix4 0 0 h d) : EReal) * (s (ix4 0 0 0 h) : EReal) := by
  unfold grp
  rw [mulf_apply]
  congr 1
  · rw [transpose_apply _ _ _ _ (ix2 h d) (by intro b; fin_cases b <;> rfl), extf_apply]
    refine shapeCast_apply _ _ _ _ ?_
    rw [Shape.rowMajor_val_four, Shape.rowMajor_val_two]; simp
  · rw [broadcastTo_apply _ _ _ (ix2 0 h) (by intro a; fin_cases a <;> rfl), truncf_apply]
    refine shapeCast_apply _ _ _ _ ?_
    rw [Shape.rowMajor_val_four, Shape.rowMajor_val_two]; simp

theorem grpV_apply (s : State Ideal) (n : Nat) (hn : n < 32) (g : Nat) (hg : g + 1 ≤ 4) (o : Nat) (ho : o + 128 ≤ 512) (d h : Fin 128) :
    grpV s n hn g hg o ho (ix2 d h) = (s.x3 (ix4 0 ⟨n, hn⟩ h ⟨o + d.val, by omega⟩) : EReal) * (s.x4 (ix4 0 ⟨n, hn⟩ ⟨g, by omega⟩ h) : EReal) := by
  unfold grpV
  rw [grp_apply]
  congr 1
  · refine ld_at _ _ _ _ ?_; intro a; fin_cases a <;> simp
  · refine ld_at _ _ _ _ ?_; intro a; fin_cases a <;> simp

theorem tokV_apply (s : State Ideal) (n : Nat) (hn : n < 32) (j : Fin 4) (d h : Fin 128) :
    tokV s n hn (ix2 (col j d) h) = (s.x3 (ix4 0 ⟨n, hn⟩ h (col j d)) : EReal) * (s.x4 (ix4 0 ⟨n, hn⟩ j h) : EReal) := by
  unfold tokV stackTok
  have := cat4_axis0 (fun j : Fin 4 => grpV s n hn j.val (by omega) (128 * j.val) (by omega)) (by decide) h j d
  refine Eq.trans ?_ (this.trans ?_)
  · rfl
  · exact grpV_apply s n hn j.val _ (128 * j.val) _ d h

theorem ropeV_apply (s : State Ideal) (n : Nat) (hn : n < 32) (j : Fin 64) (h : Fin 128) :
    ropeV s n hn (ix2 j h) = s.x5 (ix4 0 ⟨n, hn⟩ j h) := by
  unfold ropeV ropeTok
  rw [shapeCast_apply _ _ _ (ix4 0 0 j h) (by rw [Shape.rowMajor_val_four, Shape.rowMajor_val_two]; simp)]
  refine ld_at _ _ _ _ ?_; intro a; fin_cases a <;> simp

/-! ### The scores -/

theorem scores_apply (nk : Nat) (C : FVec Ideal (M2 nk 512) .bf16) (K : FVec Ideal (M2 nk 64) .bf16) (q : FVec Ideal (M2 512 512) .bf16)
    (r : FVec Ideal (M2 64 512) .bf16) (k : Fin nk) (c : Fin 512) :
    scores nk C K q r (ix2 k c) = (∑ d, (C (ix2 k d) : EReal) * q (ix2 d c)) + ∑ j, (K (ix2 k j) : EReal) * r (ix2 j c) := by
  unfold scores
  rw [addf_apply]
  have e1 : ∀ c : Fin 512, (constant (F := Ideal) (M2 nk 512) .f32 0x00000000#32 (ix2 k c) : EReal) = 0 := fun c => ofBits_zero_f32
  have h1 := Ideal.matmul_plain_apply none C q (constant (M2 nk 512) .f32 0x00000000#32) k c
  have h2 := Ideal.matmul_plain_apply none K r (constant (M2 nk 512) .f32 0x00000000#32) k c
  rw [e1, zero_add] at h1 h2
  exact congrArg₂ (· + ·) h1 h2

/-- A word comparison of small numbers. -/
theorem sle_tail (v2 t : BitVec 32) (r lo : Nat) (h2 : v2.toNat < 640) (ht : t.toNat < 32) (hr : r < 64) (hlo : lo ≤ v2.toNat) :
    (BitVec.ofNat 32 r).sle (Scalar.subi (Scalar.addi v2 t) (BitVec.ofNat 32 lo)) = decide (lo + r ≤ v2.toNat + t.toNat) := by
  have e : Scalar.subi (Scalar.addi v2 t) (BitVec.ofNat 32 lo) = BitVec.ofNat 32 (v2.toNat + t.toNat - lo) := by
    apply BitVec.eq_of_toNat_eq
    show (v2 + t - BitVec.ofNat 32 lo).toNat = _
    rw [BitVec.toNat_sub, BitVec.toNat_add, BitVec.toNat_ofNat, BitVec.toNat_ofNat]
    omega
  rw [e]
  unfold BitVec.sle
  rw [BitVec.toInt_eq_toNat_of_lt (by rw [BitVec.toNat_ofNat]; omega), BitVec.toInt_eq_toNat_of_lt (by rw [BitVec.toNat_ofNat]; omega),
    BitVec.toNat_ofNat, BitVec.toNat_ofNat]
  apply decide_eq_decide.mpr
  omega

theorem ofBits_neg_inf : Ideal.ofBits .f32 0xFF800000#32 = ⊥ := by simp [Ideal.ofBits, Ideal.ieee]

theorem tailTok_apply (nk o : Nat) (ho) (v2 t : BitVec 32) (s : FVec Ideal (M2 nk 512) .f32) (r : Fin 64) (h : Fin 128)
    (h2 : v2.toNat < 640) (ht : t.toNat < 32) (hnk : 64 ≤ nk) (hlo : nk - 64 ≤ v2.toNat) (hoo : o + 128 ≤ 512) :
    tailTok nk o ho v2 t s (ix2 r h)
      = if nk - 64 + r.val ≤ v2.toNat + t.toNat then s (ix2 ⟨nk - 64 + r.val, by omega⟩ ⟨o + h.val, by omega⟩) else ⊥ := by
  unfold tailTok
  rw [select_apply, extractStridedSlice_apply _ _ _ _ (ix2 ⟨nk - 64 + r.val, by omega⟩ ⟨o + h.val, by omega⟩) (by intro a; fin_cases a <;> rfl)]
  have hc : cmpi .sle (iota .tc (M2 64 128) 32 [0] (by decide))
      (broadcast (M2 64 128) (Scalar.subi (Scalar.addi v2 t) (BitVec.ofNat 32 (nk - 64)))) (ix2 r h)
      = BitVec.ofBool (decide (nk - 64 + r.val ≤ v2.toNat + t.toNat)) := by
    rw [← sle_tail v2 t r.val (nk - 64) h2 ht r.isLt hlo]
    show Scalar.cmpi .sle (iota .tc (M2 64 128) 32 [0] _ (ix2 r h)) _ = _
    rw [iota_single_apply]; rfl
  rw [hc]
  by_cases hle : nk - 64 + r.val ≤ v2.toNat + t.toNat
  · rw [if_pos hle, decide_eq_true hle]; rfl
  · rw [if_neg hle, decide_eq_false hle]; exact ofBits_neg_inf

/-- What a key range does with scores and weights. -/
structure SecOK (S : Sec Ideal) : Prop where
  n64 : 64 ≤ S.nk
  nkp : S.nk ≤ S.kp
  kp640 : S.kp ≤ 640
  mask : ∀ s t k c, S.mask s t (ix2 k c) = if h : k.val < S.nk - 64 then s (ix2 k c) else t (ix2 ⟨k.val - (S.nk - 64), by omega⟩ c)
  pad : ∀ p k c, S.pad p (ix2 k c) = if h : k.val < S.nk then (p (ix2 ⟨k.val, h⟩ c) : EReal) else 0

theorem mask_piece {A C : Nat} (hC : C = A + 64) (hs : (M2 C 512).Slices ![0, 0] (M2 A 512)) (s : FVec Ideal (M2 C 512) .f32) (t : FVec Ideal (M2 64 512) .f32)
    (H : Shape.Concatenates [M2 A 512, M2 64 512] (M2 C 512) 0) (k : Fin C) (c : Fin 512) :
    concatenate (M2 C 512) 0 [⟨M2 A 512, extractStridedSlice (M2 A 512) ![0, 0] s hs⟩, ⟨M2 64 512, t⟩] H (ix2 k c)
      = if h : k.val < C - 64 then s (ix2 k c) else t (ix2 ⟨k.val - (C - 64), by omega⟩ c) := by
  subst hC
  rw [cat2_axis0 _ _ rfl]
  by_cases h : k.val < A
  · rw [dif_pos h, dif_pos (by omega)]
    exact extractStridedSlice_apply _ _ _ _ _ (by intro a; fin_cases a <;> simp)
  · rw [dif_neg h, dif_neg (by omega)]
    congr 2

theorem pad_piece {A C : Nat} (hC : C = A + 64) (p : FVec Ideal (M2 A 512) .bf16)
    (H : Shape.Concatenates [M2 A 512, M2 64 512] (M2 C 512) 0) (k : Fin C) (c : Fin 512) :
    concatenate (M2 C 512) 0 [⟨M2 A 512, p⟩, ⟨M2 64 512, broadcast (M2 64 512) (Scalar.ofBits (F := Ideal) .bf16 0x0000#16)⟩] H (ix2 k c)
      = if h : k.val < A then (p (ix2 ⟨k.val, h⟩ c) : EReal) else 0 := by
  rw [cat2_axis0 _ _ hC]
  by_cases h : k.val < A
  · rw [dif_pos h, dif_pos h]
  · rw [dif_neg h, dif_neg h]; exact ofBits_zero_bf16

theorem pad_none {N : Nat} (p : FVec Ideal (M2 N 512) .bf16) (k : Fin N) (c : Fin 512) :
    p (ix2 k c) = if h : k.val < N then (p (ix2 ⟨k.val, h⟩ c) : EReal) else 0 := by rw [dif_pos k.isLt]

theorem mask_none (t : FVec Ideal (M2 64 512) .f32) (k : Fin 64) (c : Fin 512) (x : Ideal .f32) :
    t (ix2 k c) = if h : k.val < 64 - 64 then x else t (ix2 ⟨k.val - (64 - 64), by omega⟩ c) := by
  rw [dif_neg (by omega)]; rfl

theorem ok64 : SecOK sec64 where
  n64 := by decide
  nkp := by decide
  kp640 := by decide
  mask := fun s t k c => mask_none t k c (s (ix2 k c))
  pad := fun p k c => pad_piece rfl p (show Shape.Concatenates [M2 64 512, M2 64 512] (M2 128 512) 0 by decide) k c
theorem ok128 : SecOK sec128 where
  n64 := by decide
  nkp := by decide
  kp640 := by decide
  mask := fun s t k c => mask_piece (A := 64) (C := 128) rfl (by decide) s t (by decide) k c
  pad := fun p k c => pad_none (N := 128) p k c
theorem ok192 : SecOK sec192 where
  n64 := by decide
  nkp := by decide
  kp640 := by decide
  mask := fun s t k c => mask_piece (A := 128) (C := 192) rfl (by decide) s t (by decide) k c
  pad := fun p k c => pad_piece rfl p (show Shape.Concatenates [M2 192 512, M2 64 512] (M2 256 512) 0 by decide) k c
theorem ok256 : SecOK sec256 where
  n64 := by decide
  nkp := by decide
  kp640 := by decide
  mask := fun s t k c => mask_piece (A := 192) (C := 256) rfl (by decide) s t (by decide) k c
  pad := fun p k c => pad_none (N := 256) p k c
theorem ok320 : SecOK sec320 where
  n64 := by decide
  nkp := by decide
  kp640 := by decide
  mask := fun s t k c => mask_piece (A := 256) (C := 320) rfl (by decide) s t (by decide) k c
  pad := fun p k c => pad_piece rfl p (show Shape.Concatenates [M2 320 512, M2 64 512] (M2 384 512) 0 by decide) k c
theorem ok384 : SecOK sec384 where
  n64 := by decide
  nkp := by decide
  kp640 := by decide
  mask := fun s t k c => mask_piece (A := 320) (C := 384) rfl (by decide) s t (by decide) k c
  pad := fun p k c => pad_none (N := 384) p k c
theorem ok448 : SecOK sec448 where
  n64 := by decide
  nkp := by decide
  kp640 := by decide
  mask := fun s t k c => mask_piece (A := 384) (C := 448) rfl (by decide) s t (by decide) k c
  pad := fun p k c => pad_piece rfl p (show Shape.Concatenates [M2 448 512, M2 64 512] (M2 512 512) 0 by decide) k c
theorem ok512 : SecOK sec512 where
  n64 := by decide
  nkp := by decide
  kp640 := by decide
  mask := fun s t k c => mask_piece (A := 448) (C := 512) rfl (by decide) s t (by decide) k c
  pad := fun p k c => pad_none (N := 512) p k c
theorem ok576 : SecOK sec576 where
  n64 := by decide
  nkp := by decide
  kp640 := by decide
  mask := fun s t k c => mask_piece (A := 512) (C := 576) rfl (by decide) s t (by decide) k c
  pad := fun p k c => pad_piece rfl p (show Shape.Concatenates [M2 576 512, M2 64 512] (M2 640 512) 0 by decide) k c
theorem ok640 : SecOK sec640 where
  n64 := by decide
  nkp := by decide
  kp640 := by decide
  mask := fun s t k c => mask_piece (A := 576) (C := 640) rfl (by decide) s t (by decide) k c
  pad := fun p k c => pad_none (N := 640) p k c

/-- The masked scores: a key past the row's position is `⊥`. -/
theorem masked_apply {S : Sec Ideal} (ok : SecOK S) (v2 : BitVec 32) (t : Fin 4 → BitVec 32) (s : FVec Ideal (M2 S.nk 512) .f32)
    (h2 : v2.toNat < 640) (ht : ∀ j, (t j).toNat < 32) (hlo : S.nk - 64 ≤ v2.toNat) (k : Fin S.nk) (j : Fin 4) (h : Fin 128) :
    S.masked v2 (t 0) (t 1) (t 2) (t 3) s (ix2 k (col j h)) = if k.val ≤ v2.toNat + (t j).toNat then s (ix2 k (col j h)) else ⊥ := by
  have hn := ok.n64
  unfold Sec.masked
  rw [ok.mask]
  by_cases hk : k.val < S.nk - 64
  · rw [dif_pos hk, if_pos (by omega)]
  · rw [dif_neg hk]
    have hsl : ∀ j : Fin 4, (M2 S.nk 512).Slices ![S.nk - 64, 128 * j.val] (M2 64 128) := by
      intro j; fin_cases j
      exacts [S.ev.s0, S.ev.s1, S.ev.s2, S.ev.s3]
    have := cat4_axis1 (fun j : Fin 4 => tailTok S.nk (128 * j.val) (hsl j) v2 (t j) s) (by decide) ⟨k.val - (S.nk - 64), by omega⟩ j h
    refine Eq.trans ?_ (this.trans ?_)
    · rfl
    · show tailTok S.nk (128 * j.val) (hsl j) v2 (t j) s _ = _
      rw [tailTok_apply _ _ _ _ _ _ _ _ h2 (ht j) hn hlo (by omega)]
      have e : S.nk - 64 + (k.val - (S.nk - 64)) = k.val := by omega
      simp only [e]; rfl

/-! ### Maxima, weights, sums -/

section
variable {nk kp : Nat} (ev : Ev nk kp)

theorem lift_red (h : (M2 nk 512).Reduces [0] ⟨1, ![512]⟩) (c : Fin 512) (k : Fin nk) : h.lift (ix1 c) k = ix2 k c := by
  funext a; fin_cases a <;> rfl

theorem colMax_apply (s : FVec Ideal (M2 nk 512) .f32) (c : Fin 512) :
    colMax ev s (ix2 0 c) = (Finset.univ.sup fun k : Fin nk => (s (ix2 k c) : EReal)) := by
  unfold colMax
  rw [shapeCast_apply _ _ _ (ix1 c) (by rw [Shape.rowMajor_val_one, Shape.rowMajor_val_two]; simp)]
  refine (multiReduction_maximumf_single s 0xFF800000#32 ev.red (.inl rfl) rfl (ix1 c)).trans ?_
  have : (FloatOps.ofBits (F := Ideal) .f32 0xFF800000#32 : EReal) = ⊥ := ofBits_neg_inf
  rw [this]
  show Finset.fold max ⊥ (fun k : Fin nk => s (ev.red.lift (ix1 c) k)) Finset.univ = _
  simp only [lift_red]
  rfl

theorem wts_apply (s : FVec Ideal (M2 nk 512) .f32) (k : Fin nk) (c : Fin 512) :
    wts ev sK s (ix2 k c) = wK (fun k : Fin nk => (s (ix2 k c) : EReal)) k := by
  unfold wts wK
  show Ideal.exp2 _ = _
  rw [mulf_apply, subf_apply, broadcast_apply, broadcastTo_apply _ _ _ (ix2 0 c) (by intro a; fin_cases a <;> rfl), colMax_apply]

theorem colSum_apply (e : FVec Ideal (M2 nk 512) .f32) (c : Fin 512) :
    colSum ev e (ix2 0 c) = ∑ k : Fin nk, (e (ix2 k c) : EReal) := by
  unfold colSum
  rw [shapeCast_apply _ _ _ (ix1 c) (by rw [Shape.rowMajor_val_one, Shape.rowMajor_val_two]; simp)]
  refine (multiReduction_add_single e 0x00000000#32 ev.red (.inl rfl) rfl (ix1 c)).trans ?_
  show (∑ k : Fin nk, e (ev.red.lift (ix1 c) k)) = _
  simp only [lift_red]

end

section
variable (S : Sec Ideal) (ok : SecOK S) (m : FVec Ideal (M2 S.nk 512) .f32) (c : Fin 512)

theorem unitI_apply : unitI S sK m (ix2 0 c) = Ideal.div 1 (∑ k, wK (fun k : Fin S.nk => (m (ix2 k c) : EReal)) k) := by
  unfold unitI invSum
  rw [divf_apply, colSum_apply]
  simp only [wts_apply]
  congr 1
  exact ofBits_one_f32

theorem unitL_apply : unitL S sK sS m (ix2 0 c)
    = (Finset.univ.sup fun k : Fin S.nk => (m (ix2 k c) : EReal)) * sS + Ideal.log (∑ k, wK (fun k : Fin S.nk => (m (ix2 k c) : EReal)) k) := by
  unfold unitL lseRow
  rw [addf_apply, mulf_apply, colMax_apply, broadcast_apply]
  congr 1
  show Ideal.log (colSum S.ev (wts S.ev sK m) (ix2 0 c) : EReal) = _
  rw [colSum_apply]
  simp only [wts_apply]

include ok in
theorem unitO_apply (T : FVec Ideal (M2 512 S.kp) .bf16) (d : Fin 512) : unitO S sK T m (ix2 d c)
    = ∑ k : Fin S.kp, (T (ix2 d k) : EReal) * (if h : k.val < S.nk then wK (fun k : Fin S.nk => (m (ix2 k c) : EReal)) ⟨k.val, h⟩ else 0) := by
  unfold unitO outMat
  have h1 := Ideal.matmul_plain_apply none T (S.pad (truncf .bf16 (wts S.ev sK m) (by decide))) (constant (M2 512 512) .f32 0x00000000#32) d c
  refine h1.trans ?_
  have e1 : (constant (F := Ideal) (M2 512 512) .f32 0x00000000#32 (ix2 d c) : EReal) = 0 := ofBits_zero_f32
  rw [e1, zero_add]
  refine Finset.sum_congr rfl fun k _ => ?_
  rw [ok.pad]
  congr 1
  by_cases h : k.val < S.nk
  · rw [dif_pos h, dif_pos h, truncf_apply]; exact wts_apply S.ev m _ c
  · rw [dif_neg h, dif_neg h]
end

/-! ### What one row stores -/

/-- Whether the row at `v2 + t` is among the first `v1`. -/
def liveB (v1 v2 t : BitVec 32) : BitVec 1 := Scalar.cmpi .slt (Scalar.addi v2 t) v1

theorem oTok_apply (o : Nat) (h1) (h2) (v1 v2 t : BitVec 32) (ot : FVec Ideal (M2 512 512) .f32) (inv : FVec Ideal (M2 1 512) .f32)
    (h : Fin 128) (d : Fin 512) (ho : o + 128 ≤ 512) :
    oTok o h1 h2 v1 v2 t ot inv (ix4 0 0 h d)
      = if liveB v1 v2 t = 1#1 then (ot (ix2 d ⟨o + h.val, by omega⟩) : EReal) * inv (ix2 0 ⟨o + h.val, by omega⟩) else 0 := by
  unfold oTok
  rw [shapeCast_apply _ _ _ (ix2 h d) (by rw [Shape.rowMajor_val_four, Shape.rowMajor_val_two]; simp),
    transpose_apply _ _ _ _ (ix2 d h) (by intro b; fin_cases b <;> rfl), truncf_apply, mulf_apply,
    extractStridedSlice_apply _ _ _ _ (ix2 d ⟨o + h.val, by omega⟩) (by intro a; fin_cases a <;> simp),
    broadcastTo_apply _ _ _ (ix2 0 h) (by intro a; fin_cases a <;> rfl)]
  unfold Scalar.select
  show _ * (if liveB v1 v2 t = 1#1 then _ else _ : FVec Ideal (M2 1 128) .f32) _ = _
  by_cases hl : liveB v1 v2 t = 1#1
  · rw [if_pos hl, if_pos hl, extractStridedSlice_apply _ _ _ _ (ix2 0 ⟨o + h.val, by omega⟩) (by intro a; fin_cases a <;> simp)]
  · rw [if_neg hl, if_neg hl]
    have : (broadcast (M2 1 128) (Scalar.ofBits (F := Ideal) .f32 0x00000000#32) (ix2 0 h) : EReal) = 0 := ofBits_zero_f32
    rw [this, mul_zero]

theorem lTok_apply (o : Nat) (h2) (v1 v2 t : BitVec 32) (lse : FVec Ideal (M2 1 512) .f32) (h : Fin 128) (ho : o + 128 ≤ 512) :
    lTok o h2 v1 v2 t lse (ix3 0 0 h) = if liveB v1 v2 t = 1#1 then (lse (ix2 0 ⟨o + h.val, by omega⟩) : EReal) else 0 := by
  unfold lTok
  rw [shapeCast_apply _ _ _ (ix2 0 h) (by rw [Shape.rowMajor_val_three, Shape.rowMajor_val_two]; simp)]
  unfold Scalar.select
  show (if liveB v1 v2 t = 1#1 then _ else _ : FVec Ideal (M2 1 128) .f32) _ = _
  by_cases hl : liveB v1 v2 t = 1#1
  · rw [if_pos hl, if_pos hl, extractStridedSlice_apply _ _ _ _ (ix2 0 ⟨o + h.val, by omega⟩) (by intro a; fin_cases a <;> simp)]
  · rw [if_neg hl, if_neg hl]; exact ofBits_zero_f32

end Mla
end
-- ==== Proof.Rows.lean ====
/-
  What the body leaves in each query row of its two output blocks, over the extended reals.

  Every store of the body puts the right values into the rows it covers, and every row is covered: a row of a unit with no
  live row by the zero fill, any other by the one key range that its block of rows belongs to.
-/
module

public import proofs.«01_k».proof.Proof.Pt
public import proofs.«01_k».proof.Proof.Parts

@[expose] public section

noncomputable section

namespace Mla

open Idealize.ShloMosaic Idealize.ShloMosaic.TcCoe Idealize.ShloMosaic.ValueIdx Idealize.ShloMosaic.Ideal

/-- The scale group of a latent lane. -/
def gOf (d : Fin 512) : Fin 4 := ⟨d.val / 128, by omega⟩

/-- The unscaled scores of the block's row `n`, head `h`. -/
def scV (b : State Ideal) (n : Fin 32) (h : Fin 128) (k : Fin 640) : EReal :=
  (∑ d : Fin 512, (b.z11 (ix2 k d) : EReal) * ((b.x3 (ix4 0 n h d) : EReal) * (b.x4 (ix4 0 n (gOf d) h) : EReal)))
    + ∑ j : Fin 64, (b.z13 (ix2 k j) : EReal) * (b.x5 (ix4 0 n j h) : EReal)

def tgtL (v1 v2 : BitVec 32) (b : State Ideal) (n : Fin 32) (h : Fin 128) : EReal :=
  if liveB v1 v2 (BitVec.ofNat 32 n.val) = 1#1 then rLse (v2.toNat + n.val) (scV b n h) else 0
def tgtO (v1 v2 : BitVec 32) (b : State Ideal) (n : Fin 32) (h : Fin 128) (d : Fin 512) : EReal :=
  if liveB v1 v2 (BitVec.ofNat 32 n.val) = 1#1 then rO (v2.toNat + n.val) (scV b n h) (fun k => b.z12 (ix2 d k)) else 0

/-- Row `n` holds what it should. -/
def Good (v1 v2 : BitVec 32) (b s : State Ideal) (n : Fin 32) : Prop :=
  (∀ h, (s.y10 (ix3 0 n h) : EReal) = tgtL v1 v2 b n h) ∧ ∀ h d, (s.y9 (ix4 0 n h d) : EReal) = tgtO v1 v2 b n h d

/-- `s` is `b` but for the two output blocks. -/
def SameIn (b s : State Ideal) : Prop := ∃ Y Z, s = { b with y9 := Y, y10 := Z }

/-- `f` writes the rows of `P` rightly and spoils no row. -/
def Wr (v1 v2 : BitVec 32) (b : State Ideal) (P : Fin 32 → Prop) (f : State Ideal → State Ideal) : Prop :=
  ∀ s, SameIn b s → SameIn b (f s) ∧ ∀ n, P n ∨ Good v1 v2 b s n → Good v1 v2 b (f s) n

section
variable {v1 v2 : BitVec 32} {b : State Ideal}

theorem Wr.comp {P Q : Fin 32 → Prop} {f g : State Ideal → State Ideal} (hg : Wr v1 v2 b Q g) (hf : Wr v1 v2 b P f) :
    Wr v1 v2 b (fun n => Q n ∨ P n) (fun s => g (f s)) := fun s hs =>
  ⟨(hg _ (hf s hs).1).1, fun n h => (hg _ (hf s hs).1).2 n (by
    rcases h with (h | h) | h
    · exact .inl h
    · exact .inr ((hf s hs).2 n (.inl h))
    · exact .inr ((hf s hs).2 n (.inr h)))⟩

theorem Wr.weaken {P Q : Fin 32 → Prop} {f : State Ideal → State Ideal} (hf : Wr v1 v2 b P f) (h : ∀ n, Q n → P n) : Wr v1 v2 b Q f :=
  fun s hs => ⟨(hf s hs).1, fun n hn => (hf s hs).2 n (hn.imp_left (h n))⟩

theorem Wr.id : Wr v1 v2 b (fun _ => False) (fun s => s) := fun _ hs => ⟨hs, fun _ h => h.elim False.elim _root_.id⟩

theorem store_wr (t : Nat) (ht : t < 32) (o : Vec Ideal (T4 1 1 128 512) .bf16) (l : Vec Ideal (T3 1 1 128) .f32)
    (hl : ∀ h, (l (ix3 0 0 h) : EReal) = tgtL v1 v2 b ⟨t, ht⟩ h) (ho : ∀ h d, (o (ix4 0 0 h d) : EReal) = tgtO v1 v2 b ⟨t, ht⟩ h d) :
    Wr v1 v2 b (fun n => n.val = t) (storeF t ht o l) := by
  intro s hs
  refine ⟨by obtain ⟨Y, Z, rfl⟩ := hs; exact ⟨_, _, rfl⟩, fun n hn => ?_⟩
  have eo : ∀ h d, (outR t ht).emb (ix4 0 0 h d) = ix4 0 ⟨t, ht⟩ h d := by
    intro h d; funext a; apply Fin.ext
    show (outR t ht).off a + (outR t ht).stride a * ((ix4 (0 : Fin 1) (0 : Fin 1) h d) a).val = _
    fin_cases a <;> simp
  have el : ∀ h, (lseR t ht).emb (ix3 0 0 h) = ix3 0 ⟨t, ht⟩ h := by
    intro h; funext a; apply Fin.ext
    show (lseR t ht).off a + (lseR t ht).stride a * ((ix3 (0 : Fin 1) (0 : Fin 1) h) a).val = _
    fin_cases a <;> simp
  by_cases hnt : n.val = t
  · obtain rfl : n = ⟨t, ht⟩ := Fin.ext hnt
    constructor
    · intro h; unfold storeF; dsimp only; rw [← el h, upd_emb]; exact hl h
    · intro h d; unfold storeF; dsimp only; rw [← eo h d, upd_emb]; exact ho h d
  · have hg := hn.resolve_left hnt
    constructor
    · intro h; unfold storeF; dsimp only
      rw [upd_of_not]; · exact hg.1 h
      intro x hx
      have this := congrArg (fun y => (y 1).val) hx
      have h0 : (x 1).val = 0 := Nat.lt_one_iff.mp (x 1).isLt
      have e : ((lseR t ht).emb x 1).val = t + 1 * (x 1).val := rfl
      have f : ((lseR t ht).emb x 1).val = n.val := this
      exact hnt (by omega)
    · intro h d; unfold storeF; dsimp only
      rw [upd_of_not]; · exact hg.2 h d
      intro x hx
      have this := congrArg (fun y => (y 1).val) hx
      have h0 : (x 1).val = 0 := Nat.lt_one_iff.mp (x 1).isLt
      have e : ((outR t ht).emb x 1).val = t + 1 * (x 1).val := rfl
      have f : ((outR t ht).emb x 1).val = n.val := this
      exact hnt (by omega)

theorem zero_wr (o : Nat) (ho : o + 16 ≤ 32) (hdead : ∀ n : Fin 32, o ≤ n.val → n.val < o + 16 → liveB v1 v2 (BitVec.ofNat 32 n.val) ≠ 1#1) :
    Wr v1 v2 b (fun n => o ≤ n.val ∧ n.val < o + 16) (zeroF o ho) := by
  intro s hs
  refine ⟨by obtain ⟨Y, Z, rfl⟩ := hs; exact ⟨_, _, rfl⟩, fun n hn => ?_⟩
  by_cases hr : o ≤ n.val ∧ n.val < o + 16
  · have hd := hdead n hr.1 hr.2
    have z1 : ∀ x, (zeroL (F := Ideal) x : EReal) = 0 := fun x => ofBits_zero_f32
    have z2 : ∀ x, (zeroO (F := Ideal) x : EReal) = 0 := fun x => ofBits_zero_bf16
    constructor
    · intro h; unfold tgtL; rw [if_neg hd]; unfold zeroF; dsimp only
      have : (zL o ho).emb (ix3 0 (⟨n.val - o, by omega⟩ : Fin 16) h) = ix3 0 n h := by
        funext a; apply Fin.ext
        show (zL o ho).off a + (zL o ho).stride a * ((ix3 (0 : Fin 1) (⟨n.val - o, by omega⟩ : Fin 16) h) a).val = _
        have e1 : o + 1 * (n.val - o) = n.val := by omega
        fin_cases a
        exacts [rfl, e1, by simp]
      rw [← this, upd_emb]; exact z1 _
    · intro h d; unfold tgtO; rw [if_neg hd]; unfold zeroF; dsimp only
      have : (zO o ho).emb (ix4 0 (⟨n.val - o, by omega⟩ : Fin 16) h d) = ix4 0 n h d := by
        funext a; apply Fin.ext
        show (zO o ho).off a + (zO o ho).stride a * ((ix4 (0 : Fin 1) (⟨n.val - o, by omega⟩ : Fin 16) h d) a).val = _
        have e1 : o + 1 * (n.val - o) = n.val := by omega
        fin_cases a
        exacts [rfl, e1, by simp, by simp]
      rw [← this, upd_emb]; exact z2 _
  · have hg := hn.resolve_left hr
    constructor
    · intro h; unfold zeroF; dsimp only
      rw [upd_of_not]; · exact hg.1 h
      intro x hx
      have this := congrArg (fun y => (y 1).val) hx
      have h0 : (x 1).val < 16 := (x 1).isLt
      have e : ((zL o ho).emb x 1).val = o + 1 * (x 1).val := rfl
      have f : ((zL o ho).emb x 1).val = n.val := this
      exact hr (by omega)
    · intro h d; unfold zeroF; dsimp only
      rw [upd_of_not]; · exact hg.2 h d
      intro x hx
      have this := congrArg (fun y => (y 1).val) hx
      have h0 : (x 1).val < 16 := (x 1).isLt
      have e : ((zO o ho).emb x 1).val = o + 1 * (x 1).val := rfl
      have f : ((zO o ho).emb x 1).val = n.val := this
      exact hr (by omega)

/-! ### One unit -/

theorem tokV_at (s : State Ideal) (n : Nat) (hn : n < 32) (d : Fin 512) (h : Fin 128) :
    tokV s n hn (ix2 d h) = (s.x3 (ix4 0 ⟨n, hn⟩ h d) : EReal) * (s.x4 (ix4 0 ⟨n, hn⟩ (gOf d) h) : EReal) := by
  have e : col (gOf d) (⟨d.val % 128, Nat.mod_lt _ (by decide)⟩ : Fin 128) = d := Fin.ext (Nat.div_add_mod d.val 128)
  have := tokV_apply s n hn (gOf d) ⟨d.val % 128, Nat.mod_lt _ (by decide)⟩ h
  rw [e] at this; exact this

variable {S : Sec Ideal} (ok : SecOK S)

/-- The masked scores of one unit. -/
theorem unitS_apply (t : Fin 4 → BitVec 32) (ht : ∀ j, (t j).toNat < 32) (h2 : v2.toNat < 640) (hlo : S.nk - 64 ≤ v2.toNat)
    (hk : S.nk ≤ 640) (k : Fin S.nk) (j : Fin 4) (h : Fin 128) (hok : SecOK S) :
    (unitS S v2 (t 0) (t 1) (t 2) (t 3) (ht 0) (ht 1) (ht 2) (ht 3) b (ix2 k (col j h)) : EReal)
      = if k.val ≤ v2.toNat + (t j).toNat then scV b ⟨(t j).toNat, ht j⟩ h ⟨k.val, lt_of_lt_of_le k.isLt hk⟩ else ⊥ := by
  unfold unitS
  rw [masked_apply hok v2 t _ h2 ht hlo k j h]
  refine if_congr Iff.rfl ?_ rfl
  rw [scores_apply]
  unfold scV
  refine congrArg₂ (· + ·) (Finset.sum_congr rfl fun d _ => congrArg₂ (· * ·) ?_ ?_) (Finset.sum_congr rfl fun i _ => congrArg₂ (· * ·) ?_ ?_)
  · refine ld_at _ _ _ _ ?_; intro a; fin_cases a <;> simp
  · have := cat4_axis1 (fun j : Fin 4 => tokV b (t j).toNat (ht j)) (by decide) d j h
    exact this.trans (tokV_at b _ _ d h)
  · refine ld_at _ _ _ _ ?_; intro a; fin_cases a <;> simp
  · have := cat4_axis1 (fun j : Fin 4 => ropeV b (t j).toNat (ht j)) (by decide) i j h
    exact this.trans (ropeV_apply b _ _ i h)

include ok in
theorem unit_rows (t : Fin 4 → BitVec 32) (ht : ∀ j, (t j).toNat < 32) (h2 : v2.toNat < 640) (hlo : S.nk - 64 ≤ v2.toNat)
    (hhi : v2.toNat + 32 ≤ S.nk) (j : Fin 4) (hs1) (hs2) :
    Wr v1 v2 b (fun n => n.val = (t j).toNat)
      (storeF (t j).toNat (ht j)
        (oTok (128 * j.val) hs1 hs2 v1 v2 (t j) (unitO S sK (ld b.z12 (tR S.ev)) (unitS S v2 (t 0) (t 1) (t 2) (t 3) (ht 0) (ht 1) (ht 2) (ht 3) b))
          (unitI S sK (unitS S v2 (t 0) (t 1) (t 2) (t 3) (ht 0) (ht 1) (ht 2) (ht 3) b)))
        (lTok (128 * j.val) hs2 v1 v2 (t j) (unitL S sK sS (unitS S v2 (t 0) (t 1) (t 2) (t 3) (ht 0) (ht 1) (ht 2) (ht 3) b)))) := by
  have hk : S.nk ≤ 640 := ok.nkp.trans ok.kp640
  have hp : v2.toNat + (t j).toNat < S.nk := by have := ht j; omega
  have et : BitVec.ofNat 32 (t j).toNat = t j := by simp
  have hf : ∀ (h : Fin 128) (k : Fin S.nk), (unitS S v2 (t 0) (t 1) (t 2) (t 3) (ht 0) (ht 1) (ht 2) (ht 3) b (ix2 k (col j h)) : EReal)
      = if k.val ≤ v2.toNat + (t j).toNat then scV b ⟨(t j).toNat, ht j⟩ h ⟨k.val, lt_of_lt_of_le k.isLt hk⟩ else ⊥ :=
    fun h k => unitS_apply t ht h2 hlo hk k j h ok
  refine store_wr (t j).toNat (ht j) _ _ (fun h => ?_) (fun h d => ?_)
  · rw [lTok_apply _ _ _ _ _ _ _ (by omega)]
    unfold tgtL; dsimp only; rw [et]
    refine if_congr Iff.rfl ?_ rfl
    refine (unitL_apply S _ (col j h)).trans ?_
    exact lse_eq hk hp _ (hf h)
  · rw [oTok_apply _ _ _ _ _ _ _ _ _ _ (by omega)]
    unfold tgtO; dsimp only; rw [et]
    refine if_congr Iff.rfl ?_ rfl
    refine (congrArg₂ (· * ·) (unitO_apply S ok _ (col j h) _ d) (unitI_apply S _ (col j h))).trans ?_
    refine Eq.trans ?_ (out_eq hk hp _ (hf h) ok.nkp ok.kp640 (fun k => b.z12 (ix2 d k)))
    refine congrArg₂ (· * ·) (Finset.sum_congr rfl fun k _ => congrArg₂ (· * ·) ?_ rfl) rfl
    refine ld_at _ _ _ _ ?_; intro a; fin_cases a <;> simp

include ok in
theorem unitF_wr (t0 t1 t2 t3 : BitVec 32) (h0 : t0.toNat < 32) (h1 : t1.toNat < 32) (h2' : t2.toNat < 32) (h3 : t3.toNat < 32)
    (h2 : v2.toNat < 640) (hlo : S.nk - 64 ≤ v2.toNat) (hhi : v2.toNat + 32 ≤ S.nk) :
    Wr v1 v2 b (fun n => n.val = t3.toNat ∨ n.val = t2.toNat ∨ n.val = t1.toNat ∨ n.val = t0.toNat)
      (unitF S sK sS v1 v2 t0 t1 t2 t3 h0 h1 h2' h3) := by
  intro s hs
  have hw := fun (j : Fin 4) (a) (c) => unit_rows (v1 := v1) (v2 := v2) (b := b) ok ![t0, t1, t2, t3]
    (by intro j; fin_cases j; exacts [h0, h1, h2', h3]) h2 hlo hhi j a c
  have hc := (hw 3 (by decide) (by decide)).comp ((hw 2 (by decide) (by decide)).comp ((hw 1 (by decide) (by decide)).comp (hw 0 (by decide) (by decide))))
  have e : unitF S sK sS v1 v2 t0 t1 t2 t3 h0 h1 h2' h3 s
      = storesF S sK sS v1 v2 t0 t1 t2 t3 h0 h1 h2' h3 (unitS S v2 t0 t1 t2 t3 h0 h1 h2' h3 b) (ld b.z12 (tR S.ev)) s := by
    obtain ⟨Y, Z, rfl⟩ := hs; rfl
  rw [e]
  exact hc s hs

end

end Mla
end
-- ==== Proof.Lat.lean ====
/-
  The scratch fill read at an entry: every entry of the two latent matrices is a code times its scale, every entry of the
  rope-key matrix the rope key.
-/
module

public import proofs.«01_k».proof.Proof.Rows

@[expose] public section

noncomputable section

namespace Mla

open Idealize.ShloMosaic Idealize.ShloMosaic.TcCoe Idealize.ShloMosaic.ValueIdx Idealize.ShloMosaic.Ideal

theorem latT_apply (c : Vec Ideal (T3 1 128 128) .fp8e4m3) (s : Vec Ideal (T3 1 1 128) .f32) (d k : Fin 128) :
    (latT c s (ix2 d k) : EReal) = (c (ix3 0 k d) : EReal) * (s (ix3 0 0 k) : EReal) := by
  unfold latT
  rw [mulf_apply]
  congr 1
  · rw [transpose_apply _ _ _ _ (ix2 k d) (by intro b; fin_cases b <;> rfl), extf_apply]
    refine shapeCast_apply _ _ _ _ ?_
    rw [Shape.rowMajor_val_three, Shape.rowMajor_val_two]; simp
  · rw [broadcastTo_apply _ _ _ (ix2 0 k) (by intro a; fin_cases a <;> rfl), truncf_apply]
    refine shapeCast_apply _ _ _ _ ?_
    rw [Shape.rowMajor_val_three, Shape.rowMajor_val_two]; simp

theorem latT'_apply (c : Vec Ideal (T3 1 128 128) .fp8e4m3) (s : Vec Ideal (T3 1 1 128) .f32) (d k : Fin 128) :
    (latT' c s (ix2 d k) : EReal) = (c (ix3 0 k d) : EReal) * (s (ix3 0 0 k) : EReal) := by
  unfold latT'
  rw [shapeCast_apply _ _ _ (ix2 d k) rfl, latT_apply]

theorem latN_apply (c : Vec Ideal (T3 1 128 128) .fp8e4m3) (s : Vec Ideal (T3 1 1 128) .f32) (d k : Fin 128) :
    (latN c s (ix2 k d) : EReal) = (c (ix3 0 k d) : EReal) * (s (ix3 0 0 k) : EReal) := by
  unfold latN
  rw [shapeCast_apply _ _ _ (ix2 k d) rfl, transpose_apply _ _ _ _ (ix2 d k) (by intro b; fin_cases b <;> rfl), latT_apply]

theorem ropeN_apply (r : Vec Ideal (T3 1 64 128) .bf16) (k : Fin 128) (j : Fin 64) : ropeN r (ix2 k j) = r (ix3 0 j k) := by
  unfold ropeN
  rw [shapeCast_apply _ _ _ (ix2 k j) rfl, transpose_apply _ _ _ _ (ix2 j k) (by intro b; fin_cases b <;> rfl)]
  refine shapeCast_apply _ _ _ _ ?_
  rw [Shape.rowMajor_val_three, Shape.rowMajor_val_two]; simp

/-- A store into a block of a matrix, read at an entry. -/
theorem upd_mat {V : Type} {A B : Nat} (X : (M2 A B).Idx → V) (o p b c : Nat) (ho : o + b ≤ A) (hp : p + c ≤ B)
    (w : (matR A B o p b c ho hp).shape.Idx → V) (i : Fin A) (j : Fin B) :
    upd X (matR A B o p b c ho hp) w (ix2 i j)
      = if h : (o ≤ i.val ∧ i.val < o + b) ∧ (p ≤ j.val ∧ j.val < p + c) then
          w (ix2 (n0 := b) (n1 := c) ⟨i.val - o, by omega⟩ ⟨j.val - p, by omega⟩) else X (ix2 i j) := by
  by_cases h : (o ≤ i.val ∧ i.val < o + b) ∧ (p ≤ j.val ∧ j.val < p + c)
  · rw [dif_pos h]
    have e : (matR A B o p b c ho hp).emb (ix2 (n0 := b) (n1 := c) ⟨i.val - o, by omega⟩ ⟨j.val - p, by omega⟩) = ix2 i j := by
      funext a; apply Fin.ext
      show (matR A B o p b c ho hp).off a + (matR A B o p b c ho hp).stride a * _ = _
      fin_cases a
      · show o + 1 * (i.val - o) = i.val; omega
      · show p + 1 * (j.val - p) = j.val; omega
    rw [← e, upd_emb]
  · rw [dif_neg h]
    refine upd_of_not _ _ _ _ fun x hx => h ?_
    have h0 := congrArg Fin.val (congrFun hx 0)
    have h1 := congrArg Fin.val (congrFun hx 1)
    have e0 : o + 1 * (x 0).val = i.val := h0
    have e1 : p + 1 * (x 1).val = j.val := h1
    have b0 : (x 0).val < b := (x 0).isLt
    have b1 : (x 1).val < c := (x 1).isLt
    omega

/-- The dequantised latent of key `k`, lane `d`. -/
def lv (s : State Ideal) (k : Fin 640) (d : Fin 512) : EReal := (s.x6 (ix3 0 k d) : EReal) * (s.x7 (ix3 0 (gOf d) k) : EReal)

section
variable (g o p : Nat) (hg : g + 1 ≤ 4) (ho : o + 128 ≤ 512) (hp : p + 128 ≤ 640) (hgo : o = 128 * g) (s : State Ideal) (k : Fin 640) (d : Fin 512)

include hgo in
theorem latGrp_z11 : ((latGrpF g o p hg ho hp s).z11 (ix2 k d) : EReal)
    = if (p ≤ k.val ∧ k.val < p + 128) ∧ gOf d = ⟨g, by omega⟩ then lv s k d else s.z11 (ix2 k d) := by
  have hd := d.isLt
  have e : (latGrpF g o p hg ho hp s).z11 (ix2 k d) = _ := upd_mat _ _ _ _ _ _ _ _ k d
  rw [e]
  by_cases h : (p ≤ k.val ∧ k.val < p + 128) ∧ gOf d = ⟨g, by omega⟩
  · have h2 : d.val / 128 = g := congrArg Fin.val h.2
    rw [if_pos h, dif_pos (by omega), latN_apply]
    unfold lv
    congr 1
    · refine ld_at _ _ _ _ ?_; intro a; fin_cases a
      · rfl
      · show p + 1 * (k.val - p) = k.val; omega
      · show o + 1 * (d.val - o) = d.val; omega
    · rw [h.2]; refine ld_at _ _ _ _ ?_; intro a; fin_cases a
      · rfl
      · rfl
      · show p + 1 * (k.val - p) = k.val; omega
  · have h2 : ¬((p ≤ k.val ∧ k.val < p + 128) ∧ d.val / 128 = g) := fun hh => h ⟨hh.1, Fin.ext hh.2⟩
    rw [if_neg h, dif_neg (by omega)]

include hgo in
theorem latGrp_z12 : ((latGrpF g o p hg ho hp s).z12 (ix2 d k) : EReal)
    = if (p ≤ k.val ∧ k.val < p + 128) ∧ gOf d = ⟨g, by omega⟩ then lv s k d else s.z12 (ix2 d k) := by
  have hd := d.isLt
  have e : (latGrpF g o p hg ho hp s).z12 (ix2 d k) = _ := upd_mat _ _ _ _ _ _ _ _ d k
  rw [e]
  by_cases h : (p ≤ k.val ∧ k.val < p + 128) ∧ gOf d = ⟨g, by omega⟩
  · have h2 : d.val / 128 = g := congrArg Fin.val h.2
    rw [if_pos h, dif_pos (by omega), latT'_apply]
    unfold lv
    congr 1
    · refine ld_at _ _ _ _ ?_; intro a; fin_cases a
      · rfl
      · show p + 1 * (k.val - p) = k.val; omega
      · show o + 1 * (d.val - o) = d.val; omega
    · rw [h.2]; refine ld_at _ _ _ _ ?_; intro a; fin_cases a
      · rfl
      · rfl
      · show p + 1 * (k.val - p) = k.val; omega
  · have h2 : ¬((p ≤ k.val ∧ k.val < p + 128) ∧ d.val / 128 = g) := fun hh => h ⟨hh.1, Fin.ext hh.2⟩
    rw [if_neg h, dif_neg (by omega)]

end

theorem fin4_cases (g : Fin 4) : g = ⟨3, by omega⟩ ∨ g = ⟨2, by omega⟩ ∨ g = ⟨1, by omega⟩ ∨ g = ⟨0, by omega⟩ := by
  have h := g.isLt
  have : g.val = 3 ∨ g.val = 2 ∨ g.val = 1 ∨ g.val = 0 := by omega
  rcases this with e | e | e | e
  · exact .inl (Fin.ext e)
  · exact .inr (.inl (Fin.ext e))
  · exact .inr (.inr (.inl (Fin.ext e)))
  · exact .inr (.inr (.inr (Fin.ext e)))

section
variable (p : Nat) (hp : p + 128 ≤ 640) (s : State Ideal) (k : Fin 640)

theorem latRope_z13 (j : Fin 64) : (latRopeF p hp s).z13 (ix2 k j)
    = if p ≤ k.val ∧ k.val < p + 128 then s.x8 (ix3 0 j k) else s.z13 (ix2 k j) := by
  have hj := j.isLt
  have e : (latRopeF p hp s).z13 (ix2 k j) = _ := upd_mat s.z13 p 0 128 64 hp (by decide) _ k j
  rw [e]
  by_cases h : p ≤ k.val ∧ k.val < p + 128
  · rw [if_pos h, dif_pos (by omega), ropeN_apply]
    refine ld_at _ _ _ _ ?_; intro a; fin_cases a
    · rfl
    · show 0 + 1 * (j.val - 0) = j.val; omega
    · show p + 1 * (k.val - p) = k.val; omega
  · rw [if_neg h, dif_neg (by omega)]

theorem latGrp_lv (g o : Nat) (hg : g + 1 ≤ 4) (ho : o + 128 ≤ 512) (d : Fin 512) : lv (latGrpF g o p hg ho hp s) k d = lv s k d := rfl
theorem latRope_lv (d : Fin 512) : lv (latRopeF p hp s) k d = lv s k d := rfl
theorem latBlk_lv (d : Fin 512) : lv (latBlkF p hp s) k d = lv s k d := by
  unfold latBlkF; rw [latRope_lv, latGrp_lv, latGrp_lv, latGrp_lv, latGrp_lv]
theorem latRope_z11 : (latRopeF p hp s).z11 = s.z11 := rfl
theorem latRope_z12 : (latRopeF p hp s).z12 = s.z12 := rfl
theorem latGrp_x8 (g o : Nat) (hg : g + 1 ≤ 4) (ho : o + 128 ≤ 512) : (latGrpF g o p hg ho hp s).x8 = s.x8 := rfl
theorem latGrp_z13 (g o : Nat) (hg : g + 1 ≤ 4) (ho : o + 128 ≤ 512) : (latGrpF g o p hg ho hp s).z13 = s.z13 := rfl
theorem latRope_x8 : (latRopeF p hp s).x8 = s.x8 := rfl
theorem latBlk_x8 : (latBlkF p hp s).x8 = s.x8 := by
  unfold latBlkF; rw [latRope_x8, latGrp_x8, latGrp_x8, latGrp_x8, latGrp_x8]

theorem latBlk_z13 (j : Fin 64) : (latBlkF p hp s).z13 (ix2 k j)
    = if p ≤ k.val ∧ k.val < p + 128 then s.x8 (ix3 0 j k) else s.z13 (ix2 k j) := by
  unfold latBlkF
  rw [latRope_z13, latGrp_x8, latGrp_x8, latGrp_x8, latGrp_x8, latGrp_z13, latGrp_z13, latGrp_z13, latGrp_z13]

theorem latBlk_z11 (d : Fin 512) : ((latBlkF p hp s).z11 (ix2 k d) : EReal)
    = if p ≤ k.val ∧ k.val < p + 128 then lv s k d else s.z11 (ix2 k d) := by
  unfold latBlkF; rw [latRope_z11]
  rw [latGrp_z11 3 384 p _ _ hp rfl, latGrp_z11 2 256 p _ _ hp rfl, latGrp_z11 1 128 p _ _ hp rfl, latGrp_z11 0 0 p _ _ hp rfl]
  simp only [latGrp_lv]
  by_cases h : p ≤ k.val ∧ k.val < p + 128
  · rcases fin4_cases (gOf d) with e | e | e | e <;> simp [h, e]
  · simp only [h, false_and, if_false]

theorem latBlk_z12 (d : Fin 512) : ((latBlkF p hp s).z12 (ix2 d k) : EReal)
    = if p ≤ k.val ∧ k.val < p + 128 then lv s k d else s.z12 (ix2 d k) := by
  unfold latBlkF; rw [latRope_z12]
  rw [latGrp_z12 3 384 p _ _ hp rfl, latGrp_z12 2 256 p _ _ hp rfl, latGrp_z12 1 128 p _ _ hp rfl, latGrp_z12 0 0 p _ _ hp rfl]
  simp only [latGrp_lv]
  by_cases h : p ≤ k.val ∧ k.val < p + 128
  · rcases fin4_cases (gOf d) with e | e | e | e <;> simp [h, e]
  · simp only [h, false_and, if_false]

end

section
variable (s : State Ideal) (k : Fin 640)

theorem key_cases : (512 ≤ k.val ∧ k.val < 512 + 128) ∨ (¬(512 ≤ k.val ∧ k.val < 512 + 128) ∧ (384 ≤ k.val ∧ k.val < 384 + 128))
    ∨ (¬(512 ≤ k.val ∧ k.val < 512 + 128) ∧ ¬(384 ≤ k.val ∧ k.val < 384 + 128) ∧ (256 ≤ k.val ∧ k.val < 256 + 128))
    ∨ (¬(512 ≤ k.val ∧ k.val < 512 + 128) ∧ ¬(384 ≤ k.val ∧ k.val < 384 + 128) ∧ ¬(256 ≤ k.val ∧ k.val < 256 + 128) ∧ (128 ≤ k.val ∧ k.val < 128 + 128))
    ∨ (¬(512 ≤ k.val ∧ k.val < 512 + 128) ∧ ¬(384 ≤ k.val ∧ k.val < 384 + 128) ∧ ¬(256 ≤ k.val ∧ k.val < 256 + 128) ∧ ¬(128 ≤ k.val ∧ k.val < 128 + 128)
      ∧ (0 ≤ k.val ∧ k.val < 0 + 128)) := by
  omega

theorem latF_z11 (d : Fin 512) : ((latF s).z11 (ix2 k d) : EReal) = lv s k d := by
  unfold latF
  rcases key_cases k with h | ⟨h1, h⟩ | ⟨h1, h2, h⟩ | ⟨h1, h2, h3, h⟩ | ⟨h1, h2, h3, h4, h⟩
  · rw [latBlk_z11, if_pos h]; simp only [latBlk_lv]
  · rw [latBlk_z11, if_neg h1, latBlk_z11, if_pos h]; simp only [latBlk_lv]
  · rw [latBlk_z11, if_neg h1, latBlk_z11, if_neg h2, latBlk_z11, if_pos h]; simp only [latBlk_lv]
  · rw [latBlk_z11, if_neg h1, latBlk_z11, if_neg h2, latBlk_z11, if_neg h3, latBlk_z11, if_pos h]; simp only [latBlk_lv]
  · rw [latBlk_z11, if_neg h1, latBlk_z11, if_neg h2, latBlk_z11, if_neg h3, latBlk_z11, if_neg h4, latBlk_z11, if_pos h]

theorem latF_z12 (d : Fin 512) : ((latF s).z12 (ix2 d k) : EReal) = lv s k d := by
  unfold latF
  rcases key_cases k with h | ⟨h1, h⟩ | ⟨h1, h2, h⟩ | ⟨h1, h2, h3, h⟩ | ⟨h1, h2, h3, h4, h⟩
  · rw [latBlk_z12, if_pos h]; simp only [latBlk_lv]
  · rw [latBlk_z12, if_neg h1, latBlk_z12, if_pos h]; simp only [latBlk_lv]
  · rw [latBlk_z12, if_neg h1, latBlk_z12, if_neg h2, latBlk_z12, if_pos h]; simp only [latBlk_lv]
  · rw [latBlk_z12, if_neg h1, latBlk_z12, if_neg h2, latBlk_z12, if_neg h3, latBlk_z12, if_pos h]; simp only [latBlk_lv]
  · rw [latBlk_z12, if_neg h1, latBlk_z12, if_neg h2, latBlk_z12, if_neg h3, latBlk_z12, if_neg h4, latBlk_z12, if_pos h]

theorem latF_z13 (j : Fin 64) : (latF s).z13 (ix2 k j) = s.x8 (ix3 0 j k) := by
  unfold latF
  rcases key_cases k with h | ⟨h1, h⟩ | ⟨h1, h2, h⟩ | ⟨h1, h2, h3, h⟩ | ⟨h1, h2, h3, h4, h⟩
  · rw [latBlk_z13, if_pos h]; simp only [latBlk_x8]
  · rw [latBlk_z13, if_neg h1, latBlk_z13, if_pos h]; simp only [latBlk_x8]
  · rw [latBlk_z13, if_neg h1, latBlk_z13, if_neg h2, latBlk_z13, if_pos h]; simp only [latBlk_x8]
  · rw [latBlk_z13, if_neg h1, latBlk_z13, if_neg h2, latBlk_z13, if_neg h3, latBlk_z13, if_pos h]; simp only [latBlk_x8]
  · rw [latBlk_z13, if_neg h1, latBlk_z13, if_neg h2, latBlk_z13, if_neg h3, latBlk_z13, if_neg h4, latBlk_z13, if_pos h]

end

end Mla
end
-- ==== Proof.In.lean ====
/-
  What each step of the grid reads, at an index of the launch's arguments.
-/
module

public import proofs.«01_k».proof.Proof.LaunchI
public import proofs.«01_k».proof.Proof.Rows
public import proofs.«01_k».proof.Proof.Lat
public import Idealize.ShloMosaic.Lib.Pipeline.ArrRel
public import Idealize.ShloMosaic.Lib.KernelVsHost
public import Idealize.ShloMosaic.Lib.StableHlo.RunRead

@[expose] public section

set_option maxRecDepth 100000

noncomputable section

namespace Cert.KernelIdeal

open Idealize.ShloMosaic Idealize.ShloMosaic.TcCoe Idealize.ShloMosaic.ValueIdx Idealize.ShloMosaic.Ideal Mla

theorem kl_eq : (kl : Ideal .f32) = sK := IdealRules.named_const.ideal_named_scalar _ _ _ _ rfl
theorem sl_eq : (sl : Ideal .f32) = sS := IdealRules.named_const.ideal_named_scalar _ _ _ _ rfl

variable (m : Mem Ideal) (c : Dev nD) (t : Fin grid0.N)

/-- The batch of step `t`, and its block of query rows. -/
def bt : Fin 2 := grid0.coords t 0
def bi : Fin 20 := grid0.coords t 1

theorem bt_val : (bt t).val = t.val / 20 := by revert t; decide +kernel
theorem bi_val : (bi t).val = t.val % 20 := by revert t; decide +kernel

theorem arg1_bi : (arg1 (grid0.coords t)).toNat = (bi t).val := by
  have h := (bi t).isLt
  show (BitVec.ofNat 32 (bi t).val).toNat = _
  rw [BitVec.toNat_ofNat]; omega
theorem arg0_bt : (BitVec.ofNat 32 ((grid0.coords t) 0).val).toNat = (bt t).val := by
  have h := (bt t).isLt
  show (BitVec.ofNat 32 (bt t).val).toNat = _
  rw [BitVec.toNat_ofNat]; omega

theorem lenT_eq : lenT m t = (m (c, main_arg6) : (⟨1, ![2]⟩ : Shape).Idx → BitVec 32) (ix1 (bt t)) := by
  rw [Subsingleton.elim c 0]
  have e : pf m 0 = m (0, main_arg6) := V_arg m 0 main_arg6 (by decide)
  unfold lenT ld
  rw [e]
  refine congrArg (m (0, main_arg6) : (⟨1, ![2]⟩ : Shape).Idx → BitVec 32) ?_
  funext a; apply Fin.ext
  have hb : ∀ b : Fin 2, (Scalar.indexCast (BitVec.ofNat 32 b.val)).toNat = b.val := by decide
  obtain rfl : a = 0 := Subsingleton.elim a 0
  have h0 : (Shape.Idx.first (s := (lenR (grid0.coords t)).shape) (by rw [lenR_numel]; exact Nat.one_pos) 0).val = 0 :=
    Nat.lt_one_iff.mp (Fin.isLt _)
  show (Scalar.indexCast (BitVec.ofNat 32 (bt t).val)).toNat + 1 * _ = (bt t).val
  rw [hb, h0]; omega

theorem lenAt_eq : lenAt (pf m) (grid0.coords t) = lenT m t := rfl

/-- The block of query rows read at step `t`. -/
def qb : Nat := (qBlk (arg1 (grid0.coords t)) (lenT m t)).toNat

theorem qb_lt : qb m t < 20 := Nat.lt_of_le_of_lt (qBlk_le _ _ (arg1_lt _)) (arg1_lt _)

theorem V_v0 : V m c main_v0 = transpose S2x640x4x128 [0, 1, 3, 2] (m (c, main_arg1)) Facts₀.transposes_S2x640x128x4_S2x640x4x128_0_1_3_2 := by
  unfold V; after_reads_simp
theorem V_v1 : V m c main_v1 = transpose S2x640x64x128 [0, 1, 3, 2] (m (c, main_arg2)) Facts₀.transposes_S2x640x128x64_S2x640x64x128_0_1_3_2 := by
  unfold V; after_reads_simp
theorem V_v2 : V m c main_v2 = transpose S2x4x640 [0, 2, 1] (m (c, main_arg4)) Facts₀.transposes_S2x640x4_S2x4x640_0_2_1 := by
  unfold V; after_reads_simp
theorem V_v3 : V m c main_v3 = transpose S2x64x640 [0, 2, 1] (m (c, main_arg5)) Facts₀.transposes_S2x640x64_S2x64x640_0_2_1 := by
  unfold V; after_reads_simp

theorem row_lt (n : Fin 32) : 32 * qb m t + n.val < 640 := by have := qb_lt m t; omega

/-- The query row that the block's row `n` is. -/
def row (n : Fin 32) : Fin 640 := ⟨32 * qb m t + n.val, row_lt m t n⟩

theorem inp0 (n : Fin 32) (h : Fin 128) (d : Fin 512) :
    inp m c 0 t (ix4 0 n h d) = (m (c, main_arg0) : S2x640x128x512.Idx → EReal) (ix4 (bt t) (row m t n) h d) := by
  unfold inp Ain
  show (V m c main_arg0 : S2x640x128x512.Idx → EReal) _ = _
  rw [V_arg m c main_arg0 (by decide)]
  refine congrArg (m (c, main_arg0) : S2x640x128x512.Idx → EReal) ?_
  funext a; apply Fin.ext
  show cc0_transform_0 Facts₀.k0_off1_inb Facts₀.numel1_S1 (pf m) (grid0.coords t) a * S1x32x128x512.size a + 1 * (ix4 0 n h d a).val = _
  rw [tr0, arg0_bt, lenAt_eq]
  fin_cases a
  · show (bt t).val * 1 + 1 * 0 = (bt t).val; omega
  · show qb m t * 32 + 1 * n.val = 32 * qb m t + n.val; omega
  · show 0 * 128 + 1 * h.val = h.val; omega
  · show 0 * 512 + 1 * d.val = d.val; omega

theorem inp1 (n : Fin 32) (h : Fin 128) (g : Fin 4) :
    inp m c 1 t (ix4 0 n g h) = (m (c, main_arg1) : S2x640x128x4.Idx → EReal) (ix4 (bt t) (row m t n) h g) := by
  have e : (((((cfgA m).win 1).blk t).view.emb (ix4 0 n g h)) : S2x640x4x128.Idx) = ix4 (bt t) (row m t n) g h := by
    funext a; apply Fin.ext
    show cc0_transform_1 Facts₀.k0_off1_inb Facts₀.numel1_S1 (pf m) (grid0.coords t) a * S1x32x4x128.size a + 1 * (ix4 0 n g h a).val = _
    rw [tr1, arg0_bt, lenAt_eq]
    fin_cases a
    · show (bt t).val * 1 + 1 * 0 = (bt t).val; omega
    · show qb m t * 32 + 1 * n.val = 32 * qb m t + n.val; omega
    · show 0 * 4 + 1 * g.val = g.val; omega
    · show 0 * 128 + 1 * h.val = h.val; omega
  unfold inp Ain
  show (V m c main_v0 : S2x640x4x128.Idx → EReal) ((((cfgA m).win 1).blk t).view.emb (ix4 0 n g h)) = _
  rw [e, V_v0]
  exact transpose_apply _ _ _ _ (ix4 (bt t) (row m t n) h g) (by intro a; fin_cases a <;> rfl)

theorem inp2 (n : Fin 32) (h : Fin 128) (j : Fin 64) :
    inp m c 2 t (ix4 0 n j h) = (m (c, main_arg2) : S2x640x128x64.Idx → EReal) (ix4 (bt t) (row m t n) h j) := by
  have e : (((((cfgA m).win 2).blk t).view.emb (ix4 0 n j h)) : S2x640x64x128.Idx) = ix4 (bt t) (row m t n) j h := by
    funext a; apply Fin.ext
    show cc0_transform_2 Facts₀.k0_off1_inb Facts₀.numel1_S1 (pf m) (grid0.coords t) a * S1x32x64x128.size a + 1 * (ix4 0 n j h a).val = _
    rw [tr2, arg0_bt, lenAt_eq]
    fin_cases a
    · show (bt t).val * 1 + 1 * 0 = (bt t).val; omega
    · show qb m t * 32 + 1 * n.val = 32 * qb m t + n.val; omega
    · show 0 * 64 + 1 * j.val = j.val; omega
    · show 0 * 128 + 1 * h.val = h.val; omega
  unfold inp Ain
  show (V m c main_v1 : S2x640x64x128.Idx → EReal) ((((cfgA m).win 2).blk t).view.emb (ix4 0 n j h)) = _
  rw [e, V_v1]
  exact transpose_apply _ _ _ _ (ix4 (bt t) (row m t n) h j) (by intro a; fin_cases a <;> rfl)

theorem inp3 (k : Fin 640) (d : Fin 512) :
    inp m c 3 t (ix3 0 k d) = (m (c, main_arg3) : S2x640x512.Idx → EReal) (ix3 (bt t) k d) := by
  have e : (((((cfgA m).win 3).blk t).view.emb (ix3 0 k d)) : S2x640x512.Idx) = ix3 (bt t) k d := by
    funext a; apply Fin.ext
    fin_cases a
    · show (BitVec.ofNat 32 ((grid0.coords t) 0).val).toNat * 1 + 1 * 0 = (bt t).val; rw [arg0_bt]; omega
    · show 0 * 640 + 1 * k.val = k.val; omega
    · show 0 * 512 + 1 * d.val = d.val; omega
  unfold inp Ain
  show (V m c main_arg3 : S2x640x512.Idx → EReal) ((((cfgA m).win 3).blk t).view.emb (ix3 0 k d)) = _
  rw [e, V_arg m c main_arg3 (by decide)]

theorem inp4 (k : Fin 640) (g : Fin 4) :
    inp m c 4 t (ix3 0 g k) = (m (c, main_arg4) : S2x640x4.Idx → EReal) (ix3 (bt t) k g) := by
  have e : (((((cfgA m).win 4).blk t).view.emb (ix3 0 g k)) : S2x4x640.Idx) = ix3 (bt t) g k := by
    funext a; apply Fin.ext
    fin_cases a
    · show (BitVec.ofNat 32 ((grid0.coords t) 0).val).toNat * 1 + 1 * 0 = (bt t).val; rw [arg0_bt]; omega
    · show 0 * 4 + 1 * g.val = g.val; omega
    · show 0 * 640 + 1 * k.val = k.val; omega
  unfold inp Ain
  show (V m c main_v2 : S2x4x640.Idx → EReal) ((((cfgA m).win 4).blk t).view.emb (ix3 0 g k)) = _
  rw [e, V_v2]
  exact transpose_apply _ _ _ _ (ix3 (bt t) k g) (by intro a; fin_cases a <;> rfl)

theorem inp5 (k : Fin 640) (g : Fin 64) :
    inp m c 5 t (ix3 0 g k) = (m (c, main_arg5) : S2x640x64.Idx → EReal) (ix3 (bt t) k g) := by
  have e : (((((cfgA m).win 5).blk t).view.emb (ix3 0 g k)) : S2x64x640.Idx) = ix3 (bt t) g k := by
    funext a; apply Fin.ext
    fin_cases a
    · show (BitVec.ofNat 32 ((grid0.coords t) 0).val).toNat * 1 + 1 * 0 = (bt t).val; rw [arg0_bt]; omega
    · show 0 * 64 + 1 * g.val = g.val; omega
    · show 0 * 640 + 1 * k.val = k.val; omega
  unfold inp Ain
  show (V m c main_v3 : S2x64x640.Idx → EReal) ((((cfgA m).win 5).blk t).view.emb (ix3 0 g k)) = _
  rw [e, V_v3]
  exact transpose_apply _ _ _ _ (ix3 (bt t) k g) (by intro a; fin_cases a <;> rfl)

end Cert.KernelIdeal

end
-- ==== Proof.Out.lean ====
/-
  The two results as functions of the seven inputs, index by index.
-/
module

public import proofs.«01_k».proof.Proof.Rows

@[expose] public section

noncomputable section

namespace Mla

open Idealize.ShloMosaic Idealize.ShloMosaic.TcCoe Idealize.ShloMosaic.ValueIdx Idealize.ShloMosaic.Ideal

section
variable (Q : (T4 2 640 128 512).Idx → EReal) (C : (T3 2 640 512).Idx → EReal)
  (a1 : (T4 2 640 128 4).Idx → EReal) (a2 : (T4 2 640 128 64).Idx → EReal) (a4 : (T3 2 640 4).Idx → EReal)
  (a5 : (T3 2 640 64).Idx → EReal) (a6 : (⟨1, ![2]⟩ : Shape).Idx → BitVec 32)

/-- The unscaled score of query row `q`, head `h` against key `k` in batch `b`. -/
def scG (b : Fin 2) (q : Fin 640) (h : Fin 128) (k : Fin 640) : EReal :=
  (∑ d : Fin 512, (Q (ix4 b q h d) * a1 (ix4 b q h (gOf d))) * (C (ix3 b k d) * a4 (ix3 b k (gOf d))))
    + ∑ j : Fin 64, a2 (ix4 b q h j) * a5 (ix3 b k j)

/-- The log-sum-exp of one row. -/
def lAt (b : Fin 2) (q : Fin 640) (h : Fin 128) : EReal :=
  if (q.val : Int) < (a6 (ix1 b)).toInt then rLse q.val (scG Q C a1 a2 a4 a5 b q h) else 0

/-- The attention output of one row. -/
def oAt (b : Fin 2) (q : Fin 640) (h : Fin 128) (d : Fin 512) : EReal :=
  if (q.val : Int) < (a6 (ix1 b)).toInt then
    rO q.val (scG Q C a1 a2 a4 a5 b q h) (fun k => C (ix3 b k d) * a4 (ix3 b k (gOf d))) else 0

/-- The log-sum-exp result. -/
def lG : (T3 2 640 128).Idx → EReal := fun i => lAt Q C a1 a2 a4 a5 a6 (i 0) (i 1) (i 2)

/-- The attention result. -/
def oG : (T4 2 640 128 512).Idx → EReal := fun i => oAt Q C a1 a2 a4 a5 a6 (i 0) (i 1) (i 2) (i 3)

end

end Mla

end
-- ==== Proof.RowsB.lean ====
/-
  The body's control: each row of the block is written by the part that should.
-/
module

public import proofs.«01_k».proof.Proof.Rows

@[expose] public section

noncomputable section

namespace Mla

open Idealize.ShloMosaic Idealize.ShloMosaic.TcCoe Idealize.ShloMosaic.ValueIdx Idealize.ShloMosaic.Ideal

section
variable {v1 v2 : BitVec 32} {b : State Ideal} {S : Sec Ideal} (ok : SecOK S) (h2 : v2.toNat < 640) (hlo : S.nk - 64 ≤ v2.toNat)
  (hhi : v2.toNat + 32 ≤ S.nk)

include ok h2 hlo hhi in
theorem unitAt_wr (k : Nat) (hk : k < 2) (u : Fin 4) :
    Wr v1 v2 b (fun n => 16 * k + 4 * u.val ≤ n.val ∧ n.val < 16 * k + 4 * u.val + 4)
      (unitAtF S sK sS v1 v2 0#32 k (BitVec.ofNat 32 (4 * u.val))) := by
  have hr := fun j : Fin 4 => rowW_eq k hk u j
  have h : ∀ j : Fin 4, (rowW 0#32 k (BitVec.ofNat 32 (4 * u.val)) (BitVec.ofNat 32 j.val)).toNat < 32 := fun j => by rw [hr]; omega
  intro s hs
  unfold unitAtF; rw [dif_pos h]
  refine (unitF_wr ok _ _ _ _ (h 0) (h 1) (h 2) (h 3) h2 hlo hhi).weaken (fun n hn => ?_) s hs
  have r0 := hr 0; have r1 := hr 1; have r2 := hr 2; have r3 := hr 3
  simp only [Fin.val_zero, Fin.val_one, Fin.val_two, show (3 : Fin 4).val = 3 from rfl] at r0 r1 r2 r3
  show n.val = (rowW 0#32 k _ (BitVec.ofNat 32 3)).toNat ∨ n.val = (rowW 0#32 k _ (BitVec.ofNat 32 2)).toNat
    ∨ n.val = (rowW 0#32 k _ (BitVec.ofNat 32 1)).toNat ∨ n.val = (rowW 0#32 k _ (BitVec.ofNat 32 0)).toNat
  rw [r0, r1, r2, r3]; omega

include ok h2 hlo hhi in
theorem trip_wr (k : Nat) (hk : k < 2) :
    Wr v1 v2 b (fun n => 16 * k ≤ n.val ∧ n.val < 16 * k + 16) (tripF S sK sS v1 v2 0#32 k) := by
  have hu := fun u : Fin 4 => unitAt_wr (v1 := v1) (b := b) ok h2 hlo hhi k hk u
  have hc := (hu 3).comp ((hu 2).comp ((hu 1).comp (hu 0)))
  refine Wr.weaken (f := tripF S sK sS v1 v2 0#32 k) hc (fun n hn => ?_)
  simp only [Fin.val_zero, Fin.val_one, Fin.val_two, show (3 : Fin 4).val = 3 from rfl]
  omega

include ok h2 hlo hhi in
theorem loop_wr (n : Nat) (hn : n ≤ 2) :
    Wr v1 v2 b (fun i => i.val < 16 * n) (loopF (fun k => tripF S sK sS v1 v2 0#32 k) n) := by
  induction n with
  | zero => exact Wr.weaken (f := fun s => s) Wr.id (fun i hi => by omega)
  | succ n ih =>
    refine Wr.weaken (f := loopF (fun k => tripF S sK sS v1 v2 0#32 k) (n + 1)) ((trip_wr ok h2 hlo hhi n (by omega)).comp (ih (by omega))) (fun i hi => ?_)
    omega

include ok h2 hlo hhi in
theorem sec_wr : Wr v1 v2 b (fun i => i.val < 16 * (live v1 v2).toNat) (secF S sK sS v1 v2) :=
  loop_wr ok h2 hlo hhi _ (live_le v1 v2)

end

/-! ### The tests -/

theorem nz_eq (x : BitVec 1) : nz x = x := by
  have : ∀ x : BitVec 1, nz x = x := by decide
  exact this x

theorem ofBool_iff (p : Prop) [Decidable p] : BitVec.ofBool (decide p) = 1#1 ↔ p := by
  by_cases h : p <;> simp [h]

theorem toInt_small' (x : BitVec 32) (h : x.toNat < 2 ^ 31) : x.toInt = x.toNat := BitVec.toInt_eq_toNat_of_lt (by omega)

theorem isIn_iff (v lo hi : BitVec 32) (hv : v.toNat < 2 ^ 31) (hlo : lo.toNat < 2 ^ 31) (hhi : hi.toNat < 2 ^ 31) :
    isIn v lo hi = 1#1 ↔ lo.toNat ≤ v.toNat ∧ v.toNat < hi.toNat := by
  unfold isIn
  rw [nz_eq]
  have a : Scalar.cmpi .sge v lo = BitVec.ofBool (decide (lo.toNat ≤ v.toNat)) := by
    show BitVec.ofBool (lo.sle v) = _
    unfold BitVec.sle; rw [toInt_small' v hv, toInt_small' lo hlo]; simp
  have c : Scalar.cmpi .slt v hi = BitVec.ofBool (decide (v.toNat < hi.toNat)) := by
    show BitVec.ofBool (v.slt hi) = _
    unfold BitVec.slt; rw [toInt_small' v hv, toInt_small' hi hhi]; simp
  rw [a, c]
  by_cases h1 : lo.toNat ≤ v.toNat <;> by_cases h3 : v.toNat < hi.toNat <;> simp [h1, h3] <;> decide

theorem rng_wr {v1 v2 : BitVec 32} {b : State Ideal} {S : Sec Ideal} (ok : SecOK S) (h2 : v2.toNat < 640) (hm : v2.toNat % 32 = 0) (lo hi : BitVec 32)
    (hlo : lo.toNat = S.nk - 64) (hhi : hi.toNat = S.nk) (h64 : S.nk % 64 = 0) :
    Wr v1 v2 b (fun i => (S.nk - 64 ≤ v2.toNat ∧ v2.toNat < S.nk) ∧ i.val < 16 * (live v1 v2).toNat) (rngF S lo hi sK sS v1 v2) := by
  have hk := ok.nkp.trans ok.kp640
  have hi' := isIn_iff v2 lo hi (by omega) (by omega) (by omega)
  intro s hs
  unfold rngF
  by_cases hc : isIn v2 lo hi = 1#1
  · rw [if_pos hc]
    have := hi'.mp hc
    exact (sec_wr ok h2 (by omega) (by omega)).weaken (fun n hn => hn.2) s hs
  · rw [if_neg hc]
    refine Wr.weaken (f := fun s => s) Wr.id (fun n hn => ?_) s hs
    exact hc (hi'.mpr (by omega))

/-- A row of the block counts as live when it is below the length. -/
theorem liveB_iff (v1 v2 : BitVec 32) (n : Nat) (hn : n < 32) (h2 : v2.toNat < 640) :
    liveB v1 v2 (BitVec.ofNat 32 n) = 1#1 ↔ ((v2.toNat + n : Nat) : Int) < v1.toInt := by
  have e : (Scalar.addi v2 (BitVec.ofNat 32 n)).toNat = v2.toNat + n := by
    show (v2 + BitVec.ofNat 32 n).toNat = _
    rw [BitVec.toNat_add, BitVec.toNat_ofNat]; omega
  unfold liveB
  show BitVec.ofBool ((Scalar.addi v2 (BitVec.ofNat 32 n)).slt v1) = 1#1 ↔ _
  unfold BitVec.slt
  rw [toInt_small' _ (by rw [e]; omega), e]
  exact ofBool_iff _

theorem dead_iff (v1 v2 : BitVec 32) (o : BitVec 32) (hn : o.toNat < 32) (h2 : v2.toNat < 640) :
    nz (Scalar.cmpi .sge (Scalar.addi v2 o) v1) = 1#1 ↔ v1.toInt ≤ ((v2.toNat + o.toNat : Nat) : Int) := by
  have e : (Scalar.addi v2 o).toNat = v2.toNat + o.toNat := by
    show (v2 + o).toNat = _
    rw [BitVec.toNat_add]; omega
  rw [nz_eq]
  show BitVec.ofBool (v1.sle (Scalar.addi v2 o)) = 1#1 ↔ _
  unfold BitVec.sle
  rw [toInt_small' (Scalar.addi v2 o) (by rw [e]; omega), e]
  exact ofBool_iff _

/-- A trip whose first row is live runs. -/
theorem live_gt (v1 v2 : BitVec 32) (h2 : v2.toNat < 640) (h1 : v1.toInt ≤ 2 ^ 31 - 16) (k : Nat) (hk : k < 2)
    (h : ((v2.toNat + 16 * k : Nat) : Int) < v1.toInt) : k < (live v1 v2).toNat := by
  have hv1 : v1.toInt = v1.toNat := by
    have := BitVec.toInt_eq_toNat_cond v1
    split at this <;> omega
  have ex : (Scalar.addi (Scalar.subi v1 v2) 15#32).toNat = v1.toNat - v2.toNat + 15 := by
    show (v1 - v2 + 15#32).toNat = _
    rw [BitVec.toNat_add, BitVec.toNat_sub]
    have : (15#32 : BitVec 32).toNat = 15 := rfl
    omega
  generalize hx : Scalar.addi (Scalar.subi v1 v2) 15#32 = x at ex
  have eq : Scalar.divsi x 16#32 = BitVec.ofNat 32 (x.toNat / 16) := by
    show (if IntOp.SDivCorner x 16#32 then _ else x.sdiv 16#32) = _
    rw [if_neg (by
      intro hc
      unfold IntOp.SDivCorner at hc
      revert hc; simp)]
    have hmsb : x.msb = false := by
      rw [BitVec.msb_eq_decide]; simp; omega
    rw [BitVec.sdiv_eq, hmsb, show (16#32 : BitVec 32).msb = false from rfl]
    apply BitVec.eq_of_toNat_eq
    show (x / 16#32).toNat = _
    rw [BitVec.toNat_udiv, show (16#32 : BitVec 32).toNat = 16 from rfl, BitVec.toNat_ofNat, Nat.mod_eq_of_lt (by omega)]
  unfold live
  rw [hx, eq]
  have e0 : (BitVec.ofNat 32 (x.toNat / 16)).toNat = x.toNat / 16 := by rw [BitVec.toNat_ofNat]; omega
  have ei := toInt_small' _ (by rw [e0]; omega : (BitVec.ofNat 32 (x.toNat / 16)).toNat < 2 ^ 31)
  rw [e0] at ei
  generalize BitVec.ofNat 32 (x.toNat / 16) = q at e0 ei
  have hmx : Scalar.maxsi 0#32 q = q := by
    show (if q.slt 0#32 then 0#32 else q) = q
    rw [if_neg]
    unfold BitVec.slt; rw [ei]; simp; omega
  rw [hmx]
  show k < (if (2#32 : BitVec 32).slt q then 2#32 else q : BitVec 32).toNat
  by_cases hq : (2#32 : BitVec 32).slt q = true
  · rw [if_pos hq]; exact hk
  · rw [if_neg hq, e0]; omega

/-! ### The whole body -/

/-- The contents the rows are computed from: the scratch filled anew at the first step of a batch. -/
def baseF (a1 : BitVec 32) (s : State Ideal) : State Ideal := if nz (Scalar.cmpi .eq a1 0#32) = 1#1 then latF s else s

theorem body_rows (v1 a1 : BitVec 32) (s : State Ideal) (ha : a1.toNat < 20) (h1 : v1.toInt ≤ 2 ^ 31 - 16) :
    SameIn (baseF a1 s) (bodyF sK sS v1 a1 s) ∧ ∀ n, Good v1 (row0 a1) (baseF a1 s) (bodyF sK sS v1 a1 s) n := by
  have e2 : (row0 a1).toNat = 32 * a1.toNat := by
    show (a1 * 32#32).toNat = _
    rw [BitVec.toNat_mul, show (32#32 : BitVec 32).toNat = 32 from rfl]
    omega
  have h2 : (row0 a1).toNat < 640 := by omega
  have hm : (row0 a1).toNat % 32 = 0 := by omega
  unfold bodyF bodyCF bodyBF bodyAF
  generalize row0 a1 = v2 at h2 hm
  change SameIn (baseF a1 s) (rngF sec640 576#32 640#32 sK sS v1 v2 _) ∧ _
  generalize hb : baseF a1 s = b
  unfold baseF at hb
  rw [hb]
  have hz : ∀ (o : BitVec 32) (ho : o.toNat + 16 ≤ 32), Wr v1 v2 b
      (fun n => (o.toNat ≤ n.val ∧ n.val < o.toNat + 16) ∧ v1.toInt ≤ ((v2.toNat + o.toNat : Nat) : Int))
      (fun s => if nz (Scalar.cmpi .sge (Scalar.addi v2 o) v1) = 1#1 then zeroF o.toNat ho s else s) := by
    intro o ho s hs
    dsimp only
    have hd := dead_iff v1 v2 o (by omega) h2
    by_cases hc : nz (Scalar.cmpi .sge (Scalar.addi v2 o) v1) = 1#1
    · rw [if_pos hc]
      refine (zero_wr o.toNat ho (fun n hn _ hl => ?_)).weaken (fun n hn => hn.1) s hs
      have := (liveB_iff v1 v2 n.val n.isLt h2).mp hl
      have := hd.mp hc; omega
    · rw [if_neg hc]
      exact Wr.weaken (f := fun s => s) Wr.id (fun n hn => hc (hd.mpr hn.2)) s hs
  have hall := (rng_wr (v1 := v1) (b := b) ok640 h2 hm 576#32 640#32 rfl rfl rfl).comp
    ((rng_wr ok576 h2 hm 512#32 576#32 rfl rfl rfl).comp ((rng_wr ok512 h2 hm 448#32 512#32 rfl rfl rfl).comp
    ((rng_wr ok448 h2 hm 384#32 448#32 rfl rfl rfl).comp ((rng_wr ok384 h2 hm 320#32 384#32 rfl rfl rfl).comp
    ((rng_wr ok320 h2 hm 256#32 320#32 rfl rfl rfl).comp ((rng_wr ok256 h2 hm 192#32 256#32 rfl rfl rfl).comp
    ((rng_wr ok192 h2 hm 128#32 192#32 rfl rfl rfl).comp ((rng_wr ok128 h2 hm 64#32 128#32 rfl rfl rfl).comp
    ((rng_wr ok64 h2 hm 0#32 64#32 rfl rfl rfl).comp ((hz 16#32 (by decide)).comp (hz 0#32 (by decide))))))))))))
  have := hall b ⟨b.y9, b.y10, rfl⟩
  refine ⟨this.1, fun n => this.2 n (.inl ?_)⟩
  have n64 : (sec64 (F := Ideal)).nk = 64 := rfl
  have n128 : (sec128 (F := Ideal)).nk = 128 := rfl
  have n192 : (sec192 (F := Ideal)).nk = 192 := rfl
  have n256 : (sec256 (F := Ideal)).nk = 256 := rfl
  have n320 : (sec320 (F := Ideal)).nk = 320 := rfl
  have n384 : (sec384 (F := Ideal)).nk = 384 := rfl
  have n448 : (sec448 (F := Ideal)).nk = 448 := rfl
  have n512 : (sec512 (F := Ideal)).nk = 512 := rfl
  have n576 : (sec576 (F := Ideal)).nk = 576 := rfl
  have n640 : (sec640 (F := Ideal)).nk = 640 := rfl
  have e16 : (16#32 : BitVec 32).toNat = 16 := rfl
  have e0 : (0#32 : BitVec 32).toNat = 0 := rfl
  rw [n64, n128, n192, n256, n320, n384, n448, n512, n576, n640, e16, e0]
  by_cases hn : n.val < 16
  · by_cases hd : v1.toInt ≤ ((v2.toNat + 0 : Nat) : Int)
    · omega
    · have hl := live_gt v1 v2 h2 h1 0 (by decide) (by push_cast at hd ⊢; omega)
      omega
  · by_cases hd : v1.toInt ≤ ((v2.toNat + 16 : Nat) : Int)
    · omega
    · have hl := live_gt v1 v2 h2 h1 1 (by decide) (by push_cast at hd ⊢; omega)
      omega

end Mla
end
-- ==== Proof.Val.lean ====
/-
  What each step of the grid leaves in the rows of its two output blocks.
-/
module

public import proofs.«01_k».proof.Proof.In
public import proofs.«01_k».proof.Proof.Out
public import proofs.«01_k».proof.Proof.RowsB

@[expose] public section

set_option maxRecDepth 100000

noncomputable section

namespace Mla

open Idealize.ShloMosaic Idealize.ShloMosaic.TcCoe Idealize.ShloMosaic.ValueIdx Idealize.ShloMosaic.Ideal

/-- The dequantisation leaves the inputs as they are. -/
def Kept (a b : State Ideal) : Prop := a.x3 = b.x3 ∧ a.x4 = b.x4 ∧ a.x5 = b.x5

theorem Kept.trans {a b c : State Ideal} (h : Kept a b) (k : Kept b c) : Kept a c := ⟨h.1.trans k.1, h.2.1.trans k.2.1, h.2.2.trans k.2.2⟩

theorem latGrp_x3 (g o p : Nat) (hg : g + 1 ≤ 4) (ho : o + 128 ≤ 512) (hp : p + 128 ≤ 640) (s : State Ideal) : (latGrpF g o p hg ho hp s).x3 = s.x3 := rfl
theorem latRope_x3 (p : Nat) (hp : p + 128 ≤ 640) (s : State Ideal) : (latRopeF p hp s).x3 = s.x3 := rfl
theorem latBlk_x3 (p : Nat) (hp : p + 128 ≤ 640) (s : State Ideal) : (latBlkF p hp s).x3 = s.x3 := by
  unfold latBlkF; rw [latRope_x3, latGrp_x3, latGrp_x3, latGrp_x3, latGrp_x3]
theorem latGrp_x4 (g o p : Nat) (hg : g + 1 ≤ 4) (ho : o + 128 ≤ 512) (hp : p + 128 ≤ 640) (s : State Ideal) : (latGrpF g o p hg ho hp s).x4 = s.x4 := rfl
theorem latRope_x4 (p : Nat) (hp : p + 128 ≤ 640) (s : State Ideal) : (latRopeF p hp s).x4 = s.x4 := rfl
theorem latBlk_x4 (p : Nat) (hp : p + 128 ≤ 640) (s : State Ideal) : (latBlkF p hp s).x4 = s.x4 := by
  unfold latBlkF; rw [latRope_x4, latGrp_x4, latGrp_x4, latGrp_x4, latGrp_x4]
theorem latGrp_x5 (g o p : Nat) (hg : g + 1 ≤ 4) (ho : o + 128 ≤ 512) (hp : p + 128 ≤ 640) (s : State Ideal) : (latGrpF g o p hg ho hp s).x5 = s.x5 := rfl
theorem latRope_x5 (p : Nat) (hp : p + 128 ≤ 640) (s : State Ideal) : (latRopeF p hp s).x5 = s.x5 := rfl
theorem latBlk_x5 (p : Nat) (hp : p + 128 ≤ 640) (s : State Ideal) : (latBlkF p hp s).x5 = s.x5 := by
  unfold latBlkF; rw [latRope_x5, latGrp_x5, latGrp_x5, latGrp_x5, latGrp_x5]
theorem latBlk_kept (p : Nat) (hp : p + 128 ≤ 640) (s : State Ideal) : Kept (latBlkF p hp s) s :=
  ⟨latBlk_x3 p hp s, latBlk_x4 p hp s, latBlk_x5 p hp s⟩
theorem latF_kept (s : State Ideal) : Kept (latF s) s := by
  unfold latF
  exact (latBlk_kept _ _ _).trans ((latBlk_kept _ _ _).trans ((latBlk_kept _ _ _).trans ((latBlk_kept _ _ _).trans (latBlk_kept _ _ _))))

theorem baseF_kept (a1 : BitVec 32) (s : State Ideal) : Kept (baseF a1 s) s := by
  unfold baseF; split
  · exact latF_kept s
  · exact ⟨rfl, rfl, rfl⟩

theorem first_iff (a1 : BitVec 32) : nz (Scalar.cmpi .eq a1 0#32) = 1#1 ↔ a1.toNat = 0 := by
  rw [nz_eq]
  show BitVec.ofBool (a1 == 0#32) = 1#1 ↔ _
  by_cases h : a1 = 0#32
  · subst h; simp
  · have h' : a1.toNat ≠ 0 := fun e => h (BitVec.eq_of_toNat_eq (by simpa using e))
    have hb : (a1 == 0#32) = false := by simpa using h
    rw [hb]; simp [h']

end Mla

namespace Cert.KernelIdeal

open Idealize.ShloMosaic Idealize.ShloMosaic.TcCoe Idealize.ShloMosaic.ValueIdx Idealize.ShloMosaic.Ideal Mla

variable (m : Mem Ideal) (c : Dev nD) (t : Fin grid0.N)

abbrev A0 : (T4 2 640 128 512).Idx → EReal := m (c, main_arg0)
abbrev A1 : (T4 2 640 128 4).Idx → EReal := m (c, main_arg1)
abbrev A2 : (T4 2 640 128 64).Idx → EReal := m (c, main_arg2)
abbrev A3 : (T3 2 640 512).Idx → EReal := m (c, main_arg3)
abbrev A4 : (T3 2 640 4).Idx → EReal := m (c, main_arg4)
abbrev A5 : (T3 2 640 64).Idx → EReal := m (c, main_arg5)
abbrev A6 : (⟨1, ![2]⟩ : Shape).Idx → BitVec 32 := m (c, main_arg6)

/-- The three buffers hold batch `b`'s dequantised latents, their transpose, and its rope keys. -/
def LatOf (b : Fin 2) (z11 : Vec Ideal (M2 640 512) .bf16) (z12 : Vec Ideal (M2 512 640) .bf16) (z13 : Vec Ideal (M2 640 64) .bf16) : Prop :=
  (∀ k d, (z11 (ix2 k d) : EReal) = A3 m c (ix3 b k d) * A4 m c (ix3 b k (gOf d)))
    ∧ (∀ k d, (z12 (ix2 d k) : EReal) = A3 m c (ix3 b k d) * A4 m c (ix3 b k (gOf d)))
    ∧ ∀ k j, (z13 (ix2 k j) : EReal) = A5 m c (ix3 b k j)

/-- The state from which step `t` computes its rows. -/
def base (y9 : S1x32x128x512.Idx → Elt Ideal .bf16) (y10 : S1x32x128.Idx → Elt Ideal .f32) (z : Scr Ideal) : State Ideal :=
  baseF (arg1 (grid0.coords t)) (stIn m c t y9 y10 z)

variable (y9 : S1x32x128x512.Idx → Elt Ideal .bf16) (y10 : S1x32x128.Idx → Elt Ideal .f32) (z : Scr Ideal)

theorem base_lat (hz : (bi t).val ≠ 0 → LatOf m c (bt t) z.1 z.2.1 z.2.2) :
    LatOf m c (bt t) (base m c t y9 y10 z).z11 (base m c t y9 y10 z).z12 (base m c t y9 y10 z).z13 := by
  unfold base baseF
  by_cases h : (bi t).val = 0
  · rw [if_pos ((first_iff _).mpr ((arg1_bi t).trans h))]
    have hl : ∀ k d, lv (stIn m c t y9 y10 z) k d = A3 m c (ix3 (bt t) k d) * A4 m c (ix3 (bt t) k (gOf d)) := fun k d =>
      congrArg₂ (fun x y : EReal => x * y) (inp3 m c t k d) (inp4 m c t k (gOf d))
    exact ⟨fun k d => (latF_z11 _ k d).trans (hl k d), fun k d => (latF_z12 _ k d).trans (hl k d),
      fun k j => (latF_z13 _ k j).trans (inp5 m c t k j)⟩
  · rw [if_neg (fun e => h ((arg1_bi t).symm.trans ((first_iff _).mp e)))]
    exact hz h

theorem stOut_rows (h1 : (lenT m t).toInt ≤ 2 ^ 31 - 16) :
    SameIn (base m c t y9 y10 z) (stOut m c t y9 y10 z)
      ∧ ∀ n, Good (lenT m t) (row0 (arg1 (grid0.coords t))) (base m c t y9 y10 z) (stOut m c t y9 y10 z) n := by
  unfold stOut base
  rw [kl_eq, sl_eq]
  exact body_rows _ _ _ (arg1_lt _) h1

theorem inv_lat (hlen : ∀ t : Fin grid0.N, (lenT m t).toInt ≤ 2 ^ 31 - 16) :
    ∀ (n : Nat) (h : n < grid0.N) (z : Scr Ideal), Inv m c n z → (bi ⟨n, h⟩).val ≠ 0 → LatOf m c (bt ⟨n, h⟩) z.1 z.2.1 z.2.2 := by
  intro n
  induction n with
  | zero => intro h z _ h0; exact absurd (bi_val ⟨0, h⟩) h0
  | succ n ih =>
    rintro h z ⟨hn, y9, y10, z', hi, rfl⟩ h0
    have e : bt ⟨n + 1, h⟩ = bt ⟨n, hn⟩ := by
      apply Fin.ext
      rw [bt_val, bt_val]
      rw [bi_val] at h0
      show (n + 1) / 20 = n / 20
      have h0' : (n + 1) % 20 ≠ 0 := h0
      omega
    rw [e]
    have hb := base_lat m c ⟨n, hn⟩ y9 y10 z' (ih hn z' hi)
    obtain ⟨Y, Z, hs⟩ := (stOut_rows m c ⟨n, hn⟩ y9 y10 z' (hlen _)).1
    rw [hs]
    exact hb

/-- The query row that row `n` of step `t`'s output blocks is. -/
def orow (n : Fin 32) : Fin 640 := ⟨32 * (bi t).val + n.val, by have := (bi t).isLt; omega⟩

theorem row0_bi : (row0 (arg1 (grid0.coords t))).toNat = 32 * (bi t).val := by
  have h := (bi t).isLt
  show (arg1 (grid0.coords t) * 32#32).toNat = _
  rw [BitVec.toNat_mul, arg1_bi, show (32#32 : BitVec 32).toNat = 32 from rfl]
  omega

theorem live_orow (n : Fin 32) : liveB (lenT m t) (row0 (arg1 (grid0.coords t))) (BitVec.ofNat 32 n.val) = 1#1
    ↔ ((orow t n).val : Int) < (A6 m c (ix1 (bt t))).toInt := by
  have h := (bi t).isLt
  rw [liveB_iff _ _ n.val n.isLt (by rw [row0_bi]; omega), row0_bi, lenT_eq m c t]
  exact Iff.rfl

theorem row_live (n : Fin 32) (hl : ((orow t n).val : Int) < (A6 m c (ix1 (bt t))).toInt) : row m t n = orow t n := by
  apply Fin.ext
  have e : qb m t = (bi t).val := by
    unfold qb
    rw [qBlk_live _ _ (arg1_lt _) (by
      rw [arg1_bi, lenT_eq m c t]
      have : (orow t n).val = 32 * (bi t).val + n.val := rfl
      have hl' : ((orow t n).val : Int) < ((m (c, main_arg6) : (⟨1, ![2]⟩ : Shape).Idx → BitVec 32) (ix1 (bt t))).toInt := hl
      omega), arg1_bi]
  show 32 * qb m t + n.val = 32 * (bi t).val + n.val
  rw [e]

theorem scV_eq (hb : LatOf m c (bt t) (base m c t y9 y10 z).z11 (base m c t y9 y10 z).z12 (base m c t y9 y10 z).z13)
    (n : Fin 32) (h : Fin 128) (hr : row m t n = orow t n) :
    scV (base m c t y9 y10 z) n h = scG (A0 m c) (A3 m c) (A1 m c) (A2 m c) (A4 m c) (A5 m c) (bt t) (orow t n) h := by
  obtain ⟨k3, k4, k5⟩ : Kept (base m c t y9 y10 z) (stIn m c t y9 y10 z) := baseF_kept _ _
  have e3 : ∀ d, ((base m c t y9 y10 z).x3 (ix4 0 n h d) : EReal) = A0 m c (ix4 (bt t) (orow t n) h d) := fun d => by
    rw [k3, ← hr]; exact inp0 m c t n h d
  have e4 : ∀ g, ((base m c t y9 y10 z).x4 (ix4 0 n g h) : EReal) = A1 m c (ix4 (bt t) (orow t n) h g) := fun g => by
    rw [k4, ← hr]; exact inp1 m c t n h g
  have e5 : ∀ j, ((base m c t y9 y10 z).x5 (ix4 0 n j h) : EReal) = A2 m c (ix4 (bt t) (orow t n) h j) := fun j => by
    rw [k5, ← hr]; exact inp2 m c t n h j
  funext k
  unfold scV scG
  refine congrArg₂ (fun x y : EReal => x + y) (Finset.sum_congr rfl fun d _ => ?_) (Finset.sum_congr rfl fun j _ => ?_)
  · rw [hb.1, e3, e4]; exact mul_comm _ _
  · rw [hb.2.2, e5]; exact mul_comm _ _

section
variable (hlen : ∀ t : Fin grid0.N, (lenT m t).toInt ≤ 2 ^ 31 - 16) (hi : Inv m c t.val z)
include hlen hi

theorem step_lse (n : Fin 32) (h : Fin 128) : ((stOut m c t y9 y10 z).y10 (ix3 0 n h) : EReal)
    = lAt (A0 m c) (A3 m c) (A1 m c) (A2 m c) (A4 m c) (A5 m c) (A6 m c) (bt t) (orow t n) h := by
  have hb := base_lat m c t y9 y10 z (inv_lat m c hlen t.val t.isLt z hi)
  rw [((stOut_rows m c t y9 y10 z (hlen t)).2 n).1 h]
  unfold tgtL lAt
  by_cases hl : ((orow t n).val : Int) < (A6 m c (ix1 (bt t))).toInt
  · rw [if_pos ((live_orow m c t n).mpr hl), if_pos hl, scV_eq m c t y9 y10 z hb n h (row_live m c t n hl), row0_bi]
    rfl
  · rw [if_neg (fun e => hl ((live_orow m c t n).mp e)), if_neg hl]

theorem step_o (n : Fin 32) (h : Fin 128) (d : Fin 512) : ((stOut m c t y9 y10 z).y9 (ix4 0 n h d) : EReal)
    = oAt (A0 m c) (A3 m c) (A1 m c) (A2 m c) (A4 m c) (A5 m c) (A6 m c) (bt t) (orow t n) h d := by
  have hb := base_lat m c t y9 y10 z (inv_lat m c hlen t.val t.isLt z hi)
  rw [((stOut_rows m c t y9 y10 z (hlen t)).2 n).2 h d]
  unfold tgtO oAt
  by_cases hl : ((orow t n).val : Int) < (A6 m c (ix1 (bt t))).toInt
  · rw [if_pos ((live_orow m c t n).mpr hl), if_pos hl, scV_eq m c t y9 y10 z hb n h (row_live m c t n hl), row0_bi]
    exact congrArg (rO (orow t n).val _) (funext fun k => hb.2.1 k d)
  · rw [if_neg (fun e => hl ((live_orow m c t n).mp e)), if_neg hl]

end

end Cert.KernelIdeal

end
-- ==== Proof.OutI.lean ====
/-
  The kernel's run: its two results are the functions of `Out`.
-/
module

public import proofs.«01_k».proof.Proof.Val

@[expose] public section

set_option maxRecDepth 100000

noncomputable section

namespace Cert.KernelIdeal

open Idealize.ShloMosaic Idealize.ShloMosaic.TcCoe Idealize.ShloMosaic.Ideal Mla
open Idealize.SL Idealize.SL.Sem

variable (m : Mem Ideal) (c : Dev nD)

/-- The two results on core `c`. -/
abbrev lOut : S2x640x128.Idx → EReal := lG (A0 m c) (A3 m c) (A1 m c) (A2 m c) (A4 m c) (A5 m c) (A6 m c)
abbrev oOut : S2x640x128x512.Idx → EReal := oG (A0 m c) (A3 m c) (A1 m c) (A2 m c) (A4 m c) (A5 m c) (A6 m c)

theorem tr6 (t : Fin grid0.N) : cc0_transform_6 (grid0.coords t) = ![(bt t).val, (bi t).val, 0, 0] := by
  funext a; fin_cases a
  exacts [arg0_bt t, arg1_bi t, rfl, rfl]
theorem tr7 (t : Fin grid0.N) : cc0_transform_7 (grid0.coords t) = ![(bt t).val, (bi t).val, 0] := by
  funext a; fin_cases a
  exacts [arg0_bt t, arg1_bi t, rfl]

theorem ne6 : ∀ t : Fin grid0.N, ∀ h : t.val + 1 < grid0.N, cc0_transform_6 (grid0.coords ⟨t.val + 1, h⟩) ≠ cc0_transform_6 (grid0.coords t) := by
  intro t h e
  rw [tr6, tr6] at e
  have e0 : (bt ⟨t.val + 1, h⟩).val = (bt t).val := congrFun e 0
  have e1 : (bi ⟨t.val + 1, h⟩).val = (bi t).val := congrFun e 1
  rw [bt_val, bt_val] at e0
  rw [bi_val, bi_val] at e1
  have e0' : (t.val + 1) / 20 = t.val / 20 := e0
  have e1' : (t.val + 1) % 20 = t.val % 20 := e1
  omega
theorem ne7 : ∀ t : Fin grid0.N, ∀ h : t.val + 1 < grid0.N, cc0_transform_7 (grid0.coords ⟨t.val + 1, h⟩) ≠ cc0_transform_7 (grid0.coords t) := by
  intro t h e
  rw [tr7, tr7] at e
  have e0 : (bt ⟨t.val + 1, h⟩).val = (bt t).val := congrFun e 0
  have e1 : (bi ⟨t.val + 1, h⟩).val = (bi t).val := congrFun e 1
  rw [bt_val, bt_val] at e0
  rw [bi_val, bi_val] at e1
  have e0' : (t.val + 1) / 20 = t.val / 20 := e0
  have e1' : (t.val + 1) % 20 = t.val % 20 := e1
  omega

theorem flush6 (t : Fin grid0.N) : ((cfgA m).win 6).flush t = true := by
  unfold Pipeline.Window.flush
  refine Bool.and_eq_true_iff.mpr ⟨rfl, ?_⟩
  refine (Bool.or_eq_true _ _).mpr ?_
  by_cases h : t.val + 1 < grid0.N
  · exact .inr (decide_eq_true ⟨h, ne6 t h⟩)
  · exact .inl (decide_eq_true (show t.val + 1 = grid0.N by have := t.isLt; omega))
theorem flush7 (t : Fin grid0.N) : ((cfgA m).win 7).flush t = true := by
  unfold Pipeline.Window.flush
  refine Bool.and_eq_true_iff.mpr ⟨rfl, ?_⟩
  refine (Bool.or_eq_true _ _).mpr ?_
  by_cases h : t.val + 1 < grid0.N
  · exact .inr (decide_eq_true ⟨h, ne7 t h⟩)
  · exact .inl (decide_eq_true (show t.val + 1 = grid0.N by have := t.isLt; omega))

/-- The step that writes query row `q` of batch `b`. -/
def stepOf (b : Fin 2) (q : Fin 640) : Fin grid0.N := ⟨b.val * 20 + q.val / 32, by show _ < 40; omega⟩

theorem bt_stepOf (b : Fin 2) (q : Fin 640) : bt (stepOf b q) = b := by
  apply Fin.ext; rw [bt_val]; show (b.val * 20 + q.val / 32) / 20 = b.val; omega
theorem orow_stepOf (b : Fin 2) (q : Fin 640) : orow (stepOf b q) ⟨q.val % 32, by omega⟩ = q := by
  apply Fin.ext
  show 32 * (bi (stepOf b q)).val + q.val % 32 = q.val
  rw [bi_val]; show 32 * ((b.val * 20 + q.val / 32) % 20) + q.val % 32 = q.val; omega

theorem emb6 (t : Fin grid0.N) (n : Fin 32) (h : Fin 128) (d : Fin 512) :
    ((((cfgA m).win 6).blk t).view.emb (ValueIdx.ix4 0 n h d) : S2x640x128x512.Idx) = ValueIdx.ix4 (bt t) (orow t n) h d := by
  funext a; apply Fin.ext
  show cc0_transform_6 (grid0.coords t) a * S1x32x128x512.size a + 1 * (ValueIdx.ix4 0 n h d a).val = _
  rw [tr6]
  fin_cases a
  · show (bt t).val * 1 + 1 * 0 = (bt t).val; omega
  · show (bi t).val * 32 + 1 * n.val = 32 * (bi t).val + n.val; omega
  · show 0 * 128 + 1 * h.val = h.val; omega
  · show 0 * 512 + 1 * d.val = d.val; omega
theorem emb7 (t : Fin grid0.N) (n : Fin 32) (h : Fin 128) :
    ((((cfgA m).win 7).blk t).view.emb (ValueIdx.ix3 0 n h) : S2x640x128.Idx) = ValueIdx.ix3 (bt t) (orow t n) h := by
  funext a; apply Fin.ext
  show cc0_transform_7 (grid0.coords t) a * S1x32x128.size a + 1 * (ValueIdx.ix3 0 n h a).val = _
  rw [tr7]
  fin_cases a
  · show (bt t).val * 1 + 1 * 0 = (bt t).val; omega
  · show (bi t).val * 32 + 1 * n.val = 32 * (bi t).val + n.val; omega
  · show 0 * 128 + 1 * h.val = h.val; omega

section
variable (hlen : ∀ t : Fin grid0.N, (lenT m t).toInt ≤ 2 ^ 31 - 16)
  (after : (w : Fin (cfgA m).W) → Fin (cfgA m).N → ((cfgA m).win w).block.Idx → Elt Ideal ((cfgA m).win w).elt)
  (hL : ∀ (w : Fin (cfgA m).W) (u : Fin (cfgA m).N), ((cfgA m).win w).flush u = true → (rdat m c).Leaves w u (after w u))
include hlen hL

theorem arr6 : ((rdat m c).withAfter after).arrAt 6 (cfgA m).N = (oOut m c : S2x640x128x512.Idx → EReal) := by
  refine Pipeline.Dat.arrAt_eq_of_emb ((rdat m c).withAfter after) 6 (oOut m c : S2x640x128x512.Idx → EReal) (fun t hf y => ?_) (fun i => ?_)
  · obtain ⟨Y, -, y10, z, hi, hX⟩ := hL 6 t hf
    obtain ⟨u, n, h, d, rfl⟩ : ∃ u n h d, y = ValueIdx.ix4 (n0 := 1) (n1 := 32) (n2 := 128) (n3 := 512) u n h d := ⟨_, _, _, _, ValueIdx.eq_ix4 y⟩
    obtain rfl : u = 0 := Subsingleton.elim u 0
    rw [emb6 m t n h d]
    refine (cast_eq _ _).trans ?_
    show after 6 t _ = _
    rw [hX]
    exact step_o m c t Y y10 z hlen hi n h d
  · obtain ⟨b, q, h, d, rfl⟩ : ∃ b q h d, i = ValueIdx.ix4 (n0 := 2) (n1 := 640) (n2 := 128) (n3 := 512) b q h d := ⟨_, _, _, _, ValueIdx.eq_ix4 i⟩
    refine ⟨stepOf b q, flush6 m _, ?_⟩
    have e := emb6 m (stepOf b q) ⟨q.val % 32, by omega⟩ h d
    rw [bt_stepOf, orow_stepOf] at e
    rw [← e]
    exact Finset.mem_map_of_mem _ (Finset.mem_univ _)

theorem arr7 : ((rdat m c).withAfter after).arrAt 7 (cfgA m).N = (lOut m c : S2x640x128.Idx → EReal) := by
  refine Pipeline.Dat.arrAt_eq_of_emb ((rdat m c).withAfter after) 7 (lOut m c : S2x640x128.Idx → EReal) (fun t hf y => ?_) (fun i => ?_)
  · obtain ⟨Y, -, y9, z, hi, hX⟩ := hL 7 t hf
    obtain ⟨u, n, h, rfl⟩ : ∃ u n h, y = ValueIdx.ix3 (n0 := 1) (n1 := 32) (n2 := 128) u n h := ⟨_, _, _, ValueIdx.eq_ix3 y⟩
    obtain rfl : u = 0 := Subsingleton.elim u 0
    rw [emb7 m t n h]
    refine (cast_eq _ _).trans ?_
    show after 7 t _ = _
    rw [hX]
    exact step_lse m c t y9 Y z hlen hi n h
  · obtain ⟨b, q, h, rfl⟩ : ∃ b q h, i = ValueIdx.ix3 (n0 := 2) (n1 := 640) (n2 := 128) b q h := ⟨_, _, _, ValueIdx.eq_ix3 i⟩
    refine ⟨stepOf b q, flush7 m _, ?_⟩
    have e := emb7 m (stepOf b q) ⟨q.val % 32, by omega⟩ h
    rw [bt_stepOf, orow_stepOf] at e
    rw [← e]
    exact Finset.mem_map_of_mem _ (Finset.mem_univ _)
end

theorem out (hlen : ∀ t : Fin grid0.N, (lenT m t).toInt ≤ 2 ^ 31 - 16) (g : Dev nD → PrngReg) :
    θ_run (defs (F := Ideal)) (onTc main) ⟨m, fun _ => 0, g⟩ (fun r => ∀ c : Dev nD,
      r.2.mem ((c.tc : Thread nD τ).loc main_v4_0) = oOut m c ∧ r.2.mem ((c.tc : Thread nD τ).loc main_v4_1) = lOut m c) := by
  refine (θ_run _ _ _).mono (fun r hr c => ?_) (run m g)
  obtain ⟨after, hL, hA⟩ := Pipeline.RDat.FramePost.exists_exact hr.1 c
  exact ⟨(hA 6).trans (arr6 m c hlen after hL), (hA 7).trans (arr7 m c hlen after hL)⟩

end Cert.KernelIdeal

end
-- ==== Proof.Ref.lean ====
/-
  The reference's host program as one term per result, over the decoded codes, the scale array and the arguments.
-/
module

public import proofs.«01_k».proof.Proof.Gen.ReferenceIdeal.Frame
public import Idealize.ShloMosaic.Lib.StableHlo.RunRead

@[expose] public section

set_option maxRecDepth 1000000

noncomputable section

namespace Cert.ReferenceIdeal

open Idealize.ShloMosaic Idealize.ShloMosaic.TcCoe
open Idealize.SL Idealize.SL.RA Idealize.SL.BI Idealize.SL.Sem
open Facts₀ Facts

section Terms

variable (Q : FVec Ideal S2x640x128x512 .bf16) (C : FVec Ideal S2x640x512 .bf16) (SC : FVec Ideal S8x128 .f32)
  (a1 : FVec Ideal S2x640x128x4 .f32) (a2 : FVec Ideal S2x640x128x64 .bf16) (a4 : FVec Ideal S2x640x4 .f32)
  (a5 : FVec Ideal S2x640x64 .bf16) (a6 : IVec S2 32)

/-- The dequantised queries. -/
def hQ : FVec Ideal S2x640x128x512 .bf16 :=
  shapeCast S2x640x128x512 (mulf (shapeCast S2x640x128x4x128 Q shapeCasts_S2x640x128x512_S2x640x128x4x128)
    (broadcastInDim S2x640x128x4x128 ![0, 1, 2, 3, 4] bcast_S2x640x128x4x1_S2x640x128x4x128_0_1_2_3_4
      (broadcastInDim S2x640x128x4x1 ![0, 1, 2, 3] bcast_S2x640x128x4_S2x640x128x4x1_0_1_2_3 (truncf .bf16 a1 bitsLt_bf16_f32))))
    shapeCasts_S2x640x128x4x128_S2x640x128x512

/-- The dequantised latents. -/
def hC : FVec Ideal S2x640x512 .bf16 :=
  shapeCast S2x640x512 (mulf (shapeCast S2x640x4x128 C shapeCasts_S2x640x512_S2x640x4x128)
    (broadcastInDim S2x640x4x128 ![0, 1, 2, 3] bcast_S2x640x4x1_S2x640x4x128_0_1_2_3
      (broadcastInDim S2x640x4x1 ![0, 1, 2] bcast_S2x640x4_S2x640x4x1_0_1_2 (truncf .bf16 a4 bitsLt_bf16_f32))))
    shapeCasts_S2x640x4x128_S2x640x512

/-- The scores before the scale. -/
def hD : FVec Ideal S2x640x128x640 .f32 :=
  addf (Host.dotGeneral dot_S2x640x128x512_S2x640x512_S2x640x128x640_3_2_12_1_0_0 none (hQ Q a1) (hC C a4))
    (Host.dotGeneral dot_S2x640x128x64_S2x640x64_S2x640x128x640_3_2_12_1_0_0 none a2 a5)

/-- The scaled scores. -/
def hS : FVec Ideal S2x640x128x640 .f32 :=
  mulf (hD Q C a1 a2 a4 a5) (broadcastInDim S2x640x128x640 ![] bcast_S_S2x640x128x640
    (shapeCast S_ (extractStridedSlice S1x1 ![0, 0] SC slices_S8x128_S1x1_0_0) shapeCasts_S1x1_S_))

/-- Which keys a query sees. -/
def hW : IVec S2x640x128x640 1 :=
  broadcastInDim S2x640x128x640 ![0, 1, 2, 3] bcast_S1x640x1x640_S2x640x128x640_0_1_2_3
    (cmpi .sle (broadcastInDim S1x640x1x640 ![0, 1, 2, 3] bcast_S1x1x1x640_S1x640x1x640_0_1_2_3
        (broadcastInDim S1x1x1x640 ![3] bcast_S640_S1x1x1x640_3 (iotaInDim S640 32 0)))
      (broadcastInDim S1x640x1x640 ![0, 1, 2, 3] bcast_S1x640x1x1_S1x640x1x640_0_1_2_3
        (broadcastInDim S1x640x1x1 ![1] bcast_S640_S1x640x1x1_1 (iotaInDim S640 32 0))))

/-- The masked scores, for scaled scores `s`. -/
def hM (s : FVec Ideal S2x640x128x640 .f32) : FVec Ideal S2x640x128x640 .f32 :=
  select hW s (broadcastInDim S2x640x128x640 ![] bcast_S_S2x640x128x640 (constant S_ .f32 0xFF800000#32))

/-- The rows' maxima. -/
def hX (x : FVec Ideal S2x640x128x640 .f32) : FVec Ideal S2x640x128x1 .f32 :=
  broadcastInDim S2x640x128x1 ![0, 1, 2] bcast_S2x640x128_S2x640x128x1_0_1_2
    (Host.reduce FloatOps.maximumf x (constant S_ .f32 0xFF800000#32) reducesTo_S2x640x128x640_S2x640x128_d3 h_S_)

/-- The exponentials of the masked scores less the maximum. -/
def hE (x : FVec Ideal S2x640x128x640 .f32) : FVec Ideal S2x640x128x640 .f32 :=
  Host.exp (subf x (broadcastInDim S2x640x128x640 ![0, 1, 2, 3] bcast_S2x640x128x1_S2x640x128x640_0_1_2_3 (hX x)))

/-- Their sums. -/
def hL (x : FVec Ideal S2x640x128x640 .f32) : FVec Ideal S2x640x128x1 .f32 :=
  broadcastInDim S2x640x128x1 ![0, 1, 2] bcast_S2x640x128_S2x640x128x1_0_1_2
    (Host.reduceAdd (hE x) (constant S_ .f32 0x00000000#32) reducesTo_S2x640x128x640_S2x640x128_d3 h_S_)

/-- The weights. -/
def hP (x : FVec Ideal S2x640x128x640 .f32) : FVec Ideal S2x640x128x640 .bf16 :=
  truncf .bf16 (mulf (hE x) (broadcastInDim S2x640x128x640 ![0, 1, 2, 3] bcast_S2x640x128x1_S2x640x128x640_0_1_2_3
    (Host.divf (broadcastInDim S2x640x128x1 ![] bcast_S_S2x640x128x1 (constant S_ .f32 0x3F800000#32)) (hL x)))) bitsLt_bf16_f32

/-- Which rows are within the length. -/
def hV : IVec S2x640 1 :=
  cmpi .slt (broadcastInDim S2x640 ![0, 1] bcast_S1x640_S2x640_0_1 (broadcastInDim S1x640 ![1] bcast_S640_S1x640_1 (iotaInDim S640 32 0)))
    (broadcastInDim S2x640 ![0, 1] bcast_S2x1_S2x640_0_1 (broadcastInDim S2x1 ![0] bcast_S2_S2x1_0 a6))

/-- The first result, for masked scores `x` and latents `c`. -/
def hO (x : FVec Ideal S2x640x128x640 .f32) (c : FVec Ideal S2x640x512 .bf16) : FVec Ideal S2x640x128x512 .bf16 :=
  select (broadcastInDim S2x640x128x512 ![0, 1, 2, 3] bcast_S2x640x1x1_S2x640x128x512_0_1_2_3
      (broadcastInDim S2x640x1x1 ![0, 1] bcast_S2x640_S2x640x1x1_0_1 (hV a6)))
    (truncf .bf16 (Host.dotGeneral dot_S2x640x128x640_S2x640x512_S2x640x128x512_3_1_12_2_0_0 none (hP x) c) bitsLt_bf16_f32)
    (broadcastInDim S2x640x128x512 ![] bcast_S_S2x640x128x512 (constant S_ .bf16 0x0000#16))

/-- The second result. -/
def hLse (x : FVec Ideal S2x640x128x640 .f32) : FVec Ideal S2x640x128 .f32 :=
  select (broadcastInDim S2x640x128 ![0, 1, 2] bcast_S2x640x1_S2x640x128_0_1_2
      (broadcastInDim S2x640x1 ![0, 1] bcast_S2x640_S2x640x1_0_1 (hV a6)))
    (shapeCast S2x640x128 (addf (hX x) (Host.log (hL x))) shapeCasts_S2x640x128x1_S2x640x128)
    (broadcastInDim S2x640x128 ![] bcast_S_S2x640x128 (constant S_ .f32 0x00000000#32))

end Terms

/-- The host program's second result. -/
theorem read_lse (W : Valuation τ sig (Elt Ideal)) :
    StableHlo.after (List.flatten [Gen.hostOps1, Gen.hostOps1_1, Gen.hostOps1_2, Gen.hostOps1_3, Gen.hostOps1_4, Gen.hostOps1_5]) W
        (Proc.devRef .tc main_v52)
      = hLse (W (Proc.devRef .tc main_arg6)) (hM (hS (W (Proc.devRef .tc main_v0_0)) (W (Proc.devRef .tc main_v0_1)) (W (Proc.devRef .tc main_v0_2))
          (W (Proc.devRef .tc main_arg1)) (W (Proc.devRef .tc main_arg2)) (W (Proc.devRef .tc main_arg4)) (W (Proc.devRef .tc main_arg5)))) := by
  after_reads_simp
  simp -implicitDefEqProofs only [StableHlo.TRef.toBuf, StableHlo.TRef.ofBuf, cast_cast, cast_eq, id]
  unfold hLse hX hL hE hX hM hS hV hW hD hQ hC
  rfl

/-- The host program's first result. -/
theorem read_o (W : Valuation τ sig (Elt Ideal)) :
    StableHlo.after (List.flatten [Gen.hostOps1, Gen.hostOps1_1, Gen.hostOps1_2, Gen.hostOps1_3, Gen.hostOps1_4, Gen.hostOps1_5]) W
        (Proc.devRef .tc main_v49)
      = hO (W (Proc.devRef .tc main_arg6)) (hM (hS (W (Proc.devRef .tc main_v0_0)) (W (Proc.devRef .tc main_v0_1)) (W (Proc.devRef .tc main_v0_2))
          (W (Proc.devRef .tc main_arg1)) (W (Proc.devRef .tc main_arg2)) (W (Proc.devRef .tc main_arg4)) (W (Proc.devRef .tc main_arg5))))
          (hC (W (Proc.devRef .tc main_v0_1)) (W (Proc.devRef .tc main_arg4))) := by
  after_reads_simp
  simp -implicitDefEqProofs only [StableHlo.TRef.toBuf, StableHlo.TRef.ofBuf, cast_cast, cast_eq, id]
  unfold hO hP hL hE hX hM hS hV hW hD hQ hC
  rfl

end Cert.ReferenceIdeal

end
-- ==== Proof.RefPt.lean ====
/-
  The reference's results read at one query row and head: the softmax row of `Soft` over the dequantised scores, or zero
  past the length.
-/
module

public import proofs.«01_k».proof.Proof.Ref
public import proofs.«01_k».proof.Proof.RowsB
public import Idealize.ShloMosaic.Lib.KernelVsHost

@[expose] public section

set_option maxRecDepth 100000

noncomputable section

namespace Cert.ReferenceIdeal

open Idealize.ShloMosaic Idealize.ShloMosaic.TcCoe Idealize.ShloMosaic.ValueIdx Idealize.ShloMosaic.Ideal Mla
open Facts₀ Facts

section
variable (Q : FVec Ideal S2x640x128x512 .bf16) (C : FVec Ideal S2x640x512 .bf16) (SC : FVec Ideal S8x128 .f32)
  (a1 : FVec Ideal S2x640x128x4 .f32) (a2 : FVec Ideal S2x640x128x64 .bf16) (a4 : FVec Ideal S2x640x4 .f32)
  (a5 : FVec Ideal S2x640x64 .bf16) (a6 : IVec S2 32) (b : Fin 2) (q : Fin 640) (h : Fin 128)

/-- The lane of a latent within its scale group. -/
def lOf (d : Fin 512) : Fin 128 := ⟨d.val % 128, by omega⟩

theorem hQ_apply (d : Fin 512) : hQ Q a1 (ix4 b q h d) = (Q (ix4 b q h d) : EReal) * (a1 (ix4 b q h (gOf d)) : EReal) := by
  have hd := d.isLt
  unfold hQ
  rw [shapeCast_apply _ _ _ (ix5 b q h (gOf d) (lOf d)) (by
    rw [Shape.rowMajor_val_five, Shape.rowMajor_val_four]; show (((b.val * 640 + q.val) * 128 + h.val) * 4 + d.val / 128) * 128 + d.val % 128 = ((b.val * 640 + q.val) * 128 + h.val) * 512 + d.val; omega), mulf_apply]
  congr 1
  · exact shapeCast_apply _ _ _ _ (by rw [Shape.rowMajor_val_five, Shape.rowMajor_val_four]; show ((b.val * 640 + q.val) * 128 + h.val) * 512 + d.val = (((b.val * 640 + q.val) * 128 + h.val) * 4 + d.val / 128) * 128 + d.val % 128; omega)
  · rw [broadcastInDim_apply _ _ _ _ (ix5 b q h (gOf d) 0) (by intro a; fin_cases a <;> rfl),
      broadcastInDim_apply _ _ _ _ (ix4 b q h (gOf d)) (by intro a; fin_cases a <;> rfl), truncf_apply]

theorem hC_apply (k : Fin 640) (d : Fin 512) : hC C a4 (ix3 b k d) = (C (ix3 b k d) : EReal) * (a4 (ix3 b k (gOf d)) : EReal) := by
  have hd := d.isLt
  unfold hC
  rw [shapeCast_apply _ _ _ (ix4 b k (gOf d) (lOf d)) (by
    rw [Shape.rowMajor_val_four, Shape.rowMajor_val_three]; show ((b.val * 640 + k.val) * 4 + d.val / 128) * 128 + d.val % 128 = (b.val * 640 + k.val) * 512 + d.val; omega), mulf_apply]
  congr 1
  · exact shapeCast_apply _ _ _ _ (by rw [Shape.rowMajor_val_four, Shape.rowMajor_val_three]; show (b.val * 640 + k.val) * 512 + d.val = ((b.val * 640 + k.val) * 4 + d.val / 128) * 128 + d.val % 128; omega)
  · rw [broadcastInDim_apply _ _ _ _ (ix4 b k (gOf d) 0) (by intro a; fin_cases a <;> rfl),
      broadcastInDim_apply _ _ _ _ (ix3 b k (gOf d)) (by intro a; fin_cases a <;> rfl), truncf_apply]

theorem dotL_apply (x : FVec Ideal S2x640x128x512 .bf16) (y : FVec Ideal S2x640x512 .bf16) (k : Fin 640) :
    Host.dotGeneral dot_S2x640x128x512_S2x640x512_S2x640x128x640_3_2_12_1_0_0 none x y (ix4 b q h k)
      = ∑ d : Fin 512, (x (ix4 b q h d) : EReal) * (y (ix3 b k d) : EReal) := by
  let D := dot_S2x640x128x512_S2x640x512_S2x640x128x640_3_2_12_1_0_0
  simp only [Host.dotGeneral]
  rw [dotGeneral_apply, ← Equiv.sum_comp (contrEquiv1 D 512 rfl rfl).symm]
  refine Finset.sum_congr rfl fun d _ => ?_
  have hv := contrEquiv1_symm_val D 512 rfl rfl d
  have el : D.lhsIdx (ix4 b q h k) ((contrEquiv1 D 512 rfl rfl).symm d) = ix4 b q h d := by
    funext a; apply Fin.ext
    match a with
    | ⟨0, _⟩ => rfl
    | ⟨1, _⟩ => rfl
    | ⟨2, _⟩ => rfl
    | ⟨3, _⟩ => exact hv
  have er : D.rhsIdx (ix4 b q h k) ((contrEquiv1 D 512 rfl rfl).symm d) = ix3 b k d := by
    funext a; apply Fin.ext
    match a with
    | ⟨0, _⟩ => rfl
    | ⟨1, _⟩ => rfl
    | ⟨2, _⟩ => exact hv
  rw [el, er]

theorem dotR_apply (x : FVec Ideal S2x640x128x64 .bf16) (y : FVec Ideal S2x640x64 .bf16) (k : Fin 640) :
    Host.dotGeneral dot_S2x640x128x64_S2x640x64_S2x640x128x640_3_2_12_1_0_0 none x y (ix4 b q h k)
      = ∑ d : Fin 64, (x (ix4 b q h d) : EReal) * (y (ix3 b k d) : EReal) := by
  let D := dot_S2x640x128x64_S2x640x64_S2x640x128x640_3_2_12_1_0_0
  simp only [Host.dotGeneral]
  rw [dotGeneral_apply, ← Equiv.sum_comp (contrEquiv1 D 64 rfl rfl).symm]
  refine Finset.sum_congr rfl fun d _ => ?_
  have hv := contrEquiv1_symm_val D 64 rfl rfl d
  have el : D.lhsIdx (ix4 b q h k) ((contrEquiv1 D 64 rfl rfl).symm d) = ix4 b q h d := by
    funext a; apply Fin.ext
    match a with
    | ⟨0, _⟩ => rfl
    | ⟨1, _⟩ => rfl
    | ⟨2, _⟩ => rfl
    | ⟨3, _⟩ => exact hv
  have er : D.rhsIdx (ix4 b q h k) ((contrEquiv1 D 64 rfl rfl).symm d) = ix3 b k d := by
    funext a; apply Fin.ext
    match a with
    | ⟨0, _⟩ => rfl
    | ⟨1, _⟩ => rfl
    | ⟨2, _⟩ => exact hv
  rw [el, er]

theorem dotO_apply (x : FVec Ideal S2x640x128x640 .bf16) (y : FVec Ideal S2x640x512 .bf16) (d : Fin 512) :
    Host.dotGeneral dot_S2x640x128x640_S2x640x512_S2x640x128x512_3_1_12_2_0_0 none x y (ix4 b q h d)
      = ∑ k : Fin 640, (x (ix4 b q h k) : EReal) * (y (ix3 b k d) : EReal) := by
  let D := dot_S2x640x128x640_S2x640x512_S2x640x128x512_3_1_12_2_0_0
  simp only [Host.dotGeneral]
  rw [dotGeneral_apply, ← Equiv.sum_comp (contrEquiv1 D 640 rfl rfl).symm]
  refine Finset.sum_congr rfl fun k _ => ?_
  have hv := contrEquiv1_symm_val D 640 rfl rfl k
  have el : D.lhsIdx (ix4 b q h d) ((contrEquiv1 D 640 rfl rfl).symm k) = ix4 b q h k := by
    funext a; apply Fin.ext
    match a with
    | ⟨0, _⟩ => rfl
    | ⟨1, _⟩ => rfl
    | ⟨2, _⟩ => rfl
    | ⟨3, _⟩ => exact hv
  have er : D.rhsIdx (ix4 b q h d) ((contrEquiv1 D 640 rfl rfl).symm k) = ix3 b k d := by
    funext a; apply Fin.ext
    match a with
    | ⟨0, _⟩ => rfl
    | ⟨1, _⟩ => exact hv
    | ⟨2, _⟩ => rfl
  rw [el, er]

/-- The unscaled scores of a query row and head. -/
def scR (k : Fin 640) : EReal :=
  (∑ d : Fin 512, ((Q (ix4 b q h d) : EReal) * (a1 (ix4 b q h (gOf d)) : EReal)) * ((C (ix3 b k d) : EReal) * (a4 (ix3 b k (gOf d)) : EReal)))
    + ∑ j : Fin 64, (a2 (ix4 b q h j) : EReal) * (a5 (ix3 b k j) : EReal)

theorem hD_apply (k : Fin 640) : hD Q C a1 a2 a4 a5 (ix4 b q h k) = scR Q C a1 a2 a4 a5 b q h k := by
  unfold hD scR
  rw [addf_apply, dotL_apply, dotR_apply]
  simp only [hQ_apply, hC_apply]

theorem hS_apply (k : Fin 640) : hS Q C SC a1 a2 a4 a5 (ix4 b q h k) = scR Q C a1 a2 a4 a5 b q h k * (SC (ix2 0 0) : EReal) := by
  unfold hS
  rw [mulf_apply, hD_apply]
  congr 1
  rw [broadcastInDim_apply _ _ _ _ (fun a => a.elim0) (by intro a; exact a.elim0),
    shapeCast_apply _ _ _ (ix2 0 0) (by rw [Shape.rowMajor_val_two]; rfl)]
  exact extractStridedSlice_apply _ _ _ _ _ (by intro a; fin_cases a <;> rfl)

theorem sle_iff (k q : Fin 640) : IntOp.cmpi .sle (BitVec.ofNat 32 k.val) (BitVec.ofNat 32 q.val) = 1#1 ↔ k.val ≤ q.val := by
  have hk : (BitVec.ofNat 32 k.val).toNat = k.val := by simp; omega
  have hq : (BitVec.ofNat 32 q.val).toNat = q.val := by simp; omega
  show BitVec.ofBool (decide ((BitVec.ofNat 32 k.val).toInt ≤ (BitVec.ofNat 32 q.val).toInt)) = 1#1 ↔ _
  rw [ofBool_iff, toInt_small' _ (by omega), toInt_small' _ (by omega), hk, hq]; omega

theorem hW_apply (k : Fin 640) : hW (ix4 b q h k) = IntOp.cmpi .sle (BitVec.ofNat 32 k.val) (BitVec.ofNat 32 q.val) := by
  unfold hW
  rw [broadcastInDim_apply _ _ _ _ (ix4 0 q 0 k) (by intro a; fin_cases a <;> rfl)]
  show IntOp.cmpi .sle _ _ = _
  rw [broadcastInDim_apply _ _ _ _ (ix4 0 0 0 k) (by intro a; fin_cases a <;> rfl),
    broadcastInDim_apply _ _ _ _ (ix1 k) (by intro a; fin_cases a <;> rfl),
    broadcastInDim_apply _ _ _ _ (ix4 0 q 0 0) (by intro a; fin_cases a <;> rfl),
    broadcastInDim_apply _ _ _ _ (ix1 q) (by intro a; fin_cases a <;> rfl)]
  rfl

theorem hM_apply (s : FVec Ideal S2x640x128x640 .f32) (sc : Fin 640 → EReal) (hs : ∀ k, (s (ix4 b q h k) : EReal) = sc k * sS) (k : Fin 640) :
    (hM s (ix4 b q h k) : EReal) = rS q.val sc k := by
  unfold hM rS
  rw [select_apply, hW_apply]
  by_cases hk : k.val ≤ q.val
  · rw [(sle_iff k q).mpr hk, select_one, if_pos hk, hs]
  · rw [if_neg hk]
    have : IntOp.cmpi .sle (BitVec.ofNat 32 k.val) (BitVec.ofNat 32 q.val) = 0#1 := by
      have h1 := mt (sle_iff k q).mp hk
      revert h1; generalize IntOp.cmpi .sle (BitVec.ofNat 32 k.val) (BitVec.ofNat 32 q.val) = x; revert x; decide
    rw [this, select_zero, broadcastInDim_apply _ _ _ _ (fun a => a.elim0) (by intro a; exact a.elim0)]
    exact ofBits_neg_inf

end

section
variable (x : FVec Ideal S2x640x128x640 .f32) (a6 : IVec S2 32) (b : Fin 2) (q : Fin 640) (h : Fin 128) (sc : Fin 640 → EReal)
  (hx : ∀ k, (x (ix4 b q h k) : EReal) = rS q.val sc k)

theorem redH : S2x640x128x640.Reduces [3] S2x640x128 := by decide

theorem lift_redH (k : Fin 640) : redH.lift (ix3 b q h) k = ix4 b q h k := by
  funext a; fin_cases a <;> rfl

include hx in
theorem hX_apply : (hX x (ix4 b q h 0) : EReal) = rM q.val sc := by
  unfold hX
  rw [broadcastInDim_apply _ _ _ _ (ix3 b q h) (by intro a; fin_cases a <;> rfl),
    hostReduce_maximumf_eq_multiReduction x 0xFF800000#32 _ _ redH (.inl rfl) rfl]
  refine (multiReduction_maximumf_single x 0xFF800000#32 redH (.inl rfl) rfl (ix3 b q h)).trans ?_
  have : (FloatOps.ofBits (F := Ideal) .f32 0xFF800000#32 : EReal) = ⊥ := ofBits_neg_inf
  rw [this]
  show Finset.fold max ⊥ (fun k : Fin 640 => x (redH.lift (ix3 b q h) k)) Finset.univ = _
  simp only [lift_redH, hx]
  rfl

include hx in
theorem hE_apply (k : Fin 640) : (hE x (ix4 b q h k) : EReal) = rE q.val sc k := by
  unfold hE rE
  show Ideal.exp _ = _
  rw [subf_apply, broadcastInDim_apply _ _ _ _ (ix4 b q h 0) (by intro a; fin_cases a <;> rfl), hX_apply x b q h sc hx, hx]

include hx in
theorem hL_apply : (hL x (ix4 b q h 0) : EReal) = rL q.val sc := by
  unfold hL rL
  rw [broadcastInDim_apply _ _ _ _ (ix3 b q h) (by intro a; fin_cases a <;> rfl), hostReduceAdd_apply, hostReduceAdd_single _ redH]
  show Ideal.ofBits .f32 0x00000000#32 + ∑ k : Fin 640, hE x (redH.lift (ix3 b q h) k) = _
  rw [ofBits_zero_f32, zero_add]
  simp only [lift_redH, hE_apply x b q h sc hx]

include hx in
theorem hP_apply (k : Fin 640) : (hP x (ix4 b q h k) : EReal) = rE q.val sc k * Ideal.div 1 (rL q.val sc) := by
  unfold hP
  rw [truncf_apply, mulf_apply, hE_apply x b q h sc hx, broadcastInDim_apply _ _ _ _ (ix4 b q h 0) (by intro a; fin_cases a <;> rfl),
    hostDivf_apply, hL_apply x b q h sc hx, broadcastInDim_apply _ _ _ _ (fun a => a.elim0) (by intro a; exact a.elim0)]
  congr 2
  exact ofBits_one_f32

theorem hV_apply : hV a6 (ix2 b q) = IntOp.cmpi .slt (BitVec.ofNat 32 q.val) (a6 (ix1 b)) := by
  unfold hV
  show IntOp.cmpi .slt _ _ = _
  rw [broadcastInDim_apply _ _ _ _ (ix2 0 q) (by intro a; fin_cases a <;> rfl),
    broadcastInDim_apply _ _ _ _ (ix1 q) (by intro a; fin_cases a <;> rfl),
    broadcastInDim_apply _ _ _ _ (ix2 b 0) (by intro a; fin_cases a <;> rfl),
    broadcastInDim_apply _ _ _ _ (ix1 b) (by intro a; fin_cases a <;> rfl)]
  rfl

/-- A row is within the length. -/
def inLen (v : BitVec 32) (q : Fin 640) : Prop := ((q.val : Nat) : Int) < v.toInt

instance (v : BitVec 32) (q : Fin 640) : Decidable (inLen v q) := inferInstanceAs (Decidable (_ < _))

theorem slt_sel (v : BitVec 32) (q : Fin 640) (y z : EReal) :
    Scalar.select (IntOp.cmpi .slt (BitVec.ofNat 32 q.val) v) y z = if inLen v q then y else z := by
  have hq : (BitVec.ofNat 32 q.val).toNat = q.val := by simp; omega
  have e : IntOp.cmpi .slt (BitVec.ofNat 32 q.val) v = 1#1 ↔ inLen v q := by
    show BitVec.ofBool (decide ((BitVec.ofNat 32 q.val).toInt < v.toInt)) = 1#1 ↔ _
    rw [ofBool_iff, toInt_small' _ (by omega), hq]; rfl
  by_cases hk : inLen v q
  · rw [e.mpr hk, select_one, if_pos hk]
  · have : IntOp.cmpi .slt (BitVec.ofNat 32 q.val) v = 0#1 := by
      have h1 := mt e.mp hk
      revert h1; generalize IntOp.cmpi .slt (BitVec.ofNat 32 q.val) v = x; revert x; decide
    rw [this, select_zero, if_neg hk]

theorem hostLog_apply {t : Shape} (v : FVec Ideal t .f32) (i : t.Idx) : (Host.log v i : EReal) = Ideal.log (v i) := rfl

include hx in
theorem hRow_apply : (addf (hX x) (Host.log (hL x)) (ix4 b q h 0) : EReal) = rLse q.val sc := by
  unfold rLse
  rw [addf_apply, hostLog_apply, hX_apply x b q h sc hx, hL_apply x b q h sc hx]

theorem cast_row (y : FVec Ideal S2x640x128x1 .f32) : shapeCast S2x640x128 y shapeCasts_S2x640x128x1_S2x640x128 (ix3 b q h) = y (ix4 b q h 0) :=
  shapeCast_apply _ _ _ _ (by
    rw [Shape.rowMajor_val_four, Shape.rowMajor_val_three]
    show ((b.val * 640 + q.val) * 128 + h.val) * 1 + 0 = (b.val * 640 + q.val) * 128 + h.val; omega)

include hx in
theorem hLse_apply : (hLse a6 x (ix3 b q h) : EReal) = if inLen (a6 (ix1 b)) q then rLse q.val sc else 0 := by
  unfold hLse
  rw [select_apply, broadcastInDim_apply _ _ _ _ (ix3 b q 0) (by intro a; fin_cases a <;> rfl),
    broadcastInDim_apply _ _ _ _ (ix2 b q) (by intro a; fin_cases a <;> rfl), hV_apply,
    broadcastInDim_apply _ _ _ _ (fun a => a.elim0) (by intro a; exact a.elim0),
    cast_row, hRow_apply x b q h sc hx]
  exact (slt_sel _ _ _ _).trans (congrArg (fun z : EReal => if inLen (a6 (ix1 b)) q then rLse q.val sc else z) ofBits_zero_f32)

include hx in
theorem hO_apply (c : FVec Ideal S2x640x512 .bf16) (d : Fin 512) : (hO a6 x c (ix4 b q h d) : EReal)
    = if inLen (a6 (ix1 b)) q then rO q.val sc (fun k => c (ix3 b k d)) else 0 := by
  unfold hO
  rw [select_apply, broadcastInDim_apply _ _ _ _ (ix4 b q 0 0) (by intro a; fin_cases a <;> rfl),
    broadcastInDim_apply _ _ _ _ (ix2 b q) (by intro a; fin_cases a <;> rfl), hV_apply,
    broadcastInDim_apply _ _ _ _ (fun a => a.elim0) (by intro a; exact a.elim0), truncf_apply, dotO_apply]
  refine (slt_sel _ _ _ _).trans (congrArg₂ (fun y z : EReal => if inLen (a6 (ix1 b)) q then y else z) ?_ ?_)
  · unfold rO; simp only [hP_apply x b q h sc hx]
  · exact ofBits_zero_bf16

end

end Cert.ReferenceIdeal

end
-- ==== Proof.RefOut.lean ====
/-
  The reference's run: its two results are the functions of `Out`.
-/
module

public import proofs.«01_k».proof.Proof.RefPt
public import proofs.«01_k».proof.Proof.Out
public import Idealize.ShloMosaic.Lib.Pipeline.ValueKit

@[expose] public section

set_option maxRecDepth 100000

noncomputable section

namespace Cert.ReferenceIdeal

open Idealize.ShloMosaic Idealize.ShloMosaic.TcCoe Idealize.ShloMosaic.ValueIdx Idealize.ShloMosaic.Ideal Mla
open Idealize.SL Idealize.SL.Sem
open Facts₀ Facts

variable (m : (ℓ : Loc nD τ sig) → Buf (Elt Ideal) ℓ) (c : Dev nD)

theorem named_sS : Named.named (F := Ideal) κ (φ := .f32) "softmax_scale" 0x3D93CD3A#32 = sS :=
  IdealRules.named_const.ideal_named_scalar _ _ _ _ rfl

theorem arr2 : (Gen.dats m 0 c).arrAt 2 cfg0.N = m ((c.tc : Thread nD τ).loc main_arg0) := by
  refine (Gen.dats m 0 c).arrAt_eq_of_covers 2 (fun i => m ((c.tc : Thread nD τ).loc main_arg0) i) (by decide +kernel) (fun t hf y => ?_)
  blk_simp; rw [Gen.after0_2]; frame_out
  show Gen.V m c main_arg0 (((View.whole main_arg0).slice (win0_0.rect t)).emb y) = _
  rw [Gen.V_main_arg0]; rfl
theorem arr3 : (Gen.dats m 0 c).arrAt 3 cfg0.N = m ((c.tc : Thread nD τ).loc main_arg3) := by
  refine (Gen.dats m 0 c).arrAt_eq_of_covers 3 (fun i => m ((c.tc : Thread nD τ).loc main_arg3) i) (by decide +kernel) (fun t hf y => ?_)
  blk_simp; rw [Gen.after0_3]; frame_out
  show Gen.V m c main_arg3 (((View.whole main_arg3).slice (win0_1.rect t)).emb y) = _
  rw [Gen.V_main_arg3]; rfl
theorem arr4 : (Gen.dats m 0 c).arrAt 4 cfg0.N = fun _ => (sS : Ideal .f32) := by
  refine (Gen.dats m 0 c).arrAt_eq_of_covers 4 (fun i => sS) (by decide +kernel) (fun t hf y => ?_)
  blk_simp; rw [Gen.after0_4]; frame_out
  exact named_sS

/-- The host valuation after the region. -/
def W1 : Valuation τ sig (Elt Ideal) := Pipeline.withArrays spec0 c (Gen.V0 m c) fun w => (Gen.dats m 0 c).arrAt w cfg0.N

/-- Window contents read as a host valuation after the region. -/
theorem tail_read (b : Ref sig .tc) : Pipeline.afterTail₀ cfgs (Gen.dats m) 0 (Gen.V0 m) [Gen.hostOps1, Gen.hostOps1_1, Gen.hostOps1_2, Gen.hostOps1_3, Gen.hostOps1_4, Gen.hostOps1_5] c b
    = StableHlo.after (List.flatten [Gen.hostOps1, Gen.hostOps1_1, Gen.hostOps1_2, Gen.hostOps1_3, Gen.hostOps1_4, Gen.hostOps1_5])
        (W1 m c) (Proc.devRef .tc b) := rfl

theorem W1_0 : W1 m c (Proc.devRef .tc main_v0_0) = m ((c.tc : Thread nD τ).loc main_arg0) :=
  (Pipeline.withArrays_arr spec0 Gen.launch0.win.arr_inj c (Gen.V0 m c) (fun w => (Gen.dats m 0 c).arrAt w cfg0.N) 2).trans (arr2 m c)
theorem W1_1 : W1 m c (Proc.devRef .tc main_v0_1) = m ((c.tc : Thread nD τ).loc main_arg3) :=
  (Pipeline.withArrays_arr spec0 Gen.launch0.win.arr_inj c (Gen.V0 m c) (fun w => (Gen.dats m 0 c).arrAt w cfg0.N) 3).trans (arr3 m c)
theorem W1_2 : W1 m c (Proc.devRef .tc main_v0_2) = fun _ => (sS : Ideal .f32) :=
  (Pipeline.withArrays_arr spec0 Gen.launch0.win.arr_inj c (Gen.V0 m c) (fun w => (Gen.dats m 0 c).arrAt w cfg0.N) 4).trans (arr4 m c)
theorem W1_a1 : W1 m c (Proc.devRef .tc main_arg1) = m ((c.tc : Thread nD τ).loc main_arg1) :=
  Pipeline.withArrays_of_ne _ c _ _ main_arg1 (by exact (by decide : ∀ w, Pipeline.arrRef spec0 w ≠ main_arg1))
theorem W1_a2 : W1 m c (Proc.devRef .tc main_arg2) = m ((c.tc : Thread nD τ).loc main_arg2) :=
  Pipeline.withArrays_of_ne _ c _ _ main_arg2 (by exact (by decide : ∀ w, Pipeline.arrRef spec0 w ≠ main_arg2))
theorem W1_a4 : W1 m c (Proc.devRef .tc main_arg4) = m ((c.tc : Thread nD τ).loc main_arg4) :=
  Pipeline.withArrays_of_ne _ c _ _ main_arg4 (by exact (by decide : ∀ w, Pipeline.arrRef spec0 w ≠ main_arg4))
theorem W1_a5 : W1 m c (Proc.devRef .tc main_arg5) = m ((c.tc : Thread nD τ).loc main_arg5) :=
  Pipeline.withArrays_of_ne _ c _ _ main_arg5 (by exact (by decide : ∀ w, Pipeline.arrRef spec0 w ≠ main_arg5))
theorem W1_a6 : W1 m c (Proc.devRef .tc main_arg6) = m ((c.tc : Thread nD τ).loc main_arg6) :=
  Pipeline.withArrays_of_ne _ c _ _ main_arg6 (by exact (by decide : ∀ w, Pipeline.arrRef spec0 w ≠ main_arg6))

section
variable (Q : FVec Ideal S2x640x128x512 .bf16) (C : FVec Ideal S2x640x512 .bf16)
  (a1 : FVec Ideal S2x640x128x4 .f32) (a2 : FVec Ideal S2x640x128x64 .bf16) (a4 : FVec Ideal S2x640x4 .f32)
  (a5 : FVec Ideal S2x640x64 .bf16) (a6 : IVec S2 32)

theorem hM_sS (b : Fin 2) (q : Fin 640) (h : Fin 128) (k : Fin 640) :
    (hM (hS Q C (fun _ => (sS : Ideal .f32)) a1 a2 a4 a5) (ValueIdx.ix4 b q h k) : EReal) = rS q.val (scR Q C a1 a2 a4 a5 b q h) k :=
  hM_apply b q h _ _ (fun k => hS_apply Q C _ a1 a2 a4 a5 b q h k) k

theorem lse_at (b : Fin 2) (q : Fin 640) (h : Fin 128) :
    (hLse a6 (hM (hS Q C (fun _ => (sS : Ideal .f32)) a1 a2 a4 a5)) (ValueIdx.ix3 b q h) : EReal) = lAt Q C a1 a2 a4 a5 a6 b q h :=
  hLse_apply _ a6 _ _ _ _ (fun k => hM_sS Q C a1 a2 a4 a5 _ _ _ k)

theorem o_at (b : Fin 2) (q : Fin 640) (h : Fin 128) (d : Fin 512) :
    (hO a6 (hM (hS Q C (fun _ => (sS : Ideal .f32)) a1 a2 a4 a5)) (hC C a4) (ValueIdx.ix4 b q h d) : EReal) = oAt Q C a1 a2 a4 a5 a6 b q h d := by
  rw [hO_apply _ a6 _ _ _ _ (fun k => hM_sS Q C a1 a2 a4 a5 _ _ _ k)]
  simp only [hC_apply]
  rfl

theorem lse_eq : hLse a6 (hM (hS Q C (fun _ => (sS : Ideal .f32)) a1 a2 a4 a5)) = (lG Q C a1 a2 a4 a5 a6 : S2x640x128.Idx → EReal) := by
  funext i
  obtain ⟨b, q, h, rfl⟩ : ∃ b q h, i = ValueIdx.ix3 (n0 := 2) (n1 := 640) (n2 := 128) b q h := ⟨_, _, _, ValueIdx.eq_ix3 i⟩
  exact lse_at Q C a1 a2 a4 a5 a6 b q h

theorem o_eq : hO a6 (hM (hS Q C (fun _ => (sS : Ideal .f32)) a1 a2 a4 a5)) (hC C a4) = (oG Q C a1 a2 a4 a5 a6 : S2x640x128x512.Idx → EReal) := by
  funext i
  obtain ⟨b, q, h, d, rfl⟩ : ∃ b q h d, i = ValueIdx.ix4 (n0 := 2) (n1 := 640) (n2 := 128) (n3 := 512) b q h d := ⟨_, _, _, _, ValueIdx.eq_ix4 i⟩
  exact o_at Q C a1 a2 a4 a5 a6 b q h d
end

/-- The two results on core `c`. -/
abbrev lOut : S2x640x128.Idx → EReal :=
  lG (m ((c.tc : Thread nD τ).loc main_arg0)) (m ((c.tc : Thread nD τ).loc main_arg3)) (m ((c.tc : Thread nD τ).loc main_arg1))
    (m ((c.tc : Thread nD τ).loc main_arg2)) (m ((c.tc : Thread nD τ).loc main_arg4)) (m ((c.tc : Thread nD τ).loc main_arg5))
    (m ((c.tc : Thread nD τ).loc main_arg6))
abbrev oOut : S2x640x128x512.Idx → EReal :=
  oG (m ((c.tc : Thread nD τ).loc main_arg0)) (m ((c.tc : Thread nD τ).loc main_arg3)) (m ((c.tc : Thread nD τ).loc main_arg1))
    (m ((c.tc : Thread nD τ).loc main_arg2)) (m ((c.tc : Thread nD τ).loc main_arg4)) (m ((c.tc : Thread nD τ).loc main_arg5))
    (m ((c.tc : Thread nD τ).loc main_arg6))

theorem tail_lse : Pipeline.afterTail₀ cfgs (Gen.dats m) 0 (Gen.V0 m) [Gen.hostOps1, Gen.hostOps1_1, Gen.hostOps1_2, Gen.hostOps1_3, Gen.hostOps1_4, Gen.hostOps1_5] c main_v52
    = (lOut m c : S2x640x128.Idx → EReal) := by
  rw [tail_read, read_lse, W1_0, W1_1, W1_2, W1_a1, W1_a2, W1_a4, W1_a5, W1_a6]
  exact lse_eq _ _ _ _ _ _ _

theorem tail_o : Pipeline.afterTail₀ cfgs (Gen.dats m) 0 (Gen.V0 m) [Gen.hostOps1, Gen.hostOps1_1, Gen.hostOps1_2, Gen.hostOps1_3, Gen.hostOps1_4, Gen.hostOps1_5] c main_v49
    = (oOut m c : S2x640x128x512.Idx → EReal) := by
  rw [tail_read, read_o, W1_0, W1_1, W1_2, W1_a1, W1_a2, W1_a4, W1_a5, W1_a6]
  exact o_eq _ _ _ _ _ _ _

theorem out (ρ : Dev nD → PrngReg) : θ_run (defs (F := Ideal)) (onTc (τ := τ) main) ⟨m, fun _ => 0, ρ⟩ (fun r => ∀ c : Dev nD,
    r.2.mem ((c.tc : Thread nD τ).loc main_v49) = oOut m c ∧ r.2.mem ((c.tc : Thread nD τ).loc main_v52) = lOut m c) :=
  (θ_run defs _ _).mono (fun r h c =>
    ⟨((h c).2 main_v49 (Pipeline.mem_restRefs_of main_v49 (by decide) (by decide))).trans (tail_o m c),
      ((h c).2 main_v52 (Pipeline.mem_restRefs_of main_v52 (by decide) (by decide))).trans (tail_lse m c)⟩) (Gen.run_main m ρ)

end Cert.ReferenceIdeal

end
-- ==== Proof.Alg.lean ====
/-
  Kernel and reference leave the same two results.
-/
module

public import proofs.«01_k».proof.Defs
public import proofs.«01_k».proof.Proof.OutI
public import proofs.«01_k».proof.Proof.RefOut
public import proofs.«01_k».proof.Proof.Gen.Pre_lengths_in_range
public import Idealize.ShloMosaic.Lib.ReduceAll
public import Idealize.ShloMosaic.Lib.Affine

@[expose] public section

set_option maxRecDepth 100000

namespace Cert.Proof

open Idealize.ShloMosaic Idealize.ShloMosaic.TcCoe

/-- The precondition at one batch. -/
theorem len_le (m : Cert.KernelIdeal.Mem Ideal) (h : Cert.Pre_KernelIdeal_lengths_in_range m)
    (t : Fin Cert.KernelIdeal.grid0.N) : (Cert.KernelIdeal.lenT m t).toInt ≤ 2 ^ 31 - 16 := by
  have h0 := h 0
  dsimp only [Cert.Pre_lengths_in_range.fn] at h0
  have h1 := Host.reduce_andi_all _ _ _ _ _ (congrFun h0 (fun a => a.elim0)) (ValueIdx.ix1 (Cert.KernelIdeal.bt t))
  have h2 := IntOp.cmpi_sle.1 h1
  rw [Cert.KernelIdeal.lenT_eq m 0 t]
  have e : (2147483632#32 : BitVec 32).toInt = 2 ^ 31 - 16 := by decide
  rw [← e]
  exact h2

theorem algebraic : Cert.algebraic_KernelIdeal_ReferenceIdeal_pre_lengths_in_range := by
  intro m g m' g' hpre hargs
  refine ⟨fun c => Cert.KernelIdeal.oOut m c, fun c => Cert.KernelIdeal.lOut m c, ?_, ?_⟩
  · exact (θ_run _ _ _).mono (fun r hr c => ⟨(hr.1 c).1, (hr.1 c).2, hr.2.1 c⟩)
      (θ_run_and (Cert.KernelIdeal.out m (len_le m hpre) g) (Cert.KernelIdeal.frame m g))
  · refine (θ_run _ _ _).mono (fun r hr c => ?_)
      (θ_run_and (Cert.ReferenceIdeal.out m' g') (Cert.ReferenceIdeal.Gen.unchanged m' g'))
    obtain ⟨e0, e1, e2, e3, e4, e5, e6⟩ := hargs c
    have eo : Cert.ReferenceIdeal.oOut m' c = Cert.KernelIdeal.oOut m c := by
      unfold Cert.ReferenceIdeal.oOut; rw [e0, e1, e2, e3, e4, e5, e6]
    have el : Cert.ReferenceIdeal.lOut m' c = Cert.KernelIdeal.lOut m c := by
      unfold Cert.ReferenceIdeal.lOut; rw [e0, e1, e2, e3, e4, e5, e6]
    exact ⟨(hr.1 c).1.trans eo, (hr.1 c).2.trans el, hr.2 c⟩

end Cert.Proof

end
-- ==== Proof.lean ====
/-
  The claim, assembled from the frames of the three programs, the named constants and the equality of the results.
-/
module

public import proofs.«01_k».proof.Defs
public import proofs.«01_k».proof.Proof.LaunchK
public import proofs.«01_k».proof.Proof.LaunchI
public import proofs.«01_k».proof.Proof.Preserves
public import proofs.«01_k».proof.Proof.Alg
public import proofs.«01_k».proof.Proof.Gen.ReferenceIdeal
public import proofs.«01_k».proof.Proof.Gen.ReferenceIdeal.Frame
public import proofs.«01_k».proof.Proof.Gen.Pre_lengths_in_range
public import Idealize.ShloMosaic.Adequacy
public import Idealize.ShloMosaic.Init

@[expose] public section

namespace Cert.Proof

open Idealize.ShloMosaic

theorem claim : Cert.Claim :=
  ⟨Cert.Kernel.Gen.facts, Cert.KernelIdeal.Gen.facts, Cert.ReferenceIdeal.Gen.facts, Cert.Pre_lengths_in_range.Gen.facts,
    fun m g _ => Cert.Kernel.frame m g, fun m g _ => Cert.KernelIdeal.frame m g, fun m g _ => Cert.KernelIdeal.frame m g,
    fun m g _ => Cert.ReferenceIdeal.Gen.frame m g, fun m g _ => Cert.ReferenceIdeal.Gen.frame m g, preserves, algebraic⟩

end Cert.Proof

end
